-- ==== Defs.lean ====
def Pre_Shared (m : (ℓ : Loc Cert.Shared.nD Cert.Shared.τ Cert.Shared.sig) → Buf (Elt Bits) ℓ) : Prop :=
  True

def Pre_SharedIdeal (m : (ℓ : Loc Cert.SharedIdeal.nD Cert.SharedIdeal.τ Cert.SharedIdeal.sig) → Buf (Elt Ideal) ℓ) : Prop :=
  True

def Pre_SharedRefIdeal (m : (ℓ : Loc Cert.SharedRefIdeal.nD Cert.SharedRefIdeal.τ Cert.SharedRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def quiescent_Shared [hShared : Cert.Shared.Facts] : Prop :=
  ∀ (m : (ℓ : Loc Cert.Shared.nD Cert.Shared.τ Cert.Shared.sig) → Buf (Elt Bits) ℓ) (g : Dev Cert.Shared.nD → PrngReg), Pre_Shared m →
    θ_run (Cert.Shared.defs (F := Bits)) (onTc (τ := Cert.Shared.τ) (Cert.Shared.main (F := Bits))) ⟨m, fun _ => 0, g⟩ (fun r => (∀ c : Dev Cert.Shared.nD,
      r.2.mem ((c.tc : Thread Cert.Shared.nD Cert.Shared.τ).loc Cert.Shared.main_arg0) = m ((c.tc : Thread Cert.Shared.nD Cert.Shared.τ).loc Cert.Shared.main_arg0)
      ∧ r.2.mem ((c.tc : Thread Cert.Shared.nD Cert.Shared.τ).loc Cert.Shared.main_arg1) = m ((c.tc : Thread Cert.Shared.nD Cert.Shared.τ).loc Cert.Shared.main_arg1)
      ∧ r.2.mem ((c.tc : Thread Cert.Shared.nD Cert.Shared.τ).loc Cert.Shared.main_arg2) = m ((c.tc : Thread Cert.Shared.nD Cert.Shared.τ).loc Cert.Shared.main_arg2)
      ∧ r.2.mem ((c.tc : Thread Cert.Shared.nD Cert.Shared.τ).loc Cert.Shared.main_arg3) = m ((c.tc : Thread Cert.Shared.nD Cert.Shared.τ).loc Cert.Shared.main_arg3)
      ∧ r.2.mem ((c.tc : Thread Cert.Shared.nD Cert.Shared.τ).loc Cert.Shared.main_arg4) = m ((c.tc : Thread Cert.Shared.nD Cert.Shared.τ).loc Cert.Shared.main_arg4)
      ∧ r.2.mem ((c.tc : Thread Cert.Shared.nD Cert.Shared.τ).loc Cert.Shared.main_arg5) = m ((c.tc : Thread Cert.Shared.nD Cert.Shared.τ).loc Cert.Shared.main_arg5)
      ∧ r.2.mem ((c.tc : Thread Cert.Shared.nD Cert.Shared.τ).loc Cert.Shared.main_arg6) = m ((c.tc : Thread Cert.Shared.nD Cert.Shared.τ).loc Cert.Shared.main_arg6)
      ∧ r.2.mem ((c.tc : Thread Cert.Shared.nD Cert.Shared.τ).loc Cert.Shared.main_arg7) = m ((c.tc : Thread Cert.Shared.nD Cert.Shared.τ).loc Cert.Shared.main_arg7)
      ∧ r.2.mem ((c.tc : Thread Cert.Shared.nD Cert.Shared.τ).loc Cert.Shared.main_arg8) = m ((c.tc : Thread Cert.Shared.nD Cert.Shared.τ).loc Cert.Shared.main_arg8)
      ∧ r.2.mem ((c.tc : Thread Cert.Shared.nD Cert.Shared.τ).loc Cert.Shared.main_arg9) = m ((c.tc : Thread Cert.Shared.nD Cert.Shared.τ).loc Cert.Shared.main_arg9)
      ∧ r.2.mem ((c.tc : Thread Cert.Shared.nD Cert.Shared.τ).loc Cert.Shared.main_arg10) = m ((c.tc : Thread Cert.Shared.nD Cert.Shared.τ).loc Cert.Shared.main_arg10))
      ∧ r.2.sem = fun _ => 0)

def quiescent_SharedIdeal [hSharedIdeal : Cert.SharedIdeal.Facts] : Prop :=
  ∀ (m : (ℓ : Loc Cert.SharedIdeal.nD Cert.SharedIdeal.τ Cert.SharedIdeal.sig) → Buf (Elt Ideal) ℓ) (g : Dev Cert.SharedIdeal.nD → PrngReg), Pre_SharedIdeal m →
    θ_run (Cert.SharedIdeal.defs (F := Ideal)) (onTc (τ := Cert.SharedIdeal.τ) (Cert.SharedIdeal.main (F := Ideal))) ⟨m, fun _ => 0, g⟩ (fun r => (∀ c : Dev Cert.SharedIdeal.nD,
      r.2.mem ((c.tc : Thread Cert.SharedIdeal.nD Cert.SharedIdeal.τ).loc Cert.SharedIdeal.main_arg0) = m ((c.tc : Thread Cert.SharedIdeal.nD Cert.SharedIdeal.τ).loc Cert.SharedIdeal.main_arg0)
      ∧ r.2.mem ((c.tc : Thread Cert.SharedIdeal.nD Cert.SharedIdeal.τ).loc Cert.SharedIdeal.main_arg1) = m ((c.tc : Thread Cert.SharedIdeal.nD Cert.SharedIdeal.τ).loc Cert.SharedIdeal.main_arg1)
      ∧ r.2.mem ((c.tc : Thread Cert.SharedIdeal.nD Cert.SharedIdeal.τ).loc Cert.SharedIdeal.main_arg2) = m ((c.tc : Thread Cert.SharedIdeal.nD Cert.SharedIdeal.τ).loc Cert.SharedIdeal.main_arg2)
      ∧ r.2.mem ((c.tc : Thread Cert.SharedIdeal.nD Cert.SharedIdeal.τ).loc Cert.SharedIdeal.main_arg3) = m ((c.tc : Thread Cert.SharedIdeal.nD Cert.SharedIdeal.τ).loc Cert.SharedIdeal.main_arg3)
      ∧ r.2.mem ((c.tc : Thread Cert.SharedIdeal.nD Cert.SharedIdeal.τ).loc Cert.SharedIdeal.main_arg4) = m ((c.tc : Thread Cert.SharedIdeal.nD Cert.SharedIdeal.τ).loc Cert.SharedIdeal.main_arg4)
      ∧ r.2.mem ((c.tc : Thread Cert.SharedIdeal.nD Cert.SharedIdeal.τ).loc Cert.SharedIdeal.main_arg5) = m ((c.tc : Thread Cert.SharedIdeal.nD Cert.SharedIdeal.τ).loc Cert.SharedIdeal.main_arg5)
      ∧ r.2.mem ((c.tc : Thread Cert.SharedIdeal.nD Cert.SharedIdeal.τ).loc Cert.SharedIdeal.main_arg6) = m ((c.tc : Thread Cert.SharedIdeal.nD Cert.SharedIdeal.τ).loc Cert.SharedIdeal.main_arg6)
      ∧ r.2.mem ((c.tc : Thread Cert.SharedIdeal.nD Cert.SharedIdeal.τ).loc Cert.SharedIdeal.main_arg7) = m ((c.tc : Thread Cert.SharedIdeal.nD Cert.SharedIdeal.τ).loc Cert.SharedIdeal.main_arg7)
      ∧ r.2.mem ((c.tc : Thread Cert.SharedIdeal.nD Cert.SharedIdeal.τ).loc Cert.SharedIdeal.main_arg8) = m ((c.tc : Thread Cert.SharedIdeal.nD Cert.SharedIdeal.τ).loc Cert.SharedIdeal.main_arg8)
      ∧ r.2.mem ((c.tc : Thread Cert.SharedIdeal.nD Cert.SharedIdeal.τ).loc Cert.SharedIdeal.main_arg9) = m ((c.tc : Thread Cert.SharedIdeal.nD Cert.SharedIdeal.τ).loc Cert.SharedIdeal.main_arg9)
      ∧ r.2.mem ((c.tc : Thread Cert.SharedIdeal.nD Cert.SharedIdeal.τ).loc Cert.SharedIdeal.main_arg10) = m ((c.tc : Thread Cert.SharedIdeal.nD Cert.SharedIdeal.τ).loc Cert.SharedIdeal.main_arg10))
      ∧ r.2.sem = fun _ => 0)

def quiescent_SharedRefIdeal [hSharedRefIdeal : Cert.SharedRefIdeal.Facts] : Prop :=
  ∀ (m : (ℓ : Loc Cert.SharedRefIdeal.nD Cert.SharedRefIdeal.τ Cert.SharedRefIdeal.sig) → Buf (Elt Ideal) ℓ) (g : Dev Cert.SharedRefIdeal.nD → PrngReg), Pre_SharedRefIdeal m →
    θ_run (Cert.SharedRefIdeal.defs (F := Ideal)) (onTc (τ := Cert.SharedRefIdeal.τ) (Cert.SharedRefIdeal.main (F := Ideal))) ⟨m, fun _ => 0, g⟩ (fun r => (∀ c : Dev Cert.SharedRefIdeal.nD,
      r.2.mem ((c.tc : Thread Cert.SharedRefIdeal.nD Cert.SharedRefIdeal.τ).loc Cert.SharedRefIdeal.main_arg0) = m ((c.tc : Thread Cert.SharedRefIdeal.nD Cert.SharedRefIdeal.τ).loc Cert.SharedRefIdeal.main_arg0)
      ∧ r.2.mem ((c.tc : Thread Cert.SharedRefIdeal.nD Cert.SharedRefIdeal.τ).loc Cert.SharedRefIdeal.main_arg1) = m ((c.tc : Thread Cert.SharedRefIdeal.nD Cert.SharedRefIdeal.τ).loc Cert.SharedRefIdeal.main_arg1)
      ∧ r.2.mem ((c.tc : Thread Cert.SharedRefIdeal.nD Cert.SharedRefIdeal.τ).loc Cert.SharedRefIdeal.main_arg2) = m ((c.tc : Thread Cert.SharedRefIdeal.nD Cert.SharedRefIdeal.τ).loc Cert.SharedRefIdeal.main_arg2)
      ∧ r.2.mem ((c.tc : Thread Cert.SharedRefIdeal.nD Cert.SharedRefIdeal.τ).loc Cert.SharedRefIdeal.main_arg3) = m ((c.tc : Thread Cert.SharedRefIdeal.nD Cert.SharedRefIdeal.τ).loc Cert.SharedRefIdeal.main_arg3)
      ∧ r.2.mem ((c.tc : Thread Cert.SharedRefIdeal.nD Cert.SharedRefIdeal.τ).loc Cert.SharedRefIdeal.main_arg4) = m ((c.tc : Thread Cert.SharedRefIdeal.nD Cert.SharedRefIdeal.τ).loc Cert.SharedRefIdeal.main_arg4)
      ∧ r.2.mem ((c.tc : Thread Cert.SharedRefIdeal.nD Cert.SharedRefIdeal.τ).loc Cert.SharedRefIdeal.main_arg5) = m ((c.tc : Thread Cert.SharedRefIdeal.nD Cert.SharedRefIdeal.τ).loc Cert.SharedRefIdeal.main_arg5)
      ∧ r.2.mem ((c.tc : Thread Cert.SharedRefIdeal.nD Cert.SharedRefIdeal.τ).loc Cert.SharedRefIdeal.main_arg6) = m ((c.tc : Thread Cert.SharedRefIdeal.nD Cert.SharedRefIdeal.τ).loc Cert.SharedRefIdeal.main_arg6)
      ∧ r.2.mem ((c.tc : Thread Cert.SharedRefIdeal.nD Cert.SharedRefIdeal.τ).loc Cert.SharedRefIdeal.main_arg7) = m ((c.tc : Thread Cert.SharedRefIdeal.nD Cert.SharedRefIdeal.τ).loc Cert.SharedRefIdeal.main_arg7)
      ∧ r.2.mem ((c.tc : Thread Cert.SharedRefIdeal.nD Cert.SharedRefIdeal.τ).loc Cert.SharedRefIdeal.main_arg8) = m ((c.tc : Thread Cert.SharedRefIdeal.nD Cert.SharedRefIdeal.τ).loc Cert.SharedRefIdeal.main_arg8)
      ∧ r.2.mem ((c.tc : Thread Cert.SharedRefIdeal.nD Cert.SharedRefIdeal.τ).loc Cert.SharedRefIdeal.main_arg9) = m ((c.tc : Thread Cert.SharedRefIdeal.nD Cert.SharedRefIdeal.τ).loc Cert.SharedRefIdeal.main_arg9)
      ∧ r.2.mem ((c.tc : Thread Cert.SharedRefIdeal.nD Cert.SharedRefIdeal.τ).loc Cert.SharedRefIdeal.main_arg10) = m ((c.tc : Thread Cert.SharedRefIdeal.nD Cert.SharedRefIdeal.τ).loc Cert.SharedRefIdeal.main_arg10))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3)
      ∧ r.2.mem ((c.tc : Thread Cert.InProj.nD Cert.InProj.τ).loc Cert.InProj.main_arg4) = m ((c.tc : Thread Cert.InProj.nD Cert.InProj.τ).loc Cert.InProj.main_arg4)
      ∧ r.2.mem ((c.tc : Thread Cert.InProj.nD Cert.InProj.τ).loc Cert.InProj.main_arg5) = m ((c.tc : Thread Cert.InProj.nD Cert.InProj.τ).loc Cert.InProj.main_arg5)
      ∧ r.2.mem ((c.tc : Thread Cert.InProj.nD Cert.InProj.τ).loc Cert.InProj.main_arg6) = m ((c.tc : Thread Cert.InProj.nD Cert.InProj.τ).loc Cert.InProj.main_arg6)
      ∧ r.2.mem ((c.tc : Thread Cert.InProj.nD Cert.InProj.τ).loc Cert.InProj.main_arg7) = m ((c.tc : Thread Cert.InProj.nD Cert.InProj.τ).loc Cert.InProj.main_arg7)
      ∧ r.2.mem ((c.tc : Thread Cert.InProj.nD Cert.InProj.τ).loc Cert.InProj.main_arg8) = m ((c.tc : Thread Cert.InProj.nD Cert.InProj.τ).loc Cert.InProj.main_arg8)
      ∧ r.2.mem ((c.tc : Thread Cert.InProj.nD Cert.InProj.τ).loc Cert.InProj.main_arg9) = m ((c.tc : Thread Cert.InProj.nD Cert.InProj.τ).loc Cert.InProj.main_arg9)
      ∧ r.2.mem ((c.tc : Thread Cert.InProj.nD Cert.InProj.τ).loc Cert.InProj.main_arg10) = m ((c.tc : Thread Cert.InProj.nD Cert.InProj.τ).loc Cert.InProj.main_arg10))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
      ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5)
      ∧ r.2.mem ((c.tc : Thread Cert.InProjIdeal.nD Cert.InProjIdeal.τ).loc Cert.InProjIdeal.main_arg6) = m ((c.tc : Thread Cert.InProjIdeal.nD Cert.InProjIdeal.τ).loc Cert.InProjIdeal.main_arg6)
      ∧ r.2.mem ((c.tc : Thread Cert.InProjIdeal.nD Cert.InProjIdeal.τ).loc Cert.InProjIdeal.main_arg7) = m ((c.tc : Thread Cert.InProjIdeal.nD Cert.InProjIdeal.τ).loc Cert.InProjIdeal.main_arg7)
      ∧ r.2.mem ((c.tc : Thread Cert.InProjIdeal.nD Cert.InProjIdeal.τ).loc Cert.InProjIdeal.main_arg8) = m ((c.tc : Thread Cert.InProjIdeal.nD Cert.InProjIdeal.τ).loc Cert.InProjIdeal.main_arg8)
      ∧ r.2.mem ((c.tc : Thread Cert.InProjIdeal.nD Cert.InProjIdeal.τ).loc Cert.InProjIdeal.main_arg9) = m ((c.tc : Thread Cert.InProjIdeal.nD Cert.InProjIdeal.τ).loc Cert.InProjIdeal.main_arg9)
      ∧ r.2.mem ((c.tc : Thread Cert.InProjIdeal.nD Cert.InProjIdeal.τ).loc Cert.InProjIdeal.main_arg10) = m ((c.tc : Thread Cert.InProjIdeal.nD Cert.InProjIdeal.τ).loc Cert.InProjIdeal.main_arg10))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3)
      ∧ r.2.mem ((c.tc : Thread Cert.InProjRefIdeal.nD Cert.InProjRefIdeal.τ).loc Cert.InProjRefIdeal.main_arg4) = m ((c.tc : Thread Cert.InProjRefIdeal.nD Cert.InProjRefIdeal.τ).loc Cert.InProjRefIdeal.main_arg4)
      ∧ r.2.mem ((c.tc : Thread Cert.InProjRefIdeal.nD Cert.InProjRefIdeal.τ).loc Cert.InProjRefIdeal.main_arg5) = m ((c.tc : Thread Cert.InProjRefIdeal.nD Cert.InProjRefIdeal.τ).loc Cert.InProjRefIdeal.main_arg5)
      ∧ r.2.mem ((c.tc : Thread Cert.InProjRefIdeal.nD Cert.InProjRefIdeal.τ).loc Cert.InProjRefIdeal.main_arg6) = m ((c.tc : Thread Cert.InProjRefIdeal.nD Cert.InProjRefIdeal.τ).loc Cert.InProjRefIdeal.main_arg6)
      ∧ r.2.mem ((c.tc : Thread Cert.InProjRefIdeal.nD Cert.InProjRefIdeal.τ).loc Cert.InProjRefIdeal.main_arg7) = m ((c.tc : Thread Cert.InProjRefIdeal.nD Cert.InProjRefIdeal.τ).loc Cert.InProjRefIdeal.main_arg7)
      ∧ r.2.mem ((c.tc : Thread Cert.InProjRefIdeal.nD Cert.InProjRefIdeal.τ).loc Cert.InProjRefIdeal.main_arg8) = m ((c.tc : Thread Cert.InProjRefIdeal.nD Cert.InProjRefIdeal.τ).loc Cert.InProjRefIdeal.main_arg8)
      ∧ r.2.mem ((c.tc : Thread Cert.InProjRefIdeal.nD Cert.InProjRefIdeal.τ).loc Cert.InProjRefIdeal.main_arg9) = m ((c.tc : Thread Cert.InProjRefIdeal.nD Cert.InProjRefIdeal.τ).loc Cert.InProjRefIdeal.main_arg9)
      ∧ r.2.mem ((c.tc : Thread Cert.InProjRefIdeal.nD Cert.InProjRefIdeal.τ).loc Cert.InProjRefIdeal.main_arg10) = m ((c.tc : Thread Cert.InProjRefIdeal.nD Cert.InProjRefIdeal.τ).loc Cert.InProjRefIdeal.main_arg10))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4)
      ∧ r.2.mem ((c.tc : Thread Cert.OutProj.nD Cert.OutProj.τ).loc Cert.OutProj.main_arg5) = m ((c.tc : Thread Cert.OutProj.nD Cert.OutProj.τ).loc Cert.OutProj.main_arg5)
      ∧ r.2.mem ((c.tc : Thread Cert.OutProj.nD Cert.OutProj.τ).loc Cert.OutProj.main_arg6) = m ((c.tc : Thread Cert.OutProj.nD Cert.OutProj.τ).loc Cert.OutProj.main_arg6)
      ∧ r.2.mem ((c.tc : Thread Cert.OutProj.nD Cert.OutProj.τ).loc Cert.OutProj.main_arg7) = m ((c.tc : Thread Cert.OutProj.nD Cert.OutProj.τ).loc Cert.OutProj.main_arg7)
      ∧ r.2.mem ((c.tc : Thread Cert.OutProj.nD Cert.OutProj.τ).loc Cert.OutProj.main_arg8) = m ((c.tc : Thread Cert.OutProj.nD Cert.OutProj.τ).loc Cert.OutProj.main_arg8)
      ∧ r.2.mem ((c.tc : Thread Cert.OutProj.nD Cert.OutProj.τ).loc Cert.OutProj.main_arg9) = m ((c.tc : Thread Cert.OutProj.nD Cert.OutProj.τ).loc Cert.OutProj.main_arg9))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
      ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
      ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6)
      ∧ r.2.mem ((c.tc : Thread Cert.OutProjIdeal.nD Cert.OutProjIdeal.τ).loc Cert.OutProjIdeal.main_arg7) = m ((c.tc : Thread Cert.OutProjIdeal.nD Cert.OutProjIdeal.τ).loc Cert.OutProjIdeal.main_arg7)
      ∧ r.2.mem ((c.tc : Thread Cert.OutProjIdeal.nD Cert.OutProjIdeal.τ).loc Cert.OutProjIdeal.main_arg8) = m ((c.tc : Thread Cert.OutProjIdeal.nD Cert.OutProjIdeal.τ).loc Cert.OutProjIdeal.main_arg8)
      ∧ r.2.mem ((c.tc : Thread Cert.OutProjIdeal.nD Cert.OutProjIdeal.τ).loc Cert.OutProjIdeal.main_arg9) = m ((c.tc : Thread Cert.OutProjIdeal.nD Cert.OutProjIdeal.τ).loc Cert.OutProjIdeal.main_arg9))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3)
      ∧ r.2.mem ((c.tc : Thread Cert.OutProjRefIdeal.nD Cert.OutProjRefIdeal.τ).loc Cert.OutProjRefIdeal.main_arg4) = m ((c.tc : Thread Cert.OutProjRefIdeal.nD Cert.OutProjRefIdeal.τ).loc Cert.OutProjRefIdeal.main_arg4)
      ∧ r.2.mem ((c.tc : Thread Cert.OutProjRefIdeal.nD Cert.OutProjRefIdeal.τ).loc Cert.OutProjRefIdeal.main_arg5) = m ((c.tc : Thread Cert.OutProjRefIdeal.nD Cert.OutProjRefIdeal.τ).loc Cert.OutProjRefIdeal.main_arg5)
      ∧ r.2.mem ((c.tc : Thread Cert.OutProjRefIdeal.nD Cert.OutProjRefIdeal.τ).loc Cert.OutProjRefIdeal.main_arg6) = m ((c.tc : Thread Cert.OutProjRefIdeal.nD Cert.OutProjRefIdeal.τ).loc Cert.OutProjRefIdeal.main_arg6)
      ∧ r.2.mem ((c.tc : Thread Cert.OutProjRefIdeal.nD Cert.OutProjRefIdeal.τ).loc Cert.OutProjRefIdeal.main_arg7) = m ((c.tc : Thread Cert.OutProjRefIdeal.nD Cert.OutProjRefIdeal.τ).loc Cert.OutProjRefIdeal.main_arg7)
      ∧ r.2.mem ((c.tc : Thread Cert.OutProjRefIdeal.nD Cert.OutProjRefIdeal.τ).loc Cert.OutProjRefIdeal.main_arg8) = m ((c.tc : Thread Cert.OutProjRefIdeal.nD Cert.OutProjRefIdeal.τ).loc Cert.OutProjRefIdeal.main_arg8)
      ∧ r.2.mem ((c.tc : Thread Cert.OutProjRefIdeal.nD Cert.OutProjRefIdeal.τ).loc Cert.OutProjRefIdeal.main_arg9) = m ((c.tc : Thread Cert.OutProjRefIdeal.nD Cert.OutProjRefIdeal.τ).loc Cert.OutProjRefIdeal.main_arg9))
      ∧ r.2.sem = fun _ => 0)

def preserves_Shared_SharedIdeal : Prop :=
  IdealRules.named_const.Statement Cert.SharedIdeal.κ "inv_448" .f32 0x3B124925#32 ((1 / 448 : ℝ) : EReal)

def algebraic_SharedIdeal_SharedRefIdeal [hSharedIdeal : Cert.SharedIdeal.Facts] [hSharedRefIdeal : Cert.SharedRefIdeal.Facts] : Prop :=
  ∀ (m : (ℓ : Loc Cert.SharedIdeal.nD Cert.SharedIdeal.τ Cert.SharedIdeal.sig) → Buf (Elt Ideal) ℓ) (g : Dev Cert.SharedIdeal.nD → PrngReg)
    (m' : (ℓ : Loc Cert.SharedRefIdeal.nD Cert.SharedRefIdeal.τ Cert.SharedRefIdeal.sig) → Buf (Elt Ideal) ℓ) (g' : Dev Cert.SharedRefIdeal.nD → PrngReg), Pre_SharedIdeal m →
    (∀ c : Dev Cert.SharedIdeal.nD,
      m' ((c.tc : Thread Cert.SharedRefIdeal.nD Cert.SharedRefIdeal.τ).loc Cert.SharedRefIdeal.main_arg0) = m ((c.tc : Thread Cert.SharedIdeal.nD Cert.SharedIdeal.τ).loc Cert.SharedIdeal.main_arg0)
      ∧ m' ((c.tc : Thread Cert.SharedRefIdeal.nD Cert.SharedRefIdeal.τ).loc Cert.SharedRefIdeal.main_arg1) = m ((c.tc : Thread Cert.SharedIdeal.nD Cert.SharedIdeal.τ).loc Cert.SharedIdeal.main_arg1)
      ∧ m' ((c.tc : Thread Cert.SharedRefIdeal.nD Cert.SharedRefIdeal.τ).loc Cert.SharedRefIdeal.main_arg2) = m ((c.tc : Thread Cert.SharedIdeal.nD Cert.SharedIdeal.τ).loc Cert.SharedIdeal.main_arg2)
      ∧ m' ((c.tc : Thread Cert.SharedRefIdeal.nD Cert.SharedRefIdeal.τ).loc Cert.SharedRefIdeal.main_arg3) = m ((c.tc : Thread Cert.SharedIdeal.nD Cert.SharedIdeal.τ).loc Cert.SharedIdeal.main_arg3)
      ∧ m' ((c.tc : Thread Cert.SharedRefIdeal.nD Cert.SharedRefIdeal.τ).loc Cert.SharedRefIdeal.main_arg4) = m ((c.tc : Thread Cert.SharedIdeal.nD Cert.SharedIdeal.τ).loc Cert.SharedIdeal.main_arg4)
      ∧ m' ((c.tc : Thread Cert.SharedRefIdeal.nD Cert.SharedRefIdeal.τ).loc Cert.SharedRefIdeal.main_arg5) = m ((c.tc : Thread Cert.SharedIdeal.nD Cert.SharedIdeal.τ).loc Cert.SharedIdeal.main_arg5)
      ∧ m' ((c.tc : Thread Cert.SharedRefIdeal.nD Cert.SharedRefIdeal.τ).loc Cert.SharedRefIdeal.main_arg6) = m ((c.tc : Thread Cert.SharedIdeal.nD Cert.SharedIdeal.τ).loc Cert.SharedIdeal.main_arg6)
      ∧ m' ((c.tc : Thread Cert.SharedRefIdeal.nD Cert.SharedRefIdeal.τ).loc Cert.SharedRefIdeal.main_arg7) = m ((c.tc : Thread Cert.SharedIdeal.nD Cert.SharedIdeal.τ).loc Cert.SharedIdeal.main_arg7)
      ∧ m' ((c.tc : Thread Cert.SharedRefIdeal.nD Cert.SharedRefIdeal.τ).loc Cert.SharedRefIdeal.main_arg8) = m ((c.tc : Thread Cert.SharedIdeal.nD Cert.SharedIdeal.τ).loc Cert.SharedIdeal.main_arg8)
      ∧ m' ((c.tc : Thread Cert.SharedRefIdeal.nD Cert.SharedRefIdeal.τ).loc Cert.SharedRefIdeal.main_arg9) = m ((c.tc : Thread Cert.SharedIdeal.nD Cert.SharedIdeal.τ).loc Cert.SharedIdeal.main_arg9)
      ∧ m' ((c.tc : Thread Cert.SharedRefIdeal.nD Cert.SharedRefIdeal.τ).loc Cert.SharedRefIdeal.main_arg10) = m ((c.tc : Thread Cert.SharedIdeal.nD Cert.SharedIdeal.τ).loc Cert.SharedIdeal.main_arg10)) →
    ∃ (v0 : (c : Dev Cert.SharedIdeal.nD) → Buf (Elt Ideal) ((c.tc : Thread Cert.SharedIdeal.nD Cert.SharedIdeal.τ).loc Cert.SharedIdeal.main_v0_0)) (v1 : (c : Dev Cert.SharedIdeal.nD) → Buf (Elt Ideal) ((c.tc : Thread Cert.SharedIdeal.nD Cert.SharedIdeal.τ).loc Cert.SharedIdeal.main_v0_1)) (v2 : (c : Dev Cert.SharedIdeal.nD) → Buf (Elt Ideal) ((c.tc : Thread Cert.SharedIdeal.nD Cert.SharedIdeal.τ).loc Cert.SharedIdeal.main_v0_2)),
      θ_run (Cert.SharedIdeal.defs (F := Ideal)) (onTc (τ := Cert.SharedIdeal.τ) (Cert.SharedIdeal.main (F := Ideal))) ⟨m, fun _ => 0, g⟩ (fun r => ∀ c : Dev Cert.SharedIdeal.nD,
          r.2.mem ((c.tc : Thread Cert.SharedIdeal.nD Cert.SharedIdeal.τ).loc Cert.SharedIdeal.main_v0_0) = v0 c
          ∧ r.2.mem ((c.tc : Thread Cert.SharedIdeal.nD Cert.SharedIdeal.τ).loc Cert.SharedIdeal.main_v0_1) = v1 c
          ∧ r.2.mem ((c.tc : Thread Cert.SharedIdeal.nD Cert.SharedIdeal.τ).loc Cert.SharedIdeal.main_v0_2) = v2 c
          ∧ r.2.mem ((c.tc : Thread Cert.SharedIdeal.nD Cert.SharedIdeal.τ).loc Cert.SharedIdeal.main_arg0) = m ((c.tc : Thread Cert.SharedIdeal.nD Cert.SharedIdeal.τ).loc Cert.SharedIdeal.main_arg0)
          ∧ r.2.mem ((c.tc : Thread Cert.SharedIdeal.nD Cert.SharedIdeal.τ).loc Cert.SharedIdeal.main_arg1) = m ((c.tc : Thread Cert.SharedIdeal.nD Cert.SharedIdeal.τ).loc Cert.SharedIdeal.main_arg1)
          ∧ r.2.mem ((c.tc : Thread Cert.SharedIdeal.nD Cert.SharedIdeal.τ).loc Cert.SharedIdeal.main_arg2) = m ((c.tc : Thread Cert.SharedIdeal.nD Cert.SharedIdeal.τ).loc Cert.SharedIdeal.main_arg2)
          ∧ r.2.mem ((c.tc : Thread Cert.SharedIdeal.nD Cert.SharedIdeal.τ).loc Cert.SharedIdeal.main_arg3) = m ((c.tc : Thread Cert.SharedIdeal.nD Cert.SharedIdeal.τ).loc Cert.SharedIdeal.main_arg3)
          ∧ r.2.mem ((c.tc : Thread Cert.SharedIdeal.nD Cert.SharedIdeal.τ).loc Cert.SharedIdeal.main_arg4) = m ((c.tc : Thread Cert.SharedIdeal.nD Cert.SharedIdeal.τ).loc Cert.SharedIdeal.main_arg4)
          ∧ r.2.mem ((c.tc : Thread Cert.SharedIdeal.nD Cert.SharedIdeal.τ).loc Cert.SharedIdeal.main_arg5) = m ((c.tc : Thread Cert.SharedIdeal.nD Cert.SharedIdeal.τ).loc Cert.SharedIdeal.main_arg5)
          ∧ r.2.mem ((c.tc : Thread Cert.SharedIdeal.nD Cert.SharedIdeal.τ).loc Cert.SharedIdeal.main_arg6) = m ((c.tc : Thread Cert.SharedIdeal.nD Cert.SharedIdeal.τ).loc Cert.SharedIdeal.main_arg6)
          ∧ r.2.mem ((c.tc : Thread Cert.SharedIdeal.nD Cert.SharedIdeal.τ).loc Cert.SharedIdeal.main_arg7) = m ((c.tc : Thread Cert.SharedIdeal.nD Cert.SharedIdeal.τ).loc Cert.SharedIdeal.main_arg7)
          ∧ r.2.mem ((c.tc : Thread Cert.SharedIdeal.nD Cert.SharedIdeal.τ).loc Cert.SharedIdeal.main_arg8) = m ((c.tc : Thread Cert.SharedIdeal.nD Cert.SharedIdeal.τ).loc Cert.SharedIdeal.main_arg8)
          ∧ r.2.mem ((c.tc : Thread Cert.SharedIdeal.nD Cert.SharedIdeal.τ).loc Cert.SharedIdeal.main_arg9) = m ((c.tc : Thread Cert.SharedIdeal.nD Cert.SharedIdeal.τ).loc Cert.SharedIdeal.main_arg9)
          ∧ r.2.mem ((c.tc : Thread Cert.SharedIdeal.nD Cert.SharedIdeal.τ).loc Cert.SharedIdeal.main_arg10) = m ((c.tc : Thread Cert.SharedIdeal.nD Cert.SharedIdeal.τ).loc Cert.SharedIdeal.main_arg10))
      ∧ θ_run (Cert.SharedRefIdeal.defs (F := Ideal)) (onTc (τ := Cert.SharedRefIdeal.τ) (Cert.SharedRefIdeal.main (F := Ideal))) ⟨m', fun _ => 0, g'⟩ (fun r => ∀ c : Dev Cert.SharedRefIdeal.nD,
          r.2.mem ((c.tc : Thread Cert.SharedRefIdeal.nD Cert.SharedRefIdeal.τ).loc Cert.SharedRefIdeal.main_v0_0) = v0 c
          ∧ r.2.mem ((c.tc : Thread Cert.SharedRefIdeal.nD Cert.SharedRefIdeal.τ).loc Cert.SharedRefIdeal.main_v0_1) = v1 c
          ∧ r.2.mem ((c.tc : Thread Cert.SharedRefIdeal.nD Cert.SharedRefIdeal.τ).loc Cert.SharedRefIdeal.main_v0_2) = v2 c
          ∧ r.2.mem ((c.tc : Thread Cert.SharedRefIdeal.nD Cert.SharedRefIdeal.τ).loc Cert.SharedRefIdeal.main_arg0) = m' ((c.tc : Thread Cert.SharedRefIdeal.nD Cert.SharedRefIdeal.τ).loc Cert.SharedRefIdeal.main_arg0)
          ∧ r.2.mem ((c.tc : Thread Cert.SharedRefIdeal.nD Cert.SharedRefIdeal.τ).loc Cert.SharedRefIdeal.main_arg1) = m' ((c.tc : Thread Cert.SharedRefIdeal.nD Cert.SharedRefIdeal.τ).loc Cert.SharedRefIdeal.main_arg1)
          ∧ r.2.mem ((c.tc : Thread Cert.SharedRefIdeal.nD Cert.SharedRefIdeal.τ).loc Cert.SharedRefIdeal.main_arg2) = m' ((c.tc : Thread Cert.SharedRefIdeal.nD Cert.SharedRefIdeal.τ).loc Cert.SharedRefIdeal.main_arg2)
          ∧ r.2.mem ((c.tc : Thread Cert.SharedRefIdeal.nD Cert.SharedRefIdeal.τ).loc Cert.SharedRefIdeal.main_arg3) = m' ((c.tc : Thread Cert.SharedRefIdeal.nD Cert.SharedRefIdeal.τ).loc Cert.SharedRefIdeal.main_arg3)
          ∧ r.2.mem ((c.tc : Thread Cert.SharedRefIdeal.nD Cert.SharedRefIdeal.τ).loc Cert.SharedRefIdeal.main_arg4) = m' ((c.tc : Thread Cert.SharedRefIdeal.nD Cert.SharedRefIdeal.τ).loc Cert.SharedRefIdeal.main_arg4)
          ∧ r.2.mem ((c.tc : Thread Cert.SharedRefIdeal.nD Cert.SharedRefIdeal.τ).loc Cert.SharedRefIdeal.main_arg5) = m' ((c.tc : Thread Cert.SharedRefIdeal.nD Cert.SharedRefIdeal.τ).loc Cert.SharedRefIdeal.main_arg5)
          ∧ r.2.mem ((c.tc : Thread Cert.SharedRefIdeal.nD Cert.SharedRefIdeal.τ).loc Cert.SharedRefIdeal.main_arg6) = m' ((c.tc : Thread Cert.SharedRefIdeal.nD Cert.SharedRefIdeal.τ).loc Cert.SharedRefIdeal.main_arg6)
          ∧ r.2.mem ((c.tc : Thread Cert.SharedRefIdeal.nD Cert.SharedRefIdeal.τ).loc Cert.SharedRefIdeal.main_arg7) = m' ((c.tc : Thread Cert.SharedRefIdeal.nD Cert.SharedRefIdeal.τ).loc Cert.SharedRefIdeal.main_arg7)
          ∧ r.2.mem ((c.tc : Thread Cert.SharedRefIdeal.nD Cert.SharedRefIdeal.τ).loc Cert.SharedRefIdeal.main_arg8) = m' ((c.tc : Thread Cert.SharedRefIdeal.nD Cert.SharedRefIdeal.τ).loc Cert.SharedRefIdeal.main_arg8)
          ∧ r.2.mem ((c.tc : Thread Cert.SharedRefIdeal.nD Cert.SharedRefIdeal.τ).loc Cert.SharedRefIdeal.main_arg9) = m' ((c.tc : Thread Cert.SharedRefIdeal.nD Cert.SharedRefIdeal.τ).loc Cert.SharedRefIdeal.main_arg9)
          ∧ r.2.mem ((c.tc : Thread Cert.SharedRefIdeal.nD Cert.SharedRefIdeal.τ).loc Cert.SharedRefIdeal.main_arg10) = m' ((c.tc : Thread Cert.SharedRefIdeal.nD Cert.SharedRefIdeal.τ).loc Cert.SharedRefIdeal.main_arg10))

def preserves_InProj_InProjIdeal : Prop :=
  IdealRules.named_const.Statement Cert.InProjIdeal.κ "inv_448" .f32 0x3B124925#32 ((1 / 448 : ℝ) : EReal)
  ∧ IdealRules.named_const.Statement Cert.InProjIdeal.κ "inv_127" .f32 0x3C010204#32 ((1 / 127 : ℝ) : EReal)

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)
      ∧ m' ((c.tc : Thread Cert.InProjRefIdeal.nD Cert.InProjRefIdeal.τ).loc Cert.InProjRefIdeal.main_arg3) = m ((c.tc : Thread Cert.InProjIdeal.nD Cert.InProjIdeal.τ).loc Cert.InProjIdeal.main_arg3)
      ∧ m' ((c.tc : Thread Cert.InProjRefIdeal.nD Cert.InProjRefIdeal.τ).loc Cert.InProjRefIdeal.main_arg4) = m ((c.tc : Thread Cert.InProjIdeal.nD Cert.InProjIdeal.τ).loc Cert.InProjIdeal.main_arg4)
      ∧ m' ((c.tc : Thread Cert.InProjRefIdeal.nD Cert.InProjRefIdeal.τ).loc Cert.InProjRefIdeal.main_arg5) = m ((c.tc : Thread Cert.InProjIdeal.nD Cert.InProjIdeal.τ).loc Cert.InProjIdeal.main_arg5)
      ∧ m' ((c.tc : Thread Cert.InProjRefIdeal.nD Cert.InProjRefIdeal.τ).loc Cert.InProjRefIdeal.main_arg6) = m ((c.tc : Thread Cert.InProjIdeal.nD Cert.InProjIdeal.τ).loc Cert.InProjIdeal.main_arg6)
      ∧ m' ((c.tc : Thread Cert.InProjRefIdeal.nD Cert.InProjRefIdeal.τ).loc Cert.InProjRefIdeal.main_arg7) = m ((c.tc : Thread Cert.InProjIdeal.nD Cert.InProjIdeal.τ).loc Cert.InProjIdeal.main_arg7)
      ∧ m' ((c.tc : Thread Cert.InProjRefIdeal.nD Cert.InProjRefIdeal.τ).loc Cert.InProjRefIdeal.main_arg8) = m ((c.tc : Thread Cert.InProjIdeal.nD Cert.InProjIdeal.τ).loc Cert.InProjIdeal.main_arg8)
      ∧ m' ((c.tc : Thread Cert.InProjRefIdeal.nD Cert.InProjRefIdeal.τ).loc Cert.InProjRefIdeal.main_arg9) = m ((c.tc : Thread Cert.InProjIdeal.nD Cert.InProjIdeal.τ).loc Cert.InProjIdeal.main_arg9)
      ∧ m' ((c.tc : Thread Cert.InProjRefIdeal.nD Cert.InProjRefIdeal.τ).loc Cert.InProjRefIdeal.main_arg10) = m ((c.tc : Thread Cert.InProjIdeal.nD Cert.InProjIdeal.τ).loc Cert.InProjIdeal.main_arg10)) →
    ∃ (v0 : (c : Dev Cert.InProjIdeal.nD) → Buf (Elt Ideal) ((c.tc : Thread Cert.InProjIdeal.nD Cert.InProjIdeal.τ).loc Cert.InProjIdeal.main_v0_0)) (v1 : (c : Dev Cert.InProjIdeal.nD) → Buf (Elt Ideal) ((c.tc : Thread Cert.InProjIdeal.nD Cert.InProjIdeal.τ).loc Cert.InProjIdeal.main_v0_1)) (v2 : (c : Dev Cert.InProjIdeal.nD) → Buf (Elt Ideal) ((c.tc : Thread Cert.InProjIdeal.nD Cert.InProjIdeal.τ).loc Cert.InProjIdeal.main_v0_2)) (v3 : (c : Dev Cert.InProjIdeal.nD) → Buf (Elt Ideal) ((c.tc : Thread Cert.InProjIdeal.nD Cert.InProjIdeal.τ).loc Cert.InProjIdeal.main_v0_3)) (v4 : (c : Dev Cert.InProjIdeal.nD) → Buf (Elt Ideal) ((c.tc : Thread Cert.InProjIdeal.nD Cert.InProjIdeal.τ).loc Cert.InProjIdeal.main_v0_4)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v0_0) = v0 c
          ∧ r.2.mem ((c.tc : Thread Cert.InProjIdeal.nD Cert.InProjIdeal.τ).loc Cert.InProjIdeal.main_v0_1) = v1 c
          ∧ r.2.mem ((c.tc : Thread Cert.InProjIdeal.nD Cert.InProjIdeal.τ).loc Cert.InProjIdeal.main_v0_2) = v2 c
          ∧ r.2.mem ((c.tc : Thread Cert.InProjIdeal.nD Cert.InProjIdeal.τ).loc Cert.InProjIdeal.main_v0_3) = v3 c
          ∧ r.2.mem ((c.tc : Thread Cert.InProjIdeal.nD Cert.InProjIdeal.τ).loc Cert.InProjIdeal.main_v0_4) = v4 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
          ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
          ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5)
          ∧ r.2.mem ((c.tc : Thread Cert.InProjIdeal.nD Cert.InProjIdeal.τ).loc Cert.InProjIdeal.main_arg6) = m ((c.tc : Thread Cert.InProjIdeal.nD Cert.InProjIdeal.τ).loc Cert.InProjIdeal.main_arg6)
          ∧ r.2.mem ((c.tc : Thread Cert.InProjIdeal.nD Cert.InProjIdeal.τ).loc Cert.InProjIdeal.main_arg7) = m ((c.tc : Thread Cert.InProjIdeal.nD Cert.InProjIdeal.τ).loc Cert.InProjIdeal.main_arg7)
          ∧ r.2.mem ((c.tc : Thread Cert.InProjIdeal.nD Cert.InProjIdeal.τ).loc Cert.InProjIdeal.main_arg8) = m ((c.tc : Thread Cert.InProjIdeal.nD Cert.InProjIdeal.τ).loc Cert.InProjIdeal.main_arg8)
          ∧ r.2.mem ((c.tc : Thread Cert.InProjIdeal.nD Cert.InProjIdeal.τ).loc Cert.InProjIdeal.main_arg9) = m ((c.tc : Thread Cert.InProjIdeal.nD Cert.InProjIdeal.τ).loc Cert.InProjIdeal.main_arg9)
          ∧ r.2.mem ((c.tc : Thread Cert.InProjIdeal.nD Cert.InProjIdeal.τ).loc Cert.InProjIdeal.main_arg10) = m ((c.tc : Thread Cert.InProjIdeal.nD Cert.InProjIdeal.τ).loc Cert.InProjIdeal.main_arg10))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v0_0) = v0 c
          ∧ r.2.mem ((c.tc : Thread Cert.InProjRefIdeal.nD Cert.InProjRefIdeal.τ).loc Cert.InProjRefIdeal.main_v0_1) = v1 c
          ∧ r.2.mem ((c.tc : Thread Cert.InProjRefIdeal.nD Cert.InProjRefIdeal.τ).loc Cert.InProjRefIdeal.main_v0_2) = v2 c
          ∧ r.2.mem ((c.tc : Thread Cert.InProjRefIdeal.nD Cert.InProjRefIdeal.τ).loc Cert.InProjRefIdeal.main_v0_3) = v3 c
          ∧ r.2.mem ((c.tc : Thread Cert.InProjRefIdeal.nD Cert.InProjRefIdeal.τ).loc Cert.InProjRefIdeal.main_v0_4) = v4 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2)
          ∧ r.2.mem ((c.tc : Thread Cert.InProjRefIdeal.nD Cert.InProjRefIdeal.τ).loc Cert.InProjRefIdeal.main_arg3) = m' ((c.tc : Thread Cert.InProjRefIdeal.nD Cert.InProjRefIdeal.τ).loc Cert.InProjRefIdeal.main_arg3)
          ∧ r.2.mem ((c.tc : Thread Cert.InProjRefIdeal.nD Cert.InProjRefIdeal.τ).loc Cert.InProjRefIdeal.main_arg4) = m' ((c.tc : Thread Cert.InProjRefIdeal.nD Cert.InProjRefIdeal.τ).loc Cert.InProjRefIdeal.main_arg4)
          ∧ r.2.mem ((c.tc : Thread Cert.InProjRefIdeal.nD Cert.InProjRefIdeal.τ).loc Cert.InProjRefIdeal.main_arg5) = m' ((c.tc : Thread Cert.InProjRefIdeal.nD Cert.InProjRefIdeal.τ).loc Cert.InProjRefIdeal.main_arg5)
          ∧ r.2.mem ((c.tc : Thread Cert.InProjRefIdeal.nD Cert.InProjRefIdeal.τ).loc Cert.InProjRefIdeal.main_arg6) = m' ((c.tc : Thread Cert.InProjRefIdeal.nD Cert.InProjRefIdeal.τ).loc Cert.InProjRefIdeal.main_arg6)
          ∧ r.2.mem ((c.tc : Thread Cert.InProjRefIdeal.nD Cert.InProjRefIdeal.τ).loc Cert.InProjRefIdeal.main_arg7) = m' ((c.tc : Thread Cert.InProjRefIdeal.nD Cert.InProjRefIdeal.τ).loc Cert.InProjRefIdeal.main_arg7)
          ∧ r.2.mem ((c.tc : Thread Cert.InProjRefIdeal.nD Cert.InProjRefIdeal.τ).loc Cert.InProjRefIdeal.main_arg8) = m' ((c.tc : Thread Cert.InProjRefIdeal.nD Cert.InProjRefIdeal.τ).loc Cert.InProjRefIdeal.main_arg8)
          ∧ r.2.mem ((c.tc : Thread Cert.InProjRefIdeal.nD Cert.InProjRefIdeal.τ).loc Cert.InProjRefIdeal.main_arg9) = m' ((c.tc : Thread Cert.InProjRefIdeal.nD Cert.InProjRefIdeal.τ).loc Cert.InProjRefIdeal.main_arg9)
          ∧ r.2.mem ((c.tc : Thread Cert.InProjRefIdeal.nD Cert.InProjRefIdeal.τ).loc Cert.InProjRefIdeal.main_arg10) = m' ((c.tc : Thread Cert.InProjRefIdeal.nD Cert.InProjRefIdeal.τ).loc Cert.InProjRefIdeal.main_arg10))

def preserves_OutProj_OutProjIdeal : Prop :=
  IdealRules.named_const.Statement Cert.OutProjIdeal.κ "inv_448" .f32 0x3B124925#32 ((1 / 448 : ℝ) : EReal)

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)
      ∧ m' ((c.tc : Thread Cert.OutProjRefIdeal.nD Cert.OutProjRefIdeal.τ).loc Cert.OutProjRefIdeal.main_arg4) = m ((c.tc : Thread Cert.OutProjIdeal.nD Cert.OutProjIdeal.τ).loc Cert.OutProjIdeal.main_arg4)
      ∧ m' ((c.tc : Thread Cert.OutProjRefIdeal.nD Cert.OutProjRefIdeal.τ).loc Cert.OutProjRefIdeal.main_arg5) = m ((c.tc : Thread Cert.OutProjIdeal.nD Cert.OutProjIdeal.τ).loc Cert.OutProjIdeal.main_arg5)
      ∧ m' ((c.tc : Thread Cert.OutProjRefIdeal.nD Cert.OutProjRefIdeal.τ).loc Cert.OutProjRefIdeal.main_arg6) = m ((c.tc : Thread Cert.OutProjIdeal.nD Cert.OutProjIdeal.τ).loc Cert.OutProjIdeal.main_arg6)
      ∧ m' ((c.tc : Thread Cert.OutProjRefIdeal.nD Cert.OutProjRefIdeal.τ).loc Cert.OutProjRefIdeal.main_arg7) = m ((c.tc : Thread Cert.OutProjIdeal.nD Cert.OutProjIdeal.τ).loc Cert.OutProjIdeal.main_arg7)
      ∧ m' ((c.tc : Thread Cert.OutProjRefIdeal.nD Cert.OutProjRefIdeal.τ).loc Cert.OutProjRefIdeal.main_arg8) = m ((c.tc : Thread Cert.OutProjIdeal.nD Cert.OutProjIdeal.τ).loc Cert.OutProjIdeal.main_arg8)
      ∧ m' ((c.tc : Thread Cert.OutProjRefIdeal.nD Cert.OutProjRefIdeal.τ).loc Cert.OutProjRefIdeal.main_arg9) = m ((c.tc : Thread Cert.OutProjIdeal.nD Cert.OutProjIdeal.τ).loc Cert.OutProjIdeal.main_arg9)) →
    ∃ (v0 : (c : Dev Cert.OutProjIdeal.nD) → Buf (Elt Ideal) ((c.tc : Thread Cert.OutProjIdeal.nD Cert.OutProjIdeal.τ).loc Cert.OutProjIdeal.main_v0_0)) (v1 : (c : Dev Cert.OutProjIdeal.nD) → Buf (Elt Ideal) ((c.tc : Thread Cert.OutProjIdeal.nD Cert.OutProjIdeal.τ).loc Cert.OutProjIdeal.main_v0_1)) (v2 : (c : Dev Cert.OutProjIdeal.nD) → Buf (Elt Ideal) ((c.tc : Thread Cert.OutProjIdeal.nD Cert.OutProjIdeal.τ).loc Cert.OutProjIdeal.main_v0_2)) (v3 : (c : Dev Cert.OutProjIdeal.nD) → Buf (Elt Ideal) ((c.tc : Thread Cert.OutProjIdeal.nD Cert.OutProjIdeal.τ).loc Cert.OutProjIdeal.main_v0_3)) (v4 : (c : Dev Cert.OutProjIdeal.nD) → Buf (Elt Ideal) ((c.tc : Thread Cert.OutProjIdeal.nD Cert.OutProjIdeal.τ).loc Cert.OutProjIdeal.main_v0_4)) (v5 : (c : Dev Cert.OutProjIdeal.nD) → Buf (Elt Ideal) ((c.tc : Thread Cert.OutProjIdeal.nD Cert.OutProjIdeal.τ).loc Cert.OutProjIdeal.main_v0_5)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v0_0) = v0 c
          ∧ r.2.mem ((c.tc : Thread Cert.OutProjIdeal.nD Cert.OutProjIdeal.τ).loc Cert.OutProjIdeal.main_v0_1) = v1 c
          ∧ r.2.mem ((c.tc : Thread Cert.OutProjIdeal.nD Cert.OutProjIdeal.τ).loc Cert.OutProjIdeal.main_v0_2) = v2 c
          ∧ r.2.mem ((c.tc : Thread Cert.OutProjIdeal.nD Cert.OutProjIdeal.τ).loc Cert.OutProjIdeal.main_v0_3) = v3 c
          ∧ r.2.mem ((c.tc : Thread Cert.OutProjIdeal.nD Cert.OutProjIdeal.τ).loc Cert.OutProjIdeal.main_v0_4) = v4 c
          ∧ r.2.mem ((c.tc : Thread Cert.OutProjIdeal.nD Cert.OutProjIdeal.τ).loc Cert.OutProjIdeal.main_v0_5) = v5 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
          ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
          ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6)
          ∧ r.2.mem ((c.tc : Thread Cert.OutProjIdeal.nD Cert.OutProjIdeal.τ).loc Cert.OutProjIdeal.main_arg7) = m ((c.tc : Thread Cert.OutProjIdeal.nD Cert.OutProjIdeal.τ).loc Cert.OutProjIdeal.main_arg7)
          ∧ r.2.mem ((c.tc : Thread Cert.OutProjIdeal.nD Cert.OutProjIdeal.τ).loc Cert.OutProjIdeal.main_arg8) = m ((c.tc : Thread Cert.OutProjIdeal.nD Cert.OutProjIdeal.τ).loc Cert.OutProjIdeal.main_arg8)
          ∧ r.2.mem ((c.tc : Thread Cert.OutProjIdeal.nD Cert.OutProjIdeal.τ).loc Cert.OutProjIdeal.main_arg9) = m ((c.tc : Thread Cert.OutProjIdeal.nD Cert.OutProjIdeal.τ).loc Cert.OutProjIdeal.main_arg9))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v0_0) = v0 c
          ∧ r.2.mem ((c.tc : Thread Cert.OutProjRefIdeal.nD Cert.OutProjRefIdeal.τ).loc Cert.OutProjRefIdeal.main_v0_1) = v1 c
          ∧ r.2.mem ((c.tc : Thread Cert.OutProjRefIdeal.nD Cert.OutProjRefIdeal.τ).loc Cert.OutProjRefIdeal.main_v0_2) = v2 c
          ∧ r.2.mem ((c.tc : Thread Cert.OutProjRefIdeal.nD Cert.OutProjRefIdeal.τ).loc Cert.OutProjRefIdeal.main_v0_3) = v3 c
          ∧ r.2.mem ((c.tc : Thread Cert.OutProjRefIdeal.nD Cert.OutProjRefIdeal.τ).loc Cert.OutProjRefIdeal.main_v0_4) = v4 c
          ∧ r.2.mem ((c.tc : Thread Cert.OutProjRefIdeal.nD Cert.OutProjRefIdeal.τ).loc Cert.OutProjRefIdeal.main_v0_5) = v5 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3)
          ∧ r.2.mem ((c.tc : Thread Cert.OutProjRefIdeal.nD Cert.OutProjRefIdeal.τ).loc Cert.OutProjRefIdeal.main_arg4) = m' ((c.tc : Thread Cert.OutProjRefIdeal.nD Cert.OutProjRefIdeal.τ).loc Cert.OutProjRefIdeal.main_arg4)
          ∧ r.2.mem ((c.tc : Thread Cert.OutProjRefIdeal.nD Cert.OutProjRefIdeal.τ).loc Cert.OutProjRefIdeal.main_arg5) = m' ((c.tc : Thread Cert.OutProjRefIdeal.nD Cert.OutProjRefIdeal.τ).loc Cert.OutProjRefIdeal.main_arg5)
          ∧ r.2.mem ((c.tc : Thread Cert.OutProjRefIdeal.nD Cert.OutProjRefIdeal.τ).loc Cert.OutProjRefIdeal.main_arg6) = m' ((c.tc : Thread Cert.OutProjRefIdeal.nD Cert.OutProjRefIdeal.τ).loc Cert.OutProjRefIdeal.main_arg6)
          ∧ r.2.mem ((c.tc : Thread Cert.OutProjRefIdeal.nD Cert.OutProjRefIdeal.τ).loc Cert.OutProjRefIdeal.main_arg7) = m' ((c.tc : Thread Cert.OutProjRefIdeal.nD Cert.OutProjRefIdeal.τ).loc Cert.OutProjRefIdeal.main_arg7)
          ∧ r.2.mem ((c.tc : Thread Cert.OutProjRefIdeal.nD Cert.OutProjRefIdeal.τ).loc Cert.OutProjRefIdeal.main_arg8) = m' ((c.tc : Thread Cert.OutProjRefIdeal.nD Cert.OutProjRefIdeal.τ).loc Cert.OutProjRefIdeal.main_arg8)
          ∧ r.2.mem ((c.tc : Thread Cert.OutProjRefIdeal.nD Cert.OutProjRefIdeal.τ).loc Cert.OutProjRefIdeal.main_arg9) = m' ((c.tc : Thread Cert.OutProjRefIdeal.nD Cert.OutProjRefIdeal.τ).loc Cert.OutProjRefIdeal.main_arg9))

def Claim : Prop :=
  ∃ (hShared : Cert.Shared.Facts) (hSharedIdeal : Cert.SharedIdeal.Facts) (hSharedRefIdeal : Cert.SharedRefIdeal.Facts) (hInProj : Cert.InProj.Facts) (hInProjIdeal : Cert.InProjIdeal.Facts) (hInProjRefIdeal : Cert.InProjRefIdeal.Facts) (hOutProj : Cert.OutProj.Facts) (hOutProjIdeal : Cert.OutProjIdeal.Facts) (hOutProjRefIdeal : Cert.OutProjRefIdeal.Facts),
    quiescent_Shared (hShared := hShared)
    ∧ quiescent_SharedIdeal (hSharedIdeal := hSharedIdeal)
    ∧ quiescent_SharedRefIdeal (hSharedRefIdeal := hSharedRefIdeal)
    ∧ quiescent_InProj (hInProj := hInProj)
    ∧ quiescent_InProjIdeal (hInProjIdeal := hInProjIdeal)
    ∧ quiescent_InProjRefIdeal (hInProjRefIdeal := hInProjRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ preserves_Shared_SharedIdeal
    ∧ algebraic_SharedIdeal_SharedRefIdeal (hSharedIdeal := hSharedIdeal) (hSharedRefIdeal := hSharedRefIdeal)
    ∧ preserves_InProj_InProjIdeal
    ∧ algebraic_InProjIdeal_InProjRefIdeal (hInProjIdeal := hInProjIdeal) (hInProjRefIdeal := hInProjRefIdeal)
    ∧ preserves_OutProj_OutProjIdeal
    ∧ algebraic_OutProjIdeal_OutProjRefIdeal (hOutProjIdeal := hOutProjIdeal) (hOutProjRefIdeal := hOutProjRefIdeal)
-- ==== Shared.lean ====
abbrev S2304x4096 : Shape := ⟨2, ![2304, 4096]⟩
abbrev S2304x128 : Shape := ⟨2, ![2304, 128]⟩
abbrev S4096x5376 : Shape := ⟨2, ![4096, 5376]⟩
abbrev S1x5376 : Shape := ⟨2, ![1, 5376]⟩
abbrev S5376x4096 : Shape := ⟨2, ![5376, 4096]⟩
abbrev S1x4096 : Shape := ⟨2, ![1, 4096]⟩
abbrev S2304x1024 : Shape := ⟨2, ![2304, 1024]⟩
abbrev S1024x4096 : Shape := ⟨2, ![1024, 4096]⟩
abbrev S2304x5376 : Shape := ⟨2, ![2304, 5376]⟩
abbrev S3x1x768 : Shape := ⟨3, ![3, 1, 768]⟩
abbrev S768x4096 : Shape := ⟨2, ![768, 4096]⟩
abbrev S768x128 : Shape := ⟨2, ![768, 128]⟩
abbrev S4096x256 : Shape := ⟨2, ![4096, 256]⟩
abbrev S1x256 : Shape := ⟨2, ![1, 256]⟩
abbrev S5376x256 : Shape := ⟨2, ![5376, 256]⟩
abbrev S768x1024 : Shape := ⟨2, ![768, 1024]⟩
abbrev S1024x256 : Shape := ⟨2, ![1024, 256]⟩
abbrev S768x256 : Shape := ⟨2, ![768, 256]⟩
abbrev S768x5376 : Shape := ⟨2, ![768, 5376]⟩
abbrev S1x1x768 : Shape := ⟨3, ![1, 1, 768]⟩
abbrev S21x768x256 : Shape := ⟨3, ![21, 768, 256]⟩
abbrev S768x1 : Shape := ⟨2, ![768, 1]⟩
abbrev S1x768x256 : Shape := ⟨3, ![1, 768, 256]⟩
abbrev S768 : Shape := ⟨1, ![768]⟩
abbrev S256x1 : Shape := ⟨2, ![256, 1]⟩
abbrev S256x128 : Shape := ⟨2, ![256, 128]⟩
abbrev S128x256 : Shape := ⟨2, ![128, 256]⟩
abbrev S1x1x256 : Shape := ⟨3, ![1, 1, 256]⟩

abbrev nBuf : Space → Nat
  | .hbm => 14
  | .vmem => 30
  | .smem => 0
  | _ => 0

abbrev bufTy : (tb : Table) → Fin (tcTables nBuf tb) → BufTy
  | .hbm, ⟨0, _⟩ => ⟨S2304x4096, .fp8e4m3⟩
  | .hbm, ⟨1, _⟩ => ⟨S2304x128, .f32⟩
  | .hbm, ⟨2, _⟩ => ⟨S4096x5376, .fp8e4m3⟩
  | .hbm, ⟨3, _⟩ => ⟨S1x5376, .f32⟩
  | .hbm, ⟨4, _⟩ => ⟨S5376x4096, .fp8e4m3⟩
  | .hbm, ⟨5, _⟩ => ⟨S1x4096, .f32⟩
  | .hbm, ⟨6, _⟩ => ⟨S2304x1024, .fp8e4m3⟩
  | .hbm, ⟨7, _⟩ => ⟨S2304x128, .f32⟩
  | .hbm, ⟨8, _⟩ => ⟨S1024x4096, .fp8e4m3⟩
  | .hbm, ⟨9, _⟩ => ⟨S1x4096, .f32⟩
  | .hbm, ⟨10, _⟩ => ⟨S2304x4096, .f32⟩
  | .hbm, ⟨11, _⟩ => ⟨S2304x5376, .fp8e4m3⟩
  | .hbm, ⟨12, _⟩ => ⟨S3x1x768, .f32⟩
  | .hbm, ⟨13, _⟩ => ⟨S2304x4096, .bf16⟩
  | .local _ .vmem, ⟨0, _⟩ => ⟨S768x4096, .fp8e4m3⟩
  | .local _ .vmem, ⟨1, _⟩ => ⟨S768x4096, .fp8e4m3⟩
  | .local _ .vmem, ⟨2, _⟩ => ⟨S768x128, .f32⟩
  | .local _ .vmem, ⟨3, _⟩ => ⟨S768x128, .f32⟩
  | .local _ .vmem, ⟨4, _⟩ => ⟨S4096x256, .fp8e4m3⟩
  | .local _ .vmem, ⟨5, _⟩ => ⟨S4096x256, .fp8e4m3⟩
  | .local _ .vmem, ⟨6, _⟩ => ⟨S1x256, .f32⟩
  | .local _ .vmem, ⟨7, _⟩ => ⟨S1x256, .f32⟩
  | .local _ .vmem, ⟨8, _⟩ => ⟨S5376x256, .fp8e4m3⟩
  | .local _ .vmem, ⟨9, _⟩ => ⟨S5376x256, .fp8e4m3⟩
  | .local _ .vmem, ⟨10, _⟩ => ⟨S1x256, .f32⟩
  | .local _ .vmem, ⟨11, _⟩ => ⟨S1x256, .f32⟩
  | .local _ .vmem, ⟨12, _⟩ => ⟨S768x1024, .fp8e4m3⟩
  | .local _ .vmem, ⟨13, _⟩ => ⟨S768x1024, .fp8e4m3⟩
  | .local _ .vmem, ⟨14, _⟩ => ⟨S768x128, .f32⟩
  | .local _ .vmem, ⟨15, _⟩ => ⟨S768x128, .f32⟩
  | .local _ .vmem, ⟨16, _⟩ => ⟨S1024x256, .fp8e4m3⟩
  | .local _ .vmem, ⟨17, _⟩ => ⟨S1024x256, .fp8e4m3⟩
  | .local _ .vmem, ⟨18, _⟩ => ⟨S1x256, .f32⟩
  | .local _ .vmem, ⟨19, _⟩ => ⟨S1x256, .f32⟩
  | .local _ .vmem, ⟨20, _⟩ => ⟨S768x256, .f32⟩
  | .local _ .vmem, ⟨21, _⟩ => ⟨S768x256, .f32⟩
  | .local _ .vmem, ⟨22, _⟩ => ⟨S768x5376, .fp8e4m3⟩
  | .local _ .vmem, ⟨23, _⟩ => ⟨S768x5376, .fp8e4m3⟩
  | .local _ .vmem, ⟨24, _⟩ => ⟨S1x1x768, .f32⟩
  | .local _ .vmem, ⟨25, _⟩ => ⟨S1x1x768, .f32⟩
  | .local _ .vmem, ⟨26, _⟩ => ⟨S768x256, .bf16⟩
  | .local _ .vmem, ⟨27, _⟩ => ⟨S768x256, .bf16⟩
  | .local _ .vmem, ⟨28, _⟩ => ⟨S21x768x256, .f32⟩
  | .local _ .vmem, ⟨29, _⟩ => ⟨S768x128, .f32⟩
  | _, _ => ⟨S2304x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0_0 : Ref sig .tc := ⟨.hbm, 11, rfl⟩
abbrev main_v0_1 : Ref sig .tc := ⟨.hbm, 12, rfl⟩
abbrev main_v0_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_scratch0 : Ref sig .tc := ⟨.vmem, 28, rfl⟩
abbrev cc0_scratch1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨2, ![3, 37], ![false, false]⟩

def k0_cond1 (i : grid0.Coords) : BitVec 1 :=
  let arg1 : BitVec 32 := BitVec.ofNat 32 (i 1).val
  let c21_i32 : BitVec 32 := 21#32
  let v0 : BitVec 1 := Scalar.cmpi .slt arg1 c21_i32
  let v1 : BitVec 32 := Scalar.extui v0
  let c0_i32 : BitVec 32 := 0#32
  let v2 : BitVec 1 := Scalar.cmpi .ne v1 c0_i32
  v2

def k0_off1 (i : grid0.Coords) : Fin 3 → Nat :=
  let arg1 : BitVec 32 := BitVec.ofNat 32 (i 1).val
  let v21 : Index := Scalar.indexCast arg1
  let c0_12 : Index := 0#32
  let c0_13 : Index := 0#32
  ![v21.toNat, 0, 0]
def k0_cond2 (i : grid0.Coords) : BitVec 1 :=
  let arg1 : BitVec 32 := BitVec.ofNat 32 (i 1).val
  let c21_i32_0 : BitVec 32 := 21#32
  let v3 : BitVec 1 := Scalar.cmpi .eq arg1 c21_i32_0
  let v4 : BitVec 32 := Scalar.extui v3
  let c0_i32_1 : BitVec 32 := 0#32
  let v5 : BitVec 1 := Scalar.cmpi .ne v4 c0_i32_1
  v5

def k0_cond3 (i : grid0.Coords) : BitVec 1 :=
  let arg1 : BitVec 32 := BitVec.ofNat 32 (i 1).val
  let c21_i32_2 : BitVec 32 := 21#32
  let v6 : BitVec 1 := Scalar.cmpi .sge arg1 c21_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.minsi arg1 c20_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.minsi arg1 c20_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c21_i32 : BitVec 32 := 21#32
  let v0 : BitVec 32 := Scalar.subi arg1 c21_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_5 (i : grid0.Coords) : Fin 2 → Nat :=
  let arg0 : BitVec 32 := BitVec.ofNat 32 (i 0).val
  let arg1 : BitVec 32 := BitVec.ofNat 32 (i 1).val
  let c21_i32 : BitVec 32 := 21#32
  let v0 : BitVec 32 := Scalar.subi arg1 c21_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c21_i32 : BitVec 32 := 21#32
  let v0 : BitVec 32 := Scalar.subi arg1 c21_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_9 (i : grid0.Coords) : Fin 2 → Nat :=
  let arg0 : BitVec 32 := BitVec.ofNat 32 (i 0).val
  let arg1 : BitVec 32 := BitVec.ofNat 32 (i 1).val
  let c21_i32 : BitVec 32 := 21#32
  let v0 : BitVec 32 := Scalar.subi arg1 c21_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_10 (i : grid0.Coords) : Fin 2 → Nat :=
  let arg0 : BitVec 32 := BitVec.ofNat 32 (i 0).val
  let arg1 : BitVec 32 := BitVec.ofNat 32 (i 1).val
  let c21_i32 : BitVec 32 := 21#32
  let v0 : BitVec 32 := Scalar.subi arg1 c21_i32
  let c0_i32 : BitVec 32 := 0#32
  let v1 : BitVec 32 := Scalar.maxsi v0 c0_i32
  let c0_i32_0 : BitVec 32 := 0#32
  ![arg0.toNat, v1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c21_i32 : BitVec 32 := 21#32
  let v0 : BitVec 32 := Scalar.subi arg1 c21_i32
  let c0_i32 : BitVec 32 := 0#32
  let v1 : BitVec 32 := Scalar.maxsi v0 c0_i32
  let c0_i32_0 : BitVec 32 := 0#32
  ![arg0.toNat, v1.toNat]

abbrev stage0_0 : Fin 2 → Memref sig .tc .vmem S768x4096 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S768x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x256 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S5376x256 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S768x1024 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S768x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1024x256 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S768x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S768x5376 .fp8e4m3 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x1x768 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S768x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== SharedIdeal.lean ====
variable {F : FTy → Type} [FloatOps F] [Named F]
def κ : String → Option EReal := fun
  | "inv_448" => some ((1 / 448 : ℝ) : EReal)
  | _ => none
-- ==== SharedRefIdeal.lean ====
abbrev S2304x4096 : Shape := ⟨2, ![2304, 4096]⟩
abbrev S2304x128 : Shape := ⟨2, ![2304, 128]⟩
abbrev S4096x5376 : Shape := ⟨2, ![4096, 5376]⟩
abbrev S1x5376 : Shape := ⟨2, ![1, 5376]⟩
abbrev S5376x4096 : Shape := ⟨2, ![5376, 4096]⟩
abbrev S1x4096 : Shape := ⟨2, ![1, 4096]⟩
abbrev S2304x1024 : Shape := ⟨2, ![2304, 1024]⟩
abbrev S1024x4096 : Shape := ⟨2, ![1024, 4096]⟩
abbrev S2304x5376 : Shape := ⟨2, ![2304, 5376]⟩
abbrev S3x1x768 : Shape := ⟨3, ![3, 1, 768]⟩
abbrev S2304x1 : Shape := ⟨2, ![2304, 1]⟩
abbrev S2304 : Shape := ⟨1, ![2304]⟩

abbrev nBuf : Space → Nat
  | .hbm => 14
  | .vmem => 14
  | .smem => 0
  | _ => 0

abbrev bufTy : (tb : Table) → Fin (tcTables nBuf tb) → BufTy
  | .hbm, ⟨0, _⟩ => ⟨S2304x4096, .fp8e4m3⟩
  | .hbm, ⟨1, _⟩ => ⟨S2304x128, .f32⟩
  | .hbm, ⟨2, _⟩ => ⟨S4096x5376, .fp8e4m3⟩
  | .hbm, ⟨3, _⟩ => ⟨S1x5376, .f32⟩
  | .hbm, ⟨4, _⟩ => ⟨S5376x4096, .fp8e4m3⟩
  | .hbm, ⟨5, _⟩ => ⟨S1x4096, .f32⟩
  | .hbm, ⟨6, _⟩ => ⟨S2304x1024, .fp8e4m3⟩
  | .hbm, ⟨7, _⟩ => ⟨S2304x128, .f32⟩
  | .hbm, ⟨8, _⟩ => ⟨S1024x4096, .fp8e4m3⟩
  | .hbm, ⟨9, _⟩ => ⟨S1x4096, .f32⟩
  | .hbm, ⟨10, _⟩ => ⟨S2304x4096, .f32⟩
  | .hbm, ⟨11, _⟩ => ⟨S2304x5376, .fp8e4m3⟩
  | .hbm, ⟨12, _⟩ => ⟨S3x1x768, .f32⟩
  | .hbm, ⟨13, _⟩ => ⟨S2304x4096, .bf16⟩
  | .local _ .vmem, ⟨0, _⟩ => ⟨S2304x4096, .fp8e4m3⟩
  | .local _ .vmem, ⟨1, _⟩ => ⟨S2304x128, .f32⟩
  | .local _ .vmem, ⟨2, _⟩ => ⟨S4096x5376, .fp8e4m3⟩
  | .local _ .vmem, ⟨3, _⟩ => ⟨S1x5376, .f32⟩
  | .local _ .vmem, ⟨4, _⟩ => ⟨S5376x4096, .fp8e4m3⟩
  | .local _ .vmem, ⟨5, _⟩ => ⟨S1x4096, .f32⟩
  | .local _ .vmem, ⟨6, _⟩ => ⟨S2304x1024, .fp8e4m3⟩
  | .local _ .vmem, ⟨7, _⟩ => ⟨S2304x128, .f32⟩
  | .local _ .vmem, ⟨8, _⟩ => ⟨S1024x4096, .fp8e4m3⟩
  | .local _ .vmem, ⟨9, _⟩ => ⟨S1x4096, .f32⟩
  | .local _ .vmem, ⟨10, _⟩ => ⟨S2304x4096, .f32⟩
  | .local _ .vmem, ⟨11, _⟩ => ⟨S2304x5376, .fp8e4m3⟩
  | .local _ .vmem, ⟨12, _⟩ => ⟨S3x1x768, .f32⟩
  | .local _ .vmem, ⟨13, _⟩ => ⟨S2304x4096, .bf16⟩
  | _, _ => ⟨S2304x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0_0 : Ref sig .tc := ⟨.hbm, 11, rfl⟩
abbrev main_v0_1 : Ref sig .tc := ⟨.hbm, 12, rfl⟩
abbrev main_v0_2 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := .none

abbrev stage0_0 : Fin 1 → Memref sig .tc .vmem S2304x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2304x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x5376 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x5376 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S5376x4096 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2304x1024 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2304x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1024x4096 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x4096 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2304x4096 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S2304x5376 .fp8e4m3 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S3x1x768 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S2304x4096 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
-- ==== InProj.lean ====
abbrev S2304x4096 : Shape := ⟨2, ![2304, 4096]⟩
abbrev S1x4096 : Shape := ⟨2, ![1, 4096]⟩
abbrev S2432x4096 : Shape := ⟨2, ![2432, 4096]⟩
abbrev S1x2432 : Shape := ⟨2, ![1, 2432]⟩
abbrev S4x1280 : Shape := ⟨2, ![4, 1280]⟩
abbrev S1x1280 : Shape := ⟨2, ![1, 1280]⟩
abbrev S3x2304x1280 : Shape := ⟨3, ![3, 2304, 1280]⟩
abbrev S2304x30 : Shape := ⟨2, ![2304, 30]⟩
abbrev S1x16 : Shape := ⟨2, ![1, 16]⟩
abbrev S9x1x256 : Shape := ⟨3, ![9, 1, 256]⟩
abbrev S2304x1280 : Shape := ⟨2, ![2304, 1280]⟩
abbrev S2304x16 : Shape := ⟨2, ![2304, 16]⟩
abbrev S2304x1024 : Shape := ⟨2, ![2304, 1024]⟩
abbrev S2304x8x128 : Shape := ⟨3, ![2304, 8, 128]⟩
abbrev S2304x128 : Shape := ⟨2, ![2304, 128]⟩
abbrev S256x4096 : Shape := ⟨2, ![256, 4096]⟩
abbrev S3x256x1280 : Shape := ⟨3, ![3, 256, 1280]⟩
abbrev S256x30 : Shape := ⟨2, ![256, 30]⟩
abbrev S1x1x256 : Shape := ⟨3, ![1, 1, 256]⟩
abbrev S256x1280 : Shape := ⟨2, ![256, 1280]⟩
abbrev S256x16 : Shape := ⟨2, ![256, 16]⟩
abbrev S256x1024 : Shape := ⟨2, ![256, 1024]⟩
abbrev S256x8x128 : Shape := ⟨3, ![256, 8, 128]⟩
abbrev S256x128 : Shape := ⟨2, ![256, 128]⟩
abbrev S128x128 : Shape := ⟨2, ![128, 128]⟩
abbrev S8x128 : Shape := ⟨2, ![8, 128]⟩
abbrev S4x128 : Shape := ⟨2, ![4, 128]⟩
abbrev S2x128 : Shape := ⟨2, ![2, 128]⟩
abbrev S1x128 : Shape := ⟨2, ![1, 128]⟩
abbrev S128x1 : Shape := ⟨2, ![128, 1]⟩
abbrev S256x1 : Shape := ⟨2, ![256, 1]⟩
abbrev S256 : Shape := ⟨1, ![256]⟩
abbrev S128x256 : Shape := ⟨2, ![128, 256]⟩
abbrev S1x256 : Shape := ⟨2, ![1, 256]⟩
abbrev S1024x4096 : Shape := ⟨2, ![1024, 4096]⟩
abbrev S1x1024 : Shape := ⟨2, ![1, 1024]⟩
abbrev S16x1024 : Shape := ⟨2, ![16, 1024]⟩
abbrev S128x4096 : Shape := ⟨2, ![128, 4096]⟩
abbrev S8x16 : Shape := ⟨2, ![8, 16]⟩
abbrev S8x1024 : Shape := ⟨2, ![8, 1024]⟩
abbrev S1280x4096 : Shape := ⟨2, ![1280, 4096]⟩
abbrev S1x256x128 : Shape := ⟨3, ![1, 256, 128]⟩
abbrev S256x6 : Shape := ⟨2, ![256, 6]⟩
abbrev S256x1x128 : Shape := ⟨3, ![256, 1, 128]⟩

abbrev nBuf : Space → Nat
  | .hbm => 21
  | .vmem => 34
  | .smem => 0
  | _ => 0

abbrev bufTy : (tb : Table) → Fin (tcTables nBuf tb) → BufTy
  | .hbm, ⟨0, _⟩ => ⟨S2304x4096, .bf16⟩
  | .hbm, ⟨1, _⟩ => ⟨S1x4096, .f32⟩
  | .hbm, ⟨2, _⟩ => ⟨S2432x4096, .fp8e4m3⟩
  | .hbm, ⟨3, _⟩ => ⟨S1x2432, .f32⟩
  | .hbm, ⟨4, _⟩ => ⟨S4x1280, .f32⟩
  | .hbm, ⟨5, _⟩ => ⟨S1x1280, .f32⟩
  | .hbm, ⟨6, _⟩ => ⟨S3x2304x1280, .i8⟩
  | .hbm, ⟨7, _⟩ => ⟨S2304x30, .f32⟩
  | .hbm, ⟨8, _⟩ => ⟨S1x16, .f32⟩
  | .hbm, ⟨9, _⟩ => ⟨S1x16, .f32⟩
  | .hbm, ⟨10, _⟩ => ⟨S1x16, .f32⟩
  | .hbm, ⟨11, _⟩ => ⟨S2304x4096, .fp8e4m3⟩
  | .hbm, ⟨12, _⟩ => ⟨S9x1x256, .f32⟩
  | .hbm, ⟨13, _⟩ => ⟨S2304x1280, .i8⟩
  | .hbm, ⟨14, _⟩ => ⟨S2304x16, .f32⟩
  | .hbm, ⟨15, _⟩ => ⟨S2304x1024, .f32⟩
  | .hbm, ⟨16, _⟩ => ⟨S2304x8x128, .f32⟩
  | .hbm, ⟨17, _⟩ => ⟨S2304x8x128, .f32⟩
  | .hbm, ⟨18, _⟩ => ⟨S2304x8x128, .f32⟩
  | .hbm, ⟨19, _⟩ => ⟨S2304x128, .f32⟩
  | .hbm, ⟨20, _⟩ => ⟨S2304x128, .f32⟩
  | .local _ .vmem, ⟨0, _⟩ => ⟨S256x4096, .bf16⟩
  | .local _ .vmem, ⟨1, _⟩ => ⟨S256x4096, .bf16⟩
  | .local _ .vmem, ⟨2, _⟩ => ⟨S1x4096, .f32⟩
  | .local _ .vmem, ⟨3, _⟩ => ⟨S2432x4096, .fp8e4m3⟩
  | .local _ .vmem, ⟨4, _⟩ => ⟨S1x2432, .f32⟩
  | .local _ .vmem, ⟨5, _⟩ => ⟨S4x1280, .f32⟩
  | .local _ .vmem, ⟨6, _⟩ => ⟨S1x1280, .f32⟩
  | .local _ .vmem, ⟨7, _⟩ => ⟨S3x256x1280, .i8⟩
  | .local _ .vmem, ⟨8, _⟩ => ⟨S3x256x1280, .i8⟩
  | .local _ .vmem, ⟨9, _⟩ => ⟨S256x30, .f32⟩
  | .local _ .vmem, ⟨10, _⟩ => ⟨S256x30, .f32⟩
  | .local _ .vmem, ⟨11, _⟩ => ⟨S1x16, .f32⟩
  | .local _ .vmem, ⟨12, _⟩ => ⟨S1x16, .f32⟩
  | .local _ .vmem, ⟨13, _⟩ => ⟨S1x16, .f32⟩
  | .local _ .vmem, ⟨14, _⟩ => ⟨S256x4096, .fp8e4m3⟩
  | .local _ .vmem, ⟨15, _⟩ => ⟨S256x4096, .fp8e4m3⟩
  | .local _ .vmem, ⟨16, _⟩ => ⟨S1x1x256, .f32⟩
  | .local _ .vmem, ⟨17, _⟩ => ⟨S1x1x256, .f32⟩
  | .local _ .vmem, ⟨18, _⟩ => ⟨S256x1280, .i8⟩
  | .local _ .vmem, ⟨19, _⟩ => ⟨S256x1280, .i8⟩
  | .local _ .vmem, ⟨20, _⟩ => ⟨S256x16, .f32⟩
  | .local _ .vmem, ⟨21, _⟩ => ⟨S256x16, .f32⟩
  | .local _ .vmem, ⟨22, _⟩ => ⟨S256x1024, .f32⟩
  | .local _ .vmem, ⟨23, _⟩ => ⟨S256x1024, .f32⟩
  | .local _ .vmem, ⟨24, _⟩ => ⟨S256x8x128, .f32⟩
  | .local _ .vmem, ⟨25, _⟩ => ⟨S256x8x128, .f32⟩
  | .local _ .vmem, ⟨26, _⟩ => ⟨S256x8x128, .f32⟩
  | .local _ .vmem, ⟨27, _⟩ => ⟨S256x8x128, .f32⟩
  | .local _ .vmem, ⟨28, _⟩ => ⟨S256x8x128, .f32⟩
  | .local _ .vmem, ⟨29, _⟩ => ⟨S256x8x128, .f32⟩
  | .local _ .vmem, ⟨30, _⟩ => ⟨S256x128, .f32⟩
  | .local _ .vmem, ⟨31, _⟩ => ⟨S256x128, .f32⟩
  | .local _ .vmem, ⟨32, _⟩ => ⟨S256x128, .f32⟩
  | .local _ .vmem, ⟨33, _⟩ => ⟨S256x128, .f32⟩
  | _, _ => ⟨S2304x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0_0 : Ref sig .tc := ⟨.hbm, 11, rfl⟩
abbrev main_v0_1 : Ref sig .tc := ⟨.hbm, 12, rfl⟩
abbrev main_v0_2 : Ref sig .tc := ⟨.hbm, 13, rfl⟩
abbrev main_v0_3 : Ref sig .tc := ⟨.hbm, 14, rfl⟩
abbrev main_v0_4 : Ref sig .tc := ⟨.hbm, 15, rfl⟩
abbrev main_v0_5 : Ref sig .tc := ⟨.hbm, 16, rfl⟩
abbrev main_v0_6 : Ref sig .tc := ⟨.hbm, 17, rfl⟩
abbrev main_v0_7 : Ref sig .tc := ⟨.hbm, 18, rfl⟩
abbrev main_v0_8 : Ref sig .tc := ⟨.hbm, 19, rfl⟩
abbrev main_v0_9 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_stg18_0 : Ref sig .tc := ⟨.vmem, 28, rfl⟩
abbrev cc0_stg18_1 : Ref sig .tc := ⟨.vmem, 29, rfl⟩
abbrev cc0_stg19_0 : Ref sig .tc := ⟨.vmem, 30, rfl⟩
abbrev cc0_stg19_1 : Ref sig .tc := ⟨.vmem, 31, rfl⟩
abbrev cc0_stg20_0 : Ref sig .tc := ⟨.vmem, 32, rfl⟩
abbrev cc0_stg20_1 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem17_1 : DmaSem sig := 27
abbrev cc0_sem18_0 : DmaSem sig := 28
abbrev cc0_sem18_1 : DmaSem sig := 29
abbrev cc0_sem19_0 : DmaSem sig := 30
abbrev cc0_sem19_1 : DmaSem sig := 31
abbrev cc0_sem20_0 : DmaSem sig := 32
abbrev cc0_sem20_1 : DmaSem sig := 33

abbrev nD : Nat := 1
abbrev τ : Topo := Topo.v7x

variable {F : FTy → Type} [FloatOps F]

abbrev grid0 : Pipeline.Grid := ⟨1, ![9], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2432x4096 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2432 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x1280 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1280 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S3x256x1280 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x30 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x16 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x16 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x16 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x4096 .fp8e4m3 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x1x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1280 .i8 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x16 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x8x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x8x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x8x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x128 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]
-- ==== InProjIdeal.lean ====
variable {F : FTy → Type} [FloatOps F] [Named F]
def κ : String → Option EReal := fun
  | "inv_127" => some ((1 / 127 : ℝ) : EReal)
  | "inv_448" => some ((1 / 448 : ℝ) : EReal)
  | _ => none
-- ==== InProjRefIdeal.lean ====
abbrev S2304x4096 : Shape := ⟨2, ![2304, 4096]⟩
abbrev S1x4096 : Shape := ⟨2, ![1, 4096]⟩
abbrev S2432x4096 : Shape := ⟨2, ![2432, 4096]⟩
abbrev S1x2432 : Shape := ⟨2, ![1, 2432]⟩
abbrev S4x1280 : Shape := ⟨2, ![4, 1280]⟩
abbrev S1x1280 : Shape := ⟨2, ![1, 1280]⟩
abbrev S3x2304x1280 : Shape := ⟨3, ![3, 2304, 1280]⟩
abbrev S2304x30 : Shape := ⟨2, ![2304, 30]⟩
abbrev S1x16 : Shape := ⟨2, ![1, 16]⟩
abbrev S9x1x256 : Shape := ⟨3, ![9, 1, 256]⟩
abbrev S2304x1280 : Shape := ⟨2, ![2304, 1280]⟩
abbrev S2304x16 : Shape := ⟨2, ![2304, 16]⟩
abbrev S2304x1024 : Shape := ⟨2, ![2304, 1024]⟩
abbrev S2304 : Shape := ⟨1, ![2304]⟩
abbrev S2304x1 : Shape := ⟨2, ![2304, 1]⟩
abbrev S2304x2432 : Shape := ⟨2, ![2304, 2432]⟩
abbrev S2304x10x128 : Shape := ⟨3, ![2304, 10, 128]⟩
abbrev S2304x10 : Shape := ⟨2, ![2304, 10]⟩
abbrev S2304x10x1 : Shape := ⟨3, ![2304, 10, 1]⟩
abbrev S2304x6 : Shape := ⟨2, ![2304, 6]⟩

abbrev nBuf : Space → Nat
  | .hbm => 16
  | .vmem => 9
  | .smem => 0
  | _ => 0

abbrev bufTy : (tb : Table) → Fin (tcTables nBuf tb) → BufTy
  | .hbm, ⟨0, _⟩ => ⟨S2304x4096, .bf16⟩
  | .hbm, ⟨1, _⟩ => ⟨S1x4096, .f32⟩
  | .hbm, ⟨2, _⟩ => ⟨S2432x4096, .fp8e4m3⟩
  | .hbm, ⟨3, _⟩ => ⟨S1x2432, .f32⟩
  | .hbm, ⟨4, _⟩ => ⟨S4x1280, .f32⟩
  | .hbm, ⟨5, _⟩ => ⟨S1x1280, .f32⟩
  | .hbm, ⟨6, _⟩ => ⟨S3x2304x1280, .i8⟩
  | .hbm, ⟨7, _⟩ => ⟨S2304x30, .f32⟩
  | .hbm, ⟨8, _⟩ => ⟨S1x16, .f32⟩
  | .hbm, ⟨9, _⟩ => ⟨S1x16, .f32⟩
  | .hbm, ⟨10, _⟩ => ⟨S1x16, .f32⟩
  | .hbm, ⟨11, _⟩ => ⟨S2304x4096, .fp8e4m3⟩
  | .hbm, ⟨12, _⟩ => ⟨S9x1x256, .f32⟩
  | .hbm, ⟨13, _⟩ => ⟨S2304x1280, .i8⟩
  | .hbm, ⟨14, _⟩ => ⟨S2304x16, .f32⟩
  | .hbm, ⟨15, _⟩ => ⟨S2304x1024, .f32⟩
  | .local _ .vmem, ⟨0, _⟩ => ⟨S2304x4096, .bf16⟩
  | .local _ .vmem, ⟨1, _⟩ => ⟨S1x4096, .f32⟩
  | .local _ .vmem, ⟨2, _⟩ => ⟨S2432x4096, .fp8e4m3⟩
  | .local _ .vmem, ⟨3, _⟩ => ⟨S1x2432, .f32⟩
  | .local _ .vmem, ⟨4, _⟩ => ⟨S2304x4096, .fp8e4m3⟩
  | .local _ .vmem, ⟨5, _⟩ => ⟨S9x1x256, .f32⟩
  | .local _ .vmem, ⟨6, _⟩ => ⟨S2304x1280, .i8⟩
  | .local _ .vmem, ⟨7, _⟩ => ⟨S2304x16, .f32⟩
  | .local _ .vmem, ⟨8, _⟩ => ⟨S2304x1024, .f32⟩
  | _, _ => ⟨S2304x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0_0 : Ref sig .tc := ⟨.hbm, 11, rfl⟩
abbrev main_v0_1 : Ref sig .tc := ⟨.hbm, 12, rfl⟩
abbrev main_v0_2 : Ref sig .tc := ⟨.hbm, 13, rfl⟩
abbrev main_v0_3 : Ref sig .tc := ⟨.hbm, 14, rfl⟩
abbrev main_v0_4 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S2304x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2432x4096 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x2432 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2304x4096 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S9x1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2304x1280 .i8 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2304x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2304x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== OutProj.lean ====
abbrev S2304x8x128 : Shape := ⟨3, ![2304, 8, 128]⟩
abbrev S2304x1024 : Shape := ⟨2, ![2304, 1024]⟩
abbrev S2304x4096 : Shape := ⟨2, ![2304, 4096]⟩
abbrev S1x1024 : Shape := ⟨2, ![1, 1024]⟩
abbrev S1024x4096 : Shape := ⟨2, ![1024, 4096]⟩
abbrev S1x4096 : Shape := ⟨2, ![1, 4096]⟩
abbrev S4096x1024 : Shape := ⟨2, ![4096, 1024]⟩
abbrev S1 : Shape := ⟨1, ![1]⟩
abbrev S9x1x256 : Shape := ⟨3, ![9, 1, 256]⟩
abbrev S2304x128 : Shape := ⟨2, ![2304, 128]⟩
abbrev S2304x512 : Shape := ⟨2, ![2304, 512]⟩
abbrev S64x2304 : Shape := ⟨2, ![64, 2304]⟩
abbrev S256x8x128 : Shape := ⟨3, ![256, 8, 128]⟩
abbrev S256x1024 : Shape := ⟨2, ![256, 1024]⟩
abbrev S256x4096 : Shape := ⟨2, ![256, 4096]⟩
abbrev S1x1x256 : Shape := ⟨3, ![1, 1, 256]⟩
abbrev S256x128 : Shape := ⟨2, ![256, 128]⟩
abbrev S256x512 : Shape := ⟨2, ![256, 512]⟩
abbrev S64x256 : Shape := ⟨2, ![64, 256]⟩
abbrev S1024x128 : Shape := ⟨2, ![1024, 128]⟩
abbrev S256x1x128 : Shape := ⟨3, ![256, 1, 128]⟩
abbrev S128x128 : Shape := ⟨2, ![128, 128]⟩
abbrev S8x128 : Shape := ⟨2, ![8, 128]⟩
abbrev S4x128 : Shape := ⟨2, ![4, 128]⟩
abbrev S2x128 : Shape := ⟨2, ![2, 128]⟩
abbrev S1x128 : Shape := ⟨2, ![1, 128]⟩
abbrev S128x1 : Shape := ⟨2, ![128, 1]⟩
abbrev S256x1 : Shape := ⟨2, ![256, 1]⟩
abbrev S256 : Shape := ⟨1, ![256]⟩
abbrev S128x256 : Shape := ⟨2, ![128, 256]⟩
abbrev S1x256 : Shape := ⟨2, ![1, 256]⟩
abbrev S128x1024 : Shape := ⟨2, ![128, 1024]⟩
abbrev S512x128 : Shape := ⟨2, ![512, 128]⟩
abbrev S64x8x128 : Shape := ⟨3, ![64, 8, 128]⟩
abbrev S64x128 : Shape := ⟨2, ![64, 128]⟩
abbrev S64x1x128 : Shape := ⟨3, ![64, 1, 128]⟩
abbrev S128x512 : Shape := ⟨2, ![128, 512]⟩

abbrev nBuf : Space → Nat
  | .hbm => 19
  | .vmem => 31
  | .smem => 1
  | _ => 0

abbrev bufTy : (tb : Table) → Fin (tcTables nBuf tb) → BufTy
  | .hbm, ⟨0, _⟩ => ⟨S2304x8x128, .f32⟩
  | .hbm, ⟨1, _⟩ => ⟨S2304x1024, .f32⟩
  | .hbm, ⟨2, _⟩ => ⟨S2304x4096, .bf16⟩
  | .hbm, ⟨3, _⟩ => ⟨S1x1024, .f32⟩
  | .hbm, ⟨4, _⟩ => ⟨S1024x4096, .fp8e4m3⟩
  | .hbm, ⟨5, _⟩ => ⟨S1x4096, .f32⟩
  | .hbm, ⟨6, _⟩ => ⟨S1x4096, .f32⟩
  | .hbm, ⟨7, _⟩ => ⟨S4096x1024, .fp8e4m3⟩
  | .hbm, ⟨8, _⟩ => ⟨S1x1024, .f32⟩
  | .hbm, ⟨9, _⟩ => ⟨S1, .f32⟩
  | .hbm, ⟨10, _⟩ => ⟨S2304x1024, .fp8e4m3⟩
  | .hbm, ⟨11, _⟩ => ⟨S9x1x256, .f32⟩
  | .hbm, ⟨12, _⟩ => ⟨S2304x4096, .f32⟩
  | .hbm, ⟨13, _⟩ => ⟨S2304x4096, .fp8e4m3⟩
  | .hbm, ⟨14, _⟩ => ⟨S9x1x256, .f32⟩
  | .hbm, ⟨15, _⟩ => ⟨S2304x128, .f32⟩
  | .hbm, ⟨16, _⟩ => ⟨S2304x512, .i8⟩
  | .hbm, ⟨17, _⟩ => ⟨S64x2304, .fp8e4m3⟩
  | .hbm, ⟨18, _⟩ => ⟨S2304x1024, .bf16⟩
  | .local _ .vmem, ⟨0, _⟩ => ⟨S256x8x128, .f32⟩
  | .local _ .vmem, ⟨1, _⟩ => ⟨S256x8x128, .f32⟩
  | .local _ .vmem, ⟨2, _⟩ => ⟨S256x1024, .f32⟩
  | .local _ .vmem, ⟨3, _⟩ => ⟨S256x1024, .f32⟩
  | .local _ .vmem, ⟨4, _⟩ => ⟨S256x4096, .bf16⟩
  | .local _ .vmem, ⟨5, _⟩ => ⟨S256x4096, .bf16⟩
  | .local _ .vmem, ⟨6, _⟩ => ⟨S1x1024, .f32⟩
  | .local _ .vmem, ⟨7, _⟩ => ⟨S1024x4096, .fp8e4m3⟩
  | .local _ .vmem, ⟨8, _⟩ => ⟨S1x4096, .f32⟩
  | .local _ .vmem, ⟨9, _⟩ => ⟨S1x4096, .f32⟩
  | .local _ .vmem, ⟨10, _⟩ => ⟨S4096x1024, .fp8e4m3⟩
  | .local _ .vmem, ⟨11, _⟩ => ⟨S1x1024, .f32⟩
  | .local _ .vmem, ⟨12, _⟩ => ⟨S256x1024, .fp8e4m3⟩
  | .local _ .vmem, ⟨13, _⟩ => ⟨S256x1024, .fp8e4m3⟩
  | .local _ .vmem, ⟨14, _⟩ => ⟨S1x1x256, .f32⟩
  | .local _ .vmem, ⟨15, _⟩ => ⟨S1x1x256, .f32⟩
  | .local _ .vmem, ⟨16, _⟩ => ⟨S256x4096, .f32⟩
  | .local _ .vmem, ⟨17, _⟩ => ⟨S256x4096, .f32⟩
  | .local _ .vmem, ⟨18, _⟩ => ⟨S256x4096, .fp8e4m3⟩
  | .local _ .vmem, ⟨19, _⟩ => ⟨S256x4096, .fp8e4m3⟩
  | .local _ .vmem, ⟨20, _⟩ => ⟨S1x1x256, .f32⟩
  | .local _ .vmem, ⟨21, _⟩ => ⟨S1x1x256, .f32⟩
  | .local _ .vmem, ⟨22, _⟩ => ⟨S256x128, .f32⟩
  | .local _ .vmem, ⟨23, _⟩ => ⟨S256x128, .f32⟩
  | .local _ .vmem, ⟨24, _⟩ => ⟨S256x512, .i8⟩
  | .local _ .vmem, ⟨25, _⟩ => ⟨S256x512, .i8⟩
  | .local _ .vmem, ⟨26, _⟩ => ⟨S64x256, .fp8e4m3⟩
  | .local _ .vmem, ⟨27, _⟩ => ⟨S64x256, .fp8e4m3⟩
  | .local _ .vmem, ⟨28, _⟩ => ⟨S256x1024, .bf16⟩
  | .local _ .vmem, ⟨29, _⟩ => ⟨S256x1024, .bf16⟩
  | .local _ .vmem, ⟨30, _⟩ => ⟨S1024x128, .f32⟩
  | .local _ .smem, ⟨0, _⟩ => ⟨S1, .f32⟩
  | _, _ => ⟨S2304x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .smem, ⟨0, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev main_v0_3 : Ref sig .tc := ⟨.hbm, 13, rfl⟩
abbrev main_v0_4 : Ref sig .tc := ⟨.hbm, 14, rfl⟩
abbrev main_v0_5 : Ref sig .tc := ⟨.hbm, 15, rfl⟩
abbrev main_v0_6 : Ref sig .tc := ⟨.hbm, 16, rfl⟩
abbrev main_v0_7 : Ref sig .tc := ⟨.hbm, 17, rfl⟩
abbrev main_v0_8 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_stg18_0 : Ref sig .tc := ⟨.vmem, 28, rfl⟩
abbrev cc0_stg18_1 : Ref sig .tc := ⟨.vmem, 29, rfl⟩
abbrev cc0_scratch0 : Ref sig .tc := ⟨.vmem, 30, rfl⟩
abbrev cc0_stg9_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26
abbrev cc0_sem17_0 : DmaSem sig := 27
abbrev cc0_sem17_1 : DmaSem sig := 28
abbrev cc0_sem18_0 : DmaSem sig := 29
abbrev cc0_sem18_1 : DmaSem sig := 30

abbrev nD : Nat := 1
abbrev τ : Topo := Topo.v7x

variable {F : FTy → Type} [FloatOps F]

abbrev grid0 : Pipeline.Grid := ⟨1, ![9], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x4096 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4096x1024 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .smem S1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .fp8e4m3 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x1x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x4096 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x4096 .fp8e4m3 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x1x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x512 .i8 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S64x256 .fp8e4m3 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== OutProjIdeal.lean ====
variable {F : FTy → Type} [FloatOps F] [Named F]
def κ : String → Option EReal := fun
  | "inv_448" => some ((1 / 448 : ℝ) : EReal)
  | _ => none
-- ==== OutProjRefIdeal.lean ====
abbrev S2304x8x128 : Shape := ⟨3, ![2304, 8, 128]⟩
abbrev S2304x1024 : Shape := ⟨2, ![2304, 1024]⟩
abbrev S2304x4096 : Shape := ⟨2, ![2304, 4096]⟩
abbrev S1x1024 : Shape := ⟨2, ![1, 1024]⟩
abbrev S1024x4096 : Shape := ⟨2, ![1024, 4096]⟩
abbrev S1x4096 : Shape := ⟨2, ![1, 4096]⟩
abbrev S4096x1024 : Shape := ⟨2, ![4096, 1024]⟩
abbrev S1 : Shape := ⟨1, ![1]⟩
abbrev S9x1x256 : Shape := ⟨3, ![9, 1, 256]⟩
abbrev S2304x128 : Shape := ⟨2, ![2304, 128]⟩
abbrev S2304 : Shape := ⟨1, ![2304]⟩
abbrev S2304x1 : Shape := ⟨2, ![2304, 1]⟩

abbrev nBuf : Space → Nat
  | .hbm => 16
  | .vmem => 16
  | .smem => 0
  | _ => 0

abbrev bufTy : (tb : Table) → Fin (tcTables nBuf tb) → BufTy
  | .hbm, ⟨0, _⟩ => ⟨S2304x8x128, .f32⟩
  | .hbm, ⟨1, _⟩ => ⟨S2304x1024, .f32⟩
  | .hbm, ⟨2, _⟩ => ⟨S2304x4096, .bf16⟩
  | .hbm, ⟨3, _⟩ => ⟨S1x1024, .f32⟩
  | .hbm, ⟨4, _⟩ => ⟨S1024x4096, .fp8e4m3⟩
  | .hbm, ⟨5, _⟩ => ⟨S1x4096, .f32⟩
  | .hbm, ⟨6, _⟩ => ⟨S1x4096, .f32⟩
  | .hbm, ⟨7, _⟩ => ⟨S4096x1024, .fp8e4m3⟩
  | .hbm, ⟨8, _⟩ => ⟨S1x1024, .f32⟩
  | .hbm, ⟨9, _⟩ => ⟨S1, .f32⟩
  | .hbm, ⟨10, _⟩ => ⟨S2304x1024, .fp8e4m3⟩
  | .hbm, ⟨11, _⟩ => ⟨S9x1x256, .f32⟩
  | .hbm, ⟨12, _⟩ => ⟨S2304x4096, .f32⟩
  | .hbm, ⟨13, _⟩ => ⟨S2304x4096, .fp8e4m3⟩
  | .hbm, ⟨14, _⟩ => ⟨S9x1x256, .f32⟩
  | .hbm, ⟨15, _⟩ => ⟨S2304x128, .f32⟩
  | .local _ .vmem, ⟨0, _⟩ => ⟨S2304x8x128, .f32⟩
  | .local _ .vmem, ⟨1, _⟩ => ⟨S2304x1024, .f32⟩
  | .local _ .vmem, ⟨2, _⟩ => ⟨S2304x4096, .bf16⟩
  | .local _ .vmem, ⟨3, _⟩ => ⟨S1x1024, .f32⟩
  | .local _ .vmem, ⟨4, _⟩ => ⟨S1024x4096, .fp8e4m3⟩
  | .local _ .vmem, ⟨5, _⟩ => ⟨S1x4096, .f32⟩
  | .local _ .vmem, ⟨6, _⟩ => ⟨S1x4096, .f32⟩
  | .local _ .vmem, ⟨7, _⟩ => ⟨S4096x1024, .fp8e4m3⟩
  | .local _ .vmem, ⟨8, _⟩ => ⟨S1x1024, .f32⟩
  | .local _ .vmem, ⟨9, _⟩ => ⟨S1, .f32⟩
  | .local _ .vmem, ⟨10, _⟩ => ⟨S2304x1024, .fp8e4m3⟩
  | .local _ .vmem, ⟨11, _⟩ => ⟨S9x1x256, .f32⟩
  | .local _ .vmem, ⟨12, _⟩ => ⟨S2304x4096, .f32⟩
  | .local _ .vmem, ⟨13, _⟩ => ⟨S2304x4096, .fp8e4m3⟩
  | .local _ .vmem, ⟨14, _⟩ => ⟨S9x1x256, .f32⟩
  | .local _ .vmem, ⟨15, _⟩ => ⟨S2304x128, .f32⟩
  | _, _ => ⟨S2304x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev main_v0_3 : Ref sig .tc := ⟨.hbm, 13, rfl⟩
abbrev main_v0_4 : Ref sig .tc := ⟨.hbm, 14, rfl⟩
abbrev main_v0_5 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15

abbrev nD : Nat := 1
abbrev τ : Topo := Topo.v7x

variable {F : FTy → Type} [FloatOps F]

abbrev grid0 : Pipeline.Grid := .none

abbrev stage0_0 : Fin 1 → Memref sig .tc .vmem S2304x8x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2304x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2304x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x4096 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4096x1024 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2304x1024 .fp8e4m3 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S9x1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S2304x4096 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S2304x4096 .fp8e4m3 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S9x1x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S2304x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
-- ==== Proof.Shared.RunA.lean ====
module

public import proofs.«01_k».proof.Proof.Gen.Shared.Frame
public import proofs.«01_k».proof.Proof.Gen.Shared.Skeleton
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

/-! The body at the steps that fill one plane of the scratch -/

@[expose] public section

set_option maxRecDepth 16384

noncomputable section

namespace Cert.Shared.Hand

open Cert.Shared.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body where `j < 21`: it stores the plane `j` of the scratch and nothing else. -/
noncomputable def runA (c : Dev nD) (i : grid0.Coords) (arg2 : Memref sig .tc .vmem S768x4096 .fp8e4m3) (harg2 : arg2.IsWhole) (arg3 : Memref sig .tc .vmem S768x128 .f32) (harg3 : arg3.IsWhole) (arg4 : Memref sig .tc .vmem S4096x256 .fp8e4m3) (harg4 : arg4.IsWhole) (arg5 : Memref sig .tc .vmem S1x256 .f32) (harg5 : arg5.IsWhole) (arg6 : Memref sig .tc .vmem S5376x256 .fp8e4m3) (harg6 : arg6.IsWhole) (arg7 : Memref sig .tc .vmem S1x256 .f32) (harg7 : arg7.IsWhole) (arg8 : Memref sig .tc .vmem S768x1024 .fp8e4m3) (harg8 : arg8.IsWhole) (arg9 : Memref sig .tc .vmem S768x128 .f32) (harg9 : arg9.IsWhole) (arg10 : Memref sig .tc .vmem S1024x256 .fp8e4m3) (harg10 : arg10.IsWhole) (arg11 : Memref sig .tc .vmem S1x256 .f32) (harg11 : arg11.IsWhole) (arg12 : Memref sig .tc .vmem S768x256 .f32) (harg12 : arg12.IsWhole) (arg13 : Memref sig .tc .vmem S768x5376 .fp8e4m3) (harg13 : arg13.IsWhole) (arg14 : Memref sig .tc .vmem S1x1x768 .f32) (harg14 : arg14.IsWhole) (arg15 : Memref sig .tc .vmem S768x256 .bf16) (harg15 : arg15.IsWhole) (arg16 : Memref sig .tc .vmem S21x768x256 .f32) (harg16 : arg16.IsWhole) (arg17 : Memref sig .tc .vmem S768x128 .f32) (harg17 : arg17.IsWhole) (hc1 : k0_cond1 i = 1#1) (hc2 : ¬k0_cond2 i = 1#1) (hc3 : ¬k0_cond3 i = 1#1)
    (x2 : Vec F S768x4096 .fp8e4m3) (x3 : Vec F S768x128 .f32) (x4 : Vec F S4096x256 .fp8e4m3) (x5 : Vec F S1x256 .f32) (x16 : Vec F S21x768x256 .f32) :
     { L16 : List (View.Piece (Elt F) S21x768x256 .f32) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg16 fullShare x16
            ∗ (iprop(owns (c : Thread nD τ) arg2 fullShare x2 ∗ owns (c : Thread nD τ) arg3 fullShare x3 ∗ owns (c : Thread nD τ) arg4 fullShare x4 ∗ owns (c : Thread nD τ) arg5 fullShare x5 ∗ (arg16.view.loc (c : Thread nD τ) ↦[arg16.view.set]{fullShare} arg16.view.writes (Elt F) (harg16.unread x16) L16)) -∗ K ⟨⟩))
          ⊢ wp frame (wpE (defs₀ (F := F)) Variants.none c none) E (cc0_shared i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, fun E K => ?run⟩
  case run =>
    simp only [cc0_shared_eq_skeleton]; unfold cc0_shared_skel
    unfold owns
    iintro ⟨⟨%f2, %hf2, H2⟩, ⟨%f3, %hf3, H3⟩, ⟨%f4, %hf4, H4⟩, ⟨%f5, %hf5, H5⟩, ⟨%f16, %hf16, H16⟩, Hk⟩
    obtain rfl := harg2.eq_unread hf2; obtain rfl := harg3.eq_unread hf3; obtain rfl := harg4.eq_unread hf4; obtain rfl := harg5.eq_unread hf5; obtain rfl := harg16.eq_unread hf16
    sl_exec (disch := first | sl_exact hc1 | sl_exact hc2 | sl_exact hc3)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    iexact H16

end Cert.Shared.Hand

end
-- ==== Proof.Shared.RunB.lean ====
module

public import proofs.«01_k».proof.Proof.Gen.Shared.Frame
public import proofs.«01_k».proof.Proof.Gen.Shared.Skeleton
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

/-! The body at the quantisation step -/

@[expose] public section

set_option maxRecDepth 16384

noncomputable section

namespace Cert.Shared.Hand

open Cert.Shared.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body where `j = 21`: it stores the codes, the row of scales, the scale scratch and the output block. -/
noncomputable def runB (c : Dev nD) (i : grid0.Coords) (arg2 : Memref sig .tc .vmem S768x4096 .fp8e4m3) (harg2 : arg2.IsWhole) (arg3 : Memref sig .tc .vmem S768x128 .f32) (harg3 : arg3.IsWhole) (arg4 : Memref sig .tc .vmem S4096x256 .fp8e4m3) (harg4 : arg4.IsWhole) (arg5 : Memref sig .tc .vmem S1x256 .f32) (harg5 : arg5.IsWhole) (arg6 : Memref sig .tc .vmem S5376x256 .fp8e4m3) (harg6 : arg6.IsWhole) (arg7 : Memref sig .tc .vmem S1x256 .f32) (harg7 : arg7.IsWhole) (arg8 : Memref sig .tc .vmem S768x1024 .fp8e4m3) (harg8 : arg8.IsWhole) (arg9 : Memref sig .tc .vmem S768x128 .f32) (harg9 : arg9.IsWhole) (arg10 : Memref sig .tc .vmem S1024x256 .fp8e4m3) (harg10 : arg10.IsWhole) (arg11 : Memref sig .tc .vmem S1x256 .f32) (harg11 : arg11.IsWhole) (arg12 : Memref sig .tc .vmem S768x256 .f32) (harg12 : arg12.IsWhole) (arg13 : Memref sig .tc .vmem S768x5376 .fp8e4m3) (harg13 : arg13.IsWhole) (arg14 : Memref sig .tc .vmem S1x1x768 .f32) (harg14 : arg14.IsWhole) (arg15 : Memref sig .tc .vmem S768x256 .bf16) (harg15 : arg15.IsWhole) (arg16 : Memref sig .tc .vmem S21x768x256 .f32) (harg16 : arg16.IsWhole) (arg17 : Memref sig .tc .vmem S768x128 .f32) (harg17 : arg17.IsWhole) (hc1 : ¬k0_cond1 i = 1#1) (hc2 : k0_cond2 i = 1#1) (hc3 : k0_cond3 i = 1#1)
    (x6 : Vec F S5376x256 .fp8e4m3) (x7 : Vec F S1x256 .f32) (x8 : Vec F S768x1024 .fp8e4m3) (x9 : Vec F S768x128 .f32) (x10 : Vec F S1024x256 .fp8e4m3) (x11 : Vec F S1x256 .f32) (x12 : Vec F S768x256 .f32) (x16 : Vec F S21x768x256 .f32) :
    Σ' (L13 : List (View.Piece (Elt F) S768x5376 .fp8e4m3)), Σ' (L14 : List (View.Piece (Elt F) S1x1x768 .f32)), Σ' (L15 : List (View.Piece (Elt F) S768x256 .bf16)), { L17 : List (View.Piece (Elt F) S768x128 .f32) //
      ∀ (E : Set ℕ) (K : PUnit → sProp 𝕄),
        iprop(owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ (∃ d, owns (c : Thread nD τ) arg13 fullShare d) ∗ (∃ d, owns (c : Thread nD τ) arg14 fullShare d) ∗ (∃ d, owns (c : Thread nD τ) arg15 fullShare d) ∗ owns (c : Thread nD τ) arg16 fullShare x16 ∗ (∃ d, owns (c : Thread nD τ) arg17 fullShare d)
            ∗ (iprop(owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ (∃ f, arg13.view.loc (c : Thread nD τ) ↦[arg13.view.set]{fullShare} arg13.view.writes (Elt F) f L13) ∗ (∃ f, arg14.view.loc (c : Thread nD τ) ↦[arg14.view.set]{fullShare} arg14.view.writes (Elt F) f L14) ∗ (∃ f, arg15.view.loc (c : Thread nD τ) ↦[arg15.view.set]{fullShare} arg15.view.writes (Elt F) f L15) ∗ owns (c : Thread nD τ) arg16 fullShare x16 ∗ (∃ f, arg17.view.loc (c : Thread nD τ) ↦[arg17.view.set]{fullShare} arg17.view.writes (Elt F) f L17)) -∗ K ⟨⟩))
          ⊢ wp frame (wpE (defs₀ (F := F)) Variants.none c none) E (cc0_shared i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, ?_, fun E K => ?run⟩
  case run =>
    simp only [cc0_shared_eq_skeleton]; unfold cc0_shared_skel
    unfold owns
    iintro ⟨⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%f16, %hf16, H16⟩, ⟨%d17, %f17, -, H17⟩, Hk⟩
    obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg16.eq_unread hf16
    sl_exec (disch := first | sl_exact hc1 | sl_exact hc2 | sl_exact hc3)
    sl_step
    iapply Hk
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; iexact H13
    isplitl [H14]
    · iexists _; iexact H14
    isplitl [H15]
    · iexists _; iexact H15
    isplitl [H16]
    · iexists _; isplitr; · ipureintro; exact harg16.read_unread _
      iexact H16
    iexists _; iexact H17

end Cert.Shared.Hand

end
-- ==== Proof.Shared.RunC.lean ====
module

public import proofs.«01_k».proof.Proof.Gen.Shared.Frame
public import proofs.«01_k».proof.Proof.Gen.Shared.Skeleton
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

/-! The body at the steps after the quantisation -/

@[expose] public section

set_option maxRecDepth 16384

noncomputable section

namespace Cert.Shared.Hand

open Cert.Shared.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body where `j > 21`: it stores the output block from the codes and the scale. -/
noncomputable def runC (c : Dev nD) (i : grid0.Coords) (arg2 : Memref sig .tc .vmem S768x4096 .fp8e4m3) (harg2 : arg2.IsWhole) (arg3 : Memref sig .tc .vmem S768x128 .f32) (harg3 : arg3.IsWhole) (arg4 : Memref sig .tc .vmem S4096x256 .fp8e4m3) (harg4 : arg4.IsWhole) (arg5 : Memref sig .tc .vmem S1x256 .f32) (harg5 : arg5.IsWhole) (arg6 : Memref sig .tc .vmem S5376x256 .fp8e4m3) (harg6 : arg6.IsWhole) (arg7 : Memref sig .tc .vmem S1x256 .f32) (harg7 : arg7.IsWhole) (arg8 : Memref sig .tc .vmem S768x1024 .fp8e4m3) (harg8 : arg8.IsWhole) (arg9 : Memref sig .tc .vmem S768x128 .f32) (harg9 : arg9.IsWhole) (arg10 : Memref sig .tc .vmem S1024x256 .fp8e4m3) (harg10 : arg10.IsWhole) (arg11 : Memref sig .tc .vmem S1x256 .f32) (harg11 : arg11.IsWhole) (arg12 : Memref sig .tc .vmem S768x256 .f32) (harg12 : arg12.IsWhole) (arg13 : Memref sig .tc .vmem S768x5376 .fp8e4m3) (harg13 : arg13.IsWhole) (arg14 : Memref sig .tc .vmem S1x1x768 .f32) (harg14 : arg14.IsWhole) (arg15 : Memref sig .tc .vmem S768x256 .bf16) (harg15 : arg15.IsWhole) (arg16 : Memref sig .tc .vmem S21x768x256 .f32) (harg16 : arg16.IsWhole) (arg17 : Memref sig .tc .vmem S768x128 .f32) (harg17 : arg17.IsWhole) (hc1 : ¬k0_cond1 i = 1#1) (hc2 : ¬k0_cond2 i = 1#1) (hc3 : k0_cond3 i = 1#1)
    (x6 : Vec F S5376x256 .fp8e4m3) (x7 : Vec F S1x256 .f32) (x8 : Vec F S768x1024 .fp8e4m3) (x9 : Vec F S768x128 .f32) (x10 : Vec F S1024x256 .fp8e4m3) (x11 : Vec F S1x256 .f32) (x12 : Vec F S768x256 .f32) (x13 : Vec F S768x5376 .fp8e4m3) (x17 : Vec F S768x128 .f32) :
     { L15 : List (View.Piece (Elt F) S768x256 .bf16) //
      ∀ (E : Set ℕ) (K : PUnit → sProp 𝕄),
        iprop(owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ (∃ d, owns (c : Thread nD τ) arg15 fullShare d) ∗ owns (c : Thread nD τ) arg17 fullShare x17
            ∗ (iprop(owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ (∃ f, arg15.view.loc (c : Thread nD τ) ↦[arg15.view.set]{fullShare} arg15.view.writes (Elt F) f L15) ∗ owns (c : Thread nD τ) arg17 fullShare x17) -∗ K ⟨⟩))
          ⊢ wp frame (wpE (defs₀ (F := F)) Variants.none c none) E (cc0_shared i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, fun E K => ?run⟩
  case run =>
    simp only [cc0_shared_eq_skeleton]; unfold cc0_shared_skel
    unfold owns
    iintro ⟨⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d15, %f15, -, H15⟩, ⟨%f17, %hf17, H17⟩, Hk⟩
    obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg17.eq_unread hf17
    sl_exec (disch := first | sl_exact hc1 | sl_exact hc2 | sl_exact hc3)
    sl_step
    iapply Hk
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H15]
    · iexists _; iexact H15
    iexists _; isplitr; · ipureintro; exact harg17.read_unread _
    iexact H17

end Cert.Shared.Hand

end
-- ==== Proof.Shared.Vals.lean ====
module

public import proofs.«01_k».proof.Proof.Shared.RunA
public import proofs.«01_k».proof.Proof.Shared.RunB
public import proofs.«01_k».proof.Proof.Shared.RunC
public import Idealize.ShloMosaic.Lib.Pipeline.Value
public import Idealize.ShloMosaic.Lib.WholeRead
public import Idealize.ShloMosaic.Lib.WritesUnit
public import Idealize.ShloMosaic.Lib.ValueIdxCore
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

/-! What one run of the body leaves, as functions of what it reads -/

@[expose] public section

set_option maxRecDepth 16384

noncomputable section

namespace Cert.Shared.Hand

open Cert.Shared.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The two scratch buffers, whole: the planes of activations and the scales. -/
abbrev scM0_0 : Memref sig .tc .vmem S21x768x256 .f32 := Memref.whole cc0_scratch0
abbrev scM0_1 : Memref sig .tc .vmem S768x128 .f32 := Memref.whole cc0_scratch1
theorem whole0 : scM0_0.IsWhole := Memref.isWhole_whole _
theorem whole1 : scM0_1.IsWhole := Memref.isWhole_whole _

/-- Offsets zero on both axes. -/
theorem off2 : (![0, 0] : Fin 2 → ℕ) = fun _ => 0 := by funext a; fin_cases a <;> rfl

/-- A load of a whole memref through the rectangle of the whole block reads the block. -/
theorem readAt_all {s : Shape} {e : EltTy} {M : Memref sig .tc .vmem s e} (h : M.IsWhole) (X : s.Idx → Elt F e)
    {off : Fin s.rank → ℕ} (ho : off = fun _ => 0) (inb : ∀ a, off a + s.size a ≤ s.size a) :
    View.readAt (Elt F) M.view (Rect.unit off s.size inb).toLoadRect (h.unread X) = X := by
  funext x
  rw [h.readAt_unread]
  exact congrFun (View.ld_unit_zero ho inb X) x

/-- One store of the whole block leaves its payload. -/
theorem read_one {s : Shape} {e : EltTy} (v : View sig .tc .vmem s e) (f : v.ty.Contents (Elt F))
    {off : Fin s.rank → ℕ} (ho : off = fun _ => 0) (inb : ∀ a, off a + s.size a ≤ s.size a) (w : s.Idx → Elt F e) :
    v.read (Elt F) (v.writes (Elt F) f [⟨Rect.unit off s.size inb, w⟩]) = w := by
  rw [View.read_writes_eq_canon _ _ _ (fun y => ⟨_, List.mem_singleton_self _, View.mem_set_unit_zero ho inb y⟩), View.canon_unit_zero ho]

/-- The first column of a block of 128 equal columns. -/
def colOf (x : Vec F S768x128 .f32) : Vec F S768x1 .f32 :=
  View.ld x (Rect.unit (s := S768x128) ![0, 0] S768x1.size inb_S768x128_S768x1_0_0)

theorem readAt_col {M : Memref sig .tc .vmem S768x128 .f32} (h : M.IsWhole) (X : Vec F S768x128 .f32) :
    View.readAt (Elt F) M.view (Rect.unit (s := S768x128) ![0, 0] S768x1.size inb_S768x128_S768x1_0_0).toLoadRect (h.unread X) = colOf X := by
  funext x; exact h.readAt_unread X _ x

/-- The plane `k` of the scratch, as loaded. -/
def rd (s : Vec F S21x768x256 .f32) (k : ℕ) (h : ∀ a, (![k, 0, 0] : Fin 3 → ℕ) a + S1x768x256.size a ≤ S21x768x256.size a) : Vec F S1x768x256 .f32 :=
  View.readAt (Elt F) scM0_0.view (Rect.unit (s := S21x768x256) ![k, 0, 0] S1x768x256.size h).toLoadRect (whole0.unread s)

/-- The maximum over the planes 0 to 18, from zero. -/
def mx (s : Vec F S21x768x256 .f32) : FVec F S768x256 .f32 :=
  k0_pay5 (k0_pay4 (rd s 0 inb_S21x768x256_S1x768x256_0_0_0) (rd s 1 inb_S21x768x256_S1x768x256_1_0_0) (rd s 2 inb_S21x768x256_S1x768x256_2_0_0) (rd s 3 inb_S21x768x256_S1x768x256_3_0_0) (rd s 4 inb_S21x768x256_S1x768x256_4_0_0) (rd s 5 inb_S21x768x256_S1x768x256_5_0_0) (rd s 6 inb_S21x768x256_S1x768x256_6_0_0) (rd s 7 inb_S21x768x256_S1x768x256_7_0_0) (rd s 8 inb_S21x768x256_S1x768x256_8_0_0)) (rd s 9 inb_S21x768x256_S1x768x256_9_0_0) (rd s 10 inb_S21x768x256_S1x768x256_10_0_0) (rd s 11 inb_S21x768x256_S1x768x256_11_0_0) (rd s 12 inb_S21x768x256_S1x768x256_12_0_0) (rd s 13 inb_S21x768x256_S1x768x256_13_0_0) (rd s 14 inb_S21x768x256_S1x768x256_14_0_0) (rd s 15 inb_S21x768x256_S1x768x256_15_0_0) (rd s 16 inb_S21x768x256_S1x768x256_16_0_0) (rd s 17 inb_S21x768x256_S1x768x256_17_0_0) (rd s 18 inb_S21x768x256_S1x768x256_18_0_0)

/-- The column of scales. -/
def scale1 (s : Vec F S21x768x256 .f32) : FVec F S768x1 .f32 := k0_pay6 (mx s) (rd s 19 inb_S21x768x256_S1x768x256_19_0_0) (rd s 20 inb_S21x768x256_S1x768x256_20_0_0)

/-- The 21 column pieces of the codes. -/
def codePieces (s : Vec F S21x768x256 .f32) : List (View.Piece (Elt F) S768x5376 .fp8e4m3) :=
  [⟨Rect.unit (s := S768x5376) ![0, 5120] S768x256.size inb_S768x5376_S768x256_0_5120, k0_pay2 (scale1 s) (rd s 20 inb_S21x768x256_S1x768x256_20_0_0)⟩,
   ⟨Rect.unit (s := S768x5376) ![0, 4864] S768x256.size inb_S768x5376_S768x256_0_4864, k0_pay2 (scale1 s) (rd s 19 inb_S21x768x256_S1x768x256_19_0_0)⟩,
   ⟨Rect.unit (s := S768x5376) ![0, 4608] S768x256.size inb_S768x5376_S768x256_0_4608, k0_pay2 (scale1 s) (rd s 18 inb_S21x768x256_S1x768x256_18_0_0)⟩,
   ⟨Rect.unit (s := S768x5376) ![0, 4352] S768x256.size inb_S768x5376_S768x256_0_4352, k0_pay2 (scale1 s) (rd s 17 inb_S21x768x256_S1x768x256_17_0_0)⟩,
   ⟨Rect.unit (s := S768x5376) ![0, 4096] S768x256.size inb_S768x5376_S768x256_0_4096, k0_pay2 (scale1 s) (rd s 16 inb_S21x768x256_S1x768x256_16_0_0)⟩,
   ⟨Rect.unit (s := S768x5376) ![0, 3840] S768x256.size inb_S768x5376_S768x256_0_3840, k0_pay2 (scale1 s) (rd s 15 inb_S21x768x256_S1x768x256_15_0_0)⟩,
   ⟨Rect.unit (s := S768x5376) ![0, 3584] S768x256.size inb_S768x5376_S768x256_0_3584, k0_pay2 (scale1 s) (rd s 14 inb_S21x768x256_S1x768x256_14_0_0)⟩,
   ⟨Rect.unit (s := S768x5376) ![0, 3328] S768x256.size inb_S768x5376_S768x256_0_3328, k0_pay2 (scale1 s) (rd s 13 inb_S21x768x256_S1x768x256_13_0_0)⟩,
   ⟨Rect.unit (s := S768x5376) ![0, 3072] S768x256.size inb_S768x5376_S768x256_0_3072, k0_pay2 (scale1 s) (rd s 12 inb_S21x768x256_S1x768x256_12_0_0)⟩,
   ⟨Rect.unit (s := S768x5376) ![0, 2816] S768x256.size inb_S768x5376_S768x256_0_2816, k0_pay2 (scale1 s) (rd s 11 inb_S21x768x256_S1x768x256_11_0_0)⟩,
   ⟨Rect.unit (s := S768x5376) ![0, 2560] S768x256.size inb_S768x5376_S768x256_0_2560, k0_pay2 (scale1 s) (rd s 10 inb_S21x768x256_S1x768x256_10_0_0)⟩,
   ⟨Rect.unit (s := S768x5376) ![0, 2304] S768x256.size inb_S768x5376_S768x256_0_2304, k0_pay2 (scale1 s) (rd s 9 inb_S21x768x256_S1x768x256_9_0_0)⟩,
   ⟨Rect.unit (s := S768x5376) ![0, 2048] S768x256.size inb_S768x5376_S768x256_0_2048, k0_pay2 (scale1 s) (rd s 8 inb_S21x768x256_S1x768x256_8_0_0)⟩,
   ⟨Rect.unit (s := S768x5376) ![0, 1792] S768x256.size inb_S768x5376_S768x256_0_1792, k0_pay2 (scale1 s) (rd s 7 inb_S21x768x256_S1x768x256_7_0_0)⟩,
   ⟨Rect.unit (s := S768x5376) ![0, 1536] S768x256.size inb_S768x5376_S768x256_0_1536, k0_pay2 (scale1 s) (rd s 6 inb_S21x768x256_S1x768x256_6_0_0)⟩,
   ⟨Rect.unit (s := S768x5376) ![0, 1280] S768x256.size inb_S768x5376_S768x256_0_1280, k0_pay2 (scale1 s) (rd s 5 inb_S21x768x256_S1x768x256_5_0_0)⟩,
   ⟨Rect.unit (s := S768x5376) ![0, 1024] S768x256.size inb_S768x5376_S768x256_0_1024, k0_pay2 (scale1 s) (rd s 4 inb_S21x768x256_S1x768x256_4_0_0)⟩,
   ⟨Rect.unit (s := S768x5376) ![0, 768] S768x256.size inb_S768x5376_S768x256_0_768, k0_pay2 (scale1 s) (rd s 3 inb_S21x768x256_S1x768x256_3_0_0)⟩,
   ⟨Rect.unit (s := S768x5376) ![0, 512] S768x256.size inb_S768x5376_S768x256_0_512, k0_pay2 (scale1 s) (rd s 2 inb_S21x768x256_S1x768x256_2_0_0)⟩,
   ⟨Rect.unit (s := S768x5376) ![0, 256] S768x256.size inb_S768x5376_S768x256_0_256, k0_pay2 (scale1 s) (rd s 1 inb_S21x768x256_S1x768x256_1_0_0)⟩,
   ⟨Rect.unit (s := S768x5376) ![0, 0] S768x256.size inb_S768x5376_S768x256_0_0, k0_pay2 (scale1 s) (rd s 0 inb_S21x768x256_S1x768x256_0_0_0)⟩]

/-- The codes a scratch `s` quantises to: the 21 column pieces side by side. -/
def codesOf (s : Vec F S21x768x256 .f32) : Vec F S768x5376 .fp8e4m3 := View.canon (codePieces s)

/-- The column of 128 equal scales. -/
def scOf (s : Vec F S21x768x256 .f32) : Vec F S768x128 .f32 := k0_pay7 (mx s) (rd s 19 inb_S21x768x256_S1x768x256_19_0_0) (rd s 20 inb_S21x768x256_S1x768x256_20_0_0)

/-- The three pieces of the row of scales. -/
def rowPieces (s : Vec F S21x768x256 .f32) : List (View.Piece (Elt F) S1x1x768 .f32) :=
  [⟨Rect.unit (s := S1x1x768) ![0, 0, 512] S1x1x256.size inb_S1x1x768_S1x1x256_0_0_512, k0_pay11 (k0_pay10 (mx s) (rd s 19 inb_S21x768x256_S1x768x256_19_0_0) (rd s 20 inb_S21x768x256_S1x768x256_20_0_0))⟩,
   ⟨Rect.unit (s := S1x1x768) ![0, 0, 256] S1x1x256.size inb_S1x1x768_S1x1x256_0_0_256, k0_pay9 (mx s) (rd s 19 inb_S21x768x256_S1x768x256_19_0_0) (rd s 20 inb_S21x768x256_S1x768x256_20_0_0)⟩,
   ⟨Rect.unit (s := S1x1x768) ![0, 0, 0] S1x1x256.size inb_S1x1x768_S1x1x256_0_0_0, k0_pay8 (mx s) (rd s 19 inb_S21x768x256_S1x768x256_19_0_0) (rd s 20 inb_S21x768x256_S1x768x256_20_0_0)⟩]

/-- The row of scales. -/
def rowOf (s : Vec F S21x768x256 .f32) : Vec F S1x1x768 .f32 := View.canon (rowPieces s)

/-- The output block of one grid step, from the codes, the scales and the other operands. -/
def outOf (q : Vec F S768x5376 .fp8e4m3) (sc : Vec F S768x128 .f32) (x6 : Vec F S5376x256 .fp8e4m3) (x7 : Vec F S1x256 .f32) (x8 : Vec F S768x1024 .fp8e4m3) (x9 : Vec F S768x128 .f32) (x10 : Vec F S1024x256 .fp8e4m3) (x11 : Vec F S1x256 .f32) (x12 : Vec F S768x256 .f32) : Vec F S768x256 .bf16 :=
  k0_pay3 q x6 (colOf sc) x7 x8 x10 (colOf x9) x11 x12

/-- One plane of activations. -/
def planeOf (x2 : Vec F S768x4096 .fp8e4m3) (x3 : Vec F S768x128 .f32) (x4 : Vec F S4096x256 .fp8e4m3) (x5 : Vec F S1x256 .f32) : Vec F S1x768x256 .f32 :=
  k0_pay1 x2 x4 (colOf x3) x5

theorem cover_codes (s : Vec F S21x768x256 .f32) (y : S768x5376.Idx) :
    ∃ pc ∈ codePieces s, y ∈ pc.1.set :=
  View.cover_of_tiledL (codePieces s) S768x256.size (by sl_kernel_rfl) y

theorem cover_row (s : Vec F S21x768x256 .f32) (y : S1x1x768.Idx) :
    ∃ pc ∈ rowPieces s, y ∈ pc.1.set :=
  View.cover_of_tiledL (rowPieces s) S1x1x256.size (by sl_kernel_rfl) y

set_option maxHeartbeats 1000000 in
/-- At a step `j < 21` the plane `j` of the scratch becomes the activations of this step, the other planes stay. -/
theorem tripleA (c : Dev nD) (i : grid0.Coords) (arg2 : Memref sig .tc .vmem S768x4096 .fp8e4m3) (harg2 : arg2.IsWhole) (arg3 : Memref sig .tc .vmem S768x128 .f32) (harg3 : arg3.IsWhole) (arg4 : Memref sig .tc .vmem S4096x256 .fp8e4m3) (harg4 : arg4.IsWhole) (arg5 : Memref sig .tc .vmem S1x256 .f32) (harg5 : arg5.IsWhole) (arg6 : Memref sig .tc .vmem S5376x256 .fp8e4m3) (harg6 : arg6.IsWhole) (arg7 : Memref sig .tc .vmem S1x256 .f32) (harg7 : arg7.IsWhole) (arg8 : Memref sig .tc .vmem S768x1024 .fp8e4m3) (harg8 : arg8.IsWhole) (arg9 : Memref sig .tc .vmem S768x128 .f32) (harg9 : arg9.IsWhole) (arg10 : Memref sig .tc .vmem S1024x256 .fp8e4m3) (harg10 : arg10.IsWhole) (arg11 : Memref sig .tc .vmem S1x256 .f32) (harg11 : arg11.IsWhole) (arg12 : Memref sig .tc .vmem S768x256 .f32) (harg12 : arg12.IsWhole) (arg13 : Memref sig .tc .vmem S768x5376 .fp8e4m3) (harg13 : arg13.IsWhole) (arg14 : Memref sig .tc .vmem S1x1x768 .f32) (harg14 : arg14.IsWhole) (arg15 : Memref sig .tc .vmem S768x256 .bf16) (harg15 : arg15.IsWhole) (hc1 : k0_cond1 i = 1#1) (hc2 : ¬k0_cond2 i = 1#1) (hc3 : ¬k0_cond3 i = 1#1) (x2 : Vec F S768x4096 .fp8e4m3) (x3 : Vec F S768x128 .f32) (x4 : Vec F S4096x256 .fp8e4m3) (x5 : Vec F S1x256 .f32) (x16 : Vec F S21x768x256 .f32) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) scM0_0 fullShare x16
        ∗ (iprop(owns (c : Thread nD τ) arg2 fullShare x2 ∗ owns (c : Thread nD τ) arg3 fullShare x3 ∗ owns (c : Thread nD τ) arg4 fullShare x4 ∗ owns (c : Thread nD τ) arg5 fullShare x5 ∗ (∃ s, ⌜(∀ y : S21x768x256.Idx, (y 0).val = (i 1).val → s y = planeOf x2 x3 x4 x5 (ValueIdx.ix3 0 (y 1) (y 2))) ∧ (∀ y : S21x768x256.Idx, (y 0).val ≠ (i 1).val → s y = x16 y)⌝ ∗ owns (c : Thread nD τ) scM0_0 fullShare s)) -∗ K ⟨⟩))
      ⊢ wp frame (wpE (defs₀ (F := F)) Variants.none c none) E (cc0_shared i arg2 harg2 arg3 harg3 arg4 harg4 arg5 harg5 arg6 harg6 arg7 harg7 arg8 harg8 arg9 harg9 arg10 harg10 arg11 harg11 arg12 harg12 arg13 harg13 arg14 harg14 arg15 harg15 scM0_0 whole0 scM0_1 whole1) K := by
  iintro ⟨H2, H3, H4, H5, H16, Hk⟩
  iapply ((runA c i arg2 harg2 arg3 harg3 arg4 harg4 arg5 harg5 arg6 harg6 arg7 harg7 arg8 harg8 arg9 harg9 arg10 harg10 arg11 harg11 arg12 harg12 arg13 harg13 arg14 harg14 arg15 harg15 scM0_0 whole0 scM0_1 whole1 hc1 hc2 hc3 x2 x3 x4 x5 x16).2 E K)
  isplitl [H2]; · iexact H2
  isplitl [H3]; · iexact H3
  isplitl [H4]; · iexact H4
  isplitl [H5]; · iexact H5
  isplitl [H16]; · iexact H16
  iintro ⟨H2, H3, H4, H5, H16⟩
  iapply Hk
  isplitl [H2]; · iexact H2
  isplitl [H3]; · iexact H3
  isplitl [H4]; · iexact H4
  isplitl [H5]; · iexact H5
  iexists (scM0_0.view.read (Elt F) (scM0_0.view.writes (Elt F) (whole0.unread x16) (runA c i arg2 harg2 arg3 harg3 arg4 harg4 arg5 harg5 arg6 harg6 arg7 harg7 arg8 harg8 arg9 harg9 arg10 harg10 arg11 harg11 arg12 harg12 arg13 harg13 arg14 harg14 arg15 harg15 scM0_0 whole0 scM0_1 whole1 hc1 hc2 hc3 x2 x3 x4 x5 x16).1))
  isplitr
  · ipureintro
    unfold runA; dsimp only
    have e2 := readAt_all (F := F) harg2 x2 off2 inb_S768x4096_S768x4096_0_0
    have e4 := readAt_all (F := F) harg4 x4 off2 inb_S4096x256_S4096x256_0_0
    have e5 := readAt_all (F := F) harg5 x5 off2 inb_S1x256_S1x256_0_0
    have e3 := readAt_col (F := F) harg3 x3
    refine ⟨fun y hy => ?_, fun y hy => ?_⟩
    · refine (View.read_writes_cons_unit_of_mem _ _ _ _ _ _ (ValueIdx.ix3 0 (y 1) (y 2)) (k0_off1_eq i) (fun a => ?_)).trans ?_
      · fin_cases a
        · exact hy
        · exact (Nat.zero_add _).symm
        · exact (Nat.zero_add _).symm
      · rw [e2, e4, e5, e3]; rfl
    · refine (View.read_writes_cons_unit_of_not_mem _ _ _ _ _ _ (k0_off1_eq i) (0 : Fin 3) ?_).trans ?_
      · show (y 0).val < (i 1).val ∨ (i 1).val + 1 ≤ (y 0).val
        omega
      · exact congrFun (whole0.read_unread x16) y
  · unfold owns; iexists _; isplitr
    swap; · iexact H16
    ipureintro; rfl

set_option maxHeartbeats 1000000 in
/-- At the step `j = 21` the codes, the row of scales, the scales and the output block are those of the scratch. -/
theorem tripleB (c : Dev nD) (i : grid0.Coords) (arg2 : Memref sig .tc .vmem S768x4096 .fp8e4m3) (harg2 : arg2.IsWhole) (arg3 : Memref sig .tc .vmem S768x128 .f32) (harg3 : arg3.IsWhole) (arg4 : Memref sig .tc .vmem S4096x256 .fp8e4m3) (harg4 : arg4.IsWhole) (arg5 : Memref sig .tc .vmem S1x256 .f32) (harg5 : arg5.IsWhole) (arg6 : Memref sig .tc .vmem S5376x256 .fp8e4m3) (harg6 : arg6.IsWhole) (arg7 : Memref sig .tc .vmem S1x256 .f32) (harg7 : arg7.IsWhole) (arg8 : Memref sig .tc .vmem S768x1024 .fp8e4m3) (harg8 : arg8.IsWhole) (arg9 : Memref sig .tc .vmem S768x128 .f32) (harg9 : arg9.IsWhole) (arg10 : Memref sig .tc .vmem S1024x256 .fp8e4m3) (harg10 : arg10.IsWhole) (arg11 : Memref sig .tc .vmem S1x256 .f32) (harg11 : arg11.IsWhole) (arg12 : Memref sig .tc .vmem S768x256 .f32) (harg12 : arg12.IsWhole) (arg13 : Memref sig .tc .vmem S768x5376 .fp8e4m3) (harg13 : arg13.IsWhole) (arg14 : Memref sig .tc .vmem S1x1x768 .f32) (harg14 : arg14.IsWhole) (arg15 : Memref sig .tc .vmem S768x256 .bf16) (harg15 : arg15.IsWhole) (hc1 : ¬k0_cond1 i = 1#1) (hc2 : k0_cond2 i = 1#1) (hc3 : k0_cond3 i = 1#1) (x6 : Vec F S5376x256 .fp8e4m3) (x7 : Vec F S1x256 .f32) (x8 : Vec F S768x1024 .fp8e4m3) (x9 : Vec F S768x128 .f32) (x10 : Vec F S1024x256 .fp8e4m3) (x11 : Vec F S1x256 .f32) (x12 : Vec F S768x256 .f32) (x16 : Vec F S21x768x256 .f32) (E : Set ℕ) (K : PUnit → sProp 𝕄) :
    iprop(owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ (∃ d, owns (c : Thread nD τ) arg13 fullShare d) ∗ (∃ d, owns (c : Thread nD τ) arg14 fullShare d) ∗ (∃ d, owns (c : Thread nD τ) arg15 fullShare d) ∗ owns (c : Thread nD τ) scM0_0 fullShare x16 ∗ (∃ d, owns (c : Thread nD τ) scM0_1 fullShare d)
        ∗ (iprop(owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare (codesOf x16) ∗ owns (c : Thread nD τ) arg14 fullShare (rowOf x16) ∗ owns (c : Thread nD τ) arg15 fullShare (outOf (codesOf x16) (scOf x16) x6 x7 x8 x9 x10 x11 x12) ∗ owns (c : Thread nD τ) scM0_0 fullShare x16 ∗ owns (c : Thread nD τ) scM0_1 fullShare (scOf x16)) -∗ K ⟨⟩))
      ⊢ wp frame (wpE (defs₀ (F := F)) Variants.none c none) E (cc0_shared i arg2 harg2 arg3 harg3 arg4 harg4 arg5 harg5 arg6 harg6 arg7 harg7 arg8 harg8 arg9 harg9 arg10 harg10 arg11 harg11 arg12 harg12 arg13 harg13 arg14 harg14 arg15 harg15 scM0_0 whole0 scM0_1 whole1) K := by
  iintro ⟨H6, H7, H8, H9, H10, H11, H12, H13, H14, H15, H16, H17, Hk⟩
  iapply ((runB c i arg2 harg2 arg3 harg3 arg4 harg4 arg5 harg5 arg6 harg6 arg7 harg7 arg8 harg8 arg9 harg9 arg10 harg10 arg11 harg11 arg12 harg12 arg13 harg13 arg14 harg14 arg15 harg15 scM0_0 whole0 scM0_1 whole1 hc1 hc2 hc3 x6 x7 x8 x9 x10 x11 x12 x16).2.2.2.2 E K)
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iintro ⟨H6, H7, H8, H9, H10, H11, H12, ⟨%f13, H13⟩, ⟨%f14, H14⟩, ⟨%f15, H15⟩, H16, ⟨%f17, H17⟩⟩
  iapply Hk
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]
  · unfold owns; iexists _; isplitr
    swap; · iexact H13
    ipureintro; exact (congrArg (fun L => arg13.view.read (Elt F) (arg13.view.writes (Elt F) f13 L)) (show (runB c i arg2 harg2 arg3 harg3 arg4 harg4 arg5 harg5 arg6 harg6 arg7 harg7 arg8 harg8 arg9 harg9 arg10 harg10 arg11 harg11 arg12 harg12 arg13 harg13 arg14 harg14 arg15 harg15 scM0_0 whole0 scM0_1 whole1 hc1 hc2 hc3 x6 x7 x8 x9 x10 x11 x12 x16).1 = codePieces x16 from by sl_kernel_rfl)).trans (View.read_writes_eq_canon _ _ _ (cover_codes x16))
  isplitl [H14]
  · unfold owns; iexists _; isplitr
    swap; · iexact H14
    ipureintro; exact (congrArg (fun L => arg14.view.read (Elt F) (arg14.view.writes (Elt F) f14 L)) (show (runB c i arg2 harg2 arg3 harg3 arg4 harg4 arg5 harg5 arg6 harg6 arg7 harg7 arg8 harg8 arg9 harg9 arg10 harg10 arg11 harg11 arg12 harg12 arg13 harg13 arg14 harg14 arg15 harg15 scM0_0 whole0 scM0_1 whole1 hc1 hc2 hc3 x6 x7 x8 x9 x10 x11 x12 x16).2.1 = rowPieces x16 from by sl_kernel_rfl)).trans (View.read_writes_eq_canon _ _ _ (cover_row x16))
  isplitl [H15]
  · unfold owns; iexists _; isplitr
    swap; · iexact H15
    ipureintro; have e6 := readAt_all (F := F) harg6 x6 off2 inb_S5376x256_S5376x256_0_0
    have e7 := readAt_all (F := F) harg7 x7 off2 inb_S1x256_S1x256_0_0
    have e8 := readAt_all (F := F) harg8 x8 off2 inb_S768x1024_S768x1024_0_0
    have e9 := readAt_col (F := F) harg9 x9
    have e10 := readAt_all (F := F) harg10 x10 off2 inb_S1024x256_S1024x256_0_0
    have e11 := readAt_all (F := F) harg11 x11 off2 inb_S1x256_S1x256_0_0
    have e12 := readAt_all (F := F) harg12 x12 off2 inb_S768x256_S768x256_0_0
    have eq : arg13.view.readCov (codePieces x16) (Rect.unit (s := S768x5376) ![0, 0] S768x5376.size inb_S768x5376_S768x5376_0_0).toLoadRect = codesOf x16 := by
      rw [View.readCov_eq_canon_ld _ _ _ (cover_codes x16)]
      exact View.ld_unit_zero off2 _ _
    have es : scM0_1.view.readCov [(⟨Rect.unit ![0, 0] S768x128.size inb_S768x128_S768x128_0_0, scOf x16⟩ : View.Piece (Elt F) S768x128 .f32)] (Rect.unit (s := S768x128) ![0, 0] S768x1.size inb_S768x128_S768x1_0_0).toLoadRect = colOf (scOf x16) := by
      rw [View.readCov_eq_canon', View.canon_unit_zero off2]
      rfl
    have eL : (runB c i arg2 harg2 arg3 harg3 arg4 harg4 arg5 harg5 arg6 harg6 arg7 harg7 arg8 harg8 arg9 harg9 arg10 harg10 arg11 harg11 arg12 harg12 arg13 harg13 arg14 harg14 arg15 harg15 scM0_0 whole0 scM0_1 whole1 hc1 hc2 hc3 x6 x7 x8 x9 x10 x11 x12 x16).2.2.1 = [⟨Rect.unit ![0, 0] S768x256.size inb_S768x256_S768x256_0_0, k0_pay3
        (arg13.view.readCov (codePieces x16) (Rect.unit (s := S768x5376) ![0, 0] S768x5376.size inb_S768x5376_S768x5376_0_0).toLoadRect)
        (View.readAt (Elt F) arg6.view (Rect.unit ![0, 0] S5376x256.size inb_S5376x256_S5376x256_0_0).toLoadRect (harg6.unread x6))
        (scM0_1.view.readCov [(⟨Rect.unit ![0, 0] S768x128.size inb_S768x128_S768x128_0_0, scOf x16⟩ : View.Piece (Elt F) S768x128 .f32)] (Rect.unit (s := S768x128) ![0, 0] S768x1.size inb_S768x128_S768x1_0_0).toLoadRect)
        (View.readAt (Elt F) arg7.view (Rect.unit ![0, 0] S1x256.size inb_S1x256_S1x256_0_0).toLoadRect (harg7.unread x7))
        (View.readAt (Elt F) arg8.view (Rect.unit ![0, 0] S768x1024.size inb_S768x1024_S768x1024_0_0).toLoadRect (harg8.unread x8))
        (View.readAt (Elt F) arg10.view (Rect.unit ![0, 0] S1024x256.size inb_S1024x256_S1024x256_0_0).toLoadRect (harg10.unread x10))
        (View.readAt (Elt F) arg9.view (Rect.unit (s := S768x128) ![0, 0] S768x1.size inb_S768x128_S768x1_0_0).toLoadRect (harg9.unread x9))
        (View.readAt (Elt F) arg11.view (Rect.unit ![0, 0] S1x256.size inb_S1x256_S1x256_0_0).toLoadRect (harg11.unread x11))
        (View.readAt (Elt F) arg12.view (Rect.unit ![0, 0] S768x256.size inb_S768x256_S768x256_0_0).toLoadRect (harg12.unread x12))⟩] := by sl_kernel_rfl
    rw [eL]
    refine (read_one _ _ off2 _ _).trans ?_
    rw [e6, e7, e8, e9, e10, e11, e12, eq, es]; rfl
  isplitl [H16]; · iexact H16
  unfold owns; iexists _; isplitr
  swap; · iexact H17
  ipureintro
  refine (congrArg (fun L => scM0_1.view.read (Elt F) (scM0_1.view.writes (Elt F) f17 L)) (show (runB c i arg2 harg2 arg3 harg3 arg4 harg4 arg5 harg5 arg6 harg6 arg7 harg7 arg8 harg8 arg9 harg9 arg10 harg10 arg11 harg11 arg12 harg12 arg13 harg13 arg14 harg14 arg15 harg15 scM0_0 whole0 scM0_1 whole1 hc1 hc2 hc3 x6 x7 x8 x9 x10 x11 x12 x16).2.2.2.1 = [⟨Rect.unit ![0, 0] S768x128.size inb_S768x128_S768x128_0_0, scOf x16⟩] from by sl_kernel_rfl)).trans ?_
  exact read_one _ _ off2 _ _

set_option maxHeartbeats 1000000 in
/-- At a step `j > 21` the output block is that of the codes and scales found. -/
theorem tripleC (c : Dev nD) (i : grid0.Coords) (arg2 : Memref sig .tc .vmem S768x4096 .fp8e4m3) (harg2 : arg2.IsWhole) (arg3 : Memref sig .tc .vmem S768x128 .f32) (harg3 : arg3.IsWhole) (arg4 : Memref sig .tc .vmem S4096x256 .fp8e4m3) (harg4 : arg4.IsWhole) (arg5 : Memref sig .tc .vmem S1x256 .f32) (harg5 : arg5.IsWhole) (arg6 : Memref sig .tc .vmem S5376x256 .fp8e4m3) (harg6 : arg6.IsWhole) (arg7 : Memref sig .tc .vmem S1x256 .f32) (harg7 : arg7.IsWhole) (arg8 : Memref sig .tc .vmem S768x1024 .fp8e4m3) (harg8 : arg8.IsWhole) (arg9 : Memref sig .tc .vmem S768x128 .f32) (harg9 : arg9.IsWhole) (arg10 : Memref sig .tc .vmem S1024x256 .fp8e4m3) (harg10 : arg10.IsWhole) (arg11 : Memref sig .tc .vmem S1x256 .f32) (harg11 : arg11.IsWhole) (arg12 : Memref sig .tc .vmem S768x256 .f32) (harg12 : arg12.IsWhole) (arg13 : Memref sig .tc .vmem S768x5376 .fp8e4m3) (harg13 : arg13.IsWhole) (arg14 : Memref sig .tc .vmem S1x1x768 .f32) (harg14 : arg14.IsWhole) (arg15 : Memref sig .tc .vmem S768x256 .bf16) (harg15 : arg15.IsWhole) (hc1 : ¬k0_cond1 i = 1#1) (hc2 : ¬k0_cond2 i = 1#1) (hc3 : k0_cond3 i = 1#1) (x6 : Vec F S5376x256 .fp8e4m3) (x7 : Vec F S1x256 .f32) (x8 : Vec F S768x1024 .fp8e4m3) (x9 : Vec F S768x128 .f32) (x10 : Vec F S1024x256 .fp8e4m3) (x11 : Vec F S1x256 .f32) (x12 : Vec F S768x256 .f32) (x13 : Vec F S768x5376 .fp8e4m3) (x17 : Vec F S768x128 .f32) (E : Set ℕ) (K : PUnit → sProp 𝕄) :
    iprop(owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ (∃ d, owns (c : Thread nD τ) arg15 fullShare d) ∗ owns (c : Thread nD τ) scM0_1 fullShare x17
        ∗ (iprop(owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg15 fullShare (outOf x13 x17 x6 x7 x8 x9 x10 x11 x12) ∗ owns (c : Thread nD τ) scM0_1 fullShare x17) -∗ K ⟨⟩))
      ⊢ wp frame (wpE (defs₀ (F := F)) Variants.none c none) E (cc0_shared i arg2 harg2 arg3 harg3 arg4 harg4 arg5 harg5 arg6 harg6 arg7 harg7 arg8 harg8 arg9 harg9 arg10 harg10 arg11 harg11 arg12 harg12 arg13 harg13 arg14 harg14 arg15 harg15 scM0_0 whole0 scM0_1 whole1) K := by
  iintro ⟨H6, H7, H8, H9, H10, H11, H12, H13, H15, H17, Hk⟩
  iapply ((runC c i arg2 harg2 arg3 harg3 arg4 harg4 arg5 harg5 arg6 harg6 arg7 harg7 arg8 harg8 arg9 harg9 arg10 harg10 arg11 harg11 arg12 harg12 arg13 harg13 arg14 harg14 arg15 harg15 scM0_0 whole0 scM0_1 whole1 hc1 hc2 hc3 x6 x7 x8 x9 x10 x11 x12 x13 x17).2 E K)
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H15]; · iexact H15
  isplitl [H17]; · iexact H17
  iintro ⟨H6, H7, H8, H9, H10, H11, H12, H13, ⟨%f15, H15⟩, H17⟩
  iapply Hk
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H15]
  · unfold owns; iexists _; isplitr
    swap; · iexact H15
    ipureintro; unfold runC; dsimp only
    have e6 := readAt_all (F := F) harg6 x6 off2 inb_S5376x256_S5376x256_0_0
    have e7 := readAt_all (F := F) harg7 x7 off2 inb_S1x256_S1x256_0_0
    have e8 := readAt_all (F := F) harg8 x8 off2 inb_S768x1024_S768x1024_0_0
    have e9 := readAt_col (F := F) harg9 x9
    have e10 := readAt_all (F := F) harg10 x10 off2 inb_S1024x256_S1024x256_0_0
    have e11 := readAt_all (F := F) harg11 x11 off2 inb_S1x256_S1x256_0_0
    have e12 := readAt_all (F := F) harg12 x12 off2 inb_S768x256_S768x256_0_0
    have e13 := readAt_all (F := F) harg13 x13 off2 inb_S768x5376_S768x5376_0_0
    have e17 := readAt_col (F := F) whole1 x17
    refine (read_one _ _ off2 _ _).trans ?_
    rw [e6, e7, e8, e9, e10, e11, e12, e13, e17]; rfl
  iexact H17

end Cert.Shared.Hand

end
-- ==== Proof.Shared.Frame.lean ====
module

public import proofs.«01_k».proof.Proof.Shared.Vals
public import proofs.«01_k».proof.Proof.Gen.Shared.Points
public import Idealize.ShloMosaic.Lib.Claim
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

/-! The proof data of the call and its frame -/

@[expose] public section

set_option maxRecDepth 16384

noncomputable section

namespace Cert.Shared.Hand

open Cert.Shared.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The branch conditions over the 111 points: row block `t / 37`, step `j = t % 37` -/

theorem hcond1 : ∀ t : Fin cfg0.N, k0_cond1 (grid0.coords t) = 1#1 ↔ t.val % 37 < 21 :=
  (by decide +kernel : ∀ t : Fin grid0.N, k0_cond1 (grid0.coords t) = 1#1 ↔ t.val % 37 < 21)
theorem hcond2 : ∀ t : Fin cfg0.N, k0_cond2 (grid0.coords t) = 1#1 ↔ t.val % 37 = 21 :=
  (by decide +kernel : ∀ t : Fin grid0.N, k0_cond2 (grid0.coords t) = 1#1 ↔ t.val % 37 = 21)
theorem hcond3 : ∀ t : Fin cfg0.N, k0_cond3 (grid0.coords t) = 1#1 ↔ 21 ≤ t.val % 37 :=
  (by decide +kernel : ∀ t : Fin grid0.N, k0_cond3 (grid0.coords t) = 1#1 ↔ 21 ≤ t.val % 37)
theorem coord1 : ∀ t : Fin cfg0.N, (grid0.coords t 1).val = t.val % 37 :=
  (by decide +kernel : ∀ t : Fin grid0.N, (grid0.coords t 1).val = t.val % 37)

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl
theorem liveAt0_6 : ∀ t : Fin cfg0.N, cfg0.idle 6 (grid0.coords t) = false := fun _ => rfl
theorem liveAt0_7 : ∀ t : Fin cfg0.N, cfg0.idle 7 (grid0.coords t) = false := fun _ => rfl
theorem liveAt0_8 : ∀ t : Fin cfg0.N, cfg0.idle 8 (grid0.coords t) = false := fun _ => rfl
theorem liveAt0_9 : ∀ t : Fin cfg0.N, cfg0.idle 9 (grid0.coords t) = false := fun _ => rfl
theorem liveAt0_10 : ∀ t : Fin cfg0.N, cfg0.idle 10 (grid0.coords t) = false := fun _ => rfl
theorem idle0_11 : ∀ t : Fin cfg0.N, cfg0.idle 11 (grid0.coords t) = !decide (t.val % 37 = 21) :=
  (by decide +kernel : ∀ t : Fin grid0.N, cfg0.idle 11 (grid0.coords t) = !decide (t.val % 37 = 21))
theorem idle0_12 : ∀ t : Fin cfg0.N, cfg0.idle 12 (grid0.coords t) = !decide (t.val % 37 = 21) :=
  (by decide +kernel : ∀ t : Fin grid0.N, cfg0.idle 12 (grid0.coords t) = !decide (t.val % 37 = 21))
theorem idle0_13 : ∀ t : Fin cfg0.N, cfg0.idle 13 (grid0.coords t) = decide (t.val % 37 < 21) :=
  (by decide +kernel : ∀ t : Fin grid0.N, cfg0.idle 13 (grid0.coords t) = decide (t.val % 37 < 21))
theorem noFlush0_13 : ∀ t : Fin cfg0.N, t.val % 37 < 21 → (cfg0.win 13).flush t = false :=
  (by decide +kernel : ∀ t : Fin grid0.N, t.val % 37 < 21 → (cfg0.win 13).flush t = false)

/-- Where the buffers of the codes and of the row of scales hold nothing of this row block yet. -/
def freshTab : ℕ → Bool := fun n => decide (n % 37 ≤ 21)
theorem freshStep_11 : ∀ t : Fin cfg0.N,
    freshTab (t.val + 1) = ((cfg0.win 11).flush t || (cfg0.idle 11 (cfg0.grid.coords t) && freshTab t.val)) := by decide +kernel
theorem fresh0_11 (t : Fin cfg0.N) : cfg0.fresh 11 t.val = freshTab t.val :=
  Pipeline.Cfg.fresh_tab cfg0 11 freshTab rfl freshStep_11 t.val (Nat.le_of_lt t.isLt)
theorem freshStep_12 : ∀ t : Fin cfg0.N,
    freshTab (t.val + 1) = ((cfg0.win 12).flush t || (cfg0.idle 12 (cfg0.grid.coords t) && freshTab t.val)) := by decide +kernel
theorem fresh0_12 (t : Fin cfg0.N) : cfg0.fresh 12 t.val = freshTab t.val :=
  Pipeline.Cfg.fresh_tab cfg0 12 freshTab rfl freshStep_12 t.val (Nat.le_of_lt t.isLt)

/-! ## The memrefs of a point -/

abbrev ms0_0 (t : Fin cfg0.N) : Memref sig .tc .vmem S768x4096 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S768x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4096x256 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S5376x256 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S768x1024 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S768x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1024x256 .fp8e4m3 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x256 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S768x256 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S768x5376 .fp8e4m3 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x1x768 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S768x256 .bf16 := win0_13.stage (cfg0.slots t 13)
abbrev hs0_13 (t : Fin cfg0.N) : (ms0_13 t).IsWhole := hstage0_13 ((cfg0.slots t 13).cast nbuf0_13)

/-- What the launch hands the region: the two scratch buffers and the generator's register at some state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-! ## What is held point by point -/

/-- The point of number `n`. -/
def pt (n : ℕ) : Fin cfg0.N := ⟨n % 111, lt_of_lt_of_eq (Nat.mod_lt _ (by decide)) (show 111 = cfg0.N from N_0.symm)⟩

theorem pt_val (t : Fin cfg0.N) : pt t.val = t :=
  Fin.ext (Nat.mod_eq_of_lt (lt_of_lt_of_eq t.isLt (show cfg0.N = 111 from N_0)))

/-- The plane of activations computed at point `t`. -/
def upBlk (c : Dev nD) (t : Fin cfg0.N) : Vec F S1x768x256 .f32 :=
  planeOf (iblk m c 0 t) (iblk m c 1 t) (iblk m c 2 t) (iblk m c 3 t)

/-- The 21 planes of row block `i`. -/
def planes (c : Dev nD) (i : ℕ) : Vec F S21x768x256 .f32 := fun y =>
  upBlk m c (pt (37 * i + (y 0).val)) (ValueIdx.ix3 0 (y 1) (y 2))

/-- The output block of point `t`. -/
def outBlk (c : Dev nD) (t : Fin cfg0.N) : Vec F S768x256 .bf16 :=
  outOf (codesOf (planes m c (t.val / 37))) (scOf (planes m c (t.val / 37))) (iblk m c 4 t) (iblk m c 5 t) (iblk m c 6 t)
    (iblk m c 7 t) (iblk m c 8 t) (iblk m c 9 t) (iblk m c 10 t)

/-- What the scratch holds before point `n`: the planes of the row block computed so far, and after the quantisation its scales. -/
def Good (c : Dev nD) (n : ℕ) (s : Vec F S21x768x256 .f32) (sc : Vec F S768x128 .f32) : Prop :=
  (∀ y : S21x768x256.Idx, (y 0).val < n % 37 → s y = planes m c (n / 37) y) ∧ (21 < n % 37 → sc = scOf (planes m c (n / 37)))

/-- The invariant before point `n`. -/
def PhiN (c : Dev nD) (n : ℕ) : sProp 𝕄 :=
  iprop(∃ s, ∃ sc, ⌜Good m c n s sc⌝ ∗ owns (c : Thread nD τ) scM0_0 fullShare s ∗ owns (c : Thread nD τ) scM0_1 fullShare sc ∗ (∃ r, prngReg c r))

/-- The proof data of the call. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => codesOf (planes m c (t.val / 37))
    | ⟨12, _⟩ => rowOf (planes m c (t.val / 37))
    | ⟨13, _⟩ => outBlk m c t
  Φ t := PhiN m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = codesOf (planes m c (t.val / 37)) := by dsimp only [dats]
theorem after0_12 (c : Dev nD) (t : Fin cfg0.N) : (dats m 0 c).after 12 t = rowOf (planes m c (t.val / 37)) := by dsimp only [dats]
theorem after0_13 (c : Dev nD) (t : Fin cfg0.N) : (dats m 0 c).after 13 t = outBlk m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d

/-- After the quantisation step the buffer of window 11 holds what that step left. -/
theorem before0_11 (c : Dev nD) (t : Fin cfg0.N) (h : 21 < t.val % 37) (d) :
    (dats m 0 c).before 11 t d = codesOf (planes m c (t.val / 37)) := by
  have hN : t.val < 111 := lt_of_lt_of_eq t.isLt (show cfg0.N = 111 from N_0)
  rw [Dat.before_out_traj (dats m 0 c) 11 rfl (fun _ _ => rfl) (fun t hz hi hf => by
      have hN : t.val < 111 := lt_of_lt_of_eq t.isLt (show cfg0.N = 111 from N_0)
      rw [fresh0_11 t] at hf
      have hf' : ¬ t.val % 37 ≤ 21 := of_decide_eq_false hf
      rw [after0_11, after0_11]
      have e : (t.val - 1) / 37 = t.val / 37 := by omega
      dsimp only
      rw [e]) t.val t rfl d,
    if_neg (by rw [fresh0_11 t]; exact fun hh => absurd (of_decide_eq_true hh) (by omega)), after0_11]
  have e : (t.val - 1) / 37 = t.val / 37 := by omega
  dsimp only
  rw [e]

/-- After the quantisation step the buffer of window 12 holds what that step left. -/
theorem before0_12 (c : Dev nD) (t : Fin cfg0.N) (h : 21 < t.val % 37) (d) :
    (dats m 0 c).before 12 t d = rowOf (planes m c (t.val / 37)) := by
  have hN : t.val < 111 := lt_of_lt_of_eq t.isLt (show cfg0.N = 111 from N_0)
  rw [Dat.before_out_traj (dats m 0 c) 12 rfl (fun _ _ => rfl) (fun t hz hi hf => by
      have hN : t.val < 111 := lt_of_lt_of_eq t.isLt (show cfg0.N = 111 from N_0)
      rw [fresh0_12 t] at hf
      have hf' : ¬ t.val % 37 ≤ 21 := of_decide_eq_false hf
      rw [after0_12, after0_12]
      have e : (t.val - 1) / 37 = t.val / 37 := by omega
      dsimp only
      rw [e]) t.val t rfl d,
    if_neg (by rw [fresh0_12 t]; exact fun hh => absurd (of_decide_eq_true hh) (by omega)), after0_12]
  have e : (t.val - 1) / 37 = t.val / 37 := by omega
  dsimp only
  rw [e]

/-! ## The scratch from point to point -/

theorem good_A (c : Dev nD) (t : Fin cfg0.N) (h : t.val % 37 < 21) (s s' : Vec F S21x768x256 .f32) (sc : Vec F S768x128 .f32)
    (hg : Good m c t.val s sc)
    (h1 : ∀ y : S21x768x256.Idx, (y 0).val = (grid0.coords t 1).val → s' y = upBlk m c t (ValueIdx.ix3 0 (y 1) (y 2)))
    (h2 : ∀ y : S21x768x256.Idx, (y 0).val ≠ (grid0.coords t 1).val → s' y = s y) : Good m c (t.val + 1) s' sc := by
  rw [coord1] at h1 h2
  have e1 : (t.val + 1) / 37 = t.val / 37 := by omega
  have e2 : (t.val + 1) % 37 = t.val % 37 + 1 := by omega
  refine ⟨fun y hy => ?_, fun hh => by omega⟩
  rw [e1]; rw [e2] at hy
  by_cases hy' : (y 0).val = t.val % 37
  · rw [h1 y hy']
    have e : 37 * (t.val / 37) + (y 0).val = t.val := by omega
    show _ = upBlk m c (pt (37 * (t.val / 37) + (y 0).val)) _
    rw [e, pt_val]
  · rw [h2 y hy']
    exact hg.1 y (by omega)

theorem good_full (c : Dev nD) (t : Fin cfg0.N) (h : t.val % 37 = 21) (s : Vec F S21x768x256 .f32) (sc : Vec F S768x128 .f32)
    (hg : Good m c t.val s sc) : s = planes m c (t.val / 37) :=
  funext fun y => hg.1 y (by rw [h]; exact (y 0).isLt)

theorem good_B (c : Dev nD) (t : Fin cfg0.N) (h : t.val % 37 = 21) :
    Good m c (t.val + 1) (planes m c (t.val / 37)) (scOf (planes m c (t.val / 37))) := by
  have e1 : (t.val + 1) / 37 = t.val / 37 := by omega
  refine ⟨fun y hy => by rw [e1], fun hh => by rw [e1]⟩

theorem good_C (c : Dev nD) (t : Fin cfg0.N) (h : 21 < t.val % 37) (s : Vec F S21x768x256 .f32) (sc : Vec F S768x128 .f32)
    (hg : Good m c t.val s sc) : Good m c (t.val + 1) s sc := by
  by_cases h36 : t.val % 37 = 36
  · have e : (t.val + 1) % 37 = 0 := by omega
    exact ⟨fun y hy => by omega, fun hh => by omega⟩
  · have e1 : (t.val + 1) / 37 = t.val / 37 := by omega
    refine ⟨fun y hy => ?_, fun _ => ?_⟩
    · rw [e1]; exact hg.1 y (by have := (y 0).isLt; have : (y 0).val < 21 := this; omega)
    · rw [e1]; exact hg.2 h

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t)

theorem leaves0_0 (c : Dev nD) (t : Fin cfg0.N) : (dats m 0 c).leavesExact 0 t = owns (c : Thread nD τ) (ms0_0 t) fullShare (iblk m c 0 t) := by
  unfold Dat.leavesExact; rw [liveAt0_0 t, after0_0]
theorem leaves0_1 (c : Dev nD) (t : Fin cfg0.N) : (dats m 0 c).leavesExact 1 t = owns (c : Thread nD τ) (ms0_1 t) fullShare (iblk m c 1 t) := by
  unfold Dat.leavesExact; rw [liveAt0_1 t, after0_1]
theorem leaves0_2 (c : Dev nD) (t : Fin cfg0.N) : (dats m 0 c).leavesExact 2 t = owns (c : Thread nD τ) (ms0_2 t) fullShare (iblk m c 2 t) := by
  unfold Dat.leavesExact; rw [liveAt0_2 t, after0_2]
theorem leaves0_3 (c : Dev nD) (t : Fin cfg0.N) : (dats m 0 c).leavesExact 3 t = owns (c : Thread nD τ) (ms0_3 t) fullShare (iblk m c 3 t) := by
  unfold Dat.leavesExact; rw [liveAt0_3 t, after0_3]
theorem leaves0_4 (c : Dev nD) (t : Fin cfg0.N) : (dats m 0 c).leavesExact 4 t = owns (c : Thread nD τ) (ms0_4 t) fullShare (iblk m c 4 t) := by
  unfold Dat.leavesExact; rw [liveAt0_4 t, after0_4]
theorem leaves0_5 (c : Dev nD) (t : Fin cfg0.N) : (dats m 0 c).leavesExact 5 t = owns (c : Thread nD τ) (ms0_5 t) fullShare (iblk m c 5 t) := by
  unfold Dat.leavesExact; rw [liveAt0_5 t, after0_5]
theorem leaves0_6 (c : Dev nD) (t : Fin cfg0.N) : (dats m 0 c).leavesExact 6 t = owns (c : Thread nD τ) (ms0_6 t) fullShare (iblk m c 6 t) := by
  unfold Dat.leavesExact; rw [liveAt0_6 t, after0_6]
theorem leaves0_7 (c : Dev nD) (t : Fin cfg0.N) : (dats m 0 c).leavesExact 7 t = owns (c : Thread nD τ) (ms0_7 t) fullShare (iblk m c 7 t) := by
  unfold Dat.leavesExact; rw [liveAt0_7 t, after0_7]
theorem leaves0_8 (c : Dev nD) (t : Fin cfg0.N) : (dats m 0 c).leavesExact 8 t = owns (c : Thread nD τ) (ms0_8 t) fullShare (iblk m c 8 t) := by
  unfold Dat.leavesExact; rw [liveAt0_8 t, after0_8]
theorem leaves0_9 (c : Dev nD) (t : Fin cfg0.N) : (dats m 0 c).leavesExact 9 t = owns (c : Thread nD τ) (ms0_9 t) fullShare (iblk m c 9 t) := by
  unfold Dat.leavesExact; rw [liveAt0_9 t, after0_9]
theorem leaves0_10 (c : Dev nD) (t : Fin cfg0.N) : (dats m 0 c).leavesExact 10 t = owns (c : Thread nD τ) (ms0_10 t) fullShare (iblk m c 10 t) := by
  unfold Dat.leavesExact; rw [liveAt0_10 t, after0_10]
theorem leaves0_11_live (c : Dev nD) (t : Fin cfg0.N) (h : t.val % 37 = 21) : (dats m 0 c).leavesExact 11 t = owns (c : Thread nD τ) (ms0_11 t) fullShare (codesOf (planes m c (t.val / 37))) := by
  unfold Dat.leavesExact; rw [show cfg0.idle 11 (cfg0.grid.coords t) = false from (idle0_11 t).trans (by simp [h]), after0_11]
theorem leaves0_11_idle (c : Dev nD) (t : Fin cfg0.N) (h : t.val % 37 ≠ 21) (h' : t.val % 37 ≠ 36) :
    (dats m 0 c).leavesExact 11 t = iprop(∃ d, owns (c : Thread nD τ) (ms0_11 t) fullShare ((dats m 0 c).before 11 t d)) :=
  Dat.leavesExact_idle (dats m 0 c) 11 t ((idle0_11 t).trans (by simp [h])) (by rw [← Bool.not_eq_true, flush0_11]; exact h')
theorem leaves0_12_live (c : Dev nD) (t : Fin cfg0.N) (h : t.val % 37 = 21) : (dats m 0 c).leavesExact 12 t = owns (c : Thread nD τ) (ms0_12 t) fullShare (rowOf (planes m c (t.val / 37))) := by
  unfold Dat.leavesExact; rw [show cfg0.idle 12 (cfg0.grid.coords t) = false from (idle0_12 t).trans (by simp [h]), after0_12]
theorem leaves0_12_idle (c : Dev nD) (t : Fin cfg0.N) (h : t.val % 37 ≠ 21) (h' : t.val % 37 ≠ 36) :
    (dats m 0 c).leavesExact 12 t = iprop(∃ d, owns (c : Thread nD τ) (ms0_12 t) fullShare ((dats m 0 c).before 12 t d)) :=
  Dat.leavesExact_idle (dats m 0 c) 12 t ((idle0_12 t).trans (by simp [h])) (by rw [← Bool.not_eq_true, flush0_12]; exact h')
theorem leaves0_13_live (c : Dev nD) (t : Fin cfg0.N) (h : 21 ≤ t.val % 37) : (dats m 0 c).leavesExact 13 t = owns (c : Thread nD τ) (ms0_13 t) fullShare (outBlk m c t) := by
  unfold Dat.leavesExact; rw [show cfg0.idle 13 (cfg0.grid.coords t) = false from (idle0_13 t).trans (by simp [Nat.not_lt.mpr h]), after0_13]
theorem leaves0_13_idle (c : Dev nD) (t : Fin cfg0.N) (h : t.val % 37 < 21) :
    (dats m 0 c).leavesExact 13 t = iprop(∃ d, owns (c : Thread nD τ) (ms0_13 t) fullShare ((dats m 0 c).before 13 t d)) :=
  Dat.leavesExact_idle (dats m 0 c) 13 t ((idle0_13 t).trans (by simp [h])) (noFlush0_13 t h)
/-- At the last step of a row block the window is written back: it holds what the quantisation step left. -/
theorem leaves0_11_late (c : Dev nD) (t : Fin cfg0.N) (h : 21 < t.val % 37) :
    owns (c : Thread nD τ) (ms0_11 t) fullShare (codesOf (planes m c (t.val / 37))) ⊢ (dats m 0 c).leavesExact 11 t := by
  by_cases h36 : t.val % 37 = 36
  · have hi : cfg0.idle 11 (cfg0.grid.coords t) = true := (idle0_11 t).trans (by simp; omega)
    unfold Dat.leavesExact
    rw [hi, (flush0_11 t).mpr h36]
    dsimp only
    rw [after0_11]
  · rw [leaves0_11_idle m c t (by omega) h36]
    iintro H
    iexists (default : (cfg0.win 11).block.Idx → Elt F (cfg0.win 11).elt)
    rw [before0_11 m c t h]
    iexact H
/-- At the last step of a row block the window is written back: it holds what the quantisation step left. -/
theorem leaves0_12_late (c : Dev nD) (t : Fin cfg0.N) (h : 21 < t.val % 37) :
    owns (c : Thread nD τ) (ms0_12 t) fullShare (rowOf (planes m c (t.val / 37))) ⊢ (dats m 0 c).leavesExact 12 t := by
  by_cases h36 : t.val % 37 = 36
  · have hi : cfg0.idle 12 (cfg0.grid.coords t) = true := (idle0_12 t).trans (by simp; omega)
    unfold Dat.leavesExact
    rw [hi, (flush0_12 t).mpr h36]
    dsimp only
    rw [after0_12]
  · rw [leaves0_12_idle m c t (by omega) h36]
    iintro H
    iexists (default : (cfg0.win 12).block.Idx → Elt F (cfg0.win 12).elt)
    rw [before0_12 m c t h]
    iexact H
set_option maxHeartbeats 4800000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, leaves0_0, leaves0_1, leaves0_2, leaves0_3, leaves0_4, leaves0_5, leaves0_6, leaves0_7, leaves0_8, leaves0_9, leaves0_10]
  rw [show (dats m 0 c).owesAt () t.succ = (dats m 0 c).owesAt () t.castSucc from rfl]
  rw [show (dats m 0 c).Φ t.succ = PhiN m c (t.val + 1) from rfl, show (dats m 0 c).Φ t.castSucc = PhiN m c t.val from rfl]
  unfold PhiN
  have hN : t.val < 111 := lt_of_lt_of_eq t.isLt (show cfg0.N = 111 from N_0)
  rcases lt_trichotomy (t.val % 37) 21 with h | h | h
  · rw [leaves0_11_idle m c t (by omega) (by omega), leaves0_12_idle m c t (by omega) (by omega), leaves0_13_idle m c t h]
    iintro ⟨⟨%s, %sc, %hg, HS, HC, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, H11, H12, H13⟩
    iapply (tripleA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) ((hcond1 t).mpr h) (fun hh => by have := (hcond2 t).mp hh; omega) (fun hh => by have := (hcond3 t).mp hh; omega)
      (iblk m c 0 t) (iblk m c 1 t) (iblk m c 2 t) (iblk m c 3 t) s Set.univ _)
    isplitl [H0]; · iexact H0
    isplitl [H1]; · iexact H1
    isplitl [H2]; · iexact H2
    isplitl [H3]; · iexact H3
    isplitl [HS]; · iexact HS
    iintro ⟨H0, H1, H2, H3, ⟨%s', %hs, HS⟩⟩
    isplitl [HS HC Hg]
    · iexists s'; iexists sc
      isplitr; · ipureintro; exact good_A m c t h s s' sc hg hs.1 hs.2
      isplitl [HS]; · iexact HS
      isplitl [HC]; · iexact HC
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  · rw [leaves0_11_live m c t h, leaves0_12_live m c t h, leaves0_13_live m c t (by omega)]
    iintro ⟨⟨%s, %sc, %hg, HS, HC, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    obtain rfl := good_full m c t h s sc hg
    iapply (tripleB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (fun hh => by have := (hcond1 t).mp hh; omega) ((hcond2 t).mpr h) ((hcond3 t).mpr (by omega))
      (iblk m c 4 t) (iblk m c 5 t) (iblk m c 6 t) (iblk m c 7 t) (iblk m c 8 t) (iblk m c 9 t) (iblk m c 10 t) (planes m c (t.val / 37)) Set.univ _)
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [H12]; · iexists _; iexact H12
    isplitl [H13]; · iexists _; iexact H13
    isplitl [HS]; · iexact HS
    isplitl [HC]; · iexists _; iexact HC
    iintro ⟨H4, H5, H6, H7, H8, H9, H10, H11, H12, H13, HS, HC⟩
    isplitl [HS HC Hg]
    · iexists _; iexists _
      isplitr; · ipureintro; exact good_B m c t h
      isplitl [HS]; · iexact HS
      isplitl [HC]; · iexact HC
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  · rw [leaves0_13_live m c t (by omega)]
    simp only [before0_11 m c t h, before0_12 m c t h]
    iintro ⟨⟨%s, %sc, %hg, HS, HC, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply (tripleC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (fun hh => by have := (hcond1 t).mp hh; omega) (fun hh => by have := (hcond2 t).mp hh; omega) ((hcond3 t).mpr (by omega))
      (iblk m c 4 t) (iblk m c 5 t) (iblk m c 6 t) (iblk m c 7 t) (iblk m c 8 t) (iblk m c 9 t) (iblk m c 10 t) (codesOf (planes m c (t.val / 37))) sc Set.univ _)
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H13]; · iexists _; iexact H13
    isplitl [HC]; · iexact HC
    iintro ⟨H4, H5, H6, H7, H8, H9, H10, H11, H13, HC⟩
    isplitl [HS HC Hg]
    · iexists s; iexists sc
      isplitr; · ipureintro; exact good_C m c t h s sc hg
      isplitl [HS]; · iexact HS
      isplitl [HC]; · iexact HC
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iapply (leaves0_11_late m c t h); iexact H11
    isplitl [H12]; · iapply (leaves0_12_late m c t h); iexact H12
    unfold outBlk; rw [← hg.2 h]
    iexact H13

theorem defs₀_row (t : Fin cfg0.N) :
    defs₀ (F := F) .tc cfg0.body (cfg0.bodyArgs t (cfg0.slots t)) = bodyAt0 t := by
  unfold defs₀; rw [Defs.onTc_tc]

/-- The body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiN m c 0 from rfl, PhiA0_eq]
  unfold PhiN
  iintro ⟨⟨⟨%s, HS⟩, ⟨%sc, HC⟩⟩, Hg⟩
  iexists s; iexists sc
  isplitr; · ipureintro; exact ⟨fun y hy => absurd hy (Nat.not_lt_zero _), fun hh => absurd hh (by omega)⟩
  isplitl [HS]; · iexact HS
  isplitl [HC]; · iexact HC
  iexact Hg

theorem hout (c : Dev nD) : (dats m 0 c).Φ (Fin.last cfg0.N) ⊢ Pipeline.ΦA spec0 c := by
  rw [show (dats m 0 c).Φ (Fin.last cfg0.N) = PhiN m c (Fin.last cfg0.N).val from rfl, PhiA0_eq]
  unfold PhiN
  iintro ⟨%s, %sc, %hg, HS, HC, Hg⟩
  isplitl [HS HC]
  · isplitl [HS]
    · iexists _; iexact HS
    iexists _; iexact HC
  iexact Hg

/-! ## The run and the frame -/

set_option backward.isDefEq.respectTransparency.types false in
/-- Every execution ends, with the arrays at what the proof data say and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The frame: the argument arrays end unchanged and every counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  θ_run_and (frame_of m ρ (dats m) (A_eq m) (run_main m ρ)) ((θ_run defs _ _).mono (fun _ h => h.2) (run_main_quiescent m ρ))

end Cert.Shared.Hand

end
-- ==== Proof.SharedIdeal.RunA.lean ====
module

public import proofs.«01_k».proof.Proof.Gen.SharedIdeal.Frame
public import proofs.«01_k».proof.Proof.Gen.SharedIdeal.Skeleton
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

/-! The body at the steps that fill one plane of the scratch -/

@[expose] public section

set_option maxRecDepth 16384

noncomputable section

namespace Cert.SharedIdeal.Hand

open Cert.SharedIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The body where `j < 21`: it stores the plane `j` of the scratch and nothing else. -/
noncomputable def runA (c : Dev nD) (i : grid0.Coords) (arg2 : Memref sig .tc .vmem S768x4096 .fp8e4m3) (harg2 : arg2.IsWhole) (arg3 : Memref sig .tc .vmem S768x128 .f32) (harg3 : arg3.IsWhole) (arg4 : Memref sig .tc .vmem S4096x256 .fp8e4m3) (harg4 : arg4.IsWhole) (arg5 : Memref sig .tc .vmem S1x256 .f32) (harg5 : arg5.IsWhole) (arg6 : Memref sig .tc .vmem S5376x256 .fp8e4m3) (harg6 : arg6.IsWhole) (arg7 : Memref sig .tc .vmem S1x256 .f32) (harg7 : arg7.IsWhole) (arg8 : Memref sig .tc .vmem S768x1024 .fp8e4m3) (harg8 : arg8.IsWhole) (arg9 : Memref sig .tc .vmem S768x128 .f32) (harg9 : arg9.IsWhole) (arg10 : Memref sig .tc .vmem S1024x256 .fp8e4m3) (harg10 : arg10.IsWhole) (arg11 : Memref sig .tc .vmem S1x256 .f32) (harg11 : arg11.IsWhole) (arg12 : Memref sig .tc .vmem S768x256 .f32) (harg12 : arg12.IsWhole) (arg13 : Memref sig .tc .vmem S768x5376 .fp8e4m3) (harg13 : arg13.IsWhole) (arg14 : Memref sig .tc .vmem S1x1x768 .f32) (harg14 : arg14.IsWhole) (arg15 : Memref sig .tc .vmem S768x256 .bf16) (harg15 : arg15.IsWhole) (arg16 : Memref sig .tc .vmem S21x768x256 .f32) (harg16 : arg16.IsWhole) (arg17 : Memref sig .tc .vmem S768x128 .f32) (harg17 : arg17.IsWhole) (hc1 : k0_cond1 i = 1#1) (hc2 : ¬k0_cond2 i = 1#1) (hc3 : ¬k0_cond3 i = 1#1)
    (x2 : Vec F S768x4096 .fp8e4m3) (x3 : Vec F S768x128 .f32) (x4 : Vec F S4096x256 .fp8e4m3) (x5 : Vec F S1x256 .f32) (x16 : Vec F S21x768x256 .f32) :
     { L16 : List (View.Piece (Elt F) S21x768x256 .f32) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg16 fullShare x16
            ∗ (iprop(owns (c : Thread nD τ) arg2 fullShare x2 ∗ owns (c : Thread nD τ) arg3 fullShare x3 ∗ owns (c : Thread nD τ) arg4 fullShare x4 ∗ owns (c : Thread nD τ) arg5 fullShare x5 ∗ (arg16.view.loc (c : Thread nD τ) ↦[arg16.view.set]{fullShare} arg16.view.writes (Elt F) (harg16.unread x16) L16)) -∗ K ⟨⟩))
          ⊢ wp frame (wpE (defs₀ (F := F)) Variants.none c none) E (cc0_shared i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, fun E K => ?run⟩
  case run =>
    simp only [cc0_shared_eq_skeleton]; unfold cc0_shared_skel
    unfold owns
    iintro ⟨⟨%f2, %hf2, H2⟩, ⟨%f3, %hf3, H3⟩, ⟨%f4, %hf4, H4⟩, ⟨%f5, %hf5, H5⟩, ⟨%f16, %hf16, H16⟩, Hk⟩
    obtain rfl := harg2.eq_unread hf2; obtain rfl := harg3.eq_unread hf3; obtain rfl := harg4.eq_unread hf4; obtain rfl := harg5.eq_unread hf5; obtain rfl := harg16.eq_unread hf16
    sl_exec (disch := first | sl_exact hc1 | sl_exact hc2 | sl_exact hc3)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    iexact H16

end Cert.SharedIdeal.Hand

end
-- ==== Proof.SharedIdeal.RunB.lean ====
module

public import proofs.«01_k».proof.Proof.Gen.SharedIdeal.Frame
public import proofs.«01_k».proof.Proof.Gen.SharedIdeal.Skeleton
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

/-! The body at the quantisation step -/

@[expose] public section

set_option maxRecDepth 16384

noncomputable section

namespace Cert.SharedIdeal.Hand

open Cert.SharedIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The body where `j = 21`: it stores the codes, the row of scales, the scale scratch and the output block. -/
noncomputable def runB (c : Dev nD) (i : grid0.Coords) (arg2 : Memref sig .tc .vmem S768x4096 .fp8e4m3) (harg2 : arg2.IsWhole) (arg3 : Memref sig .tc .vmem S768x128 .f32) (harg3 : arg3.IsWhole) (arg4 : Memref sig .tc .vmem S4096x256 .fp8e4m3) (harg4 : arg4.IsWhole) (arg5 : Memref sig .tc .vmem S1x256 .f32) (harg5 : arg5.IsWhole) (arg6 : Memref sig .tc .vmem S5376x256 .fp8e4m3) (harg6 : arg6.IsWhole) (arg7 : Memref sig .tc .vmem S1x256 .f32) (harg7 : arg7.IsWhole) (arg8 : Memref sig .tc .vmem S768x1024 .fp8e4m3) (harg8 : arg8.IsWhole) (arg9 : Memref sig .tc .vmem S768x128 .f32) (harg9 : arg9.IsWhole) (arg10 : Memref sig .tc .vmem S1024x256 .fp8e4m3) (harg10 : arg10.IsWhole) (arg11 : Memref sig .tc .vmem S1x256 .f32) (harg11 : arg11.IsWhole) (arg12 : Memref sig .tc .vmem S768x256 .f32) (harg12 : arg12.IsWhole) (arg13 : Memref sig .tc .vmem S768x5376 .fp8e4m3) (harg13 : arg13.IsWhole) (arg14 : Memref sig .tc .vmem S1x1x768 .f32) (harg14 : arg14.IsWhole) (arg15 : Memref sig .tc .vmem S768x256 .bf16) (harg15 : arg15.IsWhole) (arg16 : Memref sig .tc .vmem S21x768x256 .f32) (harg16 : arg16.IsWhole) (arg17 : Memref sig .tc .vmem S768x128 .f32) (harg17 : arg17.IsWhole) (hc1 : ¬k0_cond1 i = 1#1) (hc2 : k0_cond2 i = 1#1) (hc3 : k0_cond3 i = 1#1)
    (x6 : Vec F S5376x256 .fp8e4m3) (x7 : Vec F S1x256 .f32) (x8 : Vec F S768x1024 .fp8e4m3) (x9 : Vec F S768x128 .f32) (x10 : Vec F S1024x256 .fp8e4m3) (x11 : Vec F S1x256 .f32) (x12 : Vec F S768x256 .f32) (x16 : Vec F S21x768x256 .f32) :
    Σ' (L13 : List (View.Piece (Elt F) S768x5376 .fp8e4m3)), Σ' (L14 : List (View.Piece (Elt F) S1x1x768 .f32)), Σ' (L15 : List (View.Piece (Elt F) S768x256 .bf16)), { L17 : List (View.Piece (Elt F) S768x128 .f32) //
      ∀ (E : Set ℕ) (K : PUnit → sProp 𝕄),
        iprop(owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ (∃ d, owns (c : Thread nD τ) arg13 fullShare d) ∗ (∃ d, owns (c : Thread nD τ) arg14 fullShare d) ∗ (∃ d, owns (c : Thread nD τ) arg15 fullShare d) ∗ owns (c : Thread nD τ) arg16 fullShare x16 ∗ (∃ d, owns (c : Thread nD τ) arg17 fullShare d)
            ∗ (iprop(owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ (∃ f, arg13.view.loc (c : Thread nD τ) ↦[arg13.view.set]{fullShare} arg13.view.writes (Elt F) f L13) ∗ (∃ f, arg14.view.loc (c : Thread nD τ) ↦[arg14.view.set]{fullShare} arg14.view.writes (Elt F) f L14) ∗ (∃ f, arg15.view.loc (c : Thread nD τ) ↦[arg15.view.set]{fullShare} arg15.view.writes (Elt F) f L15) ∗ owns (c : Thread nD τ) arg16 fullShare x16 ∗ (∃ f, arg17.view.loc (c : Thread nD τ) ↦[arg17.view.set]{fullShare} arg17.view.writes (Elt F) f L17)) -∗ K ⟨⟩))
          ⊢ wp frame (wpE (defs₀ (F := F)) Variants.none c none) E (cc0_shared i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, ?_, fun E K => ?run⟩
  case run =>
    simp only [cc0_shared_eq_skeleton]; unfold cc0_shared_skel
    unfold owns
    iintro ⟨⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%f16, %hf16, H16⟩, ⟨%d17, %f17, -, H17⟩, Hk⟩
    obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg16.eq_unread hf16
    sl_exec (disch := first | sl_exact hc1 | sl_exact hc2 | sl_exact hc3)
    sl_step
    iapply Hk
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; iexact H13
    isplitl [H14]
    · iexists _; iexact H14
    isplitl [H15]
    · iexists _; iexact H15
    isplitl [H16]
    · iexists _; isplitr; · ipureintro; exact harg16.read_unread _
      iexact H16
    iexists _; iexact H17

end Cert.SharedIdeal.Hand

end
-- ==== Proof.SharedIdeal.RunC.lean ====
module

public import proofs.«01_k».proof.Proof.Gen.SharedIdeal.Frame
public import proofs.«01_k».proof.Proof.Gen.SharedIdeal.Skeleton
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

/-! The body at the steps after the quantisation -/

@[expose] public section

set_option maxRecDepth 16384

noncomputable section

namespace Cert.SharedIdeal.Hand

open Cert.SharedIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The body where `j > 21`: it stores the output block from the codes and the scale. -/
noncomputable def runC (c : Dev nD) (i : grid0.Coords) (arg2 : Memref sig .tc .vmem S768x4096 .fp8e4m3) (harg2 : arg2.IsWhole) (arg3 : Memref sig .tc .vmem S768x128 .f32) (harg3 : arg3.IsWhole) (arg4 : Memref sig .tc .vmem S4096x256 .fp8e4m3) (harg4 : arg4.IsWhole) (arg5 : Memref sig .tc .vmem S1x256 .f32) (harg5 : arg5.IsWhole) (arg6 : Memref sig .tc .vmem S5376x256 .fp8e4m3) (harg6 : arg6.IsWhole) (arg7 : Memref sig .tc .vmem S1x256 .f32) (harg7 : arg7.IsWhole) (arg8 : Memref sig .tc .vmem S768x1024 .fp8e4m3) (harg8 : arg8.IsWhole) (arg9 : Memref sig .tc .vmem S768x128 .f32) (harg9 : arg9.IsWhole) (arg10 : Memref sig .tc .vmem S1024x256 .fp8e4m3) (harg10 : arg10.IsWhole) (arg11 : Memref sig .tc .vmem S1x256 .f32) (harg11 : arg11.IsWhole) (arg12 : Memref sig .tc .vmem S768x256 .f32) (harg12 : arg12.IsWhole) (arg13 : Memref sig .tc .vmem S768x5376 .fp8e4m3) (harg13 : arg13.IsWhole) (arg14 : Memref sig .tc .vmem S1x1x768 .f32) (harg14 : arg14.IsWhole) (arg15 : Memref sig .tc .vmem S768x256 .bf16) (harg15 : arg15.IsWhole) (arg16 : Memref sig .tc .vmem S21x768x256 .f32) (harg16 : arg16.IsWhole) (arg17 : Memref sig .tc .vmem S768x128 .f32) (harg17 : arg17.IsWhole) (hc1 : ¬k0_cond1 i = 1#1) (hc2 : ¬k0_cond2 i = 1#1) (hc3 : k0_cond3 i = 1#1)
    (x6 : Vec F S5376x256 .fp8e4m3) (x7 : Vec F S1x256 .f32) (x8 : Vec F S768x1024 .fp8e4m3) (x9 : Vec F S768x128 .f32) (x10 : Vec F S1024x256 .fp8e4m3) (x11 : Vec F S1x256 .f32) (x12 : Vec F S768x256 .f32) (x13 : Vec F S768x5376 .fp8e4m3) (x17 : Vec F S768x128 .f32) :
     { L15 : List (View.Piece (Elt F) S768x256 .bf16) //
      ∀ (E : Set ℕ) (K : PUnit → sProp 𝕄),
        iprop(owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ (∃ d, owns (c : Thread nD τ) arg15 fullShare d) ∗ owns (c : Thread nD τ) arg17 fullShare x17
            ∗ (iprop(owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ (∃ f, arg15.view.loc (c : Thread nD τ) ↦[arg15.view.set]{fullShare} arg15.view.writes (Elt F) f L15) ∗ owns (c : Thread nD τ) arg17 fullShare x17) -∗ K ⟨⟩))
          ⊢ wp frame (wpE (defs₀ (F := F)) Variants.none c none) E (cc0_shared i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, fun E K => ?run⟩
  case run =>
    simp only [cc0_shared_eq_skeleton]; unfold cc0_shared_skel
    unfold owns
    iintro ⟨⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d15, %f15, -, H15⟩, ⟨%f17, %hf17, H17⟩, Hk⟩
    obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg17.eq_unread hf17
    sl_exec (disch := first | sl_exact hc1 | sl_exact hc2 | sl_exact hc3)
    sl_step
    iapply Hk
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H15]
    · iexists _; iexact H15
    iexists _; isplitr; · ipureintro; exact harg17.read_unread _
    iexact H17

end Cert.SharedIdeal.Hand

end
-- ==== Proof.SharedIdeal.Vals.lean ====
module

public import proofs.«01_k».proof.Proof.SharedIdeal.RunA
public import proofs.«01_k».proof.Proof.SharedIdeal.RunB
public import proofs.«01_k».proof.Proof.SharedIdeal.RunC
public import Idealize.ShloMosaic.Lib.Pipeline.Value
public import Idealize.ShloMosaic.Lib.WholeRead
public import Idealize.ShloMosaic.Lib.WritesUnit
public import Idealize.ShloMosaic.Lib.ValueIdxCore
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

/-! What one run of the body leaves, as functions of what it reads -/

@[expose] public section

set_option maxRecDepth 16384

noncomputable section

namespace Cert.SharedIdeal.Hand

open Cert.SharedIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The two scratch buffers, whole: the planes of activations and the scales. -/
abbrev scM0_0 : Memref sig .tc .vmem S21x768x256 .f32 := Memref.whole cc0_scratch0
abbrev scM0_1 : Memref sig .tc .vmem S768x128 .f32 := Memref.whole cc0_scratch1
theorem whole0 : scM0_0.IsWhole := Memref.isWhole_whole _
theorem whole1 : scM0_1.IsWhole := Memref.isWhole_whole _

/-- Offsets zero on both axes. -/
theorem off2 : (![0, 0] : Fin 2 → ℕ) = fun _ => 0 := by funext a; fin_cases a <;> rfl

/-- A load of a whole memref through the rectangle of the whole block reads the block. -/
theorem readAt_all {s : Shape} {e : EltTy} {M : Memref sig .tc .vmem s e} (h : M.IsWhole) (X : s.Idx → Elt F e)
    {off : Fin s.rank → ℕ} (ho : off = fun _ => 0) (inb : ∀ a, off a + s.size a ≤ s.size a) :
    View.readAt (Elt F) M.view (Rect.unit off s.size inb).toLoadRect (h.unread X) = X := by
  funext x
  rw [h.readAt_unread]
  exact congrFun (View.ld_unit_zero ho inb X) x

/-- One store of the whole block leaves its payload. -/
theorem read_one {s : Shape} {e : EltTy} (v : View sig .tc .vmem s e) (f : v.ty.Contents (Elt F))
    {off : Fin s.rank → ℕ} (ho : off = fun _ => 0) (inb : ∀ a, off a + s.size a ≤ s.size a) (w : s.Idx → Elt F e) :
    v.read (Elt F) (v.writes (Elt F) f [⟨Rect.unit off s.size inb, w⟩]) = w := by
  rw [View.read_writes_eq_canon _ _ _ (fun y => ⟨_, List.mem_singleton_self _, View.mem_set_unit_zero ho inb y⟩), View.canon_unit_zero ho]

/-- The first column of a block of 128 equal columns. -/
def colOf (x : Vec F S768x128 .f32) : Vec F S768x1 .f32 :=
  View.ld x (Rect.unit (s := S768x128) ![0, 0] S768x1.size inb_S768x128_S768x1_0_0)

theorem readAt_col {M : Memref sig .tc .vmem S768x128 .f32} (h : M.IsWhole) (X : Vec F S768x128 .f32) :
    View.readAt (Elt F) M.view (Rect.unit (s := S768x128) ![0, 0] S768x1.size inb_S768x128_S768x1_0_0).toLoadRect (h.unread X) = colOf X := by
  funext x; exact h.readAt_unread X _ x

/-- The plane `k` of the scratch, as loaded. -/
def rd (s : Vec F S21x768x256 .f32) (k : ℕ) (h : ∀ a, (![k, 0, 0] : Fin 3 → ℕ) a + S1x768x256.size a ≤ S21x768x256.size a) : Vec F S1x768x256 .f32 :=
  View.readAt (Elt F) scM0_0.view (Rect.unit (s := S21x768x256) ![k, 0, 0] S1x768x256.size h).toLoadRect (whole0.unread s)

/-- The maximum over the planes 0 to 18, from zero. -/
def mx (s : Vec F S21x768x256 .f32) : FVec F S768x256 .f32 :=
  k0_pay5 (k0_pay4 (rd s 0 inb_S21x768x256_S1x768x256_0_0_0) (rd s 1 inb_S21x768x256_S1x768x256_1_0_0) (rd s 2 inb_S21x768x256_S1x768x256_2_0_0) (rd s 3 inb_S21x768x256_S1x768x256_3_0_0) (rd s 4 inb_S21x768x256_S1x768x256_4_0_0) (rd s 5 inb_S21x768x256_S1x768x256_5_0_0) (rd s 6 inb_S21x768x256_S1x768x256_6_0_0) (rd s 7 inb_S21x768x256_S1x768x256_7_0_0) (rd s 8 inb_S21x768x256_S1x768x256_8_0_0)) (rd s 9 inb_S21x768x256_S1x768x256_9_0_0) (rd s 10 inb_S21x768x256_S1x768x256_10_0_0) (rd s 11 inb_S21x768x256_S1x768x256_11_0_0) (rd s 12 inb_S21x768x256_S1x768x256_12_0_0) (rd s 13 inb_S21x768x256_S1x768x256_13_0_0) (rd s 14 inb_S21x768x256_S1x768x256_14_0_0) (rd s 15 inb_S21x768x256_S1x768x256_15_0_0) (rd s 16 inb_S21x768x256_S1x768x256_16_0_0) (rd s 17 inb_S21x768x256_S1x768x256_17_0_0) (rd s 18 inb_S21x768x256_S1x768x256_18_0_0)

/-- The column of scales. -/
def scale1 (s : Vec F S21x768x256 .f32) : FVec F S768x1 .f32 := k0_pay6 (mx s) (rd s 19 inb_S21x768x256_S1x768x256_19_0_0) (rd s 20 inb_S21x768x256_S1x768x256_20_0_0)

/-- The 21 column pieces of the codes. -/
def codePieces (s : Vec F S21x768x256 .f32) : List (View.Piece (Elt F) S768x5376 .fp8e4m3) :=
  [⟨Rect.unit (s := S768x5376) ![0, 5120] S768x256.size inb_S768x5376_S768x256_0_5120, k0_pay2 (scale1 s) (rd s 20 inb_S21x768x256_S1x768x256_20_0_0)⟩,
   ⟨Rect.unit (s := S768x5376) ![0, 4864] S768x256.size inb_S768x5376_S768x256_0_4864, k0_pay2 (scale1 s) (rd s 19 inb_S21x768x256_S1x768x256_19_0_0)⟩,
   ⟨Rect.unit (s := S768x5376) ![0, 4608] S768x256.size inb_S768x5376_S768x256_0_4608, k0_pay2 (scale1 s) (rd s 18 inb_S21x768x256_S1x768x256_18_0_0)⟩,
   ⟨Rect.unit (s := S768x5376) ![0, 4352] S768x256.size inb_S768x5376_S768x256_0_4352, k0_pay2 (scale1 s) (rd s 17 inb_S21x768x256_S1x768x256_17_0_0)⟩,
   ⟨Rect.unit (s := S768x5376) ![0, 4096] S768x256.size inb_S768x5376_S768x256_0_4096, k0_pay2 (scale1 s) (rd s 16 inb_S21x768x256_S1x768x256_16_0_0)⟩,
   ⟨Rect.unit (s := S768x5376) ![0, 3840] S768x256.size inb_S768x5376_S768x256_0_3840, k0_pay2 (scale1 s) (rd s 15 inb_S21x768x256_S1x768x256_15_0_0)⟩,
   ⟨Rect.unit (s := S768x5376) ![0, 3584] S768x256.size inb_S768x5376_S768x256_0_3584, k0_pay2 (scale1 s) (rd s 14 inb_S21x768x256_S1x768x256_14_0_0)⟩,
   ⟨Rect.unit (s := S768x5376) ![0, 3328] S768x256.size inb_S768x5376_S768x256_0_3328, k0_pay2 (scale1 s) (rd s 13 inb_S21x768x256_S1x768x256_13_0_0)⟩,
   ⟨Rect.unit (s := S768x5376) ![0, 3072] S768x256.size inb_S768x5376_S768x256_0_3072, k0_pay2 (scale1 s) (rd s 12 inb_S21x768x256_S1x768x256_12_0_0)⟩,
   ⟨Rect.unit (s := S768x5376) ![0, 2816] S768x256.size inb_S768x5376_S768x256_0_2816, k0_pay2 (scale1 s) (rd s 11 inb_S21x768x256_S1x768x256_11_0_0)⟩,
   ⟨Rect.unit (s := S768x5376) ![0, 2560] S768x256.size inb_S768x5376_S768x256_0_2560, k0_pay2 (scale1 s) (rd s 10 inb_S21x768x256_S1x768x256_10_0_0)⟩,
   ⟨Rect.unit (s := S768x5376) ![0, 2304] S768x256.size inb_S768x5376_S768x256_0_2304, k0_pay2 (scale1 s) (rd s 9 inb_S21x768x256_S1x768x256_9_0_0)⟩,
   ⟨Rect.unit (s := S768x5376) ![0, 2048] S768x256.size inb_S768x5376_S768x256_0_2048, k0_pay2 (scale1 s) (rd s 8 inb_S21x768x256_S1x768x256_8_0_0)⟩,
   ⟨Rect.unit (s := S768x5376) ![0, 1792] S768x256.size inb_S768x5376_S768x256_0_1792, k0_pay2 (scale1 s) (rd s 7 inb_S21x768x256_S1x768x256_7_0_0)⟩,
   ⟨Rect.unit (s := S768x5376) ![0, 1536] S768x256.size inb_S768x5376_S768x256_0_1536, k0_pay2 (scale1 s) (rd s 6 inb_S21x768x256_S1x768x256_6_0_0)⟩,
   ⟨Rect.unit (s := S768x5376) ![0, 1280] S768x256.size inb_S768x5376_S768x256_0_1280, k0_pay2 (scale1 s) (rd s 5 inb_S21x768x256_S1x768x256_5_0_0)⟩,
   ⟨Rect.unit (s := S768x5376) ![0, 1024] S768x256.size inb_S768x5376_S768x256_0_1024, k0_pay2 (scale1 s) (rd s 4 inb_S21x768x256_S1x768x256_4_0_0)⟩,
   ⟨Rect.unit (s := S768x5376) ![0, 768] S768x256.size inb_S768x5376_S768x256_0_768, k0_pay2 (scale1 s) (rd s 3 inb_S21x768x256_S1x768x256_3_0_0)⟩,
   ⟨Rect.unit (s := S768x5376) ![0, 512] S768x256.size inb_S768x5376_S768x256_0_512, k0_pay2 (scale1 s) (rd s 2 inb_S21x768x256_S1x768x256_2_0_0)⟩,
   ⟨Rect.unit (s := S768x5376) ![0, 256] S768x256.size inb_S768x5376_S768x256_0_256, k0_pay2 (scale1 s) (rd s 1 inb_S21x768x256_S1x768x256_1_0_0)⟩,
   ⟨Rect.unit (s := S768x5376) ![0, 0] S768x256.size inb_S768x5376_S768x256_0_0, k0_pay2 (scale1 s) (rd s 0 inb_S21x768x256_S1x768x256_0_0_0)⟩]

/-- The codes a scratch `s` quantises to: the 21 column pieces side by side. -/
def codesOf (s : Vec F S21x768x256 .f32) : Vec F S768x5376 .fp8e4m3 := View.canon (codePieces s)

/-- The column of 128 equal scales. -/
def scOf (s : Vec F S21x768x256 .f32) : Vec F S768x128 .f32 := k0_pay7 (mx s) (rd s 19 inb_S21x768x256_S1x768x256_19_0_0) (rd s 20 inb_S21x768x256_S1x768x256_20_0_0)

/-- The three pieces of the row of scales. -/
def rowPieces (s : Vec F S21x768x256 .f32) : List (View.Piece (Elt F) S1x1x768 .f32) :=
  [⟨Rect.unit (s := S1x1x768) ![0, 0, 512] S1x1x256.size inb_S1x1x768_S1x1x256_0_0_512, k0_pay11 (k0_pay10 (mx s) (rd s 19 inb_S21x768x256_S1x768x256_19_0_0) (rd s 20 inb_S21x768x256_S1x768x256_20_0_0))⟩,
   ⟨Rect.unit (s := S1x1x768) ![0, 0, 256] S1x1x256.size inb_S1x1x768_S1x1x256_0_0_256, k0_pay9 (mx s) (rd s 19 inb_S21x768x256_S1x768x256_19_0_0) (rd s 20 inb_S21x768x256_S1x768x256_20_0_0)⟩,
   ⟨Rect.unit (s := S1x1x768) ![0, 0, 0] S1x1x256.size inb_S1x1x768_S1x1x256_0_0_0, k0_pay8 (mx s) (rd s 19 inb_S21x768x256_S1x768x256_19_0_0) (rd s 20 inb_S21x768x256_S1x768x256_20_0_0)⟩]

/-- The row of scales. -/
def rowOf (s : Vec F S21x768x256 .f32) : Vec F S1x1x768 .f32 := View.canon (rowPieces s)

/-- The output block of one grid step, from the codes, the scales and the other operands. -/
def outOf (q : Vec F S768x5376 .fp8e4m3) (sc : Vec F S768x128 .f32) (x6 : Vec F S5376x256 .fp8e4m3) (x7 : Vec F S1x256 .f32) (x8 : Vec F S768x1024 .fp8e4m3) (x9 : Vec F S768x128 .f32) (x10 : Vec F S1024x256 .fp8e4m3) (x11 : Vec F S1x256 .f32) (x12 : Vec F S768x256 .f32) : Vec F S768x256 .bf16 :=
  k0_pay3 q x6 (colOf sc) x7 x8 x10 (colOf x9) x11 x12

/-- One plane of activations. -/
def planeOf (x2 : Vec F S768x4096 .fp8e4m3) (x3 : Vec F S768x128 .f32) (x4 : Vec F S4096x256 .fp8e4m3) (x5 : Vec F S1x256 .f32) : Vec F S1x768x256 .f32 :=
  k0_pay1 x2 x4 (colOf x3) x5

theorem cover_codes (s : Vec F S21x768x256 .f32) (y : S768x5376.Idx) :
    ∃ pc ∈ codePieces s, y ∈ pc.1.set :=
  View.cover_of_tiledL (codePieces s) S768x256.size (by sl_kernel_rfl) y

theorem cover_row (s : Vec F S21x768x256 .f32) (y : S1x1x768.Idx) :
    ∃ pc ∈ rowPieces s, y ∈ pc.1.set :=
  View.cover_of_tiledL (rowPieces s) S1x1x256.size (by sl_kernel_rfl) y

set_option maxHeartbeats 1000000 in
/-- At a step `j < 21` the plane `j` of the scratch becomes the activations of this step, the other planes stay. -/
theorem tripleA (c : Dev nD) (i : grid0.Coords) (arg2 : Memref sig .tc .vmem S768x4096 .fp8e4m3) (harg2 : arg2.IsWhole) (arg3 : Memref sig .tc .vmem S768x128 .f32) (harg3 : arg3.IsWhole) (arg4 : Memref sig .tc .vmem S4096x256 .fp8e4m3) (harg4 : arg4.IsWhole) (arg5 : Memref sig .tc .vmem S1x256 .f32) (harg5 : arg5.IsWhole) (arg6 : Memref sig .tc .vmem S5376x256 .fp8e4m3) (harg6 : arg6.IsWhole) (arg7 : Memref sig .tc .vmem S1x256 .f32) (harg7 : arg7.IsWhole) (arg8 : Memref sig .tc .vmem S768x1024 .fp8e4m3) (harg8 : arg8.IsWhole) (arg9 : Memref sig .tc .vmem S768x128 .f32) (harg9 : arg9.IsWhole) (arg10 : Memref sig .tc .vmem S1024x256 .fp8e4m3) (harg10 : arg10.IsWhole) (arg11 : Memref sig .tc .vmem S1x256 .f32) (harg11 : arg11.IsWhole) (arg12 : Memref sig .tc .vmem S768x256 .f32) (harg12 : arg12.IsWhole) (arg13 : Memref sig .tc .vmem S768x5376 .fp8e4m3) (harg13 : arg13.IsWhole) (arg14 : Memref sig .tc .vmem S1x1x768 .f32) (harg14 : arg14.IsWhole) (arg15 : Memref sig .tc .vmem S768x256 .bf16) (harg15 : arg15.IsWhole) (hc1 : k0_cond1 i = 1#1) (hc2 : ¬k0_cond2 i = 1#1) (hc3 : ¬k0_cond3 i = 1#1) (x2 : Vec F S768x4096 .fp8e4m3) (x3 : Vec F S768x128 .f32) (x4 : Vec F S4096x256 .fp8e4m3) (x5 : Vec F S1x256 .f32) (x16 : Vec F S21x768x256 .f32) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) scM0_0 fullShare x16
        ∗ (iprop(owns (c : Thread nD τ) arg2 fullShare x2 ∗ owns (c : Thread nD τ) arg3 fullShare x3 ∗ owns (c : Thread nD τ) arg4 fullShare x4 ∗ owns (c : Thread nD τ) arg5 fullShare x5 ∗ (∃ s, ⌜(∀ y : S21x768x256.Idx, (y 0).val = (i 1).val → s y = planeOf x2 x3 x4 x5 (ValueIdx.ix3 0 (y 1) (y 2))) ∧ (∀ y : S21x768x256.Idx, (y 0).val ≠ (i 1).val → s y = x16 y)⌝ ∗ owns (c : Thread nD τ) scM0_0 fullShare s)) -∗ K ⟨⟩))
      ⊢ wp frame (wpE (defs₀ (F := F)) Variants.none c none) E (cc0_shared i arg2 harg2 arg3 harg3 arg4 harg4 arg5 harg5 arg6 harg6 arg7 harg7 arg8 harg8 arg9 harg9 arg10 harg10 arg11 harg11 arg12 harg12 arg13 harg13 arg14 harg14 arg15 harg15 scM0_0 whole0 scM0_1 whole1) K := by
  iintro ⟨H2, H3, H4, H5, H16, Hk⟩
  iapply ((runA c i arg2 harg2 arg3 harg3 arg4 harg4 arg5 harg5 arg6 harg6 arg7 harg7 arg8 harg8 arg9 harg9 arg10 harg10 arg11 harg11 arg12 harg12 arg13 harg13 arg14 harg14 arg15 harg15 scM0_0 whole0 scM0_1 whole1 hc1 hc2 hc3 x2 x3 x4 x5 x16).2 E K)
  isplitl [H2]; · iexact H2
  isplitl [H3]; · iexact H3
  isplitl [H4]; · iexact H4
  isplitl [H5]; · iexact H5
  isplitl [H16]; · iexact H16
  iintro ⟨H2, H3, H4, H5, H16⟩
  iapply Hk
  isplitl [H2]; · iexact H2
  isplitl [H3]; · iexact H3
  isplitl [H4]; · iexact H4
  isplitl [H5]; · iexact H5
  iexists (scM0_0.view.read (Elt F) (scM0_0.view.writes (Elt F) (whole0.unread x16) (runA c i arg2 harg2 arg3 harg3 arg4 harg4 arg5 harg5 arg6 harg6 arg7 harg7 arg8 harg8 arg9 harg9 arg10 harg10 arg11 harg11 arg12 harg12 arg13 harg13 arg14 harg14 arg15 harg15 scM0_0 whole0 scM0_1 whole1 hc1 hc2 hc3 x2 x3 x4 x5 x16).1))
  isplitr
  · ipureintro
    unfold runA; dsimp only
    have e2 := readAt_all (F := F) harg2 x2 off2 inb_S768x4096_S768x4096_0_0
    have e4 := readAt_all (F := F) harg4 x4 off2 inb_S4096x256_S4096x256_0_0
    have e5 := readAt_all (F := F) harg5 x5 off2 inb_S1x256_S1x256_0_0
    have e3 := readAt_col (F := F) harg3 x3
    refine ⟨fun y hy => ?_, fun y hy => ?_⟩
    · refine (View.read_writes_cons_unit_of_mem _ _ _ _ _ _ (ValueIdx.ix3 0 (y 1) (y 2)) (k0_off1_eq i) (fun a => ?_)).trans ?_
      · fin_cases a
        · exact hy
        · exact (Nat.zero_add _).symm
        · exact (Nat.zero_add _).symm
      · rw [e2, e4, e5, e3]; rfl
    · refine (View.read_writes_cons_unit_of_not_mem _ _ _ _ _ _ (k0_off1_eq i) (0 : Fin 3) ?_).trans ?_
      · show (y 0).val < (i 1).val ∨ (i 1).val + 1 ≤ (y 0).val
        omega
      · exact congrFun (whole0.read_unread x16) y
  · unfold owns; iexists _; isplitr
    swap; · iexact H16
    ipureintro; rfl

set_option maxHeartbeats 1000000 in
/-- At the step `j = 21` the codes, the row of scales, the scales and the output block are those of the scratch. -/
theorem tripleB (c : Dev nD) (i : grid0.Coords) (arg2 : Memref sig .tc .vmem S768x4096 .fp8e4m3) (harg2 : arg2.IsWhole) (arg3 : Memref sig .tc .vmem S768x128 .f32) (harg3 : arg3.IsWhole) (arg4 : Memref sig .tc .vmem S4096x256 .fp8e4m3) (harg4 : arg4.IsWhole) (arg5 : Memref sig .tc .vmem S1x256 .f32) (harg5 : arg5.IsWhole) (arg6 : Memref sig .tc .vmem S5376x256 .fp8e4m3) (harg6 : arg6.IsWhole) (arg7 : Memref sig .tc .vmem S1x256 .f32) (harg7 : arg7.IsWhole) (arg8 : Memref sig .tc .vmem S768x1024 .fp8e4m3) (harg8 : arg8.IsWhole) (arg9 : Memref sig .tc .vmem S768x128 .f32) (harg9 : arg9.IsWhole) (arg10 : Memref sig .tc .vmem S1024x256 .fp8e4m3) (harg10 : arg10.IsWhole) (arg11 : Memref sig .tc .vmem S1x256 .f32) (harg11 : arg11.IsWhole) (arg12 : Memref sig .tc .vmem S768x256 .f32) (harg12 : arg12.IsWhole) (arg13 : Memref sig .tc .vmem S768x5376 .fp8e4m3) (harg13 : arg13.IsWhole) (arg14 : Memref sig .tc .vmem S1x1x768 .f32) (harg14 : arg14.IsWhole) (arg15 : Memref sig .tc .vmem S768x256 .bf16) (harg15 : arg15.IsWhole) (hc1 : ¬k0_cond1 i = 1#1) (hc2 : k0_cond2 i = 1#1) (hc3 : k0_cond3 i = 1#1) (x6 : Vec F S5376x256 .fp8e4m3) (x7 : Vec F S1x256 .f32) (x8 : Vec F S768x1024 .fp8e4m3) (x9 : Vec F S768x128 .f32) (x10 : Vec F S1024x256 .fp8e4m3) (x11 : Vec F S1x256 .f32) (x12 : Vec F S768x256 .f32) (x16 : Vec F S21x768x256 .f32) (E : Set ℕ) (K : PUnit → sProp 𝕄) :
    iprop(owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ (∃ d, owns (c : Thread nD τ) arg13 fullShare d) ∗ (∃ d, owns (c : Thread nD τ) arg14 fullShare d) ∗ (∃ d, owns (c : Thread nD τ) arg15 fullShare d) ∗ owns (c : Thread nD τ) scM0_0 fullShare x16 ∗ (∃ d, owns (c : Thread nD τ) scM0_1 fullShare d)
        ∗ (iprop(owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare (codesOf x16) ∗ owns (c : Thread nD τ) arg14 fullShare (rowOf x16) ∗ owns (c : Thread nD τ) arg15 fullShare (outOf (codesOf x16) (scOf x16) x6 x7 x8 x9 x10 x11 x12) ∗ owns (c : Thread nD τ) scM0_0 fullShare x16 ∗ owns (c : Thread nD τ) scM0_1 fullShare (scOf x16)) -∗ K ⟨⟩))
      ⊢ wp frame (wpE (defs₀ (F := F)) Variants.none c none) E (cc0_shared i arg2 harg2 arg3 harg3 arg4 harg4 arg5 harg5 arg6 harg6 arg7 harg7 arg8 harg8 arg9 harg9 arg10 harg10 arg11 harg11 arg12 harg12 arg13 harg13 arg14 harg14 arg15 harg15 scM0_0 whole0 scM0_1 whole1) K := by
  iintro ⟨H6, H7, H8, H9, H10, H11, H12, H13, H14, H15, H16, H17, Hk⟩
  iapply ((runB c i arg2 harg2 arg3 harg3 arg4 harg4 arg5 harg5 arg6 harg6 arg7 harg7 arg8 harg8 arg9 harg9 arg10 harg10 arg11 harg11 arg12 harg12 arg13 harg13 arg14 harg14 arg15 harg15 scM0_0 whole0 scM0_1 whole1 hc1 hc2 hc3 x6 x7 x8 x9 x10 x11 x12 x16).2.2.2.2 E K)
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iintro ⟨H6, H7, H8, H9, H10, H11, H12, ⟨%f13, H13⟩, ⟨%f14, H14⟩, ⟨%f15, H15⟩, H16, ⟨%f17, H17⟩⟩
  iapply Hk
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]
  · unfold owns; iexists _; isplitr
    swap; · iexact H13
    ipureintro; exact (congrArg (fun L => arg13.view.read (Elt F) (arg13.view.writes (Elt F) f13 L)) (show (runB c i arg2 harg2 arg3 harg3 arg4 harg4 arg5 harg5 arg6 harg6 arg7 harg7 arg8 harg8 arg9 harg9 arg10 harg10 arg11 harg11 arg12 harg12 arg13 harg13 arg14 harg14 arg15 harg15 scM0_0 whole0 scM0_1 whole1 hc1 hc2 hc3 x6 x7 x8 x9 x10 x11 x12 x16).1 = codePieces x16 from by sl_kernel_rfl)).trans (View.read_writes_eq_canon _ _ _ (cover_codes x16))
  isplitl [H14]
  · unfold owns; iexists _; isplitr
    swap; · iexact H14
    ipureintro; exact (congrArg (fun L => arg14.view.read (Elt F) (arg14.view.writes (Elt F) f14 L)) (show (runB c i arg2 harg2 arg3 harg3 arg4 harg4 arg5 harg5 arg6 harg6 arg7 harg7 arg8 harg8 arg9 harg9 arg10 harg10 arg11 harg11 arg12 harg12 arg13 harg13 arg14 harg14 arg15 harg15 scM0_0 whole0 scM0_1 whole1 hc1 hc2 hc3 x6 x7 x8 x9 x10 x11 x12 x16).2.1 = rowPieces x16 from by sl_kernel_rfl)).trans (View.read_writes_eq_canon _ _ _ (cover_row x16))
  isplitl [H15]
  · unfold owns; iexists _; isplitr
    swap; · iexact H15
    ipureintro; have e6 := readAt_all (F := F) harg6 x6 off2 inb_S5376x256_S5376x256_0_0
    have e7 := readAt_all (F := F) harg7 x7 off2 inb_S1x256_S1x256_0_0
    have e8 := readAt_all (F := F) harg8 x8 off2 inb_S768x1024_S768x1024_0_0
    have e9 := readAt_col (F := F) harg9 x9
    have e10 := readAt_all (F := F) harg10 x10 off2 inb_S1024x256_S1024x256_0_0
    have e11 := readAt_all (F := F) harg11 x11 off2 inb_S1x256_S1x256_0_0
    have e12 := readAt_all (F := F) harg12 x12 off2 inb_S768x256_S768x256_0_0
    have eq : arg13.view.readCov (codePieces x16) (Rect.unit (s := S768x5376) ![0, 0] S768x5376.size inb_S768x5376_S768x5376_0_0).toLoadRect = codesOf x16 := by
      rw [View.readCov_eq_canon_ld _ _ _ (cover_codes x16)]
      exact View.ld_unit_zero off2 _ _
    have es : scM0_1.view.readCov [(⟨Rect.unit ![0, 0] S768x128.size inb_S768x128_S768x128_0_0, scOf x16⟩ : View.Piece (Elt F) S768x128 .f32)] (Rect.unit (s := S768x128) ![0, 0] S768x1.size inb_S768x128_S768x1_0_0).toLoadRect = colOf (scOf x16) := by
      rw [View.readCov_eq_canon', View.canon_unit_zero off2]
      rfl
    have eL : (runB c i arg2 harg2 arg3 harg3 arg4 harg4 arg5 harg5 arg6 harg6 arg7 harg7 arg8 harg8 arg9 harg9 arg10 harg10 arg11 harg11 arg12 harg12 arg13 harg13 arg14 harg14 arg15 harg15 scM0_0 whole0 scM0_1 whole1 hc1 hc2 hc3 x6 x7 x8 x9 x10 x11 x12 x16).2.2.1 = [⟨Rect.unit ![0, 0] S768x256.size inb_S768x256_S768x256_0_0, k0_pay3
        (arg13.view.readCov (codePieces x16) (Rect.unit (s := S768x5376) ![0, 0] S768x5376.size inb_S768x5376_S768x5376_0_0).toLoadRect)
        (View.readAt (Elt F) arg6.view (Rect.unit ![0, 0] S5376x256.size inb_S5376x256_S5376x256_0_0).toLoadRect (harg6.unread x6))
        (scM0_1.view.readCov [(⟨Rect.unit ![0, 0] S768x128.size inb_S768x128_S768x128_0_0, scOf x16⟩ : View.Piece (Elt F) S768x128 .f32)] (Rect.unit (s := S768x128) ![0, 0] S768x1.size inb_S768x128_S768x1_0_0).toLoadRect)
        (View.readAt (Elt F) arg7.view (Rect.unit ![0, 0] S1x256.size inb_S1x256_S1x256_0_0).toLoadRect (harg7.unread x7))
        (View.readAt (Elt F) arg8.view (Rect.unit ![0, 0] S768x1024.size inb_S768x1024_S768x1024_0_0).toLoadRect (harg8.unread x8))
        (View.readAt (Elt F) arg10.view (Rect.unit ![0, 0] S1024x256.size inb_S1024x256_S1024x256_0_0).toLoadRect (harg10.unread x10))
        (View.readAt (Elt F) arg9.view (Rect.unit (s := S768x128) ![0, 0] S768x1.size inb_S768x128_S768x1_0_0).toLoadRect (harg9.unread x9))
        (View.readAt (Elt F) arg11.view (Rect.unit ![0, 0] S1x256.size inb_S1x256_S1x256_0_0).toLoadRect (harg11.unread x11))
        (View.readAt (Elt F) arg12.view (Rect.unit ![0, 0] S768x256.size inb_S768x256_S768x256_0_0).toLoadRect (harg12.unread x12))⟩] := by sl_kernel_rfl
    rw [eL]
    refine (read_one _ _ off2 _ _).trans ?_
    rw [e6, e7, e8, e9, e10, e11, e12, eq, es]; rfl
  isplitl [H16]; · iexact H16
  unfold owns; iexists _; isplitr
  swap; · iexact H17
  ipureintro
  refine (congrArg (fun L => scM0_1.view.read (Elt F) (scM0_1.view.writes (Elt F) f17 L)) (show (runB c i arg2 harg2 arg3 harg3 arg4 harg4 arg5 harg5 arg6 harg6 arg7 harg7 arg8 harg8 arg9 harg9 arg10 harg10 arg11 harg11 arg12 harg12 arg13 harg13 arg14 harg14 arg15 harg15 scM0_0 whole0 scM0_1 whole1 hc1 hc2 hc3 x6 x7 x8 x9 x10 x11 x12 x16).2.2.2.1 = [⟨Rect.unit ![0, 0] S768x128.size inb_S768x128_S768x128_0_0, scOf x16⟩] from by sl_kernel_rfl)).trans ?_
  exact read_one _ _ off2 _ _

set_option maxHeartbeats 1000000 in
/-- At a step `j > 21` the output block is that of the codes and scales found. -/
theorem tripleC (c : Dev nD) (i : grid0.Coords) (arg2 : Memref sig .tc .vmem S768x4096 .fp8e4m3) (harg2 : arg2.IsWhole) (arg3 : Memref sig .tc .vmem S768x128 .f32) (harg3 : arg3.IsWhole) (arg4 : Memref sig .tc .vmem S4096x256 .fp8e4m3) (harg4 : arg4.IsWhole) (arg5 : Memref sig .tc .vmem S1x256 .f32) (harg5 : arg5.IsWhole) (arg6 : Memref sig .tc .vmem S5376x256 .fp8e4m3) (harg6 : arg6.IsWhole) (arg7 : Memref sig .tc .vmem S1x256 .f32) (harg7 : arg7.IsWhole) (arg8 : Memref sig .tc .vmem S768x1024 .fp8e4m3) (harg8 : arg8.IsWhole) (arg9 : Memref sig .tc .vmem S768x128 .f32) (harg9 : arg9.IsWhole) (arg10 : Memref sig .tc .vmem S1024x256 .fp8e4m3) (harg10 : arg10.IsWhole) (arg11 : Memref sig .tc .vmem S1x256 .f32) (harg11 : arg11.IsWhole) (arg12 : Memref sig .tc .vmem S768x256 .f32) (harg12 : arg12.IsWhole) (arg13 : Memref sig .tc .vmem S768x5376 .fp8e4m3) (harg13 : arg13.IsWhole) (arg14 : Memref sig .tc .vmem S1x1x768 .f32) (harg14 : arg14.IsWhole) (arg15 : Memref sig .tc .vmem S768x256 .bf16) (harg15 : arg15.IsWhole) (hc1 : ¬k0_cond1 i = 1#1) (hc2 : ¬k0_cond2 i = 1#1) (hc3 : k0_cond3 i = 1#1) (x6 : Vec F S5376x256 .fp8e4m3) (x7 : Vec F S1x256 .f32) (x8 : Vec F S768x1024 .fp8e4m3) (x9 : Vec F S768x128 .f32) (x10 : Vec F S1024x256 .fp8e4m3) (x11 : Vec F S1x256 .f32) (x12 : Vec F S768x256 .f32) (x13 : Vec F S768x5376 .fp8e4m3) (x17 : Vec F S768x128 .f32) (E : Set ℕ) (K : PUnit → sProp 𝕄) :
    iprop(owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ (∃ d, owns (c : Thread nD τ) arg15 fullShare d) ∗ owns (c : Thread nD τ) scM0_1 fullShare x17
        ∗ (iprop(owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg15 fullShare (outOf x13 x17 x6 x7 x8 x9 x10 x11 x12) ∗ owns (c : Thread nD τ) scM0_1 fullShare x17) -∗ K ⟨⟩))
      ⊢ wp frame (wpE (defs₀ (F := F)) Variants.none c none) E (cc0_shared i arg2 harg2 arg3 harg3 arg4 harg4 arg5 harg5 arg6 harg6 arg7 harg7 arg8 harg8 arg9 harg9 arg10 harg10 arg11 harg11 arg12 harg12 arg13 harg13 arg14 harg14 arg15 harg15 scM0_0 whole0 scM0_1 whole1) K := by
  iintro ⟨H6, H7, H8, H9, H10, H11, H12, H13, H15, H17, Hk⟩
  iapply ((runC c i arg2 harg2 arg3 harg3 arg4 harg4 arg5 harg5 arg6 harg6 arg7 harg7 arg8 harg8 arg9 harg9 arg10 harg10 arg11 harg11 arg12 harg12 arg13 harg13 arg14 harg14 arg15 harg15 scM0_0 whole0 scM0_1 whole1 hc1 hc2 hc3 x6 x7 x8 x9 x10 x11 x12 x13 x17).2 E K)
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H15]; · iexact H15
  isplitl [H17]; · iexact H17
  iintro ⟨H6, H7, H8, H9, H10, H11, H12, H13, ⟨%f15, H15⟩, H17⟩
  iapply Hk
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H15]
  · unfold owns; iexists _; isplitr
    swap; · iexact H15
    ipureintro; unfold runC; dsimp only
    have e6 := readAt_all (F := F) harg6 x6 off2 inb_S5376x256_S5376x256_0_0
    have e7 := readAt_all (F := F) harg7 x7 off2 inb_S1x256_S1x256_0_0
    have e8 := readAt_all (F := F) harg8 x8 off2 inb_S768x1024_S768x1024_0_0
    have e9 := readAt_col (F := F) harg9 x9
    have e10 := readAt_all (F := F) harg10 x10 off2 inb_S1024x256_S1024x256_0_0
    have e11 := readAt_all (F := F) harg11 x11 off2 inb_S1x256_S1x256_0_0
    have e12 := readAt_all (F := F) harg12 x12 off2 inb_S768x256_S768x256_0_0
    have e13 := readAt_all (F := F) harg13 x13 off2 inb_S768x5376_S768x5376_0_0
    have e17 := readAt_col (F := F) whole1 x17
    refine (read_one _ _ off2 _ _).trans ?_
    rw [e6, e7, e8, e9, e10, e11, e12, e13, e17]; rfl
  iexact H17

end Cert.SharedIdeal.Hand

end
-- ==== Proof.SharedIdeal.Frame.lean ====
module

public import proofs.«01_k».proof.Proof.SharedIdeal.Vals
public import proofs.«01_k».proof.Proof.Gen.SharedIdeal.Points
public import Idealize.ShloMosaic.Lib.Claim
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

/-! The proof data of the call and its frame -/

@[expose] public section

set_option maxRecDepth 16384

noncomputable section

namespace Cert.SharedIdeal.Hand

open Cert.SharedIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The branch conditions over the 111 points: row block `t / 37`, step `j = t % 37` -/

theorem hcond1 : ∀ t : Fin cfg0.N, k0_cond1 (grid0.coords t) = 1#1 ↔ t.val % 37 < 21 :=
  (by decide +kernel : ∀ t : Fin grid0.N, k0_cond1 (grid0.coords t) = 1#1 ↔ t.val % 37 < 21)
theorem hcond2 : ∀ t : Fin cfg0.N, k0_cond2 (grid0.coords t) = 1#1 ↔ t.val % 37 = 21 :=
  (by decide +kernel : ∀ t : Fin grid0.N, k0_cond2 (grid0.coords t) = 1#1 ↔ t.val % 37 = 21)
theorem hcond3 : ∀ t : Fin cfg0.N, k0_cond3 (grid0.coords t) = 1#1 ↔ 21 ≤ t.val % 37 :=
  (by decide +kernel : ∀ t : Fin grid0.N, k0_cond3 (grid0.coords t) = 1#1 ↔ 21 ≤ t.val % 37)
theorem coord1 : ∀ t : Fin cfg0.N, (grid0.coords t 1).val = t.val % 37 :=
  (by decide +kernel : ∀ t : Fin grid0.N, (grid0.coords t 1).val = t.val % 37)

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl
theorem liveAt0_6 : ∀ t : Fin cfg0.N, cfg0.idle 6 (grid0.coords t) = false := fun _ => rfl
theorem liveAt0_7 : ∀ t : Fin cfg0.N, cfg0.idle 7 (grid0.coords t) = false := fun _ => rfl
theorem liveAt0_8 : ∀ t : Fin cfg0.N, cfg0.idle 8 (grid0.coords t) = false := fun _ => rfl
theorem liveAt0_9 : ∀ t : Fin cfg0.N, cfg0.idle 9 (grid0.coords t) = false := fun _ => rfl
theorem liveAt0_10 : ∀ t : Fin cfg0.N, cfg0.idle 10 (grid0.coords t) = false := fun _ => rfl
theorem idle0_11 : ∀ t : Fin cfg0.N, cfg0.idle 11 (grid0.coords t) = !decide (t.val % 37 = 21) :=
  (by decide +kernel : ∀ t : Fin grid0.N, cfg0.idle 11 (grid0.coords t) = !decide (t.val % 37 = 21))
theorem idle0_12 : ∀ t : Fin cfg0.N, cfg0.idle 12 (grid0.coords t) = !decide (t.val % 37 = 21) :=
  (by decide +kernel : ∀ t : Fin grid0.N, cfg0.idle 12 (grid0.coords t) = !decide (t.val % 37 = 21))
theorem idle0_13 : ∀ t : Fin cfg0.N, cfg0.idle 13 (grid0.coords t) = decide (t.val % 37 < 21) :=
  (by decide +kernel : ∀ t : Fin grid0.N, cfg0.idle 13 (grid0.coords t) = decide (t.val % 37 < 21))
theorem noFlush0_13 : ∀ t : Fin cfg0.N, t.val % 37 < 21 → (cfg0.win 13).flush t = false :=
  (by decide +kernel : ∀ t : Fin grid0.N, t.val % 37 < 21 → (cfg0.win 13).flush t = false)

/-- Where the buffers of the codes and of the row of scales hold nothing of this row block yet. -/
def freshTab : ℕ → Bool := fun n => decide (n % 37 ≤ 21)
theorem freshStep_11 : ∀ t : Fin cfg0.N,
    freshTab (t.val + 1) = ((cfg0.win 11).flush t || (cfg0.idle 11 (cfg0.grid.coords t) && freshTab t.val)) := by decide +kernel
theorem fresh0_11 (t : Fin cfg0.N) : cfg0.fresh 11 t.val = freshTab t.val :=
  Pipeline.Cfg.fresh_tab cfg0 11 freshTab rfl freshStep_11 t.val (Nat.le_of_lt t.isLt)
theorem freshStep_12 : ∀ t : Fin cfg0.N,
    freshTab (t.val + 1) = ((cfg0.win 12).flush t || (cfg0.idle 12 (cfg0.grid.coords t) && freshTab t.val)) := by decide +kernel
theorem fresh0_12 (t : Fin cfg0.N) : cfg0.fresh 12 t.val = freshTab t.val :=
  Pipeline.Cfg.fresh_tab cfg0 12 freshTab rfl freshStep_12 t.val (Nat.le_of_lt t.isLt)

/-! ## The memrefs of a point -/

abbrev ms0_0 (t : Fin cfg0.N) : Memref sig .tc .vmem S768x4096 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S768x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4096x256 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S5376x256 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S768x1024 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S768x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1024x256 .fp8e4m3 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x256 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S768x256 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S768x5376 .fp8e4m3 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x1x768 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S768x256 .bf16 := win0_13.stage (cfg0.slots t 13)
abbrev hs0_13 (t : Fin cfg0.N) : (ms0_13 t).IsWhole := hstage0_13 ((cfg0.slots t 13).cast nbuf0_13)

/-- What the launch hands the region: the two scratch buffers and the generator's register at some state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-! ## What is held point by point -/

/-- The point of number `n`. -/
def pt (n : ℕ) : Fin cfg0.N := ⟨n % 111, lt_of_lt_of_eq (Nat.mod_lt _ (by decide)) (show 111 = cfg0.N from N_0.symm)⟩

theorem pt_val (t : Fin cfg0.N) : pt t.val = t :=
  Fin.ext (Nat.mod_eq_of_lt (lt_of_lt_of_eq t.isLt (show cfg0.N = 111 from N_0)))

/-- The plane of activations computed at point `t`. -/
def upBlk (c : Dev nD) (t : Fin cfg0.N) : Vec F S1x768x256 .f32 :=
  planeOf (iblk m c 0 t) (iblk m c 1 t) (iblk m c 2 t) (iblk m c 3 t)

/-- The 21 planes of row block `i`. -/
def planes (c : Dev nD) (i : ℕ) : Vec F S21x768x256 .f32 := fun y =>
  upBlk m c (pt (37 * i + (y 0).val)) (ValueIdx.ix3 0 (y 1) (y 2))

/-- The output block of point `t`. -/
def outBlk (c : Dev nD) (t : Fin cfg0.N) : Vec F S768x256 .bf16 :=
  outOf (codesOf (planes m c (t.val / 37))) (scOf (planes m c (t.val / 37))) (iblk m c 4 t) (iblk m c 5 t) (iblk m c 6 t)
    (iblk m c 7 t) (iblk m c 8 t) (iblk m c 9 t) (iblk m c 10 t)

/-- What the scratch holds before point `n`: the planes of the row block computed so far, and after the quantisation its scales. -/
def Good (c : Dev nD) (n : ℕ) (s : Vec F S21x768x256 .f32) (sc : Vec F S768x128 .f32) : Prop :=
  (∀ y : S21x768x256.Idx, (y 0).val < n % 37 → s y = planes m c (n / 37) y) ∧ (21 < n % 37 → sc = scOf (planes m c (n / 37)))

/-- The invariant before point `n`. -/
def PhiN (c : Dev nD) (n : ℕ) : sProp 𝕄 :=
  iprop(∃ s, ∃ sc, ⌜Good m c n s sc⌝ ∗ owns (c : Thread nD τ) scM0_0 fullShare s ∗ owns (c : Thread nD τ) scM0_1 fullShare sc ∗ (∃ r, prngReg c r))

/-- The proof data of the call. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => codesOf (planes m c (t.val / 37))
    | ⟨12, _⟩ => rowOf (planes m c (t.val / 37))
    | ⟨13, _⟩ => outBlk m c t
  Φ t := PhiN m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = codesOf (planes m c (t.val / 37)) := by dsimp only [dats]
theorem after0_12 (c : Dev nD) (t : Fin cfg0.N) : (dats m 0 c).after 12 t = rowOf (planes m c (t.val / 37)) := by dsimp only [dats]
theorem after0_13 (c : Dev nD) (t : Fin cfg0.N) : (dats m 0 c).after 13 t = outBlk m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d

/-- After the quantisation step the buffer of window 11 holds what that step left. -/
theorem before0_11 (c : Dev nD) (t : Fin cfg0.N) (h : 21 < t.val % 37) (d) :
    (dats m 0 c).before 11 t d = codesOf (planes m c (t.val / 37)) := by
  have hN : t.val < 111 := lt_of_lt_of_eq t.isLt (show cfg0.N = 111 from N_0)
  rw [Dat.before_out_traj (dats m 0 c) 11 rfl (fun _ _ => rfl) (fun t hz hi hf => by
      have hN : t.val < 111 := lt_of_lt_of_eq t.isLt (show cfg0.N = 111 from N_0)
      rw [fresh0_11 t] at hf
      have hf' : ¬ t.val % 37 ≤ 21 := of_decide_eq_false hf
      rw [after0_11, after0_11]
      have e : (t.val - 1) / 37 = t.val / 37 := by omega
      dsimp only
      rw [e]) t.val t rfl d,
    if_neg (by rw [fresh0_11 t]; exact fun hh => absurd (of_decide_eq_true hh) (by omega)), after0_11]
  have e : (t.val - 1) / 37 = t.val / 37 := by omega
  dsimp only
  rw [e]

/-- After the quantisation step the buffer of window 12 holds what that step left. -/
theorem before0_12 (c : Dev nD) (t : Fin cfg0.N) (h : 21 < t.val % 37) (d) :
    (dats m 0 c).before 12 t d = rowOf (planes m c (t.val / 37)) := by
  have hN : t.val < 111 := lt_of_lt_of_eq t.isLt (show cfg0.N = 111 from N_0)
  rw [Dat.before_out_traj (dats m 0 c) 12 rfl (fun _ _ => rfl) (fun t hz hi hf => by
      have hN : t.val < 111 := lt_of_lt_of_eq t.isLt (show cfg0.N = 111 from N_0)
      rw [fresh0_12 t] at hf
      have hf' : ¬ t.val % 37 ≤ 21 := of_decide_eq_false hf
      rw [after0_12, after0_12]
      have e : (t.val - 1) / 37 = t.val / 37 := by omega
      dsimp only
      rw [e]) t.val t rfl d,
    if_neg (by rw [fresh0_12 t]; exact fun hh => absurd (of_decide_eq_true hh) (by omega)), after0_12]
  have e : (t.val - 1) / 37 = t.val / 37 := by omega
  dsimp only
  rw [e]

/-! ## The scratch from point to point -/

theorem good_A (c : Dev nD) (t : Fin cfg0.N) (h : t.val % 37 < 21) (s s' : Vec F S21x768x256 .f32) (sc : Vec F S768x128 .f32)
    (hg : Good m c t.val s sc)
    (h1 : ∀ y : S21x768x256.Idx, (y 0).val = (grid0.coords t 1).val → s' y = upBlk m c t (ValueIdx.ix3 0 (y 1) (y 2)))
    (h2 : ∀ y : S21x768x256.Idx, (y 0).val ≠ (grid0.coords t 1).val → s' y = s y) : Good m c (t.val + 1) s' sc := by
  rw [coord1] at h1 h2
  have e1 : (t.val + 1) / 37 = t.val / 37 := by omega
  have e2 : (t.val + 1) % 37 = t.val % 37 + 1 := by omega
  refine ⟨fun y hy => ?_, fun hh => by omega⟩
  rw [e1]; rw [e2] at hy
  by_cases hy' : (y 0).val = t.val % 37
  · rw [h1 y hy']
    have e : 37 * (t.val / 37) + (y 0).val = t.val := by omega
    show _ = upBlk m c (pt (37 * (t.val / 37) + (y 0).val)) _
    rw [e, pt_val]
  · rw [h2 y hy']
    exact hg.1 y (by omega)

theorem good_full (c : Dev nD) (t : Fin cfg0.N) (h : t.val % 37 = 21) (s : Vec F S21x768x256 .f32) (sc : Vec F S768x128 .f32)
    (hg : Good m c t.val s sc) : s = planes m c (t.val / 37) :=
  funext fun y => hg.1 y (by rw [h]; exact (y 0).isLt)

theorem good_B (c : Dev nD) (t : Fin cfg0.N) (h : t.val % 37 = 21) :
    Good m c (t.val + 1) (planes m c (t.val / 37)) (scOf (planes m c (t.val / 37))) := by
  have e1 : (t.val + 1) / 37 = t.val / 37 := by omega
  refine ⟨fun y hy => by rw [e1], fun hh => by rw [e1]⟩

theorem good_C (c : Dev nD) (t : Fin cfg0.N) (h : 21 < t.val % 37) (s : Vec F S21x768x256 .f32) (sc : Vec F S768x128 .f32)
    (hg : Good m c t.val s sc) : Good m c (t.val + 1) s sc := by
  by_cases h36 : t.val % 37 = 36
  · have e : (t.val + 1) % 37 = 0 := by omega
    exact ⟨fun y hy => by omega, fun hh => by omega⟩
  · have e1 : (t.val + 1) / 37 = t.val / 37 := by omega
    refine ⟨fun y hy => ?_, fun _ => ?_⟩
    · rw [e1]; exact hg.1 y (by have := (y 0).isLt; have : (y 0).val < 21 := this; omega)
    · rw [e1]; exact hg.2 h

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t)

theorem leaves0_0 (c : Dev nD) (t : Fin cfg0.N) : (dats m 0 c).leavesExact 0 t = owns (c : Thread nD τ) (ms0_0 t) fullShare (iblk m c 0 t) := by
  unfold Dat.leavesExact; rw [liveAt0_0 t, after0_0]
theorem leaves0_1 (c : Dev nD) (t : Fin cfg0.N) : (dats m 0 c).leavesExact 1 t = owns (c : Thread nD τ) (ms0_1 t) fullShare (iblk m c 1 t) := by
  unfold Dat.leavesExact; rw [liveAt0_1 t, after0_1]
theorem leaves0_2 (c : Dev nD) (t : Fin cfg0.N) : (dats m 0 c).leavesExact 2 t = owns (c : Thread nD τ) (ms0_2 t) fullShare (iblk m c 2 t) := by
  unfold Dat.leavesExact; rw [liveAt0_2 t, after0_2]
theorem leaves0_3 (c : Dev nD) (t : Fin cfg0.N) : (dats m 0 c).leavesExact 3 t = owns (c : Thread nD τ) (ms0_3 t) fullShare (iblk m c 3 t) := by
  unfold Dat.leavesExact; rw [liveAt0_3 t, after0_3]
theorem leaves0_4 (c : Dev nD) (t : Fin cfg0.N) : (dats m 0 c).leavesExact 4 t = owns (c : Thread nD τ) (ms0_4 t) fullShare (iblk m c 4 t) := by
  unfold Dat.leavesExact; rw [liveAt0_4 t, after0_4]
theorem leaves0_5 (c : Dev nD) (t : Fin cfg0.N) : (dats m 0 c).leavesExact 5 t = owns (c : Thread nD τ) (ms0_5 t) fullShare (iblk m c 5 t) := by
  unfold Dat.leavesExact; rw [liveAt0_5 t, after0_5]
theorem leaves0_6 (c : Dev nD) (t : Fin cfg0.N) : (dats m 0 c).leavesExact 6 t = owns (c : Thread nD τ) (ms0_6 t) fullShare (iblk m c 6 t) := by
  unfold Dat.leavesExact; rw [liveAt0_6 t, after0_6]
theorem leaves0_7 (c : Dev nD) (t : Fin cfg0.N) : (dats m 0 c).leavesExact 7 t = owns (c : Thread nD τ) (ms0_7 t) fullShare (iblk m c 7 t) := by
  unfold Dat.leavesExact; rw [liveAt0_7 t, after0_7]
theorem leaves0_8 (c : Dev nD) (t : Fin cfg0.N) : (dats m 0 c).leavesExact 8 t = owns (c : Thread nD τ) (ms0_8 t) fullShare (iblk m c 8 t) := by
  unfold Dat.leavesExact; rw [liveAt0_8 t, after0_8]
theorem leaves0_9 (c : Dev nD) (t : Fin cfg0.N) : (dats m 0 c).leavesExact 9 t = owns (c : Thread nD τ) (ms0_9 t) fullShare (iblk m c 9 t) := by
  unfold Dat.leavesExact; rw [liveAt0_9 t, after0_9]
theorem leaves0_10 (c : Dev nD) (t : Fin cfg0.N) : (dats m 0 c).leavesExact 10 t = owns (c : Thread nD τ) (ms0_10 t) fullShare (iblk m c 10 t) := by
  unfold Dat.leavesExact; rw [liveAt0_10 t, after0_10]
theorem leaves0_11_live (c : Dev nD) (t : Fin cfg0.N) (h : t.val % 37 = 21) : (dats m 0 c).leavesExact 11 t = owns (c : Thread nD τ) (ms0_11 t) fullShare (codesOf (planes m c (t.val / 37))) := by
  unfold Dat.leavesExact; rw [show cfg0.idle 11 (cfg0.grid.coords t) = false from (idle0_11 t).trans (by simp [h]), after0_11]
theorem leaves0_11_idle (c : Dev nD) (t : Fin cfg0.N) (h : t.val % 37 ≠ 21) (h' : t.val % 37 ≠ 36) :
    (dats m 0 c).leavesExact 11 t = iprop(∃ d, owns (c : Thread nD τ) (ms0_11 t) fullShare ((dats m 0 c).before 11 t d)) :=
  Dat.leavesExact_idle (dats m 0 c) 11 t ((idle0_11 t).trans (by simp [h])) (by rw [← Bool.not_eq_true, flush0_11]; exact h')
theorem leaves0_12_live (c : Dev nD) (t : Fin cfg0.N) (h : t.val % 37 = 21) : (dats m 0 c).leavesExact 12 t = owns (c : Thread nD τ) (ms0_12 t) fullShare (rowOf (planes m c (t.val / 37))) := by
  unfold Dat.leavesExact; rw [show cfg0.idle 12 (cfg0.grid.coords t) = false from (idle0_12 t).trans (by simp [h]), after0_12]
theorem leaves0_12_idle (c : Dev nD) (t : Fin cfg0.N) (h : t.val % 37 ≠ 21) (h' : t.val % 37 ≠ 36) :
    (dats m 0 c).leavesExact 12 t = iprop(∃ d, owns (c : Thread nD τ) (ms0_12 t) fullShare ((dats m 0 c).before 12 t d)) :=
  Dat.leavesExact_idle (dats m 0 c) 12 t ((idle0_12 t).trans (by simp [h])) (by rw [← Bool.not_eq_true, flush0_12]; exact h')
theorem leaves0_13_live (c : Dev nD) (t : Fin cfg0.N) (h : 21 ≤ t.val % 37) : (dats m 0 c).leavesExact 13 t = owns (c : Thread nD τ) (ms0_13 t) fullShare (outBlk m c t) := by
  unfold Dat.leavesExact; rw [show cfg0.idle 13 (cfg0.grid.coords t) = false from (idle0_13 t).trans (by simp [Nat.not_lt.mpr h]), after0_13]
theorem leaves0_13_idle (c : Dev nD) (t : Fin cfg0.N) (h : t.val % 37 < 21) :
    (dats m 0 c).leavesExact 13 t = iprop(∃ d, owns (c : Thread nD τ) (ms0_13 t) fullShare ((dats m 0 c).before 13 t d)) :=
  Dat.leavesExact_idle (dats m 0 c) 13 t ((idle0_13 t).trans (by simp [h])) (noFlush0_13 t h)
/-- At the last step of a row block the window is written back: it holds what the quantisation step left. -/
theorem leaves0_11_late (c : Dev nD) (t : Fin cfg0.N) (h : 21 < t.val % 37) :
    owns (c : Thread nD τ) (ms0_11 t) fullShare (codesOf (planes m c (t.val / 37))) ⊢ (dats m 0 c).leavesExact 11 t := by
  by_cases h36 : t.val % 37 = 36
  · have hi : cfg0.idle 11 (cfg0.grid.coords t) = true := (idle0_11 t).trans (by simp; omega)
    unfold Dat.leavesExact
    rw [hi, (flush0_11 t).mpr h36]
    dsimp only
    rw [after0_11]
  · rw [leaves0_11_idle m c t (by omega) h36]
    iintro H
    iexists (default : (cfg0.win 11).block.Idx → Elt F (cfg0.win 11).elt)
    rw [before0_11 m c t h]
    iexact H
/-- At the last step of a row block the window is written back: it holds what the quantisation step left. -/
theorem leaves0_12_late (c : Dev nD) (t : Fin cfg0.N) (h : 21 < t.val % 37) :
    owns (c : Thread nD τ) (ms0_12 t) fullShare (rowOf (planes m c (t.val / 37))) ⊢ (dats m 0 c).leavesExact 12 t := by
  by_cases h36 : t.val % 37 = 36
  · have hi : cfg0.idle 12 (cfg0.grid.coords t) = true := (idle0_12 t).trans (by simp; omega)
    unfold Dat.leavesExact
    rw [hi, (flush0_12 t).mpr h36]
    dsimp only
    rw [after0_12]
  · rw [leaves0_12_idle m c t (by omega) h36]
    iintro H
    iexists (default : (cfg0.win 12).block.Idx → Elt F (cfg0.win 12).elt)
    rw [before0_12 m c t h]
    iexact H
set_option maxHeartbeats 4800000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, leaves0_0, leaves0_1, leaves0_2, leaves0_3, leaves0_4, leaves0_5, leaves0_6, leaves0_7, leaves0_8, leaves0_9, leaves0_10]
  rw [show (dats m 0 c).owesAt () t.succ = (dats m 0 c).owesAt () t.castSucc from rfl]
  rw [show (dats m 0 c).Φ t.succ = PhiN m c (t.val + 1) from rfl, show (dats m 0 c).Φ t.castSucc = PhiN m c t.val from rfl]
  unfold PhiN
  have hN : t.val < 111 := lt_of_lt_of_eq t.isLt (show cfg0.N = 111 from N_0)
  rcases lt_trichotomy (t.val % 37) 21 with h | h | h
  · rw [leaves0_11_idle m c t (by omega) (by omega), leaves0_12_idle m c t (by omega) (by omega), leaves0_13_idle m c t h]
    iintro ⟨⟨%s, %sc, %hg, HS, HC, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, H11, H12, H13⟩
    iapply (tripleA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) ((hcond1 t).mpr h) (fun hh => by have := (hcond2 t).mp hh; omega) (fun hh => by have := (hcond3 t).mp hh; omega)
      (iblk m c 0 t) (iblk m c 1 t) (iblk m c 2 t) (iblk m c 3 t) s Set.univ _)
    isplitl [H0]; · iexact H0
    isplitl [H1]; · iexact H1
    isplitl [H2]; · iexact H2
    isplitl [H3]; · iexact H3
    isplitl [HS]; · iexact HS
    iintro ⟨H0, H1, H2, H3, ⟨%s', %hs, HS⟩⟩
    isplitl [HS HC Hg]
    · iexists s'; iexists sc
      isplitr; · ipureintro; exact good_A m c t h s s' sc hg hs.1 hs.2
      isplitl [HS]; · iexact HS
      isplitl [HC]; · iexact HC
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  · rw [leaves0_11_live m c t h, leaves0_12_live m c t h, leaves0_13_live m c t (by omega)]
    iintro ⟨⟨%s, %sc, %hg, HS, HC, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    obtain rfl := good_full m c t h s sc hg
    iapply (tripleB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (fun hh => by have := (hcond1 t).mp hh; omega) ((hcond2 t).mpr h) ((hcond3 t).mpr (by omega))
      (iblk m c 4 t) (iblk m c 5 t) (iblk m c 6 t) (iblk m c 7 t) (iblk m c 8 t) (iblk m c 9 t) (iblk m c 10 t) (planes m c (t.val / 37)) Set.univ _)
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [H12]; · iexists _; iexact H12
    isplitl [H13]; · iexists _; iexact H13
    isplitl [HS]; · iexact HS
    isplitl [HC]; · iexists _; iexact HC
    iintro ⟨H4, H5, H6, H7, H8, H9, H10, H11, H12, H13, HS, HC⟩
    isplitl [HS HC Hg]
    · iexists _; iexists _
      isplitr; · ipureintro; exact good_B m c t h
      isplitl [HS]; · iexact HS
      isplitl [HC]; · iexact HC
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  · rw [leaves0_13_live m c t (by omega)]
    simp only [before0_11 m c t h, before0_12 m c t h]
    iintro ⟨⟨%s, %sc, %hg, HS, HC, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply (tripleC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (fun hh => by have := (hcond1 t).mp hh; omega) (fun hh => by have := (hcond2 t).mp hh; omega) ((hcond3 t).mpr (by omega))
      (iblk m c 4 t) (iblk m c 5 t) (iblk m c 6 t) (iblk m c 7 t) (iblk m c 8 t) (iblk m c 9 t) (iblk m c 10 t) (codesOf (planes m c (t.val / 37))) sc Set.univ _)
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H13]; · iexists _; iexact H13
    isplitl [HC]; · iexact HC
    iintro ⟨H4, H5, H6, H7, H8, H9, H10, H11, H13, HC⟩
    isplitl [HS HC Hg]
    · iexists s; iexists sc
      isplitr; · ipureintro; exact good_C m c t h s sc hg
      isplitl [HS]; · iexact HS
      isplitl [HC]; · iexact HC
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iapply (leaves0_11_late m c t h); iexact H11
    isplitl [H12]; · iapply (leaves0_12_late m c t h); iexact H12
    unfold outBlk; rw [← hg.2 h]
    iexact H13

theorem defs₀_row (t : Fin cfg0.N) :
    defs₀ (F := F) .tc cfg0.body (cfg0.bodyArgs t (cfg0.slots t)) = bodyAt0 t := by
  unfold defs₀; rw [Defs.onTc_tc]

/-- The body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiN m c 0 from rfl, PhiA0_eq]
  unfold PhiN
  iintro ⟨⟨⟨%s, HS⟩, ⟨%sc, HC⟩⟩, Hg⟩
  iexists s; iexists sc
  isplitr; · ipureintro; exact ⟨fun y hy => absurd hy (Nat.not_lt_zero _), fun hh => absurd hh (by omega)⟩
  isplitl [HS]; · iexact HS
  isplitl [HC]; · iexact HC
  iexact Hg

theorem hout (c : Dev nD) : (dats m 0 c).Φ (Fin.last cfg0.N) ⊢ Pipeline.ΦA spec0 c := by
  rw [show (dats m 0 c).Φ (Fin.last cfg0.N) = PhiN m c (Fin.last cfg0.N).val from rfl, PhiA0_eq]
  unfold PhiN
  iintro ⟨%s, %sc, %hg, HS, HC, Hg⟩
  isplitl [HS HC]
  · isplitl [HS]
    · iexists _; iexact HS
    iexists _; iexact HC
  iexact Hg

/-! ## The run and the frame -/

set_option backward.isDefEq.respectTransparency.types false in
/-- Every execution ends, with the arrays at what the proof data say and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The frame: the argument arrays end unchanged and every counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  θ_run_and (frame_of m ρ (dats m) (A_eq m) (run_main m ρ)) ((θ_run defs _ _).mono (fun _ h => h.2) (run_main_quiescent m ρ))

end Cert.SharedIdeal.Hand

end
-- ==== Proof.Spec.lean ====
module

public import Idealize.ShloMosaic.Lib.Pointwise

/-! The shared expert's values as plain formulas over the extended reals -/

@[expose] public section

set_option maxRecDepth 16384

noncomputable section

namespace Cert.Spec

open Idealize.ShloMosaic

/-- The squared relu of one element of the up projection. -/
def act (xc : Vec Ideal ⟨2, ![2304, 4096]⟩ .fp8e4m3) (xs : Vec Ideal ⟨2, ![2304, 128]⟩ .f32)
    (wu : Vec Ideal ⟨2, ![4096, 5376]⟩ .fp8e4m3) (wus : Vec Ideal ⟨2, ![1, 5376]⟩ .f32) (r : Fin 2304) (f : Fin 5376) : EReal :=
  max ((∑ k : Fin 4096, xc (ix2 r k) * wu (ix2 k f)) * xs (ix2 r 0) * wus (ix2 0 f)) 0
    * max ((∑ k : Fin 4096, xc (ix2 r k) * wu (ix2 k f)) * xs (ix2 r 0) * wus (ix2 0 f)) 0

/-- The greatest element of a row. -/
def rowMax (g : Fin 5376 → EReal) : EReal := Finset.univ.fold max ⊥ g

/-- The scale of a row whose greatest absolute value is `a`. -/
def scaleOf (a : EReal) : EReal := if a = 0 then 1 else a * ((1 / 448 : ℝ) : EReal)

/-- The code of an element under a scale. -/
def codeOf (s a : EReal) : EReal :=
  min (Ideal.ofBits FTy.f32 0x43E00000#32) (max (Ideal.ofBits FTy.f32 0xC3E00000#32) (Ideal.div a s))

/-- A row of activations: its scale. -/
def rowScale (g : Fin 5376 → EReal) : EReal := scaleOf (rowMax g)

/-- A row of activations: its codes. -/
def rowCode (g : Fin 5376 → EReal) (f : Fin 5376) : EReal := codeOf (rowScale g) (g f)

/-- One element of the output from the row of activations and the column `n`. -/
def outAt (g : Fin 5376 → EReal) (wd : Vec Ideal ⟨2, ![5376, 4096]⟩ .fp8e4m3) (wds : Vec Ideal ⟨2, ![1, 4096]⟩ .f32)
    (cc : Vec Ideal ⟨2, ![2304, 1024]⟩ .fp8e4m3) (cs : Vec Ideal ⟨2, ![2304, 128]⟩ .f32)
    (wl : Vec Ideal ⟨2, ![1024, 4096]⟩ .fp8e4m3) (wls : Vec Ideal ⟨2, ![1, 4096]⟩ .f32)
    (x1 : Vec Ideal ⟨2, ![2304, 4096]⟩ .f32) (r : Fin 2304) (n : Fin 4096) : EReal :=
  x1 (ix2 r n) + (∑ f : Fin 5376, rowCode g f * wd (ix2 f n)) * rowScale g * wds (ix2 0 n)
    + (∑ k : Fin 1024, cc (ix2 r k) * wl (ix2 k n)) * cs (ix2 r 0) * wls (ix2 0 n)

/-- The f32 pattern of minus infinity is the least extended real. -/
theorem ofBits_bot : Ideal.ofBits FTy.f32 0xFF800000#32 = (⊥ : EReal) := by
  simp [Ideal.ofBits, Ideal.ieee]

/-- The f32 pattern of 448. -/
theorem ofBits_448 : Ideal.ofBits FTy.f32 0x43E00000#32 = ((448 : ℝ) : EReal) := by
  simp [Ideal.ofBits, Ideal.ieee, -EReal.coe_mul]; norm_num

/-- A square of a maximum with zero is not negative. -/
theorem sq_nonneg' (u : EReal) : 0 ≤ max u 0 * max u 0 := mul_nonneg (le_max_right _ _) (le_max_right _ _)

theorem act_nonneg (xc xs wu wus) (r : Fin 2304) (f : Fin 5376) : 0 ≤ act xc xs wu wus r f := sq_nonneg' _

/-- The absolute value of what is not negative. -/
theorem abs_of_nonneg {a : EReal} (h : 0 ≤ a) : max a (-a) = a :=
  max_eq_left (le_trans (by simpa using EReal.neg_le_neg_iff.mpr h) h)

/-- The element of plane `k` at lane `l`. -/
def lane (k : ℕ) (hk : k < 21) (l : Fin 256) : Fin 5376 := ⟨256 * k + l.val, by have := l.isLt; omega⟩

/-- The maximum over 256 lanes of the running maximum from zero over the 21 planes is the greatest element of the row,
    where no element is negative. -/
theorem fold_planes (g : Fin 5376 → EReal) (h0 : ∀ f, 0 ≤ g f) :
    Finset.univ.fold max (⊥ : EReal) (fun l : Fin 256 => max (max (max (max (max (max (max (max (max (max (max (max (max (max (max (max (max (max (max (max (max (0 : EReal) (g (lane 0 (by decide) l))) (g (lane 1 (by decide) l))) (g (lane 2 (by decide) l))) (g (lane 3 (by decide) l))) (g (lane 4 (by decide) l))) (g (lane 5 (by decide) l))) (g (lane 6 (by decide) l))) (g (lane 7 (by decide) l))) (g (lane 8 (by decide) l))) (g (lane 9 (by decide) l))) (g (lane 10 (by decide) l))) (g (lane 11 (by decide) l))) (g (lane 12 (by decide) l))) (g (lane 13 (by decide) l))) (g (lane 14 (by decide) l))) (g (lane 15 (by decide) l))) (g (lane 16 (by decide) l))) (g (lane 17 (by decide) l))) (g (lane 18 (by decide) l))) (g (lane 19 (by decide) l))) (g (lane 20 (by decide) l))) = rowMax g := by
  refine eq_of_forall_ge_iff fun c => ?_
  unfold rowMax
  rw [Finset.fold_max_le, Finset.fold_max_le]
  simp only [max_le_iff, Finset.mem_univ, forall_true_left, bot_le, true_and]
  constructor
  · intro h f
    have hf := f.isLt
    have hl : f.val % 256 < 256 := Nat.mod_lt _ (by decide)
    have e : ∀ (k : ℕ) (hk : k < 21), f.val / 256 = k → lane k hk ⟨f.val % 256, hl⟩ = f := fun k hk e =>
      Fin.ext (show 256 * k + f.val % 256 = f.val by omega)
    obtain ⟨⟨⟨⟨⟨⟨⟨⟨⟨⟨⟨⟨⟨⟨⟨⟨⟨⟨⟨⟨⟨h0', h_0⟩, h_1⟩, h_2⟩, h_3⟩, h_4⟩, h_5⟩, h_6⟩, h_7⟩, h_8⟩, h_9⟩, h_10⟩, h_11⟩, h_12⟩, h_13⟩, h_14⟩, h_15⟩, h_16⟩, h_17⟩, h_18⟩, h_19⟩, h_20⟩ := h ⟨f.val % 256, hl⟩
    have hb : f.val / 256 < 21 := by omega
    generalize hq : f.val / 256 = q at hb
    interval_cases q
    · exact e 0 (by decide) hq ▸ h_0
    · exact e 1 (by decide) hq ▸ h_1
    · exact e 2 (by decide) hq ▸ h_2
    · exact e 3 (by decide) hq ▸ h_3
    · exact e 4 (by decide) hq ▸ h_4
    · exact e 5 (by decide) hq ▸ h_5
    · exact e 6 (by decide) hq ▸ h_6
    · exact e 7 (by decide) hq ▸ h_7
    · exact e 8 (by decide) hq ▸ h_8
    · exact e 9 (by decide) hq ▸ h_9
    · exact e 10 (by decide) hq ▸ h_10
    · exact e 11 (by decide) hq ▸ h_11
    · exact e 12 (by decide) hq ▸ h_12
    · exact e 13 (by decide) hq ▸ h_13
    · exact e 14 (by decide) hq ▸ h_14
    · exact e 15 (by decide) hq ▸ h_15
    · exact e 16 (by decide) hq ▸ h_16
    · exact e 17 (by decide) hq ▸ h_17
    · exact e 18 (by decide) hq ▸ h_18
    · exact e 19 (by decide) hq ▸ h_19
    · exact e 20 (by decide) hq ▸ h_20
  · intro h l
    exact ⟨⟨⟨⟨⟨⟨⟨⟨⟨⟨⟨⟨⟨⟨⟨⟨⟨⟨⟨⟨⟨(h0 ⟨0, by decide⟩).trans (h ⟨0, by decide⟩), h _⟩, h _⟩, h _⟩, h _⟩, h _⟩, h _⟩, h _⟩, h _⟩, h _⟩, h _⟩, h _⟩, h _⟩, h _⟩, h _⟩, h _⟩, h _⟩, h _⟩, h _⟩, h _⟩, h _⟩, h _⟩

end Cert.Spec

end
-- ==== Proof.SharedIdeal.Math.lean ====
module

public import proofs.«01_k».proof.Proof.SharedIdeal.Vals
public import proofs.«01_k».proof.Proof.Spec
public import Idealize.ShloMosaic.Lib.Pipeline.ValueKit.Geometry

/-! What the blocks left by one run are over the extended reals -/

@[expose] public section

set_option maxRecDepth 16384

noncomputable section

namespace Cert.SharedIdeal.Hand

open Idealize.ShloMosaic Idealize.SL.Sem Cert.SharedIdeal Cert.SharedIdeal.Gen Cert.Spec

/-- Row `a` of the 21 planes, laid end to end. -/
def row (s : Vec Ideal S21x768x256 .f32) (a : Fin 768) : Fin 5376 → EReal := fun f =>
  s (ix3 ⟨f.val / 256, by have := f.isLt; omega⟩ a ⟨f.val % 256, Nat.mod_lt _ (by decide)⟩)

theorem row_lane (s : Vec Ideal S21x768x256 .f32) (a : Fin 768) (k : ℕ) (hk : k < 21) (l : Fin 256) :
    row s a (lane k hk l) = s (ix3 ⟨k, hk⟩ a l) := by
  have h1 := l.isLt
  unfold row
  refine congrArg s ?_
  have e1 : (256 * k + l.val) / 256 = k := by omega
  have e2 : (256 * k + l.val) % 256 = l.val := by omega
  exact congrArg₂ (fun p q => ix3 p a q) (Fin.ext e1) (Fin.ext e2)

/-- A loaded plane at an index. -/
theorem rd_apply (s : Vec Ideal S21x768x256 .f32) (k : ℕ) (hk : k < 21) (h) (a : Fin 768) (l : Fin 256) :
    rd s k h (ix3 0 a l) = row s a (lane k hk l) := by
  rw [row_lane]
  unfold rd
  rw [whole0.readAt_unread]
  refine congrArg s (funext fun x => Fin.ext ?_)
  refine (ValueKit.rect_emb_unit_val _ _ _ _ _).trans ?_
  fin_cases x
  · exact Nat.add_zero _
  · exact Nat.zero_add _
  · exact Nat.zero_add _

theorem named_448 : Named.named (F := Ideal) (φ := .f32) κ "inv_448" 0x3B124925#32 = ((1 / 448 : ℝ) : EReal) :=
  IdealRules.named_const.ideal_named_scalar _ _ _ _ rfl

/-- The column of scales. -/
theorem scale1_apply (s : Vec Ideal S21x768x256 .f32) (h0 : ∀ y, 0 ≤ s y) (a : Fin 768) :
    scale1 s (ix2 a 0) = rowScale (row s a) := by
  unfold rowScale scaleOf
  rw [← fold_planes (row s a) (fun f => h0 _), ← named_448, ← ofBits_bot]
  unfold scale1 mx
  pointwise [k0_pay6, k0_pay5, k0_pay4]
  simp only [rd_apply s 0 (by decide), rd_apply s 1 (by decide), rd_apply s 2 (by decide), rd_apply s 3 (by decide), rd_apply s 4 (by decide), rd_apply s 5 (by decide), rd_apply s 6 (by decide), rd_apply s 7 (by decide), rd_apply s 8 (by decide), rd_apply s 9 (by decide), rd_apply s 10 (by decide), rd_apply s 11 (by decide), rd_apply s 12 (by decide), rd_apply s 13 (by decide), rd_apply s 14 (by decide), rd_apply s 15 (by decide), rd_apply s 16 (by decide), rd_apply s 17 (by decide), rd_apply s 18 (by decide), rd_apply s 19 (by decide), rd_apply s 20 (by decide)]

/-- A piece of the codes. -/
theorem pay2_apply (s : Vec Ideal S21x768x256 .f32) (h0 : ∀ y, 0 ≤ s y) (k : ℕ) (hk : k < 21) (h) (hi : ∀ a, (![0, 256 * k] : Fin 2 → ℕ) a + S768x256.size a ≤ S768x5376.size a)
    (x : S768x256.Idx) :
    k0_pay2 (scale1 s) (rd s k h) x
      = (fun y : S768x5376.Idx => rowCode (row s (y 0)) (y 1)) ((Rect.unit (s := S768x5376) ![0, 256 * k] S768x256.size hi).emb x) := by
  obtain ⟨a, l, rfl⟩ : ∃ (a : Fin 768) (l : Fin 256), x = ix2 a l := ⟨x 0, x 1, eq_ix2 x⟩
  have e : (Rect.unit (s := S768x5376) ![0, 256 * k] S768x256.size hi).emb (ix2 a l) = ix2 a (lane k hk l) := by
    funext b; refine Fin.ext ((ValueKit.rect_emb_unit_val _ _ _ _ _).trans ?_)
    fin_cases b
    · exact Nat.zero_add _
    · rfl
  rw [e]
  unfold rowCode codeOf
  pointwise [k0_pay2]
  rw [scale1_apply s h0, rd_apply s k hk]

/-- The codes. -/
theorem codesOf_apply (s : Vec Ideal S21x768x256 .f32) (h0 : ∀ y, 0 ≤ s y) (y : S768x5376.Idx) :
    codesOf s y = rowCode (row s (y 0)) (y 1) := by
  refine View.canon_apply_of_pieces (Val := Elt Ideal) (fun y : S768x5376.Idx => rowCode (row s (y 0)) (y 1)) (codePieces s) ?_ y (cover_codes s y)
  simp only [codePieces, List.forall_mem_cons]
  exact ⟨pay2_apply s h0 20 (by decide) _ _, pay2_apply s h0 19 (by decide) _ _, pay2_apply s h0 18 (by decide) _ _, pay2_apply s h0 17 (by decide) _ _, pay2_apply s h0 16 (by decide) _ _, pay2_apply s h0 15 (by decide) _ _, pay2_apply s h0 14 (by decide) _ _, pay2_apply s h0 13 (by decide) _ _, pay2_apply s h0 12 (by decide) _ _, pay2_apply s h0 11 (by decide) _ _, pay2_apply s h0 10 (by decide) _ _, pay2_apply s h0 9 (by decide) _ _, pay2_apply s h0 8 (by decide) _ _, pay2_apply s h0 7 (by decide) _ _, pay2_apply s h0 6 (by decide) _ _, pay2_apply s h0 5 (by decide) _ _, pay2_apply s h0 4 (by decide) _ _, pay2_apply s h0 3 (by decide) _ _, pay2_apply s h0 2 (by decide) _ _, pay2_apply s h0 1 (by decide) _ _, pay2_apply s h0 0 (by decide) _ _, fun p hp => absurd hp List.not_mem_nil⟩

/-- The row of scales. -/
theorem rowOf_apply (s : Vec Ideal S21x768x256 .f32) (h0 : ∀ y, 0 ≤ s y) (y : S1x1x768.Idx) :
    rowOf s y = rowScale (row s (y 2)) := by
  refine View.canon_apply_of_pieces (Val := Elt Ideal) (fun y : S1x1x768.Idx => rowScale (row s (y 2))) (rowPieces s) ?_ y (cover_row s y)
  have key : ∀ (o : ℕ) (ho : o + 256 ≤ 768) (hi : ∀ a, (![0, 0, o] : Fin 3 → ℕ) a + S1x1x256.size a ≤ S1x1x768.size a) (x : S1x1x256.Idx),
      scale1 s (ix2 ⟨o + (x 2).val, by have : (x 2).val < 256 := (x 2).isLt; omega⟩ 0)
        = (fun y : S1x1x768.Idx => rowScale (row s (y 2))) ((Rect.unit (s := S1x1x768) ![0, 0, o] S1x1x256.size hi).emb x) := fun o ho hi x => by
    rw [scale1_apply s h0]
    exact congrArg (fun a => rowScale (row s a)) (Fin.ext (ValueKit.rect_emb_unit_val (s := S1x1x768) ![0, 0, o] S1x1x256.size hi x 2).symm)
  simp only [rowPieces, List.forall_mem_cons]
  refine ⟨fun x => ?_, fun x => ?_, fun x => ?_, fun p hp => absurd hp List.not_mem_nil⟩
  · refine Eq.trans ?_ (key 512 (by decide) _ x)
    pointwise [k0_pay11, k0_pay10]; rfl
  · refine Eq.trans ?_ (key 256 (by decide) _ x)
    pointwise [k0_pay9]; rfl
  · refine Eq.trans ?_ (key 0 (by decide) _ x)
    pointwise [k0_pay8]; rfl

/-- The column of scales the output reads. -/
theorem colOf_scOf (s : Vec Ideal S21x768x256 .f32) (h0 : ∀ y, 0 ≤ s y) (a : Fin 768) :
    colOf (scOf s) (ix2 a 0) = rowScale (row s a) := by
  refine Eq.trans ?_ (scale1_apply s h0 a)
  unfold colOf scOf
  pointwise [k0_pay7]; rfl

/-- A plane of activations. -/
theorem planeOf_apply (x : Vec Ideal S768x4096 .fp8e4m3) (xs : Vec Ideal S768x128 .f32) (w : Vec Ideal S4096x256 .fp8e4m3) (ws : Vec Ideal S1x256 .f32)
    (a : Fin 768) (l : Fin 256) :
    planeOf x xs w ws (ix3 0 a l) = max ((∑ k : Fin 4096, x (ix2 a k) * w (ix2 k l)) * xs (ix2 a 0) * ws (ix2 0 l)) 0
      * max ((∑ k : Fin 4096, x (ix2 a k) * w (ix2 k l)) * xs (ix2 a 0) * ws (ix2 0 l)) 0 := by
  unfold planeOf colOf
  pointwise [k0_pay1]

/-- An output block. -/
theorem outOf_apply (s : Vec Ideal S21x768x256 .f32) (h0 : ∀ y, 0 ≤ s y) (x6 : Vec Ideal S5376x256 .fp8e4m3) (x7 : Vec Ideal S1x256 .f32) (x8 : Vec Ideal S768x1024 .fp8e4m3) (x9 : Vec Ideal S768x128 .f32) (x10 : Vec Ideal S1024x256 .fp8e4m3) (x11 : Vec Ideal S1x256 .f32) (x12 : Vec Ideal S768x256 .f32)
    (a : Fin 768) (l : Fin 256) :
    outOf (codesOf s) (scOf s) x6 x7 x8 x9 x10 x11 x12 (ix2 a l)
      = x12 (ix2 a l) + (∑ f : Fin 5376, rowCode (row s a) f * x6 (ix2 f l)) * rowScale (row s a) * x7 (ix2 0 l)
        + (∑ k : Fin 1024, x8 (ix2 a k) * x10 (ix2 k l)) * x9 (ix2 a 0) * x11 (ix2 0 l) := by
  have e9 : colOf x9 (ix2 a 0) = x9 (ix2 a 0) := by unfold colOf; pointwise
  unfold outOf
  pointwise [k0_pay3]
  rw [colOf_scOf s h0, e9]
  simp only [codesOf_apply s h0]
  rfl

end Cert.SharedIdeal.Hand

end
-- ==== Proof.SharedIdeal.Final.lean ====
module

public import proofs.«01_k».proof.Proof.SharedIdeal.Frame
public import proofs.«01_k».proof.Proof.SharedIdeal.Math
public import Idealize.ShloMosaic.Lib.Pipeline.ValueKit

/-! The result arrays of the shared expert over the extended reals -/

@[expose] public section

set_option maxRecDepth 16384

noncomputable section

namespace Cert.SharedIdeal.Hand

open Idealize.ShloMosaic Idealize.SL.Sem Cert.SharedIdeal Cert.SharedIdeal.Gen Cert.Spec

variable (m : (ℓ : Loc nD τ sig) → Buf (Elt Ideal) ℓ) (c : Dev nD)

/-! The block of each window at a grid point. -/
theorem e0 : ∀ t : Fin cfg0.N, win0_0.index t = ![t.val / 37, 0] := (by decide +kernel : ∀ t : Fin grid0.N, win0_0.index t = ![t.val / 37, 0])
theorem e1 : ∀ t : Fin cfg0.N, win0_1.index t = ![t.val / 37, 0] := (by decide +kernel : ∀ t : Fin grid0.N, win0_1.index t = ![t.val / 37, 0])
theorem e2 : ∀ t : Fin cfg0.N, win0_2.index t = ![0, min (t.val % 37) 20] := (by decide +kernel : ∀ t : Fin grid0.N, win0_2.index t = ![0, min (t.val % 37) 20])
theorem e3 : ∀ t : Fin cfg0.N, win0_3.index t = ![0, min (t.val % 37) 20] := (by decide +kernel : ∀ t : Fin grid0.N, win0_3.index t = ![0, min (t.val % 37) 20])
theorem e4 : ∀ t : Fin cfg0.N, win0_4.index t = ![0, t.val % 37 - 21] := (by decide +kernel : ∀ t : Fin grid0.N, win0_4.index t = ![0, t.val % 37 - 21])
theorem e5 : ∀ t : Fin cfg0.N, win0_5.index t = ![0, t.val % 37 - 21] := (by decide +kernel : ∀ t : Fin grid0.N, win0_5.index t = ![0, t.val % 37 - 21])
theorem e6 : ∀ t : Fin cfg0.N, win0_6.index t = ![t.val / 37, 0] := (by decide +kernel : ∀ t : Fin grid0.N, win0_6.index t = ![t.val / 37, 0])
theorem e7 : ∀ t : Fin cfg0.N, win0_7.index t = ![t.val / 37, 0] := (by decide +kernel : ∀ t : Fin grid0.N, win0_7.index t = ![t.val / 37, 0])
theorem e8 : ∀ t : Fin cfg0.N, win0_8.index t = ![0, t.val % 37 - 21] := (by decide +kernel : ∀ t : Fin grid0.N, win0_8.index t = ![0, t.val % 37 - 21])
theorem e9 : ∀ t : Fin cfg0.N, win0_9.index t = ![0, t.val % 37 - 21] := (by decide +kernel : ∀ t : Fin grid0.N, win0_9.index t = ![0, t.val % 37 - 21])
theorem e10 : ∀ t : Fin cfg0.N, win0_10.index t = ![t.val / 37, t.val % 37 - 21] := (by decide +kernel : ∀ t : Fin grid0.N, win0_10.index t = ![t.val / 37, t.val % 37 - 21])
theorem e11 : ∀ t : Fin cfg0.N, win0_11.index t = ![t.val / 37, 0] := (by decide +kernel : ∀ t : Fin grid0.N, win0_11.index t = ![t.val / 37, 0])
theorem e12 : ∀ t : Fin cfg0.N, win0_12.index t = ![t.val / 37, 0, 0] := (by decide +kernel : ∀ t : Fin grid0.N, win0_12.index t = ![t.val / 37, 0, 0])
theorem e13 : ∀ t : Fin cfg0.N, win0_13.index t = ![t.val / 37, t.val % 37 - 21] := (by decide +kernel : ∀ t : Fin grid0.N, win0_13.index t = ![t.val / 37, t.val % 37 - 21])

theorem lt111 (t : Fin cfg0.N) : t.val < 111 := lt_of_lt_of_eq t.isLt (show cfg0.N = 111 from N_0)

/-- Row `a` of row block `i`. -/
def rowAt (i : ℕ) (hi : i < 3) (a : Fin 768) : Fin 2304 := ⟨768 * i + a.val, by have := a.isLt; omega⟩

/-- Column `l` of column block `j` of the output. -/
def colAt (j : ℕ) (hj : j < 16) (l : Fin 256) : Fin 4096 := ⟨256 * j + l.val, by have := l.isLt; omega⟩

/-! The input blocks at an index. -/
theorem iblk0 (t : Fin cfg0.N) (a : Fin 768) (k : Fin 4096) :
    iblk m c 0 t (ix2 a k) = m ((c.tc : Thread nD τ).loc main_arg0) (ix2 (rowAt (t.val / 37) (by have := lt111 t; omega) a) k) := by
  blk_simp [iblk]
  refine congrArg (m ((c.tc : Thread nD τ).loc main_arg0)) ?_
  unfold rowAt
  blk_ext [e0]
theorem iblk1 (t : Fin cfg0.N) (a : Fin 768) :
    iblk m c 1 t (ix2 a 0) = m ((c.tc : Thread nD τ).loc main_arg1) (ix2 (rowAt (t.val / 37) (by have := lt111 t; omega) a) 0) := by
  blk_simp [iblk]
  refine congrArg (m ((c.tc : Thread nD τ).loc main_arg1)) ?_
  unfold rowAt
  blk_ext [e1]
theorem iblk2 (t : Fin cfg0.N) (k : Fin 4096) (l : Fin 256) :
    iblk m c 2 t (ix2 k l) = m ((c.tc : Thread nD τ).loc main_arg2) (ix2 k (lane (min (t.val % 37) 20) (by omega) l)) := by
  blk_simp [iblk]
  refine congrArg (m ((c.tc : Thread nD τ).loc main_arg2)) ?_
  unfold lane
  blk_ext [e2]
theorem iblk3 (t : Fin cfg0.N) (l : Fin 256) :
    iblk m c 3 t (ix2 0 l) = m ((c.tc : Thread nD τ).loc main_arg3) (ix2 0 (lane (min (t.val % 37) 20) (by omega) l)) := by
  blk_simp [iblk]
  refine congrArg (m ((c.tc : Thread nD τ).loc main_arg3)) ?_
  unfold lane
  blk_ext [e3]
theorem iblk4 (t : Fin cfg0.N) (k : Fin 5376) (l : Fin 256) :
    iblk m c 4 t (ix2 k l) = m ((c.tc : Thread nD τ).loc main_arg4) (ix2 k (colAt (t.val % 37 - 21) (by omega) l)) := by
  blk_simp [iblk]
  refine congrArg (m ((c.tc : Thread nD τ).loc main_arg4)) ?_
  unfold colAt
  blk_ext [e4]
theorem iblk5 (t : Fin cfg0.N) (l : Fin 256) :
    iblk m c 5 t (ix2 0 l) = m ((c.tc : Thread nD τ).loc main_arg5) (ix2 0 (colAt (t.val % 37 - 21) (by omega) l)) := by
  blk_simp [iblk]
  refine congrArg (m ((c.tc : Thread nD τ).loc main_arg5)) ?_
  unfold colAt
  blk_ext [e5]
theorem iblk6 (t : Fin cfg0.N) (a : Fin 768) (k : Fin 1024) :
    iblk m c 6 t (ix2 a k) = m ((c.tc : Thread nD τ).loc main_arg6) (ix2 (rowAt (t.val / 37) (by have := lt111 t; omega) a) k) := by
  blk_simp [iblk]
  refine congrArg (m ((c.tc : Thread nD τ).loc main_arg6)) ?_
  unfold rowAt
  blk_ext [e6]
theorem iblk7 (t : Fin cfg0.N) (a : Fin 768) :
    iblk m c 7 t (ix2 a 0) = m ((c.tc : Thread nD τ).loc main_arg7) (ix2 (rowAt (t.val / 37) (by have := lt111 t; omega) a) 0) := by
  blk_simp [iblk]
  refine congrArg (m ((c.tc : Thread nD τ).loc main_arg7)) ?_
  unfold rowAt
  blk_ext [e7]
theorem iblk8 (t : Fin cfg0.N) (k : Fin 1024) (l : Fin 256) :
    iblk m c 8 t (ix2 k l) = m ((c.tc : Thread nD τ).loc main_arg8) (ix2 k (colAt (t.val % 37 - 21) (by omega) l)) := by
  blk_simp [iblk]
  refine congrArg (m ((c.tc : Thread nD τ).loc main_arg8)) ?_
  unfold colAt
  blk_ext [e8]
theorem iblk9 (t : Fin cfg0.N) (l : Fin 256) :
    iblk m c 9 t (ix2 0 l) = m ((c.tc : Thread nD τ).loc main_arg9) (ix2 0 (colAt (t.val % 37 - 21) (by omega) l)) := by
  blk_simp [iblk]
  refine congrArg (m ((c.tc : Thread nD τ).loc main_arg9)) ?_
  unfold colAt
  blk_ext [e9]
theorem iblk10 (t : Fin cfg0.N) (a : Fin 768) (l : Fin 256) :
    iblk m c 10 t (ix2 a l) = m ((c.tc : Thread nD τ).loc main_arg10) (ix2 (rowAt (t.val / 37) (by have := lt111 t; omega) a) (colAt (t.val % 37 - 21) (by omega) l)) := by
  blk_simp [iblk]
  refine congrArg (m ((c.tc : Thread nD τ).loc main_arg10)) ?_
  unfold rowAt colAt
  blk_ext [e10]

/-- The row of activations of row `r`. -/
def actRow (r : Fin 2304) : Fin 5376 → EReal :=
  act (m ((c.tc : Thread nD τ).loc main_arg0)) (m ((c.tc : Thread nD τ).loc main_arg1)) (m ((c.tc : Thread nD τ).loc main_arg2))
    (m ((c.tc : Thread nD τ).loc main_arg3)) r

theorem upBlk_apply (t : Fin cfg0.N) (a : Fin 768) (l : Fin 256) :
    upBlk m c t (ix3 0 a l) = actRow m c (rowAt (t.val / 37) (by have := lt111 t; omega) a) (lane (min (t.val % 37) 20) (by omega) l) := by
  unfold upBlk actRow act
  refine (planeOf_apply _ _ _ _ a l).trans ?_
  simp only [iblk0 m c, iblk1 m c, iblk2 m c, iblk3 m c]

theorem planes_nonneg (i : ℕ) (y : S21x768x256.Idx) : 0 ≤ planes m c i y := by
  unfold planes
  exact (upBlk_apply m c _ (y 1) (y 2)).symm ▸ act_nonneg _ _ _ _ _ _

/-- The planes of row block `i`, laid end to end. -/
theorem row_planes (i : ℕ) (hi : i < 3) (a : Fin 768) : row (planes m c i) a = actRow m c (rowAt i hi a) := by
  funext f
  have hf := f.isLt
  unfold row planes
  refine (upBlk_apply m c _ _ _).trans ?_
  have hv : (pt (37 * i + f.val / 256)).val = 37 * i + f.val / 256 := Nat.mod_eq_of_lt (by omega)
  refine congrArg₂ (actRow m c) (Fin.ext ?_) (Fin.ext ?_)
  · show 768 * ((pt (37 * i + f.val / 256)).val / 37) + a.val = 768 * i + a.val
    rw [hv]; omega
  · show 256 * min ((pt (37 * i + f.val / 256)).val % 37) 20 + f.val % 256 = f.val
    rw [hv]; omega

/-- The codes of the activations. -/
def G0 : Vec Ideal S2304x5376 .fp8e4m3 := fun y => rowCode (actRow m c (y 0)) (y 1)

/-- The scales of the activations, as three rows of 768. -/
def G1 : Vec Ideal S3x1x768 .f32 := fun y =>
  rowScale (actRow m c (rowAt (y 0).val (y 0).isLt (y 2)))

/-- The output. -/
def G2 : Vec Ideal S2304x4096 .bf16 := fun y =>
  outAt (actRow m c (y 0)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8))
    (m ((c.tc : Thread nD τ).loc main_arg9)) (m ((c.tc : Thread nD τ).loc main_arg10)) (y 0) (y 1)

theorem final_11 : (dats m 0 c).arrAt 11 cfg0.N = G0 m c := by
  refine (dats m 0 c).arrAt_eq_of_covers 11 _ (by decide +kernel) fun t hf y => ?_
  have ht := lt111 t
  blk_simp
  rw [after0_11]
  refine (codesOf_apply _ (planes_nonneg m c _) y).trans ?_
  refine (congrArg (fun g => rowCode g (y 1)) (row_planes m c _ (by omega) (y 0))).trans ?_
  unfold G0
  refine congrArg₂ (fun r f => rowCode (actRow m c r) f) (Fin.ext ?_) (Fin.ext ?_)
  · show 768 * (t.val / 37) + (y 0).val = _
    blk_simp [e11]; omega
  · blk_simp [e11]

theorem final_12 : (dats m 0 c).arrAt 12 cfg0.N = G1 m c := by
  refine (dats m 0 c).arrAt_eq_of_covers 12 _ (by decide +kernel) fun t hf y => ?_
  have ht := lt111 t
  blk_simp
  rw [after0_12]
  refine (rowOf_apply _ (planes_nonneg m c _) y).trans ?_
  refine (congrArg rowScale (row_planes m c _ (by omega) (y 2))).trans ?_
  unfold G1
  refine congrArg (fun r => rowScale (actRow m c r)) (Fin.ext ?_)
  have h0 : (y 0).val < 1 := (y 0).isLt
  show 768 * (t.val / 37) + (y 2).val = 768 * ((win0_12.blk t).view.emb y 0).val + ((win0_12.blk t).view.emb y 2).val
  blk_simp [e12]

theorem final_13 : (dats m 0 c).arrAt 13 cfg0.N = G2 m c := by
  refine (dats m 0 c).arrAt_eq_of_covers 13 _ (by decide +kernel) fun t hf y => ?_
  have ht := lt111 t
  blk_simp
  rw [after0_13]
  obtain ⟨a, l, rfl⟩ : ∃ (a : Fin 768) (l : Fin 256), y = ix2 a l := ⟨y 0, y 1, eq_ix2 y⟩
  unfold outBlk
  refine (outOf_apply _ (planes_nonneg m c _) _ _ _ _ _ _ _ a l).trans ?_
  rw [row_planes m c _ (by omega)]
  simp only [iblk4 m c, iblk5 m c, iblk6 m c, iblk7 m c, iblk8 m c, iblk9 m c, iblk10 m c]
  have e : (win0_13.blk t).view.emb (ix2 a l) = ix2 (rowAt (t.val / 37) (by omega) a) (colAt (t.val % 37 - 21) (by omega) l) := by
    unfold rowAt colAt
    blk_ext [e13]
  exact (congrArg (G2 m c) e).symm

/-- Every run ends with the three result arrays at these values and the arguments unchanged. -/
theorem run_values (ρ : Dev nD → PrngReg) : θ_run defs (onTc (τ := τ) (main (F := Ideal))) ⟨m, fun _ => 0, ρ⟩ (fun r => ∀ c : Dev nD,
      r.2.mem ((c.tc : Thread nD τ).loc main_v0_0) = G0 m c
      ∧ r.2.mem ((c.tc : Thread nD τ).loc main_v0_1) = G1 m c
      ∧ r.2.mem ((c.tc : Thread nD τ).loc main_v0_2) = G2 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨(h.1.out_eq c 11).trans (final_11 m c), (h.1.out_eq c 12).trans (final_12 m c), (h.1.out_eq c 13).trans (final_13 m c), h.2.1 c⟩)
    (θ_run_and (run_main m ρ) (frame m ρ))

end Cert.SharedIdeal.Hand

end
-- ==== Proof.SharedRefIdeal.Math.lean ====
module

public import proofs.«01_k».proof.Proof.Gen.SharedRefIdeal.Frame
public import proofs.«01_k».proof.Proof.Spec
public import Idealize.ShloMosaic.Lib.Claim
public import Idealize.ShloMosaic.Lib.Pipeline.ValueKit

/-! The result arrays of the reference over the extended reals -/

@[expose] public section

set_option maxRecDepth 16384

noncomputable section

namespace Cert.SharedRefIdeal.Hand

open Idealize.ShloMosaic Idealize.SL.Sem Cert.SharedRefIdeal Cert.SharedRefIdeal.Gen Cert.Spec

/-- The greatest absolute value of a row of activations, divided by 448. -/
theorem scale_eq (g : Fin 5376 → EReal) (h0 : ∀ f, 0 ≤ g f) :
    (if Finset.univ.fold max (Ideal.ofBits FTy.f32 0xFF800000#32) (fun f => max (g f) (-(g f))) = 0 then (1 : EReal)
      else Ideal.div (Finset.univ.fold max (Ideal.ofBits FTy.f32 0xFF800000#32) (fun f => max (g f) (-(g f)))) (Ideal.ofBits FTy.f32 0x43E00000#32))
      = rowScale g := by
  have e : (fun f => max (g f) (-(g f))) = g := funext fun f => abs_of_nonneg (h0 f)
  rw [e, ofBits_bot, ofBits_448, Ideal.div_coe (by norm_num : (448 : ℝ) ≠ 0)]
  unfold rowScale scaleOf rowMax
  rfl

/-- The first column of a block of 128 equal columns. -/
def col1 (x : Vec Ideal S2304x128 .f32) : Vec Ideal S2304x1 .f32 :=
  View.ld x (Rect.unit (s := S2304x128) ![0, 0] S2304x1.size inb_S2304x128_S2304x1_0_0)

theorem col1_apply (x : Vec Ideal S2304x128 .f32) (r : Fin 2304) : col1 x (ix2 r 0) = x (ix2 r 0) := by
  unfold col1; pointwise

/-- The clipped quotient at an index, of any scales and elements. -/
theorem clip_apply (p : FVec Ideal S2304x5376 .f32) (q : FVec Ideal S2304x1 .f32) (r : Fin 2304) (f : Fin 5376) :
    truncf FTy.fp8e4m3
      (minimumf (broadcast S2304x5376 (FloatOps.ofBits FTy.f32 0x43E00000#32))
        (maximumf (broadcast S2304x5376 (FloatOps.ofBits FTy.f32 0xC3E00000#32))
          (divf p (broadcastTo S2304x5376 q broadcasts_S2304x1_S2304x5376))))
      bitsLt_fp8e4m3_f32 (ix2 r f) = codeOf (q (ix2 r 0)) (p (ix2 r f)) := by
  unfold codeOf
  pointwise

/-- The greatest absolute value of a row, as a column. -/
theorem max_apply (p : FVec Ideal S2304x5376 .f32) (r : Fin 2304) :
    shapeCast S2304x1 (multiReduction .maximumf [1] S2304 (absf p) 0xFF800000#32 reduces_S2304x5376_S2304 (.inl rfl) rfl) shapeCasts_S2304_S2304x1 (ix2 r 0)
      = Finset.univ.fold max (Ideal.ofBits FTy.f32 0xFF800000#32) (fun f : Fin 5376 => max (p (ix2 r f)) (-(p (ix2 r f)))) := by
  pointwise
  try rfl

/-- The scale from the column of greatest absolute values. -/
theorem sel_apply (v : FVec Ideal S2304x1 .f32) (r : Fin 2304) :
    select (cmpf .oeq v (broadcast S2304x1 (FloatOps.ofBits FTy.f32 0x00000000#32))) (broadcast S2304x1 (FloatOps.ofBits FTy.f32 0x3F800000#32))
      (divf v (broadcast S2304x1 (FloatOps.ofBits FTy.f32 0x43E00000#32))) (ix2 r 0)
      = if v (ix2 r 0) = 0 then (1 : EReal) else Ideal.div (v (ix2 r 0)) (Ideal.ofBits FTy.f32 0x43E00000#32) := by
  pointwise

/-- The output at an index, of any codes and scales. -/
theorem sum_out_apply (q : FVec Ideal S2304x5376 .fp8e4m3) (sc : FVec Ideal S2304x1 .f32) (wd : FVec Ideal S5376x4096 .fp8e4m3)
    (wds : Vec Ideal S1x4096 .f32) (cc : Vec Ideal S2304x1024 .fp8e4m3)
    (cs : Vec Ideal S2304x1 .f32) (wl : Vec Ideal S1024x4096 .fp8e4m3) (wls : Vec Ideal S1x4096 .f32) (x1 : Vec Ideal S2304x4096 .f32)
    (r : Fin 2304) (n : Fin 4096) :
    k0_pay1 (matmul dot_S2304x5376_S5376x4096_S2304x4096_1_0_0_1_n_n none q wd (constant S2304x4096 .f32 0x00000000#32))
        (broadcastTo S2304x4096 sc broadcasts_S2304x1_S2304x4096) wds cc wl cs wls x1 (ix2 r n)
      = x1 (ix2 r n) + (∑ f : Fin 5376, q (ix2 r f) * wd (ix2 f n)) * sc (ix2 r 0) * wds (ix2 0 n)
        + (∑ k : Fin 1024, cc (ix2 r k) * wl (ix2 k n)) * cs (ix2 r 0) * wls (ix2 0 n) := by
  pointwise [k0_pay1]

section
variable (xc : Vec Ideal S2304x4096 .fp8e4m3) (xs : Vec Ideal S2304x128 .f32) (wu : Vec Ideal S4096x5376 .fp8e4m3) (wus : Vec Ideal S1x5376 .f32)

theorem pay2_apply (r : Fin 2304) (f : Fin 5376) : k0_pay2 xc wu (col1 xs) wus (ix2 r f) = act xc xs wu wus r f := by
  unfold act
  pointwise [k0_pay2]
  rw [col1_apply]

theorem pay3_apply (r : Fin 2304) : k0_pay3 xc wu (col1 xs) wus (ix2 r 0) = rowScale (act xc xs wu wus r) := by
  rw [← scale_eq _ (act_nonneg xc xs wu wus r)]
  have e : (fun f : Fin 5376 => max (act xc xs wu wus r f) (-(act xc xs wu wus r f)))
      = fun f => max (k0_pay2 xc wu (col1 xs) wus (ix2 r f)) (-(k0_pay2 xc wu (col1 xs) wus (ix2 r f))) :=
    funext fun f => by rw [pay2_apply]
  rw [e, ← max_apply]
  exact sel_apply _ r

theorem pay4_apply (r : Fin 2304) (f : Fin 5376) : k0_pay4 xc wu (col1 xs) wus (ix2 r f) = rowCode (act xc xs wu wus r) f := by
  unfold rowCode
  rw [← pay2_apply, ← pay3_apply]
  exact clip_apply _ _ r f

theorem pay5_apply (i : Fin 3) (a : Fin 768) : k0_pay5 xc wu (col1 xs) wus (ix3 i 0 a)
    = rowScale (act xc xs wu wus ⟨768 * i.val + a.val, by have := i.isLt; have := a.isLt; omega⟩) := by
  have e : k0_pay5 xc wu (col1 xs) wus (ix3 i 0 a)
      = k0_pay3 xc wu (col1 xs) wus (ix2 ⟨i.val * 768 + a.val, by have := i.isLt; have := a.isLt; omega⟩ 0) := by pointwise [k0_pay5]
  refine e.trans ((pay3_apply xc xs wu wus _).trans (congrArg (fun r => rowScale (act xc xs wu wus r)) (Fin.ext ?_)))
  show i.val * 768 + a.val = 768 * i.val + a.val
  rw [Nat.mul_comm]

theorem out_apply (wd : Vec Ideal S5376x4096 .fp8e4m3) (wds : Vec Ideal S1x4096 .f32) (cc : Vec Ideal S2304x1024 .fp8e4m3)
    (cs : Vec Ideal S2304x128 .f32) (wl : Vec Ideal S1024x4096 .fp8e4m3) (wls : Vec Ideal S1x4096 .f32) (x1 : Vec Ideal S2304x4096 .f32)
    (r : Fin 2304) (n : Fin 4096) :
    k0_pay1 (k0_pay6 xc wu (col1 xs) wus wd) (k0_pay7 xc wu (col1 xs) wus) wds cc wl (col1 cs) wls x1 (ix2 r n)
      = outAt (act xc xs wu wus r) wd wds cc cs wl wls x1 r n := by
  unfold outAt
  refine (sum_out_apply (k0_pay4 xc wu (col1 xs) wus) (k0_pay3 xc wu (col1 xs) wus) wd wds cc (col1 cs) wl wls x1 r n).trans ?_
  rw [col1_apply, pay3_apply, Finset.sum_congr rfl fun f _ => congrArg (· * wd (ix2 f n)) (pay4_apply xc xs wu wus r f)]
end

end Cert.SharedRefIdeal.Hand

end
-- ==== Proof.SharedRefIdeal.Final.lean ====
module

public import proofs.«01_k».proof.Proof.SharedRefIdeal.Math
public import proofs.«01_k».proof.Proof.Gen.SharedRefIdeal.Frame
public import Idealize.ShloMosaic.Lib.Pipeline.ValueKit
public import Idealize.ShloMosaic.Lib.Claim

/-! The reference's result arrays over the extended reals, from its run -/

@[expose] public section

set_option maxRecDepth 16384

noncomputable section

namespace Cert.SharedRefIdeal.Hand

open Idealize.ShloMosaic Idealize.SL.Sem Cert.SharedRefIdeal Cert.SharedRefIdeal.Gen Cert.Spec

variable (m : (ℓ : Loc nD τ sig) → Buf (Elt Ideal) ℓ) (c : Dev nD)

theorem off2 : (![0, 0] : Fin 2 → ℕ) = fun _ => 0 := by funext a; fin_cases a <;> rfl
theorem off3 : (![0, 0, 0] : Fin 3 → ℕ) = fun _ => 0 := by funext a; fin_cases a <;> rfl

/-! Every window's one block is its array. -/
theorem iblk0 (t : Fin cfg0.N) : iblk m c 0 t = m ((c.tc : Thread nD τ).loc main_arg0) := by
  rw [fin_N0 t]
  funext x
  have e : ∀ t : Fin cfg0.N, win0_0.index t = ![0, 0] := (by decide +kernel : ∀ t : Fin grid0.N, win0_0.index t = ![0, 0])
  blk_simp [iblk]
  refine congrArg (m ((c.tc : Thread nD τ).loc main_arg0)) ?_
  blk_ext [e]
theorem iblk1 (t : Fin cfg0.N) : iblk m c 1 t = m ((c.tc : Thread nD τ).loc main_arg1) := by
  rw [fin_N0 t]
  funext x
  have e : ∀ t : Fin cfg0.N, win0_1.index t = ![0, 0] := (by decide +kernel : ∀ t : Fin grid0.N, win0_1.index t = ![0, 0])
  blk_simp [iblk]
  refine congrArg (m ((c.tc : Thread nD τ).loc main_arg1)) ?_
  blk_ext [e]
theorem iblk2 (t : Fin cfg0.N) : iblk m c 2 t = m ((c.tc : Thread nD τ).loc main_arg2) := by
  rw [fin_N0 t]
  funext x
  have e : ∀ t : Fin cfg0.N, win0_2.index t = ![0, 0] := (by decide +kernel : ∀ t : Fin grid0.N, win0_2.index t = ![0, 0])
  blk_simp [iblk]
  refine congrArg (m ((c.tc : Thread nD τ).loc main_arg2)) ?_
  blk_ext [e]
theorem iblk3 (t : Fin cfg0.N) : iblk m c 3 t = m ((c.tc : Thread nD τ).loc main_arg3) := by
  rw [fin_N0 t]
  funext x
  have e : ∀ t : Fin cfg0.N, win0_3.index t = ![0, 0] := (by decide +kernel : ∀ t : Fin grid0.N, win0_3.index t = ![0, 0])
  blk_simp [iblk]
  refine congrArg (m ((c.tc : Thread nD τ).loc main_arg3)) ?_
  blk_ext [e]
theorem iblk4 (t : Fin cfg0.N) : iblk m c 4 t = m ((c.tc : Thread nD τ).loc main_arg4) := by
  rw [fin_N0 t]
  funext x
  have e : ∀ t : Fin cfg0.N, win0_4.index t = ![0, 0] := (by decide +kernel : ∀ t : Fin grid0.N, win0_4.index t = ![0, 0])
  blk_simp [iblk]
  refine congrArg (m ((c.tc : Thread nD τ).loc main_arg4)) ?_
  blk_ext [e]
theorem iblk5 (t : Fin cfg0.N) : iblk m c 5 t = m ((c.tc : Thread nD τ).loc main_arg5) := by
  rw [fin_N0 t]
  funext x
  have e : ∀ t : Fin cfg0.N, win0_5.index t = ![0, 0] := (by decide +kernel : ∀ t : Fin grid0.N, win0_5.index t = ![0, 0])
  blk_simp [iblk]
  refine congrArg (m ((c.tc : Thread nD τ).loc main_arg5)) ?_
  blk_ext [e]
theorem iblk6 (t : Fin cfg0.N) : iblk m c 6 t = m ((c.tc : Thread nD τ).loc main_arg6) := by
  rw [fin_N0 t]
  funext x
  have e : ∀ t : Fin cfg0.N, win0_6.index t = ![0, 0] := (by decide +kernel : ∀ t : Fin grid0.N, win0_6.index t = ![0, 0])
  blk_simp [iblk]
  refine congrArg (m ((c.tc : Thread nD τ).loc main_arg6)) ?_
  blk_ext [e]
theorem iblk7 (t : Fin cfg0.N) : iblk m c 7 t = m ((c.tc : Thread nD τ).loc main_arg7) := by
  rw [fin_N0 t]
  funext x
  have e : ∀ t : Fin cfg0.N, win0_7.index t = ![0, 0] := (by decide +kernel : ∀ t : Fin grid0.N, win0_7.index t = ![0, 0])
  blk_simp [iblk]
  refine congrArg (m ((c.tc : Thread nD τ).loc main_arg7)) ?_
  blk_ext [e]
theorem iblk8 (t : Fin cfg0.N) : iblk m c 8 t = m ((c.tc : Thread nD τ).loc main_arg8) := by
  rw [fin_N0 t]
  funext x
  have e : ∀ t : Fin cfg0.N, win0_8.index t = ![0, 0] := (by decide +kernel : ∀ t : Fin grid0.N, win0_8.index t = ![0, 0])
  blk_simp [iblk]
  refine congrArg (m ((c.tc : Thread nD τ).loc main_arg8)) ?_
  blk_ext [e]
theorem iblk9 (t : Fin cfg0.N) : iblk m c 9 t = m ((c.tc : Thread nD τ).loc main_arg9) := by
  rw [fin_N0 t]
  funext x
  have e : ∀ t : Fin cfg0.N, win0_9.index t = ![0, 0] := (by decide +kernel : ∀ t : Fin grid0.N, win0_9.index t = ![0, 0])
  blk_simp [iblk]
  refine congrArg (m ((c.tc : Thread nD τ).loc main_arg9)) ?_
  blk_ext [e]
theorem iblk10 (t : Fin cfg0.N) : iblk m c 10 t = m ((c.tc : Thread nD τ).loc main_arg10) := by
  rw [fin_N0 t]
  funext x
  have e : ∀ t : Fin cfg0.N, win0_10.index t = ![0, 0] := (by decide +kernel : ∀ t : Fin grid0.N, win0_10.index t = ![0, 0])
  blk_simp [iblk]
  refine congrArg (m ((c.tc : Thread nD τ).loc main_arg10)) ?_
  blk_ext [e]

/-- The row of activations of row `r`. -/
def actRow (r : Fin 2304) : Fin 5376 → EReal :=
  act (m ((c.tc : Thread nD τ).loc main_arg0)) (m ((c.tc : Thread nD τ).loc main_arg1)) (m ((c.tc : Thread nD τ).loc main_arg2))
    (m ((c.tc : Thread nD τ).loc main_arg3)) r

/-- The codes of the activations. -/
def G0 : Vec Ideal S2304x5376 .fp8e4m3 := fun y => rowCode (actRow m c (y 0)) (y 1)

/-- The scales of the activations, as three rows of 768. -/
def G1 : Vec Ideal S3x1x768 .f32 := fun y =>
  rowScale (actRow m c ⟨768 * (y 0).val + (y 2).val, by have h0 : (y 0).val < 3 := (y 0).isLt; have h2 : (y 2).val < 768 := (y 2).isLt; omega⟩)

/-- The output. -/
def G2 : Vec Ideal S2304x4096 .bf16 := fun y =>
  outAt (actRow m c (y 0)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8))
    (m ((c.tc : Thread nD τ).loc main_arg9)) (m ((c.tc : Thread nD τ).loc main_arg10)) (y 0) (y 1)

theorem out11_eq (x0 x1 x2 x3 x4 x5 x6 x7 x8 x9 x10) : out0_11 (F := Ideal) x0 x1 x2 x3 x4 x5 x6 x7 x8 x9 x10 = k0_pay4 x0 x2 (col1 x1) x3 := by
  unfold out0_11
  rw [View.canon_unit_zero off2, View.ld_unit_zero off2, View.ld_unit_zero off2, View.ld_unit_zero off2]
  rfl

theorem out12_eq (x0 x1 x2 x3 x4 x5 x6 x7 x8 x9 x10) : out0_12 (F := Ideal) x0 x1 x2 x3 x4 x5 x6 x7 x8 x9 x10 = k0_pay5 x0 x2 (col1 x1) x3 := by
  unfold out0_12
  rw [View.canon_unit_zero off3, View.ld_unit_zero off2, View.ld_unit_zero off2, View.ld_unit_zero off2]
  rfl

theorem out13_eq (x0 x1 x2 x3 x4 x5 x6 x7 x8 x9 x10) : out0_13 (F := Ideal) x0 x1 x2 x3 x4 x5 x6 x7 x8 x9 x10
    = k0_pay1 (k0_pay6 x0 x2 (col1 x1) x3 x4) (k0_pay7 x0 x2 (col1 x1) x3) x5 x6 x8 (col1 x7) x9 x10 := by
  unfold out0_13
  rw [View.canon_unit_zero off2, View.ld_unit_zero off2, View.ld_unit_zero off2, View.ld_unit_zero off2, View.ld_unit_zero off2, View.ld_unit_zero off2, View.ld_unit_zero off2, View.ld_unit_zero off2, View.ld_unit_zero off2, View.ld_unit_zero off2]
  rfl

theorem final_11 : (dats m 0 c).arrAt 11 cfg0.N = G0 m c := by
  refine (dats m 0 c).arrAt_eq_of_after_last 11 t0_0 (by decide +kernel) _ fun j => ?_
  blk_simp
  rw [after0_11, out11_eq]
  simp only [iblk0 m c, iblk1 m c, iblk2 m c, iblk3 m c]
  obtain ⟨r, f, rfl⟩ : ∃ (r : Fin 2304) (f : Fin 5376), j = ix2 r f := ⟨j 0, j 1, eq_ix2 j⟩
  exact pay4_apply _ _ _ _ r f

theorem final_12 : (dats m 0 c).arrAt 12 cfg0.N = G1 m c := by
  refine (dats m 0 c).arrAt_eq_of_after_last 12 t0_0 (by decide +kernel) _ fun j => ?_
  blk_simp
  rw [after0_12, out12_eq]
  simp only [iblk0 m c, iblk1 m c, iblk2 m c, iblk3 m c]
  obtain ⟨i, b, a, rfl⟩ : ∃ (i : Fin 3) (b : Fin 1) (a : Fin 768), j = ix3 i b a := ⟨j 0, j 1, j 2, eq_ix3 j⟩
  obtain rfl : b = 0 := Subsingleton.elim _ _
  exact pay5_apply _ _ _ _ i a

theorem final_13 : (dats m 0 c).arrAt 13 cfg0.N = G2 m c := by
  refine (dats m 0 c).arrAt_eq_of_after_last 13 t0_0 (by decide +kernel) _ fun j => ?_
  blk_simp
  rw [after0_13, out13_eq]
  simp only [iblk0 m c, iblk1 m c, iblk2 m c, iblk3 m c, iblk4 m c, iblk5 m c, iblk6 m c, iblk7 m c, iblk8 m c, iblk9 m c, iblk10 m c]
  obtain ⟨r, n, rfl⟩ : ∃ (r : Fin 2304) (n : Fin 4096), j = ix2 r n := ⟨j 0, j 1, eq_ix2 j⟩
  exact out_apply _ _ _ _ _ _ _ _ _ _ _ r n

/-- Every run ends with the three result arrays at these values and the arguments unchanged. -/
theorem run_values (ρ : Dev nD → PrngReg) : θ_run defs (onTc (τ := τ) (main (F := Ideal))) ⟨m, fun _ => 0, ρ⟩ (fun r => ∀ c : Dev nD,
      r.2.mem ((c.tc : Thread nD τ).loc main_v0_0) = G0 m c
      ∧ r.2.mem ((c.tc : Thread nD τ).loc main_v0_1) = G1 m c
      ∧ r.2.mem ((c.tc : Thread nD τ).loc main_v0_2) = G2 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨(h.1.out_eq c 11).trans (final_11 m c), (h.1.out_eq c 12).trans (final_12 m c), (h.1.out_eq c 13).trans (final_13 m c), h.2.1 c⟩)
    (θ_run_and (run_main m ρ) (frame m ρ))

end Cert.SharedRefIdeal.Hand

end
-- ==== Proof.Algebraic.lean ====
module

public import proofs.«01_k».proof.Defs
public import proofs.«01_k».proof.Proof.SharedIdeal.Final
public import proofs.«01_k».proof.Proof.SharedRefIdeal.Final

/-! The kernel and the reference end with the same three results -/

@[expose] public section

noncomputable section

namespace Cert.Proof

open Idealize.ShloMosaic Idealize.SL.Sem

/-- From memories agreeing on the arguments, the two programs' result values agree. -/
theorem values_eq (m : (ℓ : Loc Cert.SharedIdeal.nD Cert.SharedIdeal.τ Cert.SharedIdeal.sig) → Buf (Elt Ideal) ℓ)
    (m' : (ℓ : Loc Cert.SharedRefIdeal.nD Cert.SharedRefIdeal.τ Cert.SharedRefIdeal.sig) → Buf (Elt Ideal) ℓ) (c : Dev Cert.SharedIdeal.nD)
    (h : m' ((c.tc : Thread Cert.SharedRefIdeal.nD Cert.SharedRefIdeal.τ).loc Cert.SharedRefIdeal.main_arg0) = m ((c.tc : Thread Cert.SharedIdeal.nD Cert.SharedIdeal.τ).loc Cert.SharedIdeal.main_arg0)
      ∧ m' ((c.tc : Thread Cert.SharedRefIdeal.nD Cert.SharedRefIdeal.τ).loc Cert.SharedRefIdeal.main_arg1) = m ((c.tc : Thread Cert.SharedIdeal.nD Cert.SharedIdeal.τ).loc Cert.SharedIdeal.main_arg1)
      ∧ m' ((c.tc : Thread Cert.SharedRefIdeal.nD Cert.SharedRefIdeal.τ).loc Cert.SharedRefIdeal.main_arg2) = m ((c.tc : Thread Cert.SharedIdeal.nD Cert.SharedIdeal.τ).loc Cert.SharedIdeal.main_arg2)
      ∧ m' ((c.tc : Thread Cert.SharedRefIdeal.nD Cert.SharedRefIdeal.τ).loc Cert.SharedRefIdeal.main_arg3) = m ((c.tc : Thread Cert.SharedIdeal.nD Cert.SharedIdeal.τ).loc Cert.SharedIdeal.main_arg3)
      ∧ m' ((c.tc : Thread Cert.SharedRefIdeal.nD Cert.SharedRefIdeal.τ).loc Cert.SharedRefIdeal.main_arg4) = m ((c.tc : Thread Cert.SharedIdeal.nD Cert.SharedIdeal.τ).loc Cert.SharedIdeal.main_arg4)
      ∧ m' ((c.tc : Thread Cert.SharedRefIdeal.nD Cert.SharedRefIdeal.τ).loc Cert.SharedRefIdeal.main_arg5) = m ((c.tc : Thread Cert.SharedIdeal.nD Cert.SharedIdeal.τ).loc Cert.SharedIdeal.main_arg5)
      ∧ m' ((c.tc : Thread Cert.SharedRefIdeal.nD Cert.SharedRefIdeal.τ).loc Cert.SharedRefIdeal.main_arg6) = m ((c.tc : Thread Cert.SharedIdeal.nD Cert.SharedIdeal.τ).loc Cert.SharedIdeal.main_arg6)
      ∧ m' ((c.tc : Thread Cert.SharedRefIdeal.nD Cert.SharedRefIdeal.τ).loc Cert.SharedRefIdeal.main_arg7) = m ((c.tc : Thread Cert.SharedIdeal.nD Cert.SharedIdeal.τ).loc Cert.SharedIdeal.main_arg7)
      ∧ m' ((c.tc : Thread Cert.SharedRefIdeal.nD Cert.SharedRefIdeal.τ).loc Cert.SharedRefIdeal.main_arg8) = m ((c.tc : Thread Cert.SharedIdeal.nD Cert.SharedIdeal.τ).loc Cert.SharedIdeal.main_arg8)
      ∧ m' ((c.tc : Thread Cert.SharedRefIdeal.nD Cert.SharedRefIdeal.τ).loc Cert.SharedRefIdeal.main_arg9) = m ((c.tc : Thread Cert.SharedIdeal.nD Cert.SharedIdeal.τ).loc Cert.SharedIdeal.main_arg9)
      ∧ m' ((c.tc : Thread Cert.SharedRefIdeal.nD Cert.SharedRefIdeal.τ).loc Cert.SharedRefIdeal.main_arg10) = m ((c.tc : Thread Cert.SharedIdeal.nD Cert.SharedIdeal.τ).loc Cert.SharedIdeal.main_arg10)) :
    Cert.SharedRefIdeal.Hand.G0 m' c = Cert.SharedIdeal.Hand.G0 m c ∧ Cert.SharedRefIdeal.Hand.G1 m' c = Cert.SharedIdeal.Hand.G1 m c
      ∧ Cert.SharedRefIdeal.Hand.G2 m' c = Cert.SharedIdeal.Hand.G2 m c := by
  obtain ⟨h0, h1, h2, h3, h4, h5, h6, h7, h8, h9, h10⟩ := h
  have ha : ∀ r, Cert.SharedRefIdeal.Hand.actRow m' c r = Cert.SharedIdeal.Hand.actRow m c r := fun r => by
    unfold Cert.SharedRefIdeal.Hand.actRow Cert.SharedIdeal.Hand.actRow
    rw [h0, h1, h2, h3]
  refine ⟨funext fun y => ?_, funext fun y => ?_, funext fun y => ?_⟩
  · exact congrArg (fun g => Cert.Spec.rowCode g (y 1)) (ha (y 0))
  · exact congrArg Cert.Spec.rowScale (ha _)
  · unfold Cert.SharedRefIdeal.Hand.G2 Cert.SharedIdeal.Hand.G2
    refine (congrArg (fun g => Cert.Spec.outAt g _ _ _ _ _ _ _ (y 0) (y 1)) (ha (y 0))).trans ?_
    rw [h4, h5, h6, h7, h8, h9, h10]

theorem algebraic [hSharedIdeal : Cert.SharedIdeal.Facts] [hSharedRefIdeal : Cert.SharedRefIdeal.Facts] :
    Cert.algebraic_SharedIdeal_SharedRefIdeal := by
  intro m g m' g' _ h
  refine ⟨fun c => Cert.SharedIdeal.Hand.G0 m c, fun c => Cert.SharedIdeal.Hand.G1 m c, fun c => Cert.SharedIdeal.Hand.G2 m c,
    Cert.SharedIdeal.Hand.run_values m g, ?_⟩
  refine (θ_run Cert.SharedRefIdeal.defs _ _).mono (fun r hr c => ?_) (Cert.SharedRefIdeal.Hand.run_values m' g')
  obtain ⟨e0, e1, e2⟩ := values_eq m m' c (h c)
  exact ⟨(hr c).1.trans e0, (hr c).2.1.trans e1, (hr c).2.2.1.trans e2, (hr c).2.2.2⟩

end Cert.Proof

end
-- ==== Proof.Sums.lean ====
module

public import proofs.«01_k».proof.Proof.Spec

/-! Sums taken in the kernels' order, and rows that are normalised and quantised -/

@[expose] public section

set_option maxRecDepth 16384

noncomputable section

namespace Cert.Spec

open Idealize.ShloMosaic

/-- A sum of 16 terms from the left. -/
theorem chain16 (f : Fin 16 → EReal) :
    f 0 + f 1 + f 2 + f 3 + f 4 + f 5 + f 6 + f 7 + f 8 + f 9 + f 10 + f 11 + f 12 + f 13 + f 14 + f 15 = ∑ i, f i := by
  symm
  simp only [Fin.sum_univ_castSucc, Fin.sum_univ_zero, zero_add]
  rfl

/-- A sum of 32 terms from the left. -/
theorem chain32 (f : Fin 32 → EReal) :
    f 0 + f 1 + f 2 + f 3 + f 4 + f 5 + f 6 + f 7 + f 8 + f 9 + f 10 + f 11 + f 12 + f 13 + f 14 + f 15 + f 16 + f 17 + f 18 + f 19 + f 20 + f 21 + f 22 + f 23 + f 24 + f 25 + f 26 + f 27 + f 28 + f 29 + f 30 + f 31 = ∑ i, f i := by
  symm
  simp only [Fin.sum_univ_castSucc, Fin.sum_univ_zero, zero_add]
  rfl

/-- A sum of 128 terms from the left. -/
theorem chain128 (f : Fin 128 → EReal) :
    f 0 + f 1 + f 2 + f 3 + f 4 + f 5 + f 6 + f 7 + f 8 + f 9 + f 10 + f 11 + f 12 + f 13 + f 14 + f 15 + f 16 + f 17 + f 18 + f 19 + f 20 + f 21 + f 22 + f 23 + f 24 + f 25 + f 26 + f 27 + f 28 + f 29 + f 30 + f 31 + f 32 + f 33 + f 34 + f 35 + f 36 + f 37 + f 38 + f 39 + f 40 + f 41 + f 42 + f 43 + f 44 + f 45 + f 46 + f 47 + f 48 + f 49 + f 50 + f 51 + f 52 + f 53 + f 54 + f 55 + f 56 + f 57 + f 58 + f 59 + f 60 + f 61 + f 62 + f 63 + f 64 + f 65 + f 66 + f 67 + f 68 + f 69 + f 70 + f 71 + f 72 + f 73 + f 74 + f 75 + f 76 + f 77 + f 78 + f 79 + f 80 + f 81 + f 82 + f 83 + f 84 + f 85 + f 86 + f 87 + f 88 + f 89 + f 90 + f 91 + f 92 + f 93 + f 94 + f 95 + f 96 + f 97 + f 98 + f 99 + f 100 + f 101 + f 102 + f 103 + f 104 + f 105 + f 106 + f 107 + f 108 + f 109 + f 110 + f 111 + f 112 + f 113 + f 114 + f 115 + f 116 + f 117 + f 118 + f 119 + f 120 + f 121 + f 122 + f 123 + f 124 + f 125 + f 126 + f 127 = ∑ i, f i := by
  symm
  simp only [Fin.sum_univ_castSucc, Fin.sum_univ_zero, zero_add]
  rfl

/-- Eight terms added in halves. -/
theorem fold8 (f : Fin 8 → EReal) :
    f 0 + f 4 + (f 2 + f 6) + (f 1 + f 5 + (f 3 + f 7)) = ∑ e, f e := by
  rw [Fin.sum_univ_eight]; abel

/-- A sum over the places of a range cut into stretches of `k`. -/
theorem regroup (n k : ℕ) (g : Fin (n * k) → EReal) (h : ∀ (e : Fin k) (j : Fin n), k * j.val + e.val < n * k) :
    ∑ e : Fin k, ∑ j : Fin n, g ⟨k * j.val + e.val, h e j⟩ = ∑ i, g i := by
  rw [Finset.sum_comm, ← finProdFinEquiv.sum_comp g, Fintype.sum_prod_type]
  exact Finset.sum_congr rfl fun j _ => Finset.sum_congr rfl fun e _ => congrArg g (Fin.ext (Nat.add_comm _ _))

theorem regroup_4096 (g : Fin 4096 → EReal) (h : ∀ (e : Fin 128) (j : Fin 32), 128 * j.val + e.val < 4096) :
    ∑ e : Fin 128, ∑ j : Fin 32, g ⟨128 * j.val + e.val, h e j⟩ = ∑ i, g i := regroup 32 128 g h

theorem regroup_1024 (g : Fin 1024 → EReal) (h : ∀ (e : Fin 8) (j : Fin 128), 8 * j.val + e.val < 1024) :
    ∑ e : Fin 8, ∑ j : Fin 128, g ⟨8 * j.val + e.val, h e j⟩ = ∑ i, g i := regroup 128 8 g h

theorem regroup_128 (g : Fin 128 → EReal) (h : ∀ (e : Fin 8) (j : Fin 16), 8 * j.val + e.val < 128) :
    ∑ e : Fin 8, ∑ j : Fin 16, g ⟨8 * j.val + e.val, h e j⟩ = ∑ i, g i := regroup 16 8 g h

/-- Eight chains of sixteen, added in halves. -/
theorem fold128 (a : Fin 128 → EReal) :
    a 0 + a 8 + a 16 + a 24 + a 32 + a 40 + a 48 + a 56 + a 64 + a 72 + a 80 + a 88 + a 96 + a 104 + a 112 + a 120 + (a 4 + a 12 + a 20 + a 28 + a 36 + a 44 + a 52 + a 60 + a 68 + a 76 + a 84 + a 92 + a 100 + a 108 + a 116 + a 124) + (a 2 + a 10 + a 18 + a 26 + a 34 + a 42 + a 50 + a 58 + a 66 + a 74 + a 82 + a 90 + a 98 + a 106 + a 114 + a 122 + (a 6 + a 14 + a 22 + a 30 + a 38 + a 46 + a 54 + a 62 + a 70 + a 78 + a 86 + a 94 + a 102 + a 110 + a 118 + a 126)) + (a 1 + a 9 + a 17 + a 25 + a 33 + a 41 + a 49 + a 57 + a 65 + a 73 + a 81 + a 89 + a 97 + a 105 + a 113 + a 121 + (a 5 + a 13 + a 21 + a 29 + a 37 + a 45 + a 53 + a 61 + a 69 + a 77 + a 85 + a 93 + a 101 + a 109 + a 117 + a 125) + (a 3 + a 11 + a 19 + a 27 + a 35 + a 43 + a 51 + a 59 + a 67 + a 75 + a 83 + a 91 + a 99 + a 107 + a 115 + a 123 + (a 7 + a 15 + a 23 + a 31 + a 39 + a 47 + a 55 + a 63 + a 71 + a 79 + a 87 + a 95 + a 103 + a 111 + a 119 + a 127))) = ∑ l, a l := by
  rw [← regroup_128 a (by intros; omega), ← fold8]
  simp only [← chain16]
  rfl

/-- The f32 patterns of the row lengths, of their inverses and of 127. -/
theorem ofBits_4096 : Ideal.ofBits FTy.f32 0x45800000#32 = ((4096 : ℝ) : EReal) := by
  simp [Ideal.ofBits, Ideal.ieee, -EReal.coe_mul]; norm_num

theorem ofBits_inv4096 : Ideal.ofBits FTy.f32 0x39800000#32 = ((1 / 4096 : ℝ) : EReal) := by
  simp [Ideal.ofBits, Ideal.ieee, -EReal.coe_mul]; norm_num

theorem ofBits_1024 : Ideal.ofBits FTy.f32 0x44800000#32 = ((1024 : ℝ) : EReal) := by
  simp [Ideal.ofBits, Ideal.ieee, -EReal.coe_mul]; norm_num

theorem ofBits_inv1024 : Ideal.ofBits FTy.f32 0x3A800000#32 = ((1 / 1024 : ℝ) : EReal) := by
  simp [Ideal.ofBits, Ideal.ieee, -EReal.coe_mul]; norm_num

theorem ofBits_127 : Ideal.ofBits FTy.f32 0x42FE0000#32 = ((127 : ℝ) : EReal) := by
  simp [Ideal.ofBits, Ideal.ieee, -EReal.coe_mul]; norm_num

/-- The root of a row's mean square, where `c` is one over the row's length. -/
def rmsOf {n : ℕ} (c : ℝ) (v : Fin n → EReal) : EReal :=
  Ideal.sqrt ((∑ i, v i * v i) * (c : EReal) + Ideal.ofBits FTy.f32 0x3727C5AC#32)

/-- A row divided by the root of its mean square, times a gain. -/
def normed {n : ℕ} (c : ℝ) (v g : Fin n → EReal) (f : Fin n) : EReal := Ideal.div (v f) (rmsOf c v) * g f

/-- The greatest absolute value of a row. -/
def absMax {n : ℕ} (v : Fin n → EReal) : EReal := Finset.univ.fold max ⊥ fun f => max (v f) (-(v f))

/-- The scale of a row quantised to fp8. -/
def qScale {n : ℕ} (v : Fin n → EReal) : EReal := scaleOf (absMax v)

/-- The codes of a row quantised to fp8. -/
def qCode {n : ℕ} (v : Fin n → EReal) (f : Fin n) : EReal := codeOf (qScale v) (v f)

/-- The scale of a group quantised to 127 steps a side. -/
def iScale {n : ℕ} (v : Fin n → EReal) : EReal := if absMax v = 0 then 1 else absMax v * ((1 / 127 : ℝ) : EReal)

end Cert.Spec

end
-- ==== Proof.InSpec.lean ====
module

public import proofs.«01_k».proof.Proof.Sums

/-! The input projection's values as plain formulas over the extended reals -/

@[expose] public section

set_option maxRecDepth 16384

noncomputable section

namespace Cert.Spec

open Idealize.ShloMosaic

/-- One element of the projection of a quantised row. -/
def projAt (v : Fin 4096 → EReal) (w : Vec Ideal ⟨2, ![2432, 4096]⟩ .fp8e4m3) (ws : Vec Ideal ⟨2, ![1, 2432]⟩ .f32) (j : Fin 2432) : EReal :=
  (∑ k : Fin 4096, qCode v k * w (ix2 j k)) * qScale v * ws (ix2 0 j)

/-- Group `k` of the 128 columns that the convolution reads. -/
def groupOf (p : Fin 2432 → EReal) (k : ℕ) (hk : k < 10) (f : Fin 128) : EReal := p ⟨1024 + (128 * k + f.val), by omega⟩

/-- The integer code of an element under a scale. -/
def iCode (s a : EReal) : BitVec 8 :=
  FloatOps.fptosi (F := Ideal) (φ := .f32) 8 (min (Ideal.ofBits FTy.f32 0x42FE0000#32)
    (max (Ideal.ofBits FTy.f32 0xC2FE0000#32) (Ideal.liftRound Ideal.roundHalfEven (Ideal.div a s))))

/-- `v` times its logistic. -/
def siluOf (v : EReal) : EReal := v * Ideal.div 1 (1 + Ideal.exp (-v))

/-- The code of column `j` of the convolution's input. -/
def convCode (p : Fin 2432 → EReal) (j : Fin 1280) : BitVec 8 :=
  iCode (iScale (groupOf p (j.val / 128) (by omega))) (p ⟨1024 + j.val, by omega⟩)

/-- The scale of group `j`, padded with ones. -/
def convScale (p : Fin 2432 → EReal) (j : Fin 16) : EReal := if h : j.val < 10 then iScale (groupOf p j.val h) else 1

section
variable (x : Vec Ideal ⟨2, ![2304, 4096]⟩ .bf16) (g : Vec Ideal ⟨2, ![1, 4096]⟩ .f32)
  (w : Vec Ideal ⟨2, ![2432, 4096]⟩ .fp8e4m3) (ws : Vec Ideal ⟨2, ![1, 2432]⟩ .f32)

/-- Row `r` of the input, normalised. -/
def inRow (r : Fin 2304) : Fin 4096 → EReal := normed (1 / 4096) (fun i => x (ix2 r i)) (fun i => g (ix2 0 i))

/-! The five results. -/
def inCodes : Vec Ideal ⟨2, ![2304, 4096]⟩ .fp8e4m3 := fun y => qCode (inRow x g (y 0)) (y 1)
def inScales : Vec Ideal ⟨3, ![9, 1, 256]⟩ .f32 := fun y =>
  qScale (inRow x g ⟨256 * (y 0).val + (y 2).val, by have h0 : (y 0).val < 9 := (y 0).isLt; have h2 : (y 2).val < 256 := (y 2).isLt; omega⟩)
def convCodes : Vec Ideal ⟨2, ![2304, 1280]⟩ .i8 := fun y => convCode (projAt (inRow x g (y 0)) w ws) (y 1)
def convScales : Vec Ideal ⟨2, ![2304, 16]⟩ .f32 := fun y => convScale (projAt (inRow x g (y 0)) w ws) (y 1)
def inSilu : Vec Ideal ⟨2, ![2304, 1024]⟩ .f32 := fun y =>
  siluOf (projAt (inRow x g (y 0)) w ws ⟨(y 1).val, by have h : (y 1).val < 1024 := (y 1).isLt; omega⟩)
end

end Cert.Spec

end
-- ==== Proof.InProjIdeal.Math.lean ====
module

public import proofs.«01_k».proof.Proof.Gen.InProjIdeal.Frame
public import proofs.«01_k».proof.Proof.InSpec
public import Idealize.ShloMosaic.Lib.Pipeline.ValueKit

/-! What the blocks left by one run are over the extended reals -/

@[expose] public section

set_option maxRecDepth 16384

noncomputable section

namespace Cert.InProjIdeal.Hand

open Idealize.ShloMosaic Idealize.SL.Sem Cert.InProjIdeal Cert.InProjIdeal.Gen Cert.Spec

/-- The squares of a row's elements, summed over the groups of 128 lanes. -/
theorem acc_apply (v : Vec Ideal S256x4096 .bf16) (r : Fin 256) (l : Fin 128) :
    k0_pay5 (k0_pay2 v) (k0_pay3 v) (k0_pay4 v) (ix2 r l)
      = ∑ c : Fin 32, v (ix2 r ⟨128 * c.val + l.val, by omega⟩) * v (ix2 r ⟨128 * c.val + l.val, by omega⟩) := by
  rw [← chain32]
  pointwise [k0_pay5, k0_pay4, k0_pay3, k0_pay2]

theorem sum_groups (v : Vec Ideal S256x4096 .bf16) (r : Fin 256) :
    ∑ l : Fin 128, k0_pay5 (k0_pay2 v) (k0_pay3 v) (k0_pay4 v) (ix2 r l) = ∑ i : Fin 4096, v (ix2 r i) * v (ix2 r i) := by
  rw [← regroup_4096 (fun i => v (ix2 r i) * v (ix2 r i)) (by intros; omega)]
  exact Finset.sum_congr rfl fun l _ => acc_apply v r l

theorem half0_apply (p : FVec Ideal S256x4096 .f32) (v54 v56 : FVec Ideal S256x128 .f32) (r : Fin 128) :
    k0_pay9 (k0_pay6 p v54 v56) (k0_pay7 p v54 v56) (k0_pay8 p v54 v56) (ix2 0 r) = ∑ l : Fin 128, k0_pay5 p v54 v56 (ix2 ⟨r.val, by omega⟩ l) := by
  unfold k0_pay7 k0_pay8 k0_pay6
  generalize k0_pay5 p v54 v56 = a
  pointwise [k0_pay9]
  exact fold128 fun l => a (ix2 ⟨r.val, by omega⟩ l)

theorem half1_apply (a : FVec Ideal S256x128 .f32) (r : Fin 128) :
    addf (extractStridedSlice S1x128 ![0, 0] (addf (k0_pay11 a) (k0_pay12 a)) slices_S2x128_o0_0_S1x128)
      (extractStridedSlice S1x128 ![1, 0] (addf (k0_pay11 a) (k0_pay12 a)) slices_S2x128_o1_0_S1x128) (ix2 0 r)
      = ∑ l : Fin 128, a (ix2 ⟨128 + r.val, by omega⟩ l) := by
  pointwise [k0_pay11, k0_pay12, k0_pay10]
  exact fold128 fun l => a (ix2 ⟨128 + r.val, by omega⟩ l)

theorem rms_apply (v : FVec Ideal S256x4096 .f32) (p : FVec Ideal S1x128 .f32) (t u : FVec Ideal S2x128 .f32) (g : FVec Ideal S1x4096 .f32) (r : Fin 256) (f : Fin 4096) :
    k0_pay13 v p t u g (ix2 r f) = Ideal.div (v (ix2 r f))
        (if h : r.val < 128 then Ideal.sqrt (p (ix2 0 ⟨r.val, h⟩) * Ideal.ofBits FTy.f32 0x39800000#32 + Ideal.ofBits FTy.f32 0x3727C5AC#32)
        else Ideal.sqrt (addf (extractStridedSlice S1x128 ![0, 0] (addf t u) slices_S2x128_o0_0_S1x128)
      (extractStridedSlice S1x128 ![1, 0] (addf t u) slices_S2x128_o1_0_S1x128) (ix2 0 ⟨r.val - 128, by omega⟩) * Ideal.ofBits FTy.f32 0x39800000#32 + Ideal.ofBits FTy.f32 0x3727C5AC#32))
      * g (ix2 0 f) := by
  pointwise [k0_pay13]

/-- The row `r` of the block, normalised. -/
theorem normed_apply (v : Vec Ideal S256x4096 .bf16) (g : Vec Ideal S1x4096 .f32) (r : Fin 256) (f : Fin 4096) :
    k0_pay13 (k0_pay2 v)
      (k0_pay9 (k0_pay6 (k0_pay2 v) (k0_pay3 v) (k0_pay4 v)) (k0_pay7 (k0_pay2 v) (k0_pay3 v) (k0_pay4 v)) (k0_pay8 (k0_pay2 v) (k0_pay3 v) (k0_pay4 v)))
      (k0_pay11 (k0_pay5 (k0_pay2 v) (k0_pay3 v) (k0_pay4 v))) (k0_pay12 (k0_pay5 (k0_pay2 v) (k0_pay3 v) (k0_pay4 v))) g (ix2 r f)
      = normed (1 / 4096) (fun i => v (ix2 r i)) (fun i => g (ix2 0 i)) f := by
  refine (rms_apply _ _ _ _ _ r f).trans ?_
  unfold normed rmsOf
  rw [ofBits_inv4096]
  have key : ∀ (w : Fin 256), w = r → (∑ l : Fin 128, k0_pay5 (k0_pay2 v) (k0_pay3 v) (k0_pay4 v) (ix2 w l)) = ∑ i : Fin 4096, v (ix2 r i) * v (ix2 r i) :=
    fun w hw => hw ▸ sum_groups v w
  refine congrArg₂ (· * ·) (congrArg (Ideal.div _) ?_) rfl
  by_cases h : r.val < 128
  · rw [dif_pos h, half0_apply, key _ (Fin.ext rfl)]
  · rw [dif_neg h, half1_apply, key _ (Fin.ext (by show 128 + (r.val - 128) = r.val; omega))]

theorem named_448 : Named.named (F := Ideal) (φ := .f32) κ "inv_448" 0x3B124925#32 = ((1 / 448 : ℝ) : EReal) :=
  IdealRules.named_const.ideal_named_scalar _ _ _ _ rfl

theorem named_127 : Named.named (F := Ideal) (φ := .f32) κ "inv_127" 0x3C010204#32 = ((1 / 127 : ℝ) : EReal) :=
  IdealRules.named_const.ideal_named_scalar _ _ _ _ rfl

/-- The greatest absolute value of a row, as a column. -/
theorem max_of (p : FVec Ideal S256x4096 .f32) (r : Fin 256) :
    shapeCast S256x1 (multiReduction .maximumf [1] S256 (absf p) 0xFF800000#32 reduces_S256x4096_S256 (.inl rfl) rfl) shapeCasts_S256_S256x1 (ix2 r 0)
      = absMax (fun f : Fin 4096 => p (ix2 r f)) := by
  unfold absMax
  rw [← ofBits_bot]
  pointwise
  try rfl

/-- The scale from the column of greatest absolute values. -/
theorem sel_of (v : FVec Ideal S256x1 .f32) (r : Fin 256) :
    select (cmpf .oeq v (broadcast S256x1 (Scalar.ofBits .f32 0x00000000#32))) (broadcast S256x1 (Scalar.ofBits .f32 0x3F800000#32))
      (mulf v (broadcast S256x1 (Named.named κ "inv_448" 0x3B124925#32))) (ix2 r 0) = scaleOf (v (ix2 r 0)) := by
  unfold scaleOf
  rw [← named_448]
  pointwise

theorem scale_apply (v : FVec Ideal S256x4096 .f32) (p : FVec Ideal S1x128 .f32) (t u : FVec Ideal S2x128 .f32) (g : FVec Ideal S1x4096 .f32) (r : Fin 256) :
    k0_pay14 v p t u g (ix2 r 0) = qScale (fun f : Fin 4096 => k0_pay13 v p t u g (ix2 r f)) :=
  (sel_of _ r).trans (congrArg scaleOf (max_of _ r))

/-- The codes of the elements `p` under the scales `s`. -/
theorem clip_of (p : FVec Ideal S256x4096 .f32) (s : FVec Ideal S256x1 .f32) (r : Fin 256) (f : Fin 4096) :
    truncf .fp8e4m3 (minimumf (broadcast S256x4096 (Scalar.ofBits .f32 0x43E00000#32)) (maximumf (broadcast S256x4096 (Scalar.ofBits .f32 0xC3E00000#32))
      (divf p (broadcastTo S256x4096 s broadcasts_S256x1_S256x4096)))) bitsLt_fp8e4m3_f32 (ix2 r f) = codeOf (s (ix2 r 0)) (p (ix2 r f)) := by
  unfold codeOf
  pointwise

theorem code_apply (v : FVec Ideal S256x4096 .f32) (p : FVec Ideal S1x128 .f32) (t u : FVec Ideal S2x128 .f32) (g : FVec Ideal S1x4096 .f32) (r : Fin 256) (f : Fin 4096) :
    k0_pay15 v p t u g (ix2 r f) = codeOf (k0_pay14 v p t u g (ix2 r 0)) (k0_pay13 v p t u g (ix2 r f)) := clip_of _ _ r f

theorem row_apply (s : FVec Ideal S256x1 .f32) (r : Fin 256) : k0_pay16 s (ix3 0 0 r) = s (ix2 r 0) := by
  pointwise [k0_pay16]

theorem silu_apply (s : FVec Ideal S256x1 .f32) (c : FVec Ideal S256x4096 .fp8e4m3) (w : FVec Ideal S1024x4096 .fp8e4m3) (ws : FVec Ideal S1x1024 .f32) (r : Fin 256) (f : Fin 1024) :
    k0_pay17 s c w ws (ix2 r f) = siluOf ((∑ k : Fin 4096, c (ix2 r k) * w (ix2 f k)) * s (ix2 r 0) * ws (ix2 0 f)) := by
  unfold siluOf
  pointwise [k0_pay17]
  try rw [zero_sub]

theorem proj_apply (s : FVec Ideal S256x1 .f32) (c : FVec Ideal S256x4096 .fp8e4m3) (w : FVec Ideal S1280x4096 .fp8e4m3) (ws : FVec Ideal S1x1280 .f32) (r : Fin 256) (f : Fin 1280) :
    k0_pay27 s c w ws (ix2 r f) = (∑ k : Fin 4096, c (ix2 r k) * w (ix2 f k)) * s (ix2 r 0) * ws (ix2 0 f) := by
  pointwise [k0_pay27]

/-- Group `k` of the columns of `p`. -/
def grp (p : FVec Ideal S256x1280 .f32) (k : ℕ) (hk : k < 10) (r : Fin 256) (f : Fin 128) : EReal := p (ix2 r ⟨128 * k + f.val, by omega⟩)

theorem slice_of (p : FVec Ideal S256x1280 .f32) (k : ℕ) (hk : k < 10) (h : S256x1280.Slices ![0, 128 * k] S256x128) (r : Fin 256) (f : Fin 128) :
    extractStridedSlice S256x128 ![0, 128 * k] p h (ix2 r f) = grp p k hk r f := by
  unfold grp
  pointwise

/-- The scale of a group from its columns. -/
theorem iscale_of (q : FVec Ideal S256x128 .f32) (r : Fin 256) :
    select (cmpf .oeq (shapeCast S256x1 (multiReduction .maximumf [1] S256 (absf q) 0xFF800000#32 reduces_S256x128_S256 (.inl rfl) rfl) shapeCasts_S256_S256x1)
        (broadcast S256x1 (Scalar.ofBits .f32 0x00000000#32))) (broadcast S256x1 (Scalar.ofBits .f32 0x3F800000#32))
      (mulf (shapeCast S256x1 (multiReduction .maximumf [1] S256 (absf q) 0xFF800000#32 reduces_S256x128_S256 (.inl rfl) rfl) shapeCasts_S256_S256x1)
        (broadcast S256x1 (Named.named κ "inv_127" 0x3C010204#32))) (ix2 r 0) = iScale (fun f : Fin 128 => q (ix2 r f)) := by
  unfold iScale absMax
  rw [← named_127, ← ofBits_bot]
  pointwise
  rfl

theorem icode_of (q : FVec Ideal S256x128 .f32) (s : FVec Ideal S256x1 .f32) (r : Fin 256) (f : Fin 128) :
    fptosi 8 (minimumf (broadcast S256x128 (Scalar.ofBits .f32 0x42FE0000#32)) (maximumf (broadcast S256x128 (Scalar.ofBits .f32 0xC2FE0000#32))
      (roundeven (divf q (broadcastTo S256x128 s broadcasts_S256x1_S256x128))))) (ix2 r f) = iCode (s (ix2 r 0)) (q (ix2 r f)) := by
  unfold iCode
  pointwise

theorem iscale_slice (p : FVec Ideal S256x1280 .f32) (k : ℕ) (hk : k < 10) (h : S256x1280.Slices ![0, 128 * k] S256x128) (r : Fin 256) :
    iScale (fun f : Fin 128 => extractStridedSlice S256x128 ![0, 128 * k] p h (ix2 r f)) = iScale (grp p k hk r) :=
  congrArg iScale (funext fun f => slice_of p k hk h r f)

section
variable (p : FVec Ideal S256x1280 .f32) (r : Fin 256) (f : Fin 128)
variable (s : FVec Ideal S256x1 .f32) (c : FVec Ideal S256x4096 .fp8e4m3) (w : FVec Ideal S1280x4096 .fp8e4m3) (ws : FVec Ideal S1x1280 .f32)

/-! The columns of scales and the codes, group by group. -/
theorem scale0 : k0_pay29 s c w ws (ix2 r 0) = iScale (grp (k0_pay27 s c w ws) 0 (by decide) r) :=
  (iscale_of _ r).trans (iscale_slice (k0_pay27 s c w ws) 0 (by decide) slices_S256x1280_o0_0_S256x128 r)
theorem code0 : k0_pay30 s c w ws (ix2 r f) = iCode (iScale (grp (k0_pay27 s c w ws) 0 (by decide) r)) (grp (k0_pay27 s c w ws) 0 (by decide) r f) :=
  (icode_of _ _ r f).trans (congrArg₂ iCode (scale0 r s c w ws) (slice_of (k0_pay27 s c w ws) 0 (by decide) slices_S256x1280_o0_0_S256x128 r f))
theorem scale1 : k0_pay35 (k0_pay34 p) (ix2 r 0) = iScale (grp p 1 (by decide) r) :=
  (iscale_of (k0_pay33 p) r).trans (iscale_slice p 1 (by decide) slices_S256x1280_o0_128_S256x128 r)
theorem code1 : k0_pay36 (k0_pay33 p) (k0_pay34 p) (ix2 r f) = iCode (iScale (grp p 1 (by decide) r)) (grp p 1 (by decide) r f) :=
  (icode_of _ _ r f).trans (congrArg₂ iCode (scale1 p r) (slice_of p 1 (by decide) slices_S256x1280_o0_128_S256x128 r f))
theorem scale2 : k0_pay40 p (ix2 r 0) = iScale (grp p 2 (by decide) r) :=
  (iscale_of _ r).trans (iscale_slice p 2 (by decide) slices_S256x1280_o0_256_S256x128 r)
theorem code2 : k0_pay41 p (ix2 r f) = iCode (iScale (grp p 2 (by decide) r)) (grp p 2 (by decide) r f) :=
  (icode_of _ _ r f).trans (congrArg₂ iCode (scale2 p r) (slice_of p 2 (by decide) slices_S256x1280_o0_256_S256x128 r f))
theorem scale3 : k0_pay45 p (ix2 r 0) = iScale (grp p 3 (by decide) r) :=
  (iscale_of _ r).trans (iscale_slice p 3 (by decide) slices_S256x1280_o0_384_S256x128 r)
theorem code3 : k0_pay46 p (ix2 r f) = iCode (iScale (grp p 3 (by decide) r)) (grp p 3 (by decide) r f) :=
  (icode_of _ _ r f).trans (congrArg₂ iCode (scale3 p r) (slice_of p 3 (by decide) slices_S256x1280_o0_384_S256x128 r f))
theorem scale4 : k0_pay51 (k0_pay50 p) (ix2 r 0) = iScale (grp p 4 (by decide) r) :=
  (iscale_of (k0_pay49 p) r).trans (iscale_slice p 4 (by decide) slices_S256x1280_o0_512_S256x128 r)
theorem code4 : k0_pay52 (k0_pay49 p) (k0_pay50 p) (ix2 r f) = iCode (iScale (grp p 4 (by decide) r)) (grp p 4 (by decide) r f) :=
  (icode_of _ _ r f).trans (congrArg₂ iCode (scale4 p r) (slice_of p 4 (by decide) slices_S256x1280_o0_512_S256x128 r f))
theorem scale5 : k0_pay56 p (ix2 r 0) = iScale (grp p 5 (by decide) r) :=
  (iscale_of _ r).trans (iscale_slice p 5 (by decide) slices_S256x1280_o0_640_S256x128 r)
theorem code5 : k0_pay57 p (ix2 r f) = iCode (iScale (grp p 5 (by decide) r)) (grp p 5 (by decide) r f) :=
  (icode_of _ _ r f).trans (congrArg₂ iCode (scale5 p r) (slice_of p 5 (by decide) slices_S256x1280_o0_640_S256x128 r f))
theorem scale6 : k0_pay61 p (ix2 r 0) = iScale (grp p 6 (by decide) r) :=
  (iscale_of _ r).trans (iscale_slice p 6 (by decide) slices_S256x1280_o0_768_S256x128 r)
theorem code6 : k0_pay62 p (ix2 r f) = iCode (iScale (grp p 6 (by decide) r)) (grp p 6 (by decide) r f) :=
  (icode_of _ _ r f).trans (congrArg₂ iCode (scale6 p r) (slice_of p 6 (by decide) slices_S256x1280_o0_768_S256x128 r f))
theorem scale7 : k0_pay67 (k0_pay66 p) (ix2 r 0) = iScale (grp p 7 (by decide) r) :=
  (iscale_of (k0_pay65 p) r).trans (iscale_slice p 7 (by decide) slices_S256x1280_o0_896_S256x128 r)
theorem code7 : k0_pay68 (k0_pay65 p) (k0_pay66 p) (ix2 r f) = iCode (iScale (grp p 7 (by decide) r)) (grp p 7 (by decide) r f) :=
  (icode_of _ _ r f).trans (congrArg₂ iCode (scale7 p r) (slice_of p 7 (by decide) slices_S256x1280_o0_896_S256x128 r f))
theorem scale8 : k0_pay72 p (ix2 r 0) = iScale (grp p 8 (by decide) r) :=
  (iscale_of _ r).trans (iscale_slice p 8 (by decide) slices_S256x1280_o0_1024_S256x128 r)
theorem code8 : k0_pay73 p (ix2 r f) = iCode (iScale (grp p 8 (by decide) r)) (grp p 8 (by decide) r f) :=
  (icode_of _ _ r f).trans (congrArg₂ iCode (scale8 p r) (slice_of p 8 (by decide) slices_S256x1280_o0_1024_S256x128 r f))
theorem scale9 : k0_pay77 p (ix2 r 0) = iScale (grp p 9 (by decide) r) :=
  (iscale_of _ r).trans (iscale_slice p 9 (by decide) slices_S256x1280_o0_1152_S256x128 r)
theorem code9 : k0_pay78 p (ix2 r f) = iCode (iScale (grp p 9 (by decide) r)) (grp p 9 (by decide) r f) :=
  (icode_of _ _ r f).trans (congrArg₂ iCode (scale9 p r) (slice_of p 9 (by decide) slices_S256x1280_o0_1152_S256x128 r f))
end

/-- The scales side by side, then ones. -/
theorem cols_apply (q0 q1 q2 q3 q4 q5 q6 q7 q8 q9 : FVec Ideal S256x1 .f32) (r : Fin 256) (g : (k : ℕ) → k < 10 → EReal)
    (h0 : q0 (ix2 r 0) = g 0 (by decide)) (h1 : q1 (ix2 r 0) = g 1 (by decide)) (h2 : q2 (ix2 r 0) = g 2 (by decide)) (h3 : q3 (ix2 r 0) = g 3 (by decide))
    (h4 : q4 (ix2 r 0) = g 4 (by decide)) (h5 : q5 (ix2 r 0) = g 5 (by decide)) (h6 : q6 (ix2 r 0) = g 6 (by decide)) (h7 : q7 (ix2 r 0) = g 7 (by decide))
    (h8 : q8 (ix2 r 0) = g 8 (by decide)) (h9 : q9 (ix2 r 0) = g 9 (by decide)) (j : Fin 16) :
    k0_pay81 q0 q1 q2 q3 q4 q5 q6 q7 q8 q9 (ix2 r j) = if h : j.val < 10 then g j.val h else 1 := by
  pointwise [k0_pay81]
  rcases j with ⟨j, hj⟩
  interval_cases j <;> first | exact h0 | exact h1 | exact h2 | exact h3 | exact h4 | exact h5 | exact h6 | exact h7 | exact h8 | exact h9 | rfl

end Cert.InProjIdeal.Hand

end
-- ==== Proof.InProjIdeal.Final.lean ====
module

public import proofs.«01_k».proof.Proof.InProjIdeal.Math

/-! The result arrays of the input projection over the extended reals -/

@[expose] public section

set_option maxRecDepth 16384

noncomputable section

namespace Cert.InProjIdeal.Hand

open Idealize.ShloMosaic Idealize.SL.Sem Cert.InProjIdeal Cert.InProjIdeal.Gen Cert.Spec

theorem off2 : (![0, 0] : Fin 2 → ℕ) = fun _ => 0 := by funext a; fin_cases a <;> rfl
theorem off3 : (![0, 0, 0] : Fin 3 → ℕ) = fun _ => 0 := by funext a; fin_cases a <;> rfl

/-- The integer code of a column of group `k`. -/
theorem convCode_at (p : Fin 2432 → EReal) (k : ℕ) (hk : k < 10) (f : Fin 128) (h : 128 * k + f.val < 1280) :
    convCode p ⟨128 * k + f.val, h⟩ = iCode (iScale (groupOf p k hk)) (groupOf p k hk f) := by
  have key : ∀ (k' : ℕ) (h' : k' < 10), k' = k → iScale (groupOf p k' h') = iScale (groupOf p k hk) := by
    intro k' h' e; subst e; rfl
  exact congrArg₂ iCode (key _ _ (by have := f.isLt; show (128 * k + f.val) / 128 = k; omega)) rfl

/-- Row `r` of a block, normalised. -/
def rowB (x0 : Vec Ideal S256x4096 .bf16) (x1 : Vec Ideal S1x4096 .f32) (r : Fin 256) : Fin 4096 → EReal :=
  normed (1 / 4096) (fun i => x0 (ix2 r i)) (fun i => x1 (ix2 0 i))

theorem proj_to (s : FVec Ideal S256x1 .f32) (q : FVec Ideal S256x4096 .fp8e4m3) (w' : FVec Ideal S1280x4096 .fp8e4m3) (ws' : FVec Ideal S1x1280 .f32) (r : Fin 256) (f : Fin 1280)
    (v : Fin 4096 → EReal) (w : Vec Ideal S2432x4096 .fp8e4m3) (ws : Vec Ideal S1x2432 .f32) (j : Fin 2432) (hs : s (ix2 r 0) = qScale v) (hc : ∀ k, q (ix2 r k) = qCode v k)
    (hw : ∀ k, w' (ix2 f k) = w (ix2 j k)) (hws : ws' (ix2 0 f) = ws (ix2 0 j)) : k0_pay27 s q w' ws' (ix2 r f) = projAt v w ws j := by
  rw [proj_apply, hs, hws]
  unfold projAt
  rw [Finset.sum_congr rfl fun k _ => by rw [hc k, hw k]]

theorem silu_to (s : FVec Ideal S256x1 .f32) (q : FVec Ideal S256x4096 .fp8e4m3) (w' : FVec Ideal S1024x4096 .fp8e4m3) (ws' : FVec Ideal S1x1024 .f32) (r : Fin 256) (f : Fin 1024)
    (v : Fin 4096 → EReal) (w : Vec Ideal S2432x4096 .fp8e4m3) (ws : Vec Ideal S1x2432 .f32) (j : Fin 2432) (hs : s (ix2 r 0) = qScale v) (hc : ∀ k, q (ix2 r k) = qCode v k)
    (hw : ∀ k, w' (ix2 f k) = w (ix2 j k)) (hws : ws' (ix2 0 f) = ws (ix2 0 j)) : k0_pay17 s q w' ws' (ix2 r f) = siluOf (projAt v w ws j) := by
  rw [silu_apply, hs, hws]
  unfold projAt
  rw [Finset.sum_congr rfl fun k _ => by rw [hc k, hw k]]

section
variable (x0 : Vec Ideal S256x4096 .bf16) (x1 : Vec Ideal S1x4096 .f32) (x2 : Vec Ideal S2432x4096 .fp8e4m3) (x3 : Vec Ideal S1x2432 .f32) (x4 : Vec Ideal S4x1280 .f32) (x5 : Vec Ideal S1x1280 .f32) (x6 : Vec Ideal S3x256x1280 .i8) (x7 : Vec Ideal S256x30 .f32) (x8 : Vec Ideal S1x16 .f32) (x9 : Vec Ideal S1x16 .f32) (x10 : Vec Ideal S1x16 .f32)

theorem s_apply (r : Fin 256) : k0_pay116 x0 x1 x2 x3 x4 x5 x6 x7 x8 x9 x10 (ix2 r 0) = qScale (rowB x0 x1 r) := by
  unfold k0_pay116 k0_pay115 k0_pay114 k0_pay113 k0_pay112 k0_pay111 k0_pay110 k0_pay109
  rw [View.ld_unit_zero off2, View.ld_unit_zero off2]
  exact (scale_apply _ _ _ _ _ r).trans (congrArg qScale (funext fun f => normed_apply x0 x1 r f))

theorem c_apply (r : Fin 256) (f : Fin 4096) : k0_pay117 x0 x1 x2 x3 x4 x5 x6 x7 x8 x9 x10 (ix2 r f) = qCode (rowB x0 x1 r) f := by
  unfold k0_pay117 k0_pay115 k0_pay114 k0_pay113 k0_pay112 k0_pay111 k0_pay110 k0_pay109
  rw [View.ld_unit_zero off2, View.ld_unit_zero off2]
  exact (code_apply _ _ _ _ _ r f).trans (congrArg₂ codeOf ((scale_apply _ _ _ _ _ r).trans (congrArg qScale (funext fun f => normed_apply x0 x1 r f))) (normed_apply x0 x1 r f))

theorem ld_z (k : Fin 4096) (f : Fin 1024) : View.ld x2 r0_3 (ix2 f k) = x2 (ix2 ⟨f.val, by omega⟩ k) := by
  rw [View.ld_unit]; pointwise
theorem ld_zs (f : Fin 1024) : View.ld x3 r0_4 (ix2 0 f) = x3 (ix2 0 ⟨f.val, by omega⟩) := by
  rw [View.ld_unit]; pointwise
theorem ld_c (k : Fin 4096) (f : Fin 1280) : View.ld x2 r0_9 (ix2 f k) = x2 (ix2 ⟨1024 + f.val, by omega⟩ k) := by
  rw [View.ld_unit]; pointwise
theorem ld_cs (f : Fin 1280) : View.ld x3 r0_10 (ix2 0 f) = x3 (ix2 0 ⟨1024 + f.val, by omega⟩) := by
  rw [View.ld_unit]; pointwise

theorem p_apply (r : Fin 256) (f : Fin 1280) :
    k0_pay126 x0 x1 x2 x3 x4 x5 x6 x7 x8 x9 x10 (ix2 r f) = projAt (rowB x0 x1 r) x2 x3 ⟨1024 + f.val, by omega⟩ := by
  unfold k0_pay126
  exact proj_to _ _ _ _ r f _ _ _ _ (s_apply x0 x1 x2 x3 x4 x5 x6 x7 x8 x9 x10 r) (c_apply x0 x1 x2 x3 x4 x5 x6 x7 x8 x9 x10 r) (fun k => ld_c x2 k f) (ld_cs x3 f)

/-- A group of the projection's columns. -/
theorem grp_eq (k : ℕ) (hk : k < 10) (r : Fin 256) : grp (k0_pay126 x0 x1 x2 x3 x4 x5 x6 x7 x8 x9 x10) k hk r = groupOf (projAt (rowB x0 x1 r) x2 x3) k hk :=
  funext fun f => p_apply x0 x1 x2 x3 x4 x5 x6 x7 x8 x9 x10 r _

theorem out11_apply (r : Fin 256) (f : Fin 4096) : out0_11 x0 x1 x2 x3 x4 x5 x6 x7 x8 x9 x10 (ix2 r f) = qCode (rowB x0 x1 r) f := by
  unfold out0_11
  rw [View.canon_unit_zero off2]
  exact c_apply x0 x1 x2 x3 x4 x5 x6 x7 x8 x9 x10 r f

theorem out12_apply (r : Fin 256) : out0_12 x0 x1 x2 x3 x4 x5 x6 x7 x8 x9 x10 (ix3 0 0 r) = qScale (rowB x0 x1 r) := by
  unfold out0_12
  rw [View.canon_unit_zero off3]
  exact (row_apply _ r).trans (s_apply x0 x1 x2 x3 x4 x5 x6 x7 x8 x9 x10 r)

/-- What the codes of the convolution's input are to be. -/
def codeTarget (x0 : Vec Ideal S256x4096 .bf16) (x1 : Vec Ideal S1x4096 .f32) (x2 : Vec Ideal S2432x4096 .fp8e4m3) (x3 : Vec Ideal S1x2432 .f32) :
    S256x1280.Idx → BitVec 8 := fun y => convCode (projAt (rowB x0 x1 (y 0)) x2 x3) (y 1)

theorem piece (k : ℕ) (hk : k < 10) (hi : ∀ a, (![0, 128 * k] : Fin 2 → ℕ) a + S256x128.size a ≤ S256x1280.size a) (q : S256x128.Idx → BitVec 8)
    (hq : ∀ r f, q (ix2 r f) = iCode (iScale (grp (k0_pay126 x0 x1 x2 x3 x4 x5 x6 x7 x8 x9 x10) k hk r)) (grp (k0_pay126 x0 x1 x2 x3 x4 x5 x6 x7 x8 x9 x10) k hk r f)) (x : S256x128.Idx) :
    q x = codeTarget x0 x1 x2 x3 ((Rect.unit (s := S256x1280) ![0, 128 * k] S256x128.size hi).emb x) := by
  obtain ⟨r, f, rfl⟩ : ∃ (r : Fin 256) (f : Fin 128), x = ix2 r f := ⟨x 0, x 1, eq_ix2 x⟩
  have e : (Rect.unit (s := S256x1280) ![0, 128 * k] S256x128.size hi).emb (ix2 r f) = ix2 r (⟨128 * k + f.val, by omega⟩ : Fin 1280) := by
    funext b; refine Fin.ext ((ValueKit.rect_emb_unit_val _ _ _ _ _).trans ?_)
    fin_cases b
    · exact Nat.zero_add _
    · rfl
  rw [e, hq, grp_eq]
  exact (convCode_at _ k hk f _).symm

theorem out13_apply (y : S256x1280.Idx) : out0_13 x0 x1 x2 x3 x4 x5 x6 x7 x8 x9 x10 y = codeTarget x0 x1 x2 x3 y := by
  unfold out0_13
  refine View.canon_apply_of_pieces (Val := Elt Ideal) (codeTarget x0 x1 x2 x3) _ ?_ y (cover0_13 _ _ _ _ _ _ _ _ _ _ y)
  simp only [List.forall_mem_cons]
  exact ⟨piece x0 x1 x2 x3 x4 x5 x6 x7 x8 x9 x10 9 (by decide) _ _ fun r f => code9 _ r f,
    piece x0 x1 x2 x3 x4 x5 x6 x7 x8 x9 x10 8 (by decide) _ _ fun r f => code8 _ r f,
    piece x0 x1 x2 x3 x4 x5 x6 x7 x8 x9 x10 7 (by decide) _ _ fun r f => code7 _ r f,
    piece x0 x1 x2 x3 x4 x5 x6 x7 x8 x9 x10 6 (by decide) _ _ fun r f => code6 _ r f,
    piece x0 x1 x2 x3 x4 x5 x6 x7 x8 x9 x10 5 (by decide) _ _ fun r f => code5 _ r f,
    piece x0 x1 x2 x3 x4 x5 x6 x7 x8 x9 x10 4 (by decide) _ _ fun r f => code4 _ r f,
    piece x0 x1 x2 x3 x4 x5 x6 x7 x8 x9 x10 3 (by decide) _ _ fun r f => code3 _ r f,
    piece x0 x1 x2 x3 x4 x5 x6 x7 x8 x9 x10 2 (by decide) _ _ fun r f => code2 _ r f,
    piece x0 x1 x2 x3 x4 x5 x6 x7 x8 x9 x10 1 (by decide) _ _ fun r f => code1 _ r f,
    piece x0 x1 x2 x3 x4 x5 x6 x7 x8 x9 x10 0 (by decide) _ _ fun r f => code0 r f _ _ _ _,
    fun p hp => absurd hp List.not_mem_nil⟩

theorem out14_apply (r : Fin 256) (j : Fin 16) : out0_14 x0 x1 x2 x3 x4 x5 x6 x7 x8 x9 x10 (ix2 r j) = convScale (projAt (rowB x0 x1 r) x2 x3) j := by
  unfold out0_14
  rw [View.canon_unit_zero off2]
  have h : ∀ (k : ℕ) (hk : k < 10), iScale (grp (k0_pay126 x0 x1 x2 x3 x4 x5 x6 x7 x8 x9 x10) k hk r) = iScale (groupOf (projAt (rowB x0 x1 r) x2 x3) k hk) :=
    fun k hk => congrArg iScale (grp_eq x0 x1 x2 x3 x4 x5 x6 x7 x8 x9 x10 k hk r)
  exact cols_apply _ _ _ _ _ _ _ _ _ _ r (fun k hk => iScale (groupOf (projAt (rowB x0 x1 r) x2 x3) k hk))
    ((scale0 r _ _ _ _).trans (h 0 (by decide)))
    ((scale1 _ r).trans (h 1 (by decide)))
    ((scale2 _ r).trans (h 2 (by decide)))
    ((scale3 _ r).trans (h 3 (by decide)))
    ((scale4 _ r).trans (h 4 (by decide)))
    ((scale5 _ r).trans (h 5 (by decide)))
    ((scale6 _ r).trans (h 6 (by decide)))
    ((scale7 _ r).trans (h 7 (by decide)))
    ((scale8 _ r).trans (h 8 (by decide)))
    ((scale9 _ r).trans (h 9 (by decide))) j

theorem out15_apply (r : Fin 256) (f : Fin 1024) : out0_15 x0 x1 x2 x3 x4 x5 x6 x7 x8 x9 x10 (ix2 r f) = siluOf (projAt (rowB x0 x1 r) x2 x3 ⟨f.val, by omega⟩) := by
  unfold out0_15
  rw [View.canon_unit_zero off2]
  exact silu_to _ _ _ _ r f _ _ _ _ (s_apply x0 x1 x2 x3 x4 x5 x6 x7 x8 x9 x10 r) (c_apply x0 x1 x2 x3 x4 x5 x6 x7 x8 x9 x10 r) (fun k => ld_z x2 k f) (ld_zs x3 f)

end

variable (m : (ℓ : Loc nD τ sig) → Buf (Elt Ideal) ℓ) (c : Dev nD)

/-! The block of each window at a grid point. -/
theorem e0 : ∀ t : Fin cfg0.N, win0_0.index t = ![t.val, 0] := (by decide +kernel : ∀ t : Fin grid0.N, win0_0.index t = ![t.val, 0])
theorem e1 : ∀ t : Fin cfg0.N, win0_1.index t = ![0, 0] := (by decide +kernel : ∀ t : Fin grid0.N, win0_1.index t = ![0, 0])
theorem e2 : ∀ t : Fin cfg0.N, win0_2.index t = ![0, 0] := (by decide +kernel : ∀ t : Fin grid0.N, win0_2.index t = ![0, 0])
theorem e3 : ∀ t : Fin cfg0.N, win0_3.index t = ![0, 0] := (by decide +kernel : ∀ t : Fin grid0.N, win0_3.index t = ![0, 0])
theorem e11 : ∀ t : Fin cfg0.N, win0_11.index t = ![t.val, 0] := (by decide +kernel : ∀ t : Fin grid0.N, win0_11.index t = ![t.val, 0])
theorem e13 : ∀ t : Fin cfg0.N, win0_13.index t = ![t.val, 0] := (by decide +kernel : ∀ t : Fin grid0.N, win0_13.index t = ![t.val, 0])
theorem e14 : ∀ t : Fin cfg0.N, win0_14.index t = ![t.val, 0] := (by decide +kernel : ∀ t : Fin grid0.N, win0_14.index t = ![t.val, 0])
theorem e15 : ∀ t : Fin cfg0.N, win0_15.index t = ![t.val, 0] := (by decide +kernel : ∀ t : Fin grid0.N, win0_15.index t = ![t.val, 0])
theorem e12 : ∀ t : Fin cfg0.N, win0_12.index t = ![t.val, 0, 0] := (by decide +kernel : ∀ t : Fin grid0.N, win0_12.index t = ![t.val, 0, 0])

theorem lt9 (t : Fin cfg0.N) : t.val < 9 := lt_of_lt_of_eq t.isLt (show cfg0.N = 9 from N_0)

/-- Row `a` of row block `t`. -/
def rowAt (t : Fin cfg0.N) (a : Fin 256) : Fin 2304 := ⟨256 * t.val + a.val, by have := lt9 t; omega⟩

/-! The input blocks. -/
theorem iblk0 (t : Fin cfg0.N) (a : Fin 256) (k : Fin 4096) : iblk m c 0 t (ix2 a k) = m ((c.tc : Thread nD τ).loc main_arg0) (ix2 (rowAt t a) k) := by
  blk_simp [iblk]
  refine congrArg (m ((c.tc : Thread nD τ).loc main_arg0)) ?_
  unfold rowAt
  blk_ext [e0]
theorem iblk1 (t : Fin cfg0.N) : iblk m c 1 t = m ((c.tc : Thread nD τ).loc main_arg1) := by
  funext x
  blk_simp [iblk]
  refine congrArg (m ((c.tc : Thread nD τ).loc main_arg1)) ?_
  blk_ext [e1]
theorem iblk2 (t : Fin cfg0.N) : iblk m c 2 t = m ((c.tc : Thread nD τ).loc main_arg2) := by
  funext x
  blk_simp [iblk]
  refine congrArg (m ((c.tc : Thread nD τ).loc main_arg2)) ?_
  blk_ext [e2]
theorem iblk3 (t : Fin cfg0.N) : iblk m c 3 t = m ((c.tc : Thread nD τ).loc main_arg3) := by
  funext x
  blk_simp [iblk]
  refine congrArg (m ((c.tc : Thread nD τ).loc main_arg3)) ?_
  blk_ext [e3]

theorem row_eq (t : Fin cfg0.N) (a : Fin 256) : rowB (iblk m c 0 t) (iblk m c 1 t) a = inRow (m ((c.tc : Thread nD τ).loc main_arg0)) (m ((c.tc : Thread nD τ).loc main_arg1)) (rowAt t a) := by
  unfold rowB inRow
  rw [iblk1]
  exact congrArg (fun v => normed _ v _) (funext fun k => iblk0 m c t a k)

/-! The five result arrays. -/
def G0 : Vec Ideal S2304x4096 .fp8e4m3 := inCodes (m ((c.tc : Thread nD τ).loc main_arg0)) (m ((c.tc : Thread nD τ).loc main_arg1))
def G1 : Vec Ideal S9x1x256 .f32 := inScales (m ((c.tc : Thread nD τ).loc main_arg0)) (m ((c.tc : Thread nD τ).loc main_arg1))
def G2 : Vec Ideal S2304x1280 .i8 := convCodes (m ((c.tc : Thread nD τ).loc main_arg0)) (m ((c.tc : Thread nD τ).loc main_arg1)) (m ((c.tc : Thread nD τ).loc main_arg2)) (m ((c.tc : Thread nD τ).loc main_arg3))
def G3 : Vec Ideal S2304x16 .f32 := convScales (m ((c.tc : Thread nD τ).loc main_arg0)) (m ((c.tc : Thread nD τ).loc main_arg1)) (m ((c.tc : Thread nD τ).loc main_arg2)) (m ((c.tc : Thread nD τ).loc main_arg3))
def G4 : Vec Ideal S2304x1024 .f32 := inSilu (m ((c.tc : Thread nD τ).loc main_arg0)) (m ((c.tc : Thread nD τ).loc main_arg1)) (m ((c.tc : Thread nD τ).loc main_arg2)) (m ((c.tc : Thread nD τ).loc main_arg3))

theorem final_11 : (dats m 0 c).arrAt 11 cfg0.N = G0 m c := by
  refine (dats m 0 c).arrAt_eq_of_covers 11 _ (by decide +kernel) fun t hf y => ?_
  blk_simp
  rw [after0_11]
  obtain ⟨a, l, rfl⟩ : ∃ (a : Fin 256) (l : Fin 4096), y = ix2 a l := ⟨y 0, y 1, eq_ix2 y⟩
  refine (out11_apply _ _ _ _ _ _ _ _ _ _ _ a l).trans ?_
  rw [row_eq]
  have e : (win0_11.blk t).view.emb (ix2 a l) = ix2 (rowAt t a) l := by
    unfold rowAt
    blk_ext [e11]
  exact (congrArg (G0 m c) e).symm

theorem final_12 : (dats m 0 c).arrAt 12 cfg0.N = G1 m c := by
  refine (dats m 0 c).arrAt_eq_of_covers 12 _ (by decide +kernel) fun t hf y => ?_
  blk_simp
  rw [after0_12]
  obtain ⟨i, b, a, rfl⟩ : ∃ (i : Fin 1) (b : Fin 1) (a : Fin 256), y = ix3 i b a := ⟨y 0, y 1, y 2, eq_ix3 y⟩
  obtain rfl : i = 0 := Subsingleton.elim _ _
  obtain rfl : b = 0 := Subsingleton.elim _ _
  refine (out12_apply _ _ _ _ _ _ _ _ _ _ _ a).trans ?_
  rw [row_eq]
  have e : (win0_12.blk t).view.emb (ix3 0 0 a) = ix3 (⟨t.val, lt9 t⟩ : Fin 9) 0 a := by
    blk_ext [e12]
  exact (congrArg (G1 m c) e).symm

theorem final_13 : (dats m 0 c).arrAt 13 cfg0.N = G2 m c := by
  refine (dats m 0 c).arrAt_eq_of_covers 13 _ (by decide +kernel) fun t hf y => ?_
  blk_simp
  rw [after0_13]
  obtain ⟨a, l, rfl⟩ : ∃ (a : Fin 256) (l : Fin 1280), y = ix2 a l := ⟨y 0, y 1, eq_ix2 y⟩
  refine (out13_apply _ _ _ _ _ _ _ _ _ _ _ (ix2 a l)).trans ?_
  unfold codeTarget
  show convCode (projAt (rowB _ _ a) _ _) l = _
  rw [row_eq, iblk2, iblk3]
  have e : (win0_13.blk t).view.emb (ix2 a l) = ix2 (rowAt t a) l := by
    unfold rowAt
    blk_ext [e13]
  exact (congrArg (G2 m c) e).symm

theorem final_14 : (dats m 0 c).arrAt 14 cfg0.N = G3 m c := by
  refine (dats m 0 c).arrAt_eq_of_covers 14 _ (by decide +kernel) fun t hf y => ?_
  blk_simp
  rw [after0_14]
  obtain ⟨a, l, rfl⟩ : ∃ (a : Fin 256) (l : Fin 16), y = ix2 a l := ⟨y 0, y 1, eq_ix2 y⟩
  refine (out14_apply _ _ _ _ _ _ _ _ _ _ _ a l).trans ?_
  rw [row_eq, iblk2, iblk3]
  have e : (win0_14.blk t).view.emb (ix2 a l) = ix2 (rowAt t a) l := by
    unfold rowAt
    blk_ext [e14]
  exact (congrArg (G3 m c) e).symm

theorem final_15 : (dats m 0 c).arrAt 15 cfg0.N = G4 m c := by
  refine (dats m 0 c).arrAt_eq_of_covers 15 _ (by decide +kernel) fun t hf y => ?_
  blk_simp
  rw [after0_15]
  obtain ⟨a, l, rfl⟩ : ∃ (a : Fin 256) (l : Fin 1024), y = ix2 a l := ⟨y 0, y 1, eq_ix2 y⟩
  refine (out15_apply _ _ _ _ _ _ _ _ _ _ _ a l).trans ?_
  rw [row_eq, iblk2, iblk3]
  have e : (win0_15.blk t).view.emb (ix2 a l) = ix2 (rowAt t a) l := by
    unfold rowAt
    blk_ext [e15]
  exact (congrArg (G4 m c) e).symm

/-- Every run ends with the result arrays at these values and the arguments unchanged. -/
theorem run_values (ρ : Dev nD → PrngReg) : θ_run defs (onTc (τ := τ) (main (F := Ideal))) ⟨m, fun _ => 0, ρ⟩ (fun r => ∀ c : Dev nD,
      r.2.mem ((c.tc : Thread nD τ).loc main_v0_0) = G0 m c
      ∧ r.2.mem ((c.tc : Thread nD τ).loc main_v0_1) = G1 m c
      ∧ r.2.mem ((c.tc : Thread nD τ).loc main_v0_2) = G2 m c
      ∧ r.2.mem ((c.tc : Thread nD τ).loc main_v0_3) = G3 m c
      ∧ r.2.mem ((c.tc : Thread nD τ).loc main_v0_4) = G4 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨(h.1.out_eq c 11).trans (final_11 m c), (h.1.out_eq c 12).trans (final_12 m c), (h.1.out_eq c 13).trans (final_13 m c), (h.1.out_eq c 14).trans (final_14 m c), (h.1.out_eq c 15).trans (final_15 m c), h.2.1 c⟩)
    (θ_run_and (run_main m ρ) (frame m ρ))

end Cert.InProjIdeal.Hand

end
-- ==== Proof.InProjRefIdeal.Math.lean ====
module

public import proofs.«01_k».proof.Proof.Gen.InProjRefIdeal.Frame
public import proofs.«01_k».proof.Proof.InSpec
public import Idealize.ShloMosaic.Lib.Claim
public import Idealize.ShloMosaic.Lib.Pipeline.ValueKit

/-! The values of the reference of the input projection over the extended reals -/

@[expose] public section

set_option maxRecDepth 16384

noncomputable section

namespace Cert.InProjRefIdeal.Hand

open Idealize.ShloMosaic Idealize.SL.Sem Cert.InProjRefIdeal Cert.InProjRefIdeal.Gen Cert.Spec

theorem normed_apply (x : Vec Ideal S2304x4096 .bf16) (g : Vec Ideal S1x4096 .f32) (r : Fin 2304) (f : Fin 4096) :
    k0_pay7 x g (ix2 r f) = inRow x g r f := by
  unfold inRow normed rmsOf
  have e : ∀ s : EReal, s * ((1 / 4096 : ℝ) : EReal) = Ideal.div s (Ideal.ofBits FTy.f32 0x45800000#32) := fun s => by
    rw [ofBits_4096, Ideal.div_coe (by norm_num : (4096 : ℝ) ≠ 0)]
  rw [e]
  pointwise [k0_pay7]

/-- The greatest absolute value of a row, as a column. -/
theorem max_of (p : FVec Ideal S2304x4096 .f32) (r : Fin 2304) :
    shapeCast S2304x1 (multiReduction .maximumf [1] S2304 (absf p) 0xFF800000#32 reduces_S2304x4096_S2304 (.inl rfl) rfl) shapeCasts_S2304_S2304x1 (ix2 r 0)
      = absMax (fun f : Fin 4096 => p (ix2 r f)) := by
  unfold absMax
  rw [← ofBits_bot]
  pointwise
  try rfl

/-- The scale from the column of greatest absolute values. -/
theorem sel_of (v : FVec Ideal S2304x1 .f32) (r : Fin 2304) :
    select (cmpf .oeq v (broadcast S2304x1 (Scalar.ofBits .f32 0x00000000#32))) (broadcast S2304x1 (Scalar.ofBits .f32 0x3F800000#32))
      (divf v (broadcast S2304x1 (Scalar.ofBits .f32 0x43E00000#32))) (ix2 r 0) = scaleOf (v (ix2 r 0)) := by
  have e : ∀ s : EReal, s * ((1 / 448 : ℝ) : EReal) = Ideal.div s (Ideal.ofBits FTy.f32 0x43E00000#32) := fun s => by
    rw [ofBits_448, Ideal.div_coe (by norm_num : (448 : ℝ) ≠ 0)]
  unfold scaleOf
  rw [e]
  pointwise

theorem scale_apply (x : Vec Ideal S2304x4096 .bf16) (g : Vec Ideal S1x4096 .f32) (r : Fin 2304) : k0_pay8 x g (ix2 r 0) = qScale (inRow x g r) :=
  (sel_of _ r).trans (congrArg scaleOf ((max_of _ r).trans (congrArg absMax (funext fun f => normed_apply x g r f))))

/-- The codes of the elements `p` under the scales `s`. -/
theorem clip_of (p : FVec Ideal S2304x4096 .f32) (s : FVec Ideal S2304x1 .f32) (r : Fin 2304) (f : Fin 4096) :
    truncf .fp8e4m3 (minimumf (broadcast S2304x4096 (Scalar.ofBits .f32 0x43E00000#32)) (maximumf (broadcast S2304x4096 (Scalar.ofBits .f32 0xC3E00000#32))
      (divf p (broadcastTo S2304x4096 s broadcasts_S2304x1_S2304x4096)))) bitsLt_fp8e4m3_f32 (ix2 r f) = codeOf (s (ix2 r 0)) (p (ix2 r f)) := by
  unfold codeOf
  pointwise

theorem code_apply (x : Vec Ideal S2304x4096 .bf16) (g : Vec Ideal S1x4096 .f32) (r : Fin 2304) (f : Fin 4096) : k0_pay9 x g (ix2 r f) = qCode (inRow x g r) f :=
  (clip_of _ _ r f).trans (congrArg₂ codeOf (scale_apply x g r) (normed_apply x g r f))

theorem row_of (s : FVec Ideal S2304x1 .f32) (i : Fin 9) (a : Fin 256) :
    shapeCast S9x1x256 s shapeCasts_S2304x1_S9x1x256 (ix3 i 0 a) = s (ix2 ⟨256 * i.val + a.val, by omega⟩ 0) := by
  have e : (⟨256 * i.val + a.val, by omega⟩ : Fin 2304) = ⟨i.val * 256 + a.val, by omega⟩ := Fin.ext (by show 256 * i.val + a.val = i.val * 256 + a.val; omega)
  rw [e]
  pointwise

theorem rows_apply (x : Vec Ideal S2304x4096 .bf16) (g : Vec Ideal S1x4096 .f32) (i : Fin 9) (a : Fin 256) :
    k0_pay10 x g (ix3 i 0 a) = qScale (inRow x g ⟨256 * i.val + a.val, by omega⟩) := by
  unfold k0_pay10
  exact (row_of _ i a).trans (scale_apply x g _)

theorem proj_of (q : FVec Ideal S2304x4096 .fp8e4m3) (s : FVec Ideal S2304x1 .f32) (w : FVec Ideal S2432x4096 .fp8e4m3) (ws : FVec Ideal S1x2432 .f32) (r : Fin 2304) (j : Fin 2432) :
    k0_pay1 (matmul dot_S2304x4096_S2432x4096_S2304x2432_1_1_0_0_n_n none q w (constant S2304x2432 .f32 0x00000000#32))
      (broadcastTo S2304x2432 s broadcasts_S2304x1_S2304x2432) ws (ix2 r j) = (∑ k : Fin 4096, q (ix2 r k) * w (ix2 j k)) * s (ix2 r 0) * ws (ix2 0 j) := by
  pointwise [k0_pay1]

theorem proj_apply (x : Vec Ideal S2304x4096 .bf16) (g : Vec Ideal S1x4096 .f32) (w : Vec Ideal S2432x4096 .fp8e4m3) (ws : Vec Ideal S1x2432 .f32) (r : Fin 2304) (j : Fin 2432) :
    k0_pay1 (k0_pay11 x g w) (k0_pay12 x g) ws (ix2 r j) = projAt (inRow x g r) w ws j := by
  refine (proj_of (k0_pay9 x g) (k0_pay8 x g) w ws r j).trans ?_
  unfold projAt
  rw [scale_apply, Finset.sum_congr rfl fun k _ => congrArg (· * w (ix2 j k)) (code_apply x g r k)]

/-- The projection's columns 1024 and on, in groups of 128. -/
theorem group_of (p : FVec Ideal S2304x2432 .f32) (r : Fin 2304) (k : Fin 10) (f : Fin 128) :
    shapeCast S2304x10x128 (extractStridedSlice S2304x1280 ![0, 1024] p slices_S2304x2432_o0_1024_S2304x1280) shapeCasts_S2304x1280_S2304x10x128 (ix3 r k f)
      = p (ix2 r ⟨1024 + (128 * k.val + f.val), by omega⟩) := by
  have e : (⟨1024 + (128 * k.val + f.val), by omega⟩ : Fin 2432) = ⟨1024 + (k.val * 128 + f.val), by omega⟩ := Fin.ext (by show 1024 + (128 * k.val + f.val) = 1024 + (k.val * 128 + f.val); omega)
  rw [e]
  pointwise

/-- The greatest absolute value of a group, as a column. -/
theorem imax_of (p : FVec Ideal S2304x10x128 .f32) (r : Fin 2304) (k : Fin 10) :
    shapeCast S2304x10x1 (multiReduction .maximumf [2] S2304x10 (absf p) 0xFF800000#32 reduces_S2304x10x128_S2304x10 (.inl rfl) rfl) shapeCasts_S2304x10_S2304x10x1 (ix3 r k 0)
      = absMax (fun f : Fin 128 => p (ix3 r k f)) := by
  unfold absMax
  rw [← ofBits_bot]
  pointwise
  try rfl

theorem isel_of (v : FVec Ideal S2304x10x1 .f32) (r : Fin 2304) (k : Fin 10) :
    select (cmpf .oeq v (broadcast S2304x10x1 (Scalar.ofBits .f32 0x00000000#32))) (broadcast S2304x10x1 (Scalar.ofBits .f32 0x3F800000#32))
      (divf v (broadcast S2304x10x1 (Scalar.ofBits .f32 0x42FE0000#32))) (ix3 r k 0)
      = if v (ix3 r k 0) = 0 then 1 else v (ix3 r k 0) * ((1 / 127 : ℝ) : EReal) := by
  have e : ∀ s : EReal, s * ((1 / 127 : ℝ) : EReal) = Ideal.div s (Ideal.ofBits FTy.f32 0x42FE0000#32) := fun s => by
    rw [ofBits_127, Ideal.div_coe (by norm_num : (127 : ℝ) ≠ 0)]
  rw [e]
  pointwise

theorem icode_of (p : FVec Ideal S2304x10x128 .f32) (s : FVec Ideal S2304x10x1 .f32) (r : Fin 2304) (j : Fin 1280) :
    fptosi 8 (shapeCast S2304x1280 (minimumf (broadcast S2304x10x128 (Scalar.ofBits .f32 0x42FE0000#32)) (maximumf (broadcast S2304x10x128 (Scalar.ofBits .f32 0xC2FE0000#32))
      (roundeven (divf p (broadcastTo S2304x10x128 s broadcasts_S2304x10x1_S2304x10x128))))) shapeCasts_S2304x10x128_S2304x1280) (ix2 r j)
      = iCode (s (ix3 r ⟨j.val / 128, by omega⟩ 0)) (p (ix3 r ⟨j.val / 128, by omega⟩ ⟨j.val % 128, by omega⟩)) := by
  unfold iCode
  pointwise

theorem pad_of (s : FVec Ideal S2304x10x1 .f32) (r : Fin 2304) (j : Fin 16) :
    concatenate S2304x16 1 [⟨S2304x10, shapeCast S2304x10 s shapeCasts_S2304x10x1_S2304x10⟩, ⟨S2304x6, broadcast S2304x6 (Scalar.ofBits .f32 0x3F800000#32)⟩]
      concatenates_S2304x10_S2304x6_S2304x16_d1 (ix2 r j) = if h : j.val < 10 then s (ix3 r ⟨j.val, h⟩ 0) else 1 := by
  pointwise

theorem silu_of (p : FVec Ideal S2304x2432 .f32) (r : Fin 2304) (f : Fin 1024) :
    mulf (extractStridedSlice S2304x1024 ![0, 0] p slices_S2304x2432_o0_0_S2304x1024) (logistic (extractStridedSlice S2304x1024 ![0, 0] p slices_S2304x2432_o0_0_S2304x1024)) (ix2 r f)
      = siluOf (p (ix2 r ⟨f.val, by omega⟩)) := by
  unfold siluOf
  pointwise
  rfl

section
variable (x : Vec Ideal S2304x4096 .bf16) (g : Vec Ideal S1x4096 .f32) (w : Vec Ideal S2432x4096 .fp8e4m3) (ws : Vec Ideal S1x2432 .f32) (r : Fin 2304)

theorem groups_apply (k : Fin 10) (f : Fin 128) : k0_pay2 (k0_pay11 x g w) (k0_pay12 x g) ws (ix3 r k f) = groupOf (projAt (inRow x g r) w ws) k.val k.isLt f :=
  (group_of _ r k f).trans (proj_apply x g w ws r _)

theorem iscale_apply (k : Fin 10) : k0_pay3 (k0_pay11 x g w) (k0_pay12 x g) ws (ix3 r k 0) = iScale (groupOf (projAt (inRow x g r) w ws) k.val k.isLt) := by
  refine (isel_of _ r k).trans ?_
  exact congrArg (fun a : EReal => if a = 0 then (1 : EReal) else a * ((1 / 127 : ℝ) : EReal))
    ((imax_of _ r k).trans (congrArg absMax (funext fun f => groups_apply x g w ws r k f)))

theorem ccode_apply (j : Fin 1280) : k0_pay4 (k0_pay11 x g w) (k0_pay12 x g) ws (ix2 r j) = convCode (projAt (inRow x g r) w ws) j := by
  refine (icode_of _ _ r j).trans ?_
  rw [iscale_apply, groups_apply]
  refine congrArg (iCode _) (congrArg (projAt (inRow x g r) w ws) (Fin.ext ?_))
  show 1024 + (128 * (j.val / 128) + j.val % 128) = 1024 + j.val
  omega

theorem cscale_apply (j : Fin 16) : k0_pay5 (k0_pay11 x g w) (k0_pay12 x g) ws (ix2 r j) = convScale (projAt (inRow x g r) w ws) j := by
  refine (pad_of _ r j).trans ?_
  unfold convScale
  refine dite_congr rfl (fun h => iscale_apply x g w ws r ⟨j.val, h⟩) fun _ => rfl

theorem silu_apply (f : Fin 1024) : k0_pay6 (k0_pay11 x g w) (k0_pay12 x g) ws (ix2 r f) = siluOf (projAt (inRow x g r) w ws ⟨f.val, by omega⟩) :=
  (silu_of _ r f).trans (congrArg siluOf (proj_apply x g w ws r _))
end

end Cert.InProjRefIdeal.Hand

end
-- ==== Proof.InProjRefIdeal.Final.lean ====
module

public import proofs.«01_k».proof.Proof.InProjRefIdeal.Math

/-! The result arrays of the reference of the input projection over the extended reals, from its run -/

@[expose] public section

set_option maxRecDepth 16384

noncomputable section

namespace Cert.InProjRefIdeal.Hand

open Idealize.ShloMosaic Idealize.SL.Sem Cert.InProjRefIdeal Cert.InProjRefIdeal.Gen Cert.Spec

variable (m : (ℓ : Loc nD τ sig) → Buf (Elt Ideal) ℓ) (c : Dev nD)

theorem off2 : (![0, 0] : Fin 2 → ℕ) = fun _ => 0 := by funext a; fin_cases a <;> rfl
theorem off3 : (![0, 0, 0] : Fin 3 → ℕ) = fun _ => 0 := by funext a; fin_cases a <;> rfl

/-! Every window's one block is its array. -/
theorem iblk0 (t : Fin cfg0.N) : iblk m c 0 t = m ((c.tc : Thread nD τ).loc main_arg0) := by
  rw [fin_N0 t]
  funext x
  have e : ∀ t : Fin cfg0.N, win0_0.index t = ![0, 0] := (by decide +kernel : ∀ t : Fin grid0.N, win0_0.index t = ![0, 0])
  blk_simp [iblk]
  refine congrArg (m ((c.tc : Thread nD τ).loc main_arg0)) ?_
  blk_ext [e]
theorem iblk1 (t : Fin cfg0.N) : iblk m c 1 t = m ((c.tc : Thread nD τ).loc main_arg1) := by
  rw [fin_N0 t]
  funext x
  have e : ∀ t : Fin cfg0.N, win0_1.index t = ![0, 0] := (by decide +kernel : ∀ t : Fin grid0.N, win0_1.index t = ![0, 0])
  blk_simp [iblk]
  refine congrArg (m ((c.tc : Thread nD τ).loc main_arg1)) ?_
  blk_ext [e]
theorem iblk2 (t : Fin cfg0.N) : iblk m c 2 t = m ((c.tc : Thread nD τ).loc main_arg2) := by
  rw [fin_N0 t]
  funext x
  have e : ∀ t : Fin cfg0.N, win0_2.index t = ![0, 0] := (by decide +kernel : ∀ t : Fin grid0.N, win0_2.index t = ![0, 0])
  blk_simp [iblk]
  refine congrArg (m ((c.tc : Thread nD τ).loc main_arg2)) ?_
  blk_ext [e]
theorem iblk3 (t : Fin cfg0.N) : iblk m c 3 t = m ((c.tc : Thread nD τ).loc main_arg3) := by
  rw [fin_N0 t]
  funext x
  have e : ∀ t : Fin cfg0.N, win0_3.index t = ![0, 0] := (by decide +kernel : ∀ t : Fin grid0.N, win0_3.index t = ![0, 0])
  blk_simp [iblk]
  refine congrArg (m ((c.tc : Thread nD τ).loc main_arg3)) ?_
  blk_ext [e]

/-! The five result arrays. -/
def G0 : Vec Ideal S2304x4096 .fp8e4m3 := inCodes (m ((c.tc : Thread nD τ).loc main_arg0)) (m ((c.tc : Thread nD τ).loc main_arg1))
def G1 : Vec Ideal S9x1x256 .f32 := inScales (m ((c.tc : Thread nD τ).loc main_arg0)) (m ((c.tc : Thread nD τ).loc main_arg1))
def G2 : Vec Ideal S2304x1280 .i8 := convCodes (m ((c.tc : Thread nD τ).loc main_arg0)) (m ((c.tc : Thread nD τ).loc main_arg1)) (m ((c.tc : Thread nD τ).loc main_arg2)) (m ((c.tc : Thread nD τ).loc main_arg3))
def G3 : Vec Ideal S2304x16 .f32 := convScales (m ((c.tc : Thread nD τ).loc main_arg0)) (m ((c.tc : Thread nD τ).loc main_arg1)) (m ((c.tc : Thread nD τ).loc main_arg2)) (m ((c.tc : Thread nD τ).loc main_arg3))
def G4 : Vec Ideal S2304x1024 .f32 := inSilu (m ((c.tc : Thread nD τ).loc main_arg0)) (m ((c.tc : Thread nD τ).loc main_arg1)) (m ((c.tc : Thread nD τ).loc main_arg2)) (m ((c.tc : Thread nD τ).loc main_arg3))

theorem out4_eq (x0 x1 x2 x3) : out0_4 (F := Ideal) x0 x1 x2 x3 = k0_pay9 x0 x1 := by
  unfold out0_4
  rw [View.canon_unit_zero off2, View.ld_unit_zero off2, View.ld_unit_zero off2]
theorem out5_eq (x0 x1 x2 x3) : out0_5 (F := Ideal) x0 x1 x2 x3 = k0_pay10 x0 x1 := by
  unfold out0_5
  rw [View.canon_unit_zero off3, View.ld_unit_zero off2, View.ld_unit_zero off2]
theorem out6_eq (x0 x1 x2 x3) : out0_6 (F := Ideal) x0 x1 x2 x3 = k0_pay4 (k0_pay11 x0 x1 x2) (k0_pay12 x0 x1) x3 := by
  unfold out0_6 k0_pay13 k0_pay14
  rw [View.canon_unit_zero off2, View.ld_unit_zero off2, View.ld_unit_zero off2, View.ld_unit_zero off2, View.ld_unit_zero off2]
theorem out7_eq (x0 x1 x2 x3) : out0_7 (F := Ideal) x0 x1 x2 x3 = k0_pay5 (k0_pay11 x0 x1 x2) (k0_pay12 x0 x1) x3 := by
  unfold out0_7 k0_pay13 k0_pay14
  rw [View.canon_unit_zero off2, View.ld_unit_zero off2, View.ld_unit_zero off2, View.ld_unit_zero off2, View.ld_unit_zero off2]
theorem out8_eq (x0 x1 x2 x3) : out0_8 (F := Ideal) x0 x1 x2 x3 = k0_pay6 (k0_pay11 x0 x1 x2) (k0_pay12 x0 x1) x3 := by
  unfold out0_8 k0_pay13 k0_pay14
  rw [View.canon_unit_zero off2, View.ld_unit_zero off2, View.ld_unit_zero off2, View.ld_unit_zero off2, View.ld_unit_zero off2]

theorem final_4 : (dats m 0 c).arrAt 4 cfg0.N = G0 m c := by
  refine (dats m 0 c).arrAt_eq_of_after_last 4 t0_0 (by decide +kernel) _ fun j => ?_
  blk_simp
  rw [after0_4, out4_eq]
  simp only [iblk0 m c, iblk1 m c]
  obtain ⟨r, f, rfl⟩ : ∃ (r : Fin 2304) (f : Fin 4096), j = ix2 r f := ⟨j 0, j 1, eq_ix2 j⟩
  exact code_apply _ _ r f

theorem final_5 : (dats m 0 c).arrAt 5 cfg0.N = G1 m c := by
  refine (dats m 0 c).arrAt_eq_of_after_last 5 t0_0 (by decide +kernel) _ fun j => ?_
  blk_simp
  rw [after0_5, out5_eq]
  simp only [iblk0 m c, iblk1 m c]
  obtain ⟨i, b, a, rfl⟩ : ∃ (i : Fin 9) (b : Fin 1) (a : Fin 256), j = ix3 i b a := ⟨j 0, j 1, j 2, eq_ix3 j⟩
  obtain rfl : b = 0 := Subsingleton.elim _ _
  exact rows_apply _ _ i a

theorem final_6 : (dats m 0 c).arrAt 6 cfg0.N = G2 m c := by
  refine (dats m 0 c).arrAt_eq_of_after_last 6 t0_0 (by decide +kernel) _ fun j => ?_
  blk_simp
  rw [after0_6, out6_eq]
  simp only [iblk0 m c, iblk1 m c, iblk2 m c, iblk3 m c]
  obtain ⟨r, f, rfl⟩ : ∃ (r : Fin 2304) (f : Fin 1280), j = ix2 r f := ⟨j 0, j 1, eq_ix2 j⟩
  exact ccode_apply _ _ _ _ r f

theorem final_7 : (dats m 0 c).arrAt 7 cfg0.N = G3 m c := by
  refine (dats m 0 c).arrAt_eq_of_after_last 7 t0_0 (by decide +kernel) _ fun j => ?_
  blk_simp
  rw [after0_7, out7_eq]
  simp only [iblk0 m c, iblk1 m c, iblk2 m c, iblk3 m c]
  obtain ⟨r, f, rfl⟩ : ∃ (r : Fin 2304) (f : Fin 16), j = ix2 r f := ⟨j 0, j 1, eq_ix2 j⟩
  exact cscale_apply _ _ _ _ r f

theorem final_8 : (dats m 0 c).arrAt 8 cfg0.N = G4 m c := by
  refine (dats m 0 c).arrAt_eq_of_after_last 8 t0_0 (by decide +kernel) _ fun j => ?_
  blk_simp
  rw [after0_8, out8_eq]
  simp only [iblk0 m c, iblk1 m c, iblk2 m c, iblk3 m c]
  obtain ⟨r, f, rfl⟩ : ∃ (r : Fin 2304) (f : Fin 1024), j = ix2 r f := ⟨j 0, j 1, eq_ix2 j⟩
  exact silu_apply _ _ _ _ r f

/-- Every run ends with the result arrays at these values and the arguments unchanged. -/
theorem run_values (ρ : Dev nD → PrngReg) : θ_run defs (onTc (τ := τ) (main (F := Ideal))) ⟨m, fun _ => 0, ρ⟩ (fun r => ∀ c : Dev nD,
      r.2.mem ((c.tc : Thread nD τ).loc main_v0_0) = G0 m c
      ∧ r.2.mem ((c.tc : Thread nD τ).loc main_v0_1) = G1 m c
      ∧ r.2.mem ((c.tc : Thread nD τ).loc main_v0_2) = G2 m c
      ∧ r.2.mem ((c.tc : Thread nD τ).loc main_v0_3) = G3 m c
      ∧ r.2.mem ((c.tc : Thread nD τ).loc main_v0_4) = G4 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨(h.1.out_eq c 4).trans (final_4 m c), (h.1.out_eq c 5).trans (final_5 m c), (h.1.out_eq c 6).trans (final_6 m c), (h.1.out_eq c 7).trans (final_7 m c), (h.1.out_eq c 8).trans (final_8 m c), h.2.1 c⟩)
    (θ_run_and (run_main m ρ) (frame m ρ))

end Cert.InProjRefIdeal.Hand

end
-- ==== Proof.InAlgebraic.lean ====
module

public import proofs.«01_k».proof.Defs
public import proofs.«01_k».proof.Proof.InProjIdeal.Final
public import proofs.«01_k».proof.Proof.InProjRefIdeal.Final

/-! The kernel and the reference end with the same results -/

@[expose] public section

noncomputable section

namespace Cert.Proof.InProj

open Idealize.ShloMosaic Idealize.SL.Sem

/-- From memories agreeing on the arguments, the two programs' result values agree. -/
theorem values_eq (m : (ℓ : Loc Cert.InProjIdeal.nD Cert.InProjIdeal.τ Cert.InProjIdeal.sig) → Buf (Elt Ideal) ℓ)
    (m' : (ℓ : Loc Cert.InProjRefIdeal.nD Cert.InProjRefIdeal.τ Cert.InProjRefIdeal.sig) → Buf (Elt Ideal) ℓ) (c : Dev Cert.InProjIdeal.nD)
    (h : m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)
      ∧ m' ((c.tc : Thread Cert.InProjRefIdeal.nD Cert.InProjRefIdeal.τ).loc Cert.InProjRefIdeal.main_arg3) = m ((c.tc : Thread Cert.InProjIdeal.nD Cert.InProjIdeal.τ).loc Cert.InProjIdeal.main_arg3)
      ∧ m' ((c.tc : Thread Cert.InProjRefIdeal.nD Cert.InProjRefIdeal.τ).loc Cert.InProjRefIdeal.main_arg4) = m ((c.tc : Thread Cert.InProjIdeal.nD Cert.InProjIdeal.τ).loc Cert.InProjIdeal.main_arg4)
      ∧ m' ((c.tc : Thread Cert.InProjRefIdeal.nD Cert.InProjRefIdeal.τ).loc Cert.InProjRefIdeal.main_arg5) = m ((c.tc : Thread Cert.InProjIdeal.nD Cert.InProjIdeal.τ).loc Cert.InProjIdeal.main_arg5)
      ∧ m' ((c.tc : Thread Cert.InProjRefIdeal.nD Cert.InProjRefIdeal.τ).loc Cert.InProjRefIdeal.main_arg6) = m ((c.tc : Thread Cert.InProjIdeal.nD Cert.InProjIdeal.τ).loc Cert.InProjIdeal.main_arg6)
      ∧ m' ((c.tc : Thread Cert.InProjRefIdeal.nD Cert.InProjRefIdeal.τ).loc Cert.InProjRefIdeal.main_arg7) = m ((c.tc : Thread Cert.InProjIdeal.nD Cert.InProjIdeal.τ).loc Cert.InProjIdeal.main_arg7)
      ∧ m' ((c.tc : Thread Cert.InProjRefIdeal.nD Cert.InProjRefIdeal.τ).loc Cert.InProjRefIdeal.main_arg8) = m ((c.tc : Thread Cert.InProjIdeal.nD Cert.InProjIdeal.τ).loc Cert.InProjIdeal.main_arg8)
      ∧ m' ((c.tc : Thread Cert.InProjRefIdeal.nD Cert.InProjRefIdeal.τ).loc Cert.InProjRefIdeal.main_arg9) = m ((c.tc : Thread Cert.InProjIdeal.nD Cert.InProjIdeal.τ).loc Cert.InProjIdeal.main_arg9)
      ∧ m' ((c.tc : Thread Cert.InProjRefIdeal.nD Cert.InProjRefIdeal.τ).loc Cert.InProjRefIdeal.main_arg10) = m ((c.tc : Thread Cert.InProjIdeal.nD Cert.InProjIdeal.τ).loc Cert.InProjIdeal.main_arg10)) :
    Cert.InProjRefIdeal.Hand.G0 m' c = Cert.InProjIdeal.Hand.G0 m c ∧ Cert.InProjRefIdeal.Hand.G1 m' c = Cert.InProjIdeal.Hand.G1 m c ∧ Cert.InProjRefIdeal.Hand.G2 m' c = Cert.InProjIdeal.Hand.G2 m c ∧ Cert.InProjRefIdeal.Hand.G3 m' c = Cert.InProjIdeal.Hand.G3 m c ∧ Cert.InProjRefIdeal.Hand.G4 m' c = Cert.InProjIdeal.Hand.G4 m c := by
  obtain ⟨h0, h1, h2, h3, h4, h5, h6, h7, h8, h9, h10⟩ := h
  refine ⟨?_, ?_, ?_, ?_, ?_⟩
  · unfold Cert.InProjRefIdeal.Hand.G0 Cert.InProjIdeal.Hand.G0; rw [h0, h1]
  · unfold Cert.InProjRefIdeal.Hand.G1 Cert.InProjIdeal.Hand.G1; rw [h0, h1]
  · unfold Cert.InProjRefIdeal.Hand.G2 Cert.InProjIdeal.Hand.G2; rw [h0, h1, h2, h3]
  · unfold Cert.InProjRefIdeal.Hand.G3 Cert.InProjIdeal.Hand.G3; rw [h0, h1, h2, h3]
  · unfold Cert.InProjRefIdeal.Hand.G4 Cert.InProjIdeal.Hand.G4; rw [h0, h1, h2, h3]

theorem algebraic [hInProjIdeal : Cert.InProjIdeal.Facts] [hInProjRefIdeal : Cert.InProjRefIdeal.Facts] :
    Cert.algebraic_InProjIdeal_InProjRefIdeal := by
  intro m g m' g' _ h
  refine ⟨fun c => Cert.InProjIdeal.Hand.G0 m c, fun c => Cert.InProjIdeal.Hand.G1 m c, fun c => Cert.InProjIdeal.Hand.G2 m c, fun c => Cert.InProjIdeal.Hand.G3 m c, fun c => Cert.InProjIdeal.Hand.G4 m c,
    Cert.InProjIdeal.Hand.run_values m g, ?_⟩
  refine (θ_run Cert.InProjRefIdeal.defs _ _).mono (fun r hr c => ?_) (Cert.InProjRefIdeal.Hand.run_values m' g')
  obtain ⟨e0, e1, e2, e3, e4⟩ := values_eq m m' c (h c)
  exact ⟨(hr c).1.trans e0, (hr c).2.1.trans e1, (hr c).2.2.1.trans e2, (hr c).2.2.2.1.trans e3, (hr c).2.2.2.2.1.trans e4, (hr c).2.2.2.2.2⟩

end Cert.Proof.InProj

end
-- ==== Proof.OutSpec.lean ====
module

public import proofs.«01_k».proof.Proof.Sums

/-! The output projection's values as plain formulas over the extended reals -/

@[expose] public section

set_option maxRecDepth 16384

noncomputable section

namespace Cert.Spec

open Idealize.ShloMosaic

section
variable (y : Vec Ideal ⟨3, ![2304, 8, 128]⟩ .f32) (sz : Vec Ideal ⟨2, ![2304, 1024]⟩ .f32) (x : Vec Ideal ⟨2, ![2304, 4096]⟩ .bf16)
  (nm : Vec Ideal ⟨2, ![1, 1024]⟩ .f32) (wo : Vec Ideal ⟨2, ![1024, 4096]⟩ .fp8e4m3) (wos : Vec Ideal ⟨2, ![1, 4096]⟩ .f32) (n2 : Vec Ideal ⟨2, ![1, 4096]⟩ .f32)

/-- Row `r` of the gated heads. -/
def gated (r : Fin 2304) (i : Fin 1024) : EReal := y (ix3 r ⟨i.val / 128, by omega⟩ ⟨i.val % 128, by omega⟩) * sz (ix2 r i)

/-- Row `r` of the gated heads, normalised. -/
def mixRow (r : Fin 2304) : Fin 1024 → EReal := normed (1 / 1024) (gated y sz r) (fun i => nm (ix2 0 i))

/-- Row `r` of the sum of the residual and the projection. -/
def sumRow (r : Fin 2304) (f : Fin 4096) : EReal :=
  x (ix2 r f) + (∑ k : Fin 1024, qCode (mixRow y sz nm r) k * wo (ix2 k f)) * qScale (mixRow y sz nm r) * wos (ix2 0 f)

/-- The sum's row `r`, normalised. -/
def moeRow (r : Fin 2304) : Fin 4096 → EReal := normed (1 / 4096) (sumRow y sz x nm wo wos r) (fun i => n2 (ix2 0 i))

/-- The token of place `y` of the scale rows. -/
def tokenAt (y : (⟨3, ![9, 1, 256]⟩ : Shape).Idx) : Fin 2304 :=
  ⟨256 * (y 0).val + (y 2).val, by have h0 : (y 0).val < 9 := (y 0).isLt; have h2 : (y 2).val < 256 := (y 2).isLt; omega⟩

/-! The six results. -/
def mixCodes : Vec Ideal ⟨2, ![2304, 1024]⟩ .fp8e4m3 := fun j => qCode (mixRow y sz nm (j 0)) (j 1)
def mixScales : Vec Ideal ⟨3, ![9, 1, 256]⟩ .f32 := fun j => qScale (mixRow y sz nm (tokenAt j))
def sumX : Vec Ideal ⟨2, ![2304, 4096]⟩ .f32 := fun j => sumRow y sz x nm wo wos (j 0) (j 1)
def moeCodes : Vec Ideal ⟨2, ![2304, 4096]⟩ .fp8e4m3 := fun j => qCode (moeRow y sz x nm wo wos n2 (j 0)) (j 1)
def moeScales : Vec Ideal ⟨3, ![9, 1, 256]⟩ .f32 := fun j => qScale (moeRow y sz x nm wo wos n2 (tokenAt j))
def moeCols : Vec Ideal ⟨2, ![2304, 128]⟩ .f32 := fun j => qScale (moeRow y sz x nm wo wos n2 (j 0))
end

end Cert.Spec

end
-- ==== Proof.OutProjIdeal.Math.lean ====
module

public import proofs.«01_k».proof.Proof.Gen.OutProjIdeal.Frame
public import proofs.«01_k».proof.Proof.OutSpec
public import Idealize.ShloMosaic.Lib.Pipeline.ValueKit

/-! What the blocks left by one run are over the extended reals -/

@[expose] public section

set_option maxRecDepth 16384

noncomputable section

namespace Cert.OutProjIdeal.Hand

open Idealize.ShloMosaic Idealize.SL.Sem Cert.OutProjIdeal Cert.OutProjIdeal.Gen Cert.Spec

/-- The square of an element. -/
def sq {a b : ℕ} (p : FVec Ideal ⟨2, ![a, b]⟩ .f32) (r : Fin a) (i : Fin b) : EReal := p (ix2 r i) * p (ix2 r i)

/-- The end of a chain of squares over eight places of a stretch. -/
def tail25 (a : FVec Ideal S128x128 .f32) (b d : FVec Ideal S8x128 .f32) (l : Fin 128) (e : Fin 8) : EReal :=
  b (ix2 e l) + d (ix2 e l) + a (ix2 (⟨64 + e.val, by omega⟩ : Fin 128) l) * a (ix2 (⟨64 + e.val, by omega⟩ : Fin 128) l) + a (ix2 (⟨72 + e.val, by omega⟩ : Fin 128) l) * a (ix2 (⟨72 + e.val, by omega⟩ : Fin 128) l) + a (ix2 (⟨80 + e.val, by omega⟩ : Fin 128) l) * a (ix2 (⟨80 + e.val, by omega⟩ : Fin 128) l) + a (ix2 (⟨88 + e.val, by omega⟩ : Fin 128) l) * a (ix2 (⟨88 + e.val, by omega⟩ : Fin 128) l) + a (ix2 (⟨96 + e.val, by omega⟩ : Fin 128) l) * a (ix2 (⟨96 + e.val, by omega⟩ : Fin 128) l) + a (ix2 (⟨104 + e.val, by omega⟩ : Fin 128) l) * a (ix2 (⟨104 + e.val, by omega⟩ : Fin 128) l) + a (ix2 (⟨112 + e.val, by omega⟩ : Fin 128) l) * a (ix2 (⟨112 + e.val, by omega⟩ : Fin 128) l) + a (ix2 (⟨120 + e.val, by omega⟩ : Fin 128) l) * a (ix2 (⟨120 + e.val, by omega⟩ : Fin 128) l)

def tail45 (a : FVec Ideal S128x128 .f32) (b d : FVec Ideal S8x128 .f32) (l : Fin 128) (e : Fin 8) : EReal :=
  b (ix2 e l) + d (ix2 e l) + a (ix2 (⟨96 + e.val, by omega⟩ : Fin 128) l) * a (ix2 (⟨96 + e.val, by omega⟩ : Fin 128) l) + a (ix2 (⟨104 + e.val, by omega⟩ : Fin 128) l) * a (ix2 (⟨104 + e.val, by omega⟩ : Fin 128) l) + a (ix2 (⟨112 + e.val, by omega⟩ : Fin 128) l) * a (ix2 (⟨112 + e.val, by omega⟩ : Fin 128) l) + a (ix2 (⟨120 + e.val, by omega⟩ : Fin 128) l) * a (ix2 (⟨120 + e.val, by omega⟩ : Fin 128) l)

/-- Places of a row taken stretch by stretch. -/
theorem stretch (g : Fin 1024 → EReal) (e : Fin 8) :
    ∑ j : Fin 128, g ⟨8 * j.val + e.val, by omega⟩ = ∑ j : Fin 128, g ⟨128 * (j.val / 16) + (8 * (j.val % 16) + e.val), by omega⟩ :=
  Finset.sum_congr rfl fun j _ => congrArg g (Fin.ext (by show 8 * j.val + e.val = 128 * (j.val / 16) + (8 * (j.val % 16) + e.val); omega))

/-- Eight terms added in halves. -/
def halves (f : Fin 8 → EReal) : EReal := f 0 + f 4 + (f 2 + f 6) + (f 1 + f 5 + (f 3 + f 7))

theorem pay25_apply (a : FVec Ideal S128x128 .f32) (b d : FVec Ideal S8x128 .f32) (l : Fin 128) :
    k0_pay25 a b d (ix2 0 l) = ∑ e : Fin 8, tail25 a b d l e := by
  rw [← fold8]
  unfold tail25
  pointwise [k0_pay25]

theorem chain0 (v0 v2 v4 v6 v8 v10 v12 v14 : Vec Ideal S256x1x128 .f32) (v17 : Vec Ideal S256x1024 .f32) (l : Fin 128) (e : Fin 8) :
    tail25 (k0_pay22 (k0_pay5 v0 v2 v4 v6 v8 v10 v12 v14 v17)) (k0_pay23 (k0_pay5 v0 v2 v4 v6 v8 v10 v12 v14 v17) (k0_pay19 (k0_pay5 v0 v2 v4 v6 v8 v10 v12 v14 v17)) (k0_pay20 (k0_pay5 v0 v2 v4 v6 v8 v10 v12 v14 v17) (k0_pay17 (k0_pay5 v0 v2 v4 v6 v8 v10 v12 v14 v17)) (k0_pay18 (k0_pay5 v0 v2 v4 v6 v8 v10 v12 v14 v17) (k0_pay14 (k0_pay5 v0 v2 v4 v6 v8 v10 v12 v14 v17)) (k0_pay15 (k0_pay5 v0 v2 v4 v6 v8 v10 v12 v14 v17) (k0_pay12 (k0_pay5 v0 v2 v4 v6 v8 v10 v12 v14 v17)) (k0_pay13 (k0_pay5 v0 v2 v4 v6 v8 v10 v12 v14 v17) (k0_pay9 (k0_pay5 v0 v2 v4 v6 v8 v10 v12 v14 v17)) (k0_pay10 (k0_pay5 v0 v2 v4 v6 v8 v10 v12 v14 v17) (k0_pay6 v0 v2 v4 v6 v8 v10 v12 v14 v17) (k0_pay7 v0 v2 v4 v6 v8 v10 v12 v14 v17) (k0_pay8 v0 v2 v4 v6 v8 v10 v12 v14 v17)) (k0_pay11 (k0_pay5 v0 v2 v4 v6 v8 v10 v12 v14 v17)))) (k0_pay16 (k0_pay5 v0 v2 v4 v6 v8 v10 v12 v14 v17)))) (k0_pay21 (k0_pay5 v0 v2 v4 v6 v8 v10 v12 v14 v17))) (k0_pay24 (k0_pay5 v0 v2 v4 v6 v8 v10 v12 v14 v17)) l e
      = ∑ j : Fin 128, sq (k0_pay5 v0 v2 v4 v6 v8 v10 v12 v14 v17) ⟨l.val, by omega⟩ ⟨8 * j.val + e.val, by omega⟩ := by
  rw [stretch, ← chain128]
  unfold tail25 sq k0_pay7 k0_pay8 k0_pay6
  generalize k0_pay5 v0 v2 v4 v6 v8 v10 v12 v14 v17 = p
  pointwise [k0_pay24, k0_pay23, k0_pay22, k0_pay21, k0_pay20, k0_pay19, k0_pay18, k0_pay17, k0_pay16, k0_pay15, k0_pay14, k0_pay13, k0_pay12, k0_pay11, k0_pay10, k0_pay9]

theorem chain1 (p : FVec Ideal S256x1024 .f32) (l : Fin 128) (e : Fin 8) :
    tail45 (k0_pay42 p) (k0_pay43 p (k0_pay39 p) (k0_pay40 p (k0_pay37 p) (k0_pay38 p (k0_pay34 p) (k0_pay35 p (k0_pay32 p) (k0_pay33 p (k0_pay29 p) (k0_pay30 p (k0_pay26 p) (k0_pay27 p) (k0_pay28 p)) (k0_pay31 p))) (k0_pay36 p))) (k0_pay41 p)) (k0_pay44 p) l e
      = ∑ j : Fin 128, sq p ⟨128 + l.val, by omega⟩ ⟨8 * j.val + e.val, by omega⟩ := by
  rw [stretch, ← chain128]
  unfold tail45 sq
  pointwise [k0_pay44, k0_pay43, k0_pay42, k0_pay41, k0_pay40, k0_pay39, k0_pay38, k0_pay37, k0_pay36, k0_pay35, k0_pay34, k0_pay33, k0_pay32, k0_pay31, k0_pay30, k0_pay29, k0_pay28, k0_pay27, k0_pay26]

/-- The root of the mean square of a row, from the sums of the squares of the two halves' rows. -/
theorem pay45_apply (v : FVec Ideal S256x1024 .f32) (p : FVec Ideal S1x128 .f32) (a : FVec Ideal S128x128 .f32) (b d : FVec Ideal S8x128 .f32) (g : FVec Ideal S1x1024 .f32)
    (r : Fin 256) (f : Fin 1024) :
    k0_pay45 v p a b d g (ix2 r f) = Ideal.div (v (ix2 r f))
        (if h : r.val < 128 then Ideal.sqrt (p (ix2 0 ⟨r.val, h⟩) * Ideal.ofBits FTy.f32 0x3A800000#32 + Ideal.ofBits FTy.f32 0x3727C5AC#32)
        else Ideal.sqrt (halves (tail45 a b d ⟨r.val - 128, by omega⟩) * Ideal.ofBits FTy.f32 0x3A800000#32 + Ideal.ofBits FTy.f32 0x3727C5AC#32))
      * g (ix2 0 f) := by
  unfold halves tail45
  pointwise [k0_pay45]

theorem sum0 (v0 v2 v4 v6 v8 v10 v12 v14 : Vec Ideal S256x1x128 .f32) (v17 : Vec Ideal S256x1024 .f32) (l : Fin 128) : (k0_pay25 (k0_pay22 (k0_pay5 v0 v2 v4 v6 v8 v10 v12 v14 v17)) (k0_pay23 (k0_pay5 v0 v2 v4 v6 v8 v10 v12 v14 v17) (k0_pay19 (k0_pay5 v0 v2 v4 v6 v8 v10 v12 v14 v17)) (k0_pay20 (k0_pay5 v0 v2 v4 v6 v8 v10 v12 v14 v17) (k0_pay17 (k0_pay5 v0 v2 v4 v6 v8 v10 v12 v14 v17)) (k0_pay18 (k0_pay5 v0 v2 v4 v6 v8 v10 v12 v14 v17) (k0_pay14 (k0_pay5 v0 v2 v4 v6 v8 v10 v12 v14 v17)) (k0_pay15 (k0_pay5 v0 v2 v4 v6 v8 v10 v12 v14 v17) (k0_pay12 (k0_pay5 v0 v2 v4 v6 v8 v10 v12 v14 v17)) (k0_pay13 (k0_pay5 v0 v2 v4 v6 v8 v10 v12 v14 v17) (k0_pay9 (k0_pay5 v0 v2 v4 v6 v8 v10 v12 v14 v17)) (k0_pay10 (k0_pay5 v0 v2 v4 v6 v8 v10 v12 v14 v17) (k0_pay6 v0 v2 v4 v6 v8 v10 v12 v14 v17) (k0_pay7 v0 v2 v4 v6 v8 v10 v12 v14 v17) (k0_pay8 v0 v2 v4 v6 v8 v10 v12 v14 v17)) (k0_pay11 (k0_pay5 v0 v2 v4 v6 v8 v10 v12 v14 v17)))) (k0_pay16 (k0_pay5 v0 v2 v4 v6 v8 v10 v12 v14 v17)))) (k0_pay21 (k0_pay5 v0 v2 v4 v6 v8 v10 v12 v14 v17))) (k0_pay24 (k0_pay5 v0 v2 v4 v6 v8 v10 v12 v14 v17))) (ix2 0 l) = ∑ i : Fin 1024, sq (k0_pay5 v0 v2 v4 v6 v8 v10 v12 v14 v17) (⟨l.val, by omega⟩ : Fin 256) i := by
  rw [pay25_apply, ← regroup_1024 (sq (k0_pay5 v0 v2 v4 v6 v8 v10 v12 v14 v17) (⟨l.val, by omega⟩ : Fin 256)) (by intros; omega)]
  exact Finset.sum_congr rfl fun e _ => chain0 v0 v2 v4 v6 v8 v10 v12 v14 v17 l e

theorem sum1 (p : FVec Ideal S256x1024 .f32) (l : Fin 128) :
    halves (tail45 (k0_pay42 p) (k0_pay43 p (k0_pay39 p) (k0_pay40 p (k0_pay37 p) (k0_pay38 p (k0_pay34 p) (k0_pay35 p (k0_pay32 p) (k0_pay33 p (k0_pay29 p) (k0_pay30 p (k0_pay26 p) (k0_pay27 p) (k0_pay28 p)) (k0_pay31 p))) (k0_pay36 p))) (k0_pay41 p)) (k0_pay44 p) l) = ∑ i : Fin 1024, sq p (⟨128 + l.val, by omega⟩ : Fin 256) i := by
  rw [← regroup_1024 (sq p (⟨128 + l.val, by omega⟩ : Fin 256)) (by intros; omega)]
  exact (fold8 _).trans (Finset.sum_congr rfl fun e _ => chain1 p l e)

theorem halves_key {n : ℕ} (p : FVec Ideal ⟨2, ![256, n]⟩ .f32) (r w : Fin 256) (h : w = r) : ∑ i : Fin n, sq p w i = ∑ i : Fin n, p (ix2 r i) * p (ix2 r i) := by
  rw [h]; rfl

/-- The row `r` of the gated block, normalised. -/
theorem mix_apply (v0 v2 v4 v6 v8 v10 v12 v14 : Vec Ideal S256x1x128 .f32) (v17 : Vec Ideal S256x1024 .f32) (g : FVec Ideal S1x1024 .f32) (r : Fin 256) (f : Fin 1024) :
    k0_pay45 (k0_pay5 v0 v2 v4 v6 v8 v10 v12 v14 v17) (k0_pay25 (k0_pay22 (k0_pay5 v0 v2 v4 v6 v8 v10 v12 v14 v17)) (k0_pay23 (k0_pay5 v0 v2 v4 v6 v8 v10 v12 v14 v17) (k0_pay19 (k0_pay5 v0 v2 v4 v6 v8 v10 v12 v14 v17)) (k0_pay20 (k0_pay5 v0 v2 v4 v6 v8 v10 v12 v14 v17) (k0_pay17 (k0_pay5 v0 v2 v4 v6 v8 v10 v12 v14 v17)) (k0_pay18 (k0_pay5 v0 v2 v4 v6 v8 v10 v12 v14 v17) (k0_pay14 (k0_pay5 v0 v2 v4 v6 v8 v10 v12 v14 v17)) (k0_pay15 (k0_pay5 v0 v2 v4 v6 v8 v10 v12 v14 v17) (k0_pay12 (k0_pay5 v0 v2 v4 v6 v8 v10 v12 v14 v17)) (k0_pay13 (k0_pay5 v0 v2 v4 v6 v8 v10 v12 v14 v17) (k0_pay9 (k0_pay5 v0 v2 v4 v6 v8 v10 v12 v14 v17)) (k0_pay10 (k0_pay5 v0 v2 v4 v6 v8 v10 v12 v14 v17) (k0_pay6 v0 v2 v4 v6 v8 v10 v12 v14 v17) (k0_pay7 v0 v2 v4 v6 v8 v10 v12 v14 v17) (k0_pay8 v0 v2 v4 v6 v8 v10 v12 v14 v17)) (k0_pay11 (k0_pay5 v0 v2 v4 v6 v8 v10 v12 v14 v17)))) (k0_pay16 (k0_pay5 v0 v2 v4 v6 v8 v10 v12 v14 v17)))) (k0_pay21 (k0_pay5 v0 v2 v4 v6 v8 v10 v12 v14 v17))) (k0_pay24 (k0_pay5 v0 v2 v4 v6 v8 v10 v12 v14 v17))) (k0_pay42 (k0_pay5 v0 v2 v4 v6 v8 v10 v12 v14 v17)) (k0_pay43 (k0_pay5 v0 v2 v4 v6 v8 v10 v12 v14 v17) (k0_pay39 (k0_pay5 v0 v2 v4 v6 v8 v10 v12 v14 v17)) (k0_pay40 (k0_pay5 v0 v2 v4 v6 v8 v10 v12 v14 v17) (k0_pay37 (k0_pay5 v0 v2 v4 v6 v8 v10 v12 v14 v17)) (k0_pay38 (k0_pay5 v0 v2 v4 v6 v8 v10 v12 v14 v17) (k0_pay34 (k0_pay5 v0 v2 v4 v6 v8 v10 v12 v14 v17)) (k0_pay35 (k0_pay5 v0 v2 v4 v6 v8 v10 v12 v14 v17) (k0_pay32 (k0_pay5 v0 v2 v4 v6 v8 v10 v12 v14 v17)) (k0_pay33 (k0_pay5 v0 v2 v4 v6 v8 v10 v12 v14 v17) (k0_pay29 (k0_pay5 v0 v2 v4 v6 v8 v10 v12 v14 v17)) (k0_pay30 (k0_pay5 v0 v2 v4 v6 v8 v10 v12 v14 v17) (k0_pay26 (k0_pay5 v0 v2 v4 v6 v8 v10 v12 v14 v17)) (k0_pay27 (k0_pay5 v0 v2 v4 v6 v8 v10 v12 v14 v17)) (k0_pay28 (k0_pay5 v0 v2 v4 v6 v8 v10 v12 v14 v17))) (k0_pay31 (k0_pay5 v0 v2 v4 v6 v8 v10 v12 v14 v17)))) (k0_pay36 (k0_pay5 v0 v2 v4 v6 v8 v10 v12 v14 v17)))) (k0_pay41 (k0_pay5 v0 v2 v4 v6 v8 v10 v12 v14 v17))) (k0_pay44 (k0_pay5 v0 v2 v4 v6 v8 v10 v12 v14 v17)) g (ix2 r f)
      = normed (1 / 1024) (fun i => (k0_pay5 v0 v2 v4 v6 v8 v10 v12 v14 v17) (ix2 r i)) (fun i => g (ix2 0 i)) f := by
  refine (pay45_apply _ _ _ _ _ _ r f).trans ?_
  unfold normed rmsOf
  rw [ofBits_inv1024]
  refine congrArg₂ (· * ·) (congrArg (Ideal.div _) ?_) rfl
  by_cases h : r.val < 128
  · rw [dif_pos h, sum0, halves_key _ r _ (Fin.ext rfl)]
  · rw [dif_neg h, sum1, halves_key _ r _ (Fin.ext (by show 128 + (r.val - 128) = r.val; omega))]

/-- The sum of the residual and the projection. -/
theorem x1_apply (v858 : FVec Ideal S256x1024 .f32) (v861 : FVec Ideal S256x1 .f32) (v863 : IVec S256x1 1) (c : Ideal .f32) (v883 : FVec Ideal S256x4096 .bf16) (v885 : FVec Ideal S1024x4096 .fp8e4m3) (v889 : FVec Ideal S1x4096 .f32) (r : Fin 256) (f : Fin 4096) :
    k0_pay51 v858 v861 v863 c v883 v885 v889 (ix2 r f) = v883 (ix2 r f) + (∑ k : Fin 1024, k0_pay49 v858 v861 v863 c (ix2 r k) * v885 (ix2 k f)) * k0_pay48 v861 v863 c (ix2 r 0) * v889 (ix2 0 f) := by
  unfold k0_pay51
  generalize k0_pay49 v858 v861 v863 c = u
  generalize k0_pay48 v861 v863 c = s
  pointwise

theorem acc0 (v858 : FVec Ideal S256x1024 .f32) (v861 : FVec Ideal S256x1 .f32) (v863 : IVec S256x1 1) (c : Ideal .f32) (v883 : FVec Ideal S256x4096 .bf16) (v885 : FVec Ideal S1024x4096 .fp8e4m3) (v889 : FVec Ideal S1x4096 .f32) (r : Fin 256) (l : Fin 128) :
    (k0_pay54 (k0_pay51 v858 v861 v863 c v883 v885 v889) (k0_pay52 v858 v861 v863 c v883 v885 v889) (k0_pay53 v858 v861 v863 c v883 v885 v889)) (ix2 r l) = ∑ k : Fin 8, sq (k0_pay51 v858 v861 v863 c v883 v885 v889) r ⟨128 * (0 + k.val) + l.val, by omega⟩ := by
  rw [Fin.sum_univ_eight]
  unfold sq k0_pay52 k0_pay53
  generalize k0_pay51 v858 v861 v863 c v883 v885 v889 = p
  pointwise [k0_pay54]

theorem acc8 (p : FVec Ideal S256x4096 .f32) (r : Fin 256) (l : Fin 128) :
    k0_pay59 p (ix2 r l) = ∑ k : Fin 8, sq p r ⟨128 * (8 + k.val) + l.val, by omega⟩ := by
  rw [Fin.sum_univ_eight]
  unfold sq
  pointwise [k0_pay59]

theorem acc16 (p : FVec Ideal S256x4096 .f32) (r : Fin 256) (l : Fin 128) :
    k0_pay66 p (ix2 r l) = ∑ k : Fin 8, sq p r ⟨128 * (16 + k.val) + l.val, by omega⟩ := by
  rw [Fin.sum_univ_eight]
  unfold sq
  pointwise [k0_pay66]

theorem acc24 (p : FVec Ideal S256x4096 .f32) (r : Fin 256) (l : Fin 128) :
    k0_pay74 p (ix2 r l) = ∑ k : Fin 8, sq p r ⟨128 * (24 + k.val) + l.val, by omega⟩ := by
  rw [Fin.sum_univ_eight]
  unfold sq
  pointwise [k0_pay74]

theorem half00 (p : FVec Ideal S256x4096 .f32) (b d : FVec Ideal S256x128 .f32) (l : Fin 128) :
    k0_pay55 p b d (ix2 0 l) = (∑ i : Fin 128, k0_pay54 p b d (ix2 (⟨l.val, by omega⟩ : Fin 256) i)) := by
  unfold k0_pay55
  generalize k0_pay54 p b d = a
  pointwise []
  exact fold128 fun i => a (ix2 (⟨l.val, by omega⟩ : Fin 256) i)

theorem half01 (p : FVec Ideal S256x4096 .f32) (b d : FVec Ideal S256x128 .f32) (l : Fin 128) :
    k0_pay58 (k0_pay56 p b d) (k0_pay57 p b d) (ix2 0 l) = (∑ i : Fin 128, k0_pay54 p b d (ix2 (⟨128 + l.val, by omega⟩ : Fin 256) i)) := by
  unfold k0_pay57 k0_pay56
  generalize k0_pay54 p b d = a
  pointwise [k0_pay58]
  exact fold128 fun i => a (ix2 (⟨128 + l.val, by omega⟩ : Fin 256) i)

theorem half80 (t : FVec Ideal S1x128 .f32) (a : FVec Ideal S256x128 .f32) (l : Fin 128) :
    k0_pay64 t (k0_pay60 a) (ix2 0 l) = (∑ i : Fin 128, a (ix2 (⟨l.val, by omega⟩ : Fin 256) i)) + t (ix2 0 l) := by
  pointwise [k0_pay64, k0_pay60]
  exact congrArg (· + t (ix2 0 l)) (fold128 fun i => a (ix2 (⟨l.val, by omega⟩ : Fin 256) i))

theorem half81 (t : FVec Ideal S1x128 .f32) (a : FVec Ideal S256x128 .f32) (l : Fin 128) :
    k0_pay65 t (k0_pay61 a) (k0_pay62 a) (k0_pay63 a) (ix2 0 l) = (∑ i : Fin 128, a (ix2 (⟨128 + l.val, by omega⟩ : Fin 256) i)) + t (ix2 0 l) := by
  pointwise [k0_pay65, k0_pay63, k0_pay62, k0_pay61]
  exact congrArg (· + t (ix2 0 l)) (fold128 fun i => a (ix2 (⟨128 + l.val, by omega⟩ : Fin 256) i))

theorem half160 (t : FVec Ideal S1x128 .f32) (p : FVec Ideal S256x4096 .f32) (l : Fin 128) :
    k0_pay72 t (k0_pay69 (k0_pay67 p) (k0_pay68 p)) (ix2 0 l) = (∑ i : Fin 128, k0_pay66 p (ix2 (⟨l.val, by omega⟩ : Fin 256) i)) + t (ix2 0 l) := by
  unfold k0_pay68 k0_pay67
  generalize k0_pay66 p = a
  pointwise [k0_pay72, k0_pay69]
  exact congrArg (· + t (ix2 0 l)) (fold128 fun i => a (ix2 (⟨l.val, by omega⟩ : Fin 256) i))

theorem half161 (t : FVec Ideal S1x128 .f32) (a : FVec Ideal S256x128 .f32) (l : Fin 128) :
    k0_pay73 t (k0_pay70 a) (k0_pay71 a) (ix2 0 l) = (∑ i : Fin 128, a (ix2 (⟨128 + l.val, by omega⟩ : Fin 256) i)) + t (ix2 0 l) := by
  pointwise [k0_pay73, k0_pay71, k0_pay70]
  exact congrArg (· + t (ix2 0 l)) (fold128 fun i => a (ix2 (⟨128 + l.val, by omega⟩ : Fin 256) i))

theorem half240 (p : FVec Ideal S256x4096 .f32) (l : Fin 128) :
    k0_pay78 (k0_pay75 p) (k0_pay76 p) (k0_pay77 p) (ix2 0 l) = (∑ i : Fin 128, k0_pay74 p (ix2 (⟨l.val, by omega⟩ : Fin 256) i)) := by
  unfold k0_pay77 k0_pay76 k0_pay75
  generalize k0_pay74 p = a
  pointwise [k0_pay78]
  exact fold128 fun i => a (ix2 (⟨l.val, by omega⟩ : Fin 256) i)

theorem half241 (a : FVec Ideal S256x128 .f32) (l : Fin 128) :
    k0_pay80 a (ix2 0 l) + k0_pay79 a (ix2 1 l) = (∑ i : Fin 128, a (ix2 (⟨128 + l.val, by omega⟩ : Fin 256) i)) := by
  pointwise [k0_pay80, k0_pay79]
  exact fold128 fun i => a (ix2 (⟨128 + l.val, by omega⟩ : Fin 256) i)

/-- The squares of a row in four quarters. -/
theorem quarters (g : Fin 4096 → EReal) :
    (∑ l : Fin 128, ∑ k : Fin 8, g ⟨128 * (24 + k.val) + l.val, by omega⟩) + ((∑ l : Fin 128, ∑ k : Fin 8, g ⟨128 * (16 + k.val) + l.val, by omega⟩)
      + ((∑ l : Fin 128, ∑ k : Fin 8, g ⟨128 * (8 + k.val) + l.val, by omega⟩) + ∑ l : Fin 128, ∑ k : Fin 8, g ⟨128 * (0 + k.val) + l.val, by omega⟩)) = ∑ i, g i := by
  rw [← regroup_4096 g (by intros; omega), ← Finset.sum_add_distrib, ← Finset.sum_add_distrib, ← Finset.sum_add_distrib]
  refine Finset.sum_congr rfl fun l _ => ?_
  rw [← chain32]
  simp only [Fin.sum_univ_eight]
  have c : ∀ x0 x1 x2 x3 x4 x5 x6 x7 y0 y1 y2 y3 y4 y5 y6 y7 z0 z1 z2 z3 z4 z5 z6 z7 w0 w1 w2 w3 w4 w5 w6 w7 : EReal,
      (w0 + w1 + w2 + w3 + w4 + w5 + w6 + w7) + ((z0 + z1 + z2 + z3 + z4 + z5 + z6 + z7) + ((y0 + y1 + y2 + y3 + y4 + y5 + y6 + y7) + (x0 + x1 + x2 + x3 + x4 + x5 + x6 + x7)))
        = x0 + x1 + x2 + x3 + x4 + x5 + x6 + x7 + y0 + y1 + y2 + y3 + y4 + y5 + y6 + y7 + z0 + z1 + z2 + z3 + z4 + z5 + z6 + z7 + w0 + w1 + w2 + w3 + w4 + w5 + w6 + w7 := by
    intros; abel
  exact c _ _ _ _ _ _ _ _ _ _ _ _ _ _ _ _ _ _ _ _ _ _ _ _ _ _ _ _ _ _ _ _

theorem pay81_apply (p : FVec Ideal S256x4096 .f32) (t u s : FVec Ideal S1x128 .f32) (b : FVec Ideal S2x128 .f32) (d : FVec Ideal S1x128 .f32) (g : FVec Ideal S1x4096 .f32)
    (r : Fin 256) (f : Fin 4096) :
    k0_pay81 p t u s b d g (ix2 r f) = Ideal.div (p (ix2 r f))
        (if h : r.val < 128 then Ideal.sqrt ((s (ix2 0 ⟨r.val, h⟩) + t (ix2 0 ⟨r.val, h⟩)) * Ideal.ofBits FTy.f32 0x39800000#32 + Ideal.ofBits FTy.f32 0x3727C5AC#32)
        else Ideal.sqrt ((d (ix2 0 ⟨r.val - 128, by omega⟩) + b (ix2 1 ⟨r.val - 128, by omega⟩) + u (ix2 0 ⟨r.val - 128, by omega⟩)) * Ideal.ofBits FTy.f32 0x39800000#32
          + Ideal.ofBits FTy.f32 0x3727C5AC#32))
      * g (ix2 0 f) := by
  pointwise [k0_pay81]

theorem rows0 (v858 : FVec Ideal S256x1024 .f32) (v861 : FVec Ideal S256x1 .f32) (v863 : IVec S256x1 1) (c : Ideal .f32) (v883 : FVec Ideal S256x4096 .bf16) (v885 : FVec Ideal S1024x4096 .fp8e4m3) (v889 : FVec Ideal S1x4096 .f32) (l : Fin 128) :
    (k0_pay78 (k0_pay75 (k0_pay51 v858 v861 v863 c v883 v885 v889)) (k0_pay76 (k0_pay51 v858 v861 v863 c v883 v885 v889)) (k0_pay77 (k0_pay51 v858 v861 v863 c v883 v885 v889))) (ix2 0 l) + (k0_pay72 (k0_pay64 (k0_pay55 (k0_pay51 v858 v861 v863 c v883 v885 v889) (k0_pay52 v858 v861 v863 c v883 v885 v889) (k0_pay53 v858 v861 v863 c v883 v885 v889)) (k0_pay60 (k0_pay59 (k0_pay51 v858 v861 v863 c v883 v885 v889)))) (k0_pay69 (k0_pay67 (k0_pay51 v858 v861 v863 c v883 v885 v889)) (k0_pay68 (k0_pay51 v858 v861 v863 c v883 v885 v889)))) (ix2 0 l) = ∑ i : Fin 4096, sq (k0_pay51 v858 v861 v863 c v883 v885 v889) (⟨l.val, by omega⟩ : Fin 256) i := by
  rw [half240, half160, half80, half00, ← quarters (sq (k0_pay51 v858 v861 v863 c v883 v885 v889) (⟨l.val, by omega⟩ : Fin 256))]
  exact congrArg₂ (· + ·) (Finset.sum_congr rfl fun i _ => acc24 (k0_pay51 v858 v861 v863 c v883 v885 v889) (⟨l.val, by omega⟩ : Fin 256) i) (congrArg₂ (· + ·) (Finset.sum_congr rfl fun i _ => acc16 (k0_pay51 v858 v861 v863 c v883 v885 v889) (⟨l.val, by omega⟩ : Fin 256) i)
    (congrArg₂ (· + ·) (Finset.sum_congr rfl fun i _ => acc8 (k0_pay51 v858 v861 v863 c v883 v885 v889) (⟨l.val, by omega⟩ : Fin 256) i) (Finset.sum_congr rfl fun i _ => acc0 v858 v861 v863 c v883 v885 v889 (⟨l.val, by omega⟩ : Fin 256) i)))

theorem rows1 (v858 : FVec Ideal S256x1024 .f32) (v861 : FVec Ideal S256x1 .f32) (v863 : IVec S256x1 1) (c : Ideal .f32) (v883 : FVec Ideal S256x4096 .bf16) (v885 : FVec Ideal S1024x4096 .fp8e4m3) (v889 : FVec Ideal S1x4096 .f32) (l : Fin 128) :
    (k0_pay80 (k0_pay74 (k0_pay51 v858 v861 v863 c v883 v885 v889))) (ix2 0 l) + (k0_pay79 (k0_pay74 (k0_pay51 v858 v861 v863 c v883 v885 v889))) (ix2 1 l) + (k0_pay73 (k0_pay65 (k0_pay58 (k0_pay56 (k0_pay51 v858 v861 v863 c v883 v885 v889) (k0_pay52 v858 v861 v863 c v883 v885 v889) (k0_pay53 v858 v861 v863 c v883 v885 v889)) (k0_pay57 (k0_pay51 v858 v861 v863 c v883 v885 v889) (k0_pay52 v858 v861 v863 c v883 v885 v889) (k0_pay53 v858 v861 v863 c v883 v885 v889))) (k0_pay61 (k0_pay59 (k0_pay51 v858 v861 v863 c v883 v885 v889))) (k0_pay62 (k0_pay59 (k0_pay51 v858 v861 v863 c v883 v885 v889))) (k0_pay63 (k0_pay59 (k0_pay51 v858 v861 v863 c v883 v885 v889)))) (k0_pay70 (k0_pay66 (k0_pay51 v858 v861 v863 c v883 v885 v889))) (k0_pay71 (k0_pay66 (k0_pay51 v858 v861 v863 c v883 v885 v889)))) (ix2 0 l) = ∑ i : Fin 4096, sq (k0_pay51 v858 v861 v863 c v883 v885 v889) (⟨128 + l.val, by omega⟩ : Fin 256) i := by
  rw [half241, half161, half81, half01, ← quarters (sq (k0_pay51 v858 v861 v863 c v883 v885 v889) (⟨128 + l.val, by omega⟩ : Fin 256))]
  exact congrArg₂ (· + ·) (Finset.sum_congr rfl fun i _ => acc24 (k0_pay51 v858 v861 v863 c v883 v885 v889) (⟨128 + l.val, by omega⟩ : Fin 256) i) (congrArg₂ (· + ·) (Finset.sum_congr rfl fun i _ => acc16 (k0_pay51 v858 v861 v863 c v883 v885 v889) (⟨128 + l.val, by omega⟩ : Fin 256) i)
    (congrArg₂ (· + ·) (Finset.sum_congr rfl fun i _ => acc8 (k0_pay51 v858 v861 v863 c v883 v885 v889) (⟨128 + l.val, by omega⟩ : Fin 256) i) (Finset.sum_congr rfl fun i _ => acc0 v858 v861 v863 c v883 v885 v889 (⟨128 + l.val, by omega⟩ : Fin 256) i)))

/-- The row `r` of the sum, normalised. -/
theorem moe_apply (v858 : FVec Ideal S256x1024 .f32) (v861 : FVec Ideal S256x1 .f32) (v863 : IVec S256x1 1) (c : Ideal .f32) (v883 : FVec Ideal S256x4096 .bf16) (v885 : FVec Ideal S1024x4096 .fp8e4m3) (v889 : FVec Ideal S1x4096 .f32) (g : FVec Ideal S1x4096 .f32) (r : Fin 256) (f : Fin 4096) :
    k0_pay81 (k0_pay51 v858 v861 v863 c v883 v885 v889) (k0_pay72 (k0_pay64 (k0_pay55 (k0_pay51 v858 v861 v863 c v883 v885 v889) (k0_pay52 v858 v861 v863 c v883 v885 v889) (k0_pay53 v858 v861 v863 c v883 v885 v889)) (k0_pay60 (k0_pay59 (k0_pay51 v858 v861 v863 c v883 v885 v889)))) (k0_pay69 (k0_pay67 (k0_pay51 v858 v861 v863 c v883 v885 v889)) (k0_pay68 (k0_pay51 v858 v861 v863 c v883 v885 v889)))) (k0_pay73 (k0_pay65 (k0_pay58 (k0_pay56 (k0_pay51 v858 v861 v863 c v883 v885 v889) (k0_pay52 v858 v861 v863 c v883 v885 v889) (k0_pay53 v858 v861 v863 c v883 v885 v889)) (k0_pay57 (k0_pay51 v858 v861 v863 c v883 v885 v889) (k0_pay52 v858 v861 v863 c v883 v885 v889) (k0_pay53 v858 v861 v863 c v883 v885 v889))) (k0_pay61 (k0_pay59 (k0_pay51 v858 v861 v863 c v883 v885 v889))) (k0_pay62 (k0_pay59 (k0_pay51 v858 v861 v863 c v883 v885 v889))) (k0_pay63 (k0_pay59 (k0_pay51 v858 v861 v863 c v883 v885 v889)))) (k0_pay70 (k0_pay66 (k0_pay51 v858 v861 v863 c v883 v885 v889))) (k0_pay71 (k0_pay66 (k0_pay51 v858 v861 v863 c v883 v885 v889)))) (k0_pay78 (k0_pay75 (k0_pay51 v858 v861 v863 c v883 v885 v889)) (k0_pay76 (k0_pay51 v858 v861 v863 c v883 v885 v889)) (k0_pay77 (k0_pay51 v858 v861 v863 c v883 v885 v889))) (k0_pay79 (k0_pay74 (k0_pay51 v858 v861 v863 c v883 v885 v889))) (k0_pay80 (k0_pay74 (k0_pay51 v858 v861 v863 c v883 v885 v889))) g (ix2 r f)
      = normed (1 / 4096) (fun i => (k0_pay51 v858 v861 v863 c v883 v885 v889) (ix2 r i)) (fun i => g (ix2 0 i)) f := by
  refine (pay81_apply _ _ _ _ _ _ _ r f).trans ?_
  unfold normed rmsOf
  rw [ofBits_inv4096]
  refine congrArg₂ (· * ·) (congrArg (Ideal.div _) ?_) rfl
  by_cases h : r.val < 128
  · rw [dif_pos h, rows0, halves_key _ r _ (Fin.ext rfl)]
  · rw [dif_neg h, rows1, halves_key _ r _ (Fin.ext (by show 128 + (r.val - 128) = r.val; omega))]

theorem named_448 : Named.named (F := Ideal) (φ := .f32) κ "inv_448" 0x3B124925#32 = ((1 / 448 : ℝ) : EReal) :=
  IdealRules.named_const.ideal_named_scalar _ _ _ _ rfl

/-- The scale from the column of greatest absolute values. -/
theorem sel_of (v : FVec Ideal S256x1 .f32) (r : Fin 256) :
    select (cmpf .oeq v (broadcast S256x1 (Scalar.ofBits .f32 0x00000000#32))) (broadcast S256x1 (Scalar.ofBits .f32 0x3F800000#32))
      (mulf v (broadcast S256x1 (Named.named κ "inv_448" 0x3B124925#32))) (ix2 r 0) = scaleOf (v (ix2 r 0)) := by
  unfold scaleOf
  rw [← named_448]
  pointwise

theorem max_of1024 (p : FVec Ideal S256x1024 .f32) (r : Fin 256) :
    shapeCast S256x1 (multiReduction .maximumf [1] S256 (absf p) 0xFF800000#32 reduces_S256x1024_S256 (.inl rfl) rfl) shapeCasts_S256_S256x1 (ix2 r 0)
      = absMax (fun f : Fin 1024 => p (ix2 r f)) := by
  unfold absMax
  rw [← ofBits_bot]
  pointwise
  try rfl

theorem clip_of1024 (p : FVec Ideal S256x1024 .f32) (s : FVec Ideal S256x1 .f32) (r : Fin 256) (f : Fin 1024) :
    truncf .fp8e4m3 (minimumf (broadcast S256x1024 (Scalar.ofBits .f32 0x43E00000#32)) (maximumf (broadcast S256x1024 (Scalar.ofBits .f32 0xC3E00000#32))
      (divf p (broadcastTo S256x1024 s broadcasts_S256x1_S256x1024)))) bitsLt_fp8e4m3_f32 (ix2 r f) = codeOf (s (ix2 r 0)) (p (ix2 r f)) := by
  unfold codeOf
  pointwise

theorem max_of4096 (p : FVec Ideal S256x4096 .f32) (r : Fin 256) :
    shapeCast S256x1 (multiReduction .maximumf [1] S256 (absf p) 0xFF800000#32 reduces_S256x4096_S256 (.inl rfl) rfl) shapeCasts_S256_S256x1 (ix2 r 0)
      = absMax (fun f : Fin 4096 => p (ix2 r f)) := by
  unfold absMax
  rw [← ofBits_bot]
  pointwise
  try rfl

theorem clip_of4096 (p : FVec Ideal S256x4096 .f32) (s : FVec Ideal S256x1 .f32) (r : Fin 256) (f : Fin 4096) :
    truncf .fp8e4m3 (minimumf (broadcast S256x4096 (Scalar.ofBits .f32 0x43E00000#32)) (maximumf (broadcast S256x4096 (Scalar.ofBits .f32 0xC3E00000#32))
      (divf p (broadcastTo S256x4096 s broadcasts_S256x1_S256x4096)))) bitsLt_fp8e4m3_f32 (ix2 r f) = codeOf (s (ix2 r 0)) (p (ix2 r f)) := by
  unfold codeOf
  pointwise

section
variable (v : FVec Ideal S256x1024 .f32) (p : FVec Ideal S1x128 .f32) (a : FVec Ideal S128x128 .f32) (b d : FVec Ideal S8x128 .f32) (g : FVec Ideal S1x1024 .f32) (r : Fin 256)

theorem mixScale_apply : k0_pay48 (k0_pay46 v p a b d g) (k0_pay47 v p a b d g) (Named.named κ "inv_448" 0x3B124925#32) (ix2 r 0)
    = qScale (fun f : Fin 1024 => k0_pay45 v p a b d g (ix2 r f)) :=
  (sel_of (k0_pay46 v p a b d g) r).trans (congrArg scaleOf (max_of1024 (k0_pay45 v p a b d g) r))

theorem mixCode_raw (f : Fin 1024) : k0_pay49 (k0_pay45 v p a b d g) (k0_pay46 v p a b d g) (k0_pay47 v p a b d g) (Named.named κ "inv_448" 0x3B124925#32) (ix2 r f)
    = codeOf (k0_pay48 (k0_pay46 v p a b d g) (k0_pay47 v p a b d g) (Named.named κ "inv_448" 0x3B124925#32) (ix2 r 0)) (k0_pay45 v p a b d g (ix2 r f)) :=
  clip_of1024 _ _ r f

theorem mixCode_apply (f : Fin 1024) : k0_pay49 (k0_pay45 v p a b d g) (k0_pay46 v p a b d g) (k0_pay47 v p a b d g) (Named.named κ "inv_448" 0x3B124925#32) (ix2 r f)
    = qCode (fun f : Fin 1024 => k0_pay45 v p a b d g (ix2 r f)) f :=
  (mixCode_raw v p a b d g r f).trans (congrArg₂ codeOf (mixScale_apply v p a b d g r) rfl)
end

theorem mixRow_apply (a : FVec Ideal S256x1 .f32) (b : IVec S256x1 1) (c : Ideal .f32) (r : Fin 256) : k0_pay50 a b c (ix3 0 0 r) = k0_pay48 a b c (ix2 r 0) := by
  unfold k0_pay50
  generalize k0_pay48 a b c = s
  pointwise

section
variable (p : FVec Ideal S256x4096 .f32) (t u s : FVec Ideal S1x128 .f32) (b : FVec Ideal S2x128 .f32) (d : FVec Ideal S1x128 .f32) (g : FVec Ideal S1x4096 .f32) (r : Fin 256)

theorem moeScale_apply : k0_pay82 p t u s b d g (ix2 r 0) = qScale (fun f : Fin 4096 => k0_pay81 p t u s b d g (ix2 r f)) :=
  (sel_of _ r).trans (congrArg scaleOf (max_of4096 (k0_pay81 p t u s b d g) r))

theorem moeCode_raw (f : Fin 4096) : k0_pay83 p t u s b d g (ix2 r f) = codeOf (k0_pay82 p t u s b d g (ix2 r 0)) (k0_pay81 p t u s b d g (ix2 r f)) := clip_of4096 _ _ r f

theorem moeCode_apply (f : Fin 4096) : k0_pay83 p t u s b d g (ix2 r f) = qCode (fun f : Fin 4096 => k0_pay81 p t u s b d g (ix2 r f)) f :=
  (moeCode_raw p t u s b d g r f).trans (congrArg₂ codeOf (moeScale_apply p t u s b d g r) rfl)
end

theorem moeRow_apply (s : FVec Ideal S256x1 .f32) (r : Fin 256) : k0_pay84 s (ix3 0 0 r) = s (ix2 r 0) := by
  pointwise [k0_pay84]

theorem moeCol_apply (s : FVec Ideal S256x1 .f32) (r : Fin 256) (j : Fin 128) : k0_pay85 s (ix2 r j) = s (ix2 r 0) := by
  pointwise [k0_pay85]

theorem gate0 (v0 v2 v4 v6 v8 v10 v12 v14 : Vec Ideal S256x1x128 .f32) (v17 : Vec Ideal S256x1024 .f32) (r : Fin 256) (l : Fin 128) :
    k0_pay5 v0 v2 v4 v6 v8 v10 v12 v14 v17 (ix2 r (⟨0 + l.val, by omega⟩ : Fin 1024)) = v0 (ix3 r 0 l) * v17 (ix2 r (⟨0 + l.val, by omega⟩ : Fin 1024)) := by
  pointwise [k0_pay5]

theorem gate1 (v0 v2 v4 v6 v8 v10 v12 v14 : Vec Ideal S256x1x128 .f32) (v17 : Vec Ideal S256x1024 .f32) (r : Fin 256) (l : Fin 128) :
    k0_pay5 v0 v2 v4 v6 v8 v10 v12 v14 v17 (ix2 r (⟨128 + l.val, by omega⟩ : Fin 1024)) = v2 (ix3 r 0 l) * v17 (ix2 r (⟨128 + l.val, by omega⟩ : Fin 1024)) := by
  pointwise [k0_pay5]

theorem gate2 (v0 v2 v4 v6 v8 v10 v12 v14 : Vec Ideal S256x1x128 .f32) (v17 : Vec Ideal S256x1024 .f32) (r : Fin 256) (l : Fin 128) :
    k0_pay5 v0 v2 v4 v6 v8 v10 v12 v14 v17 (ix2 r (⟨256 + l.val, by omega⟩ : Fin 1024)) = v4 (ix3 r 0 l) * v17 (ix2 r (⟨256 + l.val, by omega⟩ : Fin 1024)) := by
  pointwise [k0_pay5]
  rw [dif_neg (by omega)]
  rw [dif_neg (by omega)]
  rw [dif_pos (by omega)]
  exact congrArg (· * v17 _) (congrArg v4 (congrArg (ix3 r 0) (Fin.ext (by show _ = l.val; dsimp only; omega))))

theorem gate3 (v0 v2 v4 v6 v8 v10 v12 v14 : Vec Ideal S256x1x128 .f32) (v17 : Vec Ideal S256x1024 .f32) (r : Fin 256) (l : Fin 128) :
    k0_pay5 v0 v2 v4 v6 v8 v10 v12 v14 v17 (ix2 r (⟨384 + l.val, by omega⟩ : Fin 1024)) = v6 (ix3 r 0 l) * v17 (ix2 r (⟨384 + l.val, by omega⟩ : Fin 1024)) := by
  pointwise [k0_pay5]
  rw [dif_neg (by omega)]
  rw [dif_neg (by omega)]
  rw [dif_neg (by omega)]
  rw [dif_pos (by omega)]
  exact congrArg (· * v17 _) (congrArg v6 (congrArg (ix3 r 0) (Fin.ext (by show _ = l.val; dsimp only; omega))))

theorem gate4 (v0 v2 v4 v6 v8 v10 v12 v14 : Vec Ideal S256x1x128 .f32) (v17 : Vec Ideal S256x1024 .f32) (r : Fin 256) (l : Fin 128) :
    k0_pay5 v0 v2 v4 v6 v8 v10 v12 v14 v17 (ix2 r (⟨512 + l.val, by omega⟩ : Fin 1024)) = v8 (ix3 r 0 l) * v17 (ix2 r (⟨512 + l.val, by omega⟩ : Fin 1024)) := by
  pointwise [k0_pay5]
  rw [dif_neg (by omega)]
  rw [dif_neg (by omega)]
  rw [dif_neg (by omega)]
  rw [dif_neg (by omega)]
  rw [dif_pos (by omega)]
  exact congrArg (· * v17 _) (congrArg v8 (congrArg (ix3 r 0) (Fin.ext (by show _ = l.val; dsimp only; omega))))

theorem gate5 (v0 v2 v4 v6 v8 v10 v12 v14 : Vec Ideal S256x1x128 .f32) (v17 : Vec Ideal S256x1024 .f32) (r : Fin 256) (l : Fin 128) :
    k0_pay5 v0 v2 v4 v6 v8 v10 v12 v14 v17 (ix2 r (⟨640 + l.val, by omega⟩ : Fin 1024)) = v10 (ix3 r 0 l) * v17 (ix2 r (⟨640 + l.val, by omega⟩ : Fin 1024)) := by
  pointwise [k0_pay5]
  rw [dif_neg (by omega)]
  rw [dif_neg (by omega)]
  rw [dif_neg (by omega)]
  rw [dif_neg (by omega)]
  rw [dif_neg (by omega)]
  rw [dif_pos (by omega)]
  exact congrArg (· * v17 _) (congrArg v10 (congrArg (ix3 r 0) (Fin.ext (by show _ = l.val; dsimp only; omega))))

theorem gate6 (v0 v2 v4 v6 v8 v10 v12 v14 : Vec Ideal S256x1x128 .f32) (v17 : Vec Ideal S256x1024 .f32) (r : Fin 256) (l : Fin 128) :
    k0_pay5 v0 v2 v4 v6 v8 v10 v12 v14 v17 (ix2 r (⟨768 + l.val, by omega⟩ : Fin 1024)) = v12 (ix3 r 0 l) * v17 (ix2 r (⟨768 + l.val, by omega⟩ : Fin 1024)) := by
  pointwise [k0_pay5]
  rw [dif_neg (by omega)]
  rw [dif_neg (by omega)]
  rw [dif_neg (by omega)]
  rw [dif_neg (by omega)]
  rw [dif_neg (by omega)]
  rw [dif_neg (by omega)]
  rw [dif_pos (by omega)]
  exact congrArg (· * v17 _) (congrArg v12 (congrArg (ix3 r 0) (Fin.ext (by show _ = l.val; dsimp only; omega))))

theorem gate7 (v0 v2 v4 v6 v8 v10 v12 v14 : Vec Ideal S256x1x128 .f32) (v17 : Vec Ideal S256x1024 .f32) (r : Fin 256) (l : Fin 128) :
    k0_pay5 v0 v2 v4 v6 v8 v10 v12 v14 v17 (ix2 r (⟨896 + l.val, by omega⟩ : Fin 1024)) = v14 (ix3 r 0 l) * v17 (ix2 r (⟨896 + l.val, by omega⟩ : Fin 1024)) := by
  pointwise [k0_pay5]
  rw [dif_neg (by omega)]
  rw [dif_neg (by omega)]
  rw [dif_neg (by omega)]
  rw [dif_neg (by omega)]
  rw [dif_neg (by omega)]
  rw [dif_neg (by omega)]
  rw [dif_neg (by omega)]
  exact congrArg (· * v17 _) (congrArg v14 (congrArg (ix3 r 0) (Fin.ext (by show _ = l.val; dsimp only; omega))))

end Cert.OutProjIdeal.Hand

end
-- ==== Proof.OutProjIdeal.Words.lean ====
module

public import proofs.«01_k».proof.Proof.OutProjIdeal.Math

/-! The values named along one run of the output projection, as its pieces compose them -/

@[expose] public section

set_option maxRecDepth 16384

noncomputable section

namespace Cert.OutProjIdeal.Hand

open Idealize.ShloMosaic Idealize.SL.Sem Cert.OutProjIdeal Cert.OutProjIdeal.Gen Cert.Spec

theorem off2 : (![0, 0] : Fin 2 → ℕ) = fun _ => 0 := by funext a; fin_cases a <;> rfl
theorem off3 : (![0, 0, 0] : Fin 3 → ℕ) = fun _ => 0 := by funext a; fin_cases a <;> rfl

theorem gate_all (v0 v2 v4 v6 v8 v10 v12 v14 : Vec Ideal S256x1x128 .f32) (v17 : Vec Ideal S256x1024 .f32) (r : Fin 256) (y : Fin 8 → Fin 128 → EReal)
    (h0 : ∀ l, v0 (ix3 r 0 l) = y 0 l)
    (h1 : ∀ l, v2 (ix3 r 0 l) = y 1 l)
    (h2 : ∀ l, v4 (ix3 r 0 l) = y 2 l)
    (h3 : ∀ l, v6 (ix3 r 0 l) = y 3 l)
    (h4 : ∀ l, v8 (ix3 r 0 l) = y 4 l)
    (h5 : ∀ l, v10 (ix3 r 0 l) = y 5 l)
    (h6 : ∀ l, v12 (ix3 r 0 l) = y 6 l)
    (h7 : ∀ l, v14 (ix3 r 0 l) = y 7 l) (i : Fin 1024) :
    k0_pay5 v0 v2 v4 v6 v8 v10 v12 v14 v17 (ix2 r i) = y ⟨i.val / 128, by omega⟩ ⟨i.val % 128, by omega⟩ * v17 (ix2 r i) := by
  have key : ∀ (h : Fin 8) (l : Fin 128) (j : Fin 1024), j.val = 128 * h.val + l.val → k0_pay5 v0 v2 v4 v6 v8 v10 v12 v14 v17 (ix2 r j) = y h l * v17 (ix2 r j) := by
    intro h l
    have hb : 128 * h.val + l.val < 1024 := by omega
    intro j hj
    obtain rfl : j = ⟨128 * h.val + l.val, hb⟩ := Fin.ext hj
    fin_cases h
    · exact (gate0 v0 v2 v4 v6 v8 v10 v12 v14 v17 r l).trans (congrArg (· * _) (h0 l))
    · exact (gate1 v0 v2 v4 v6 v8 v10 v12 v14 v17 r l).trans (congrArg (· * _) (h1 l))
    · exact (gate2 v0 v2 v4 v6 v8 v10 v12 v14 v17 r l).trans (congrArg (· * _) (h2 l))
    · exact (gate3 v0 v2 v4 v6 v8 v10 v12 v14 v17 r l).trans (congrArg (· * _) (h3 l))
    · exact (gate4 v0 v2 v4 v6 v8 v10 v12 v14 v17 r l).trans (congrArg (· * _) (h4 l))
    · exact (gate5 v0 v2 v4 v6 v8 v10 v12 v14 v17 r l).trans (congrArg (· * _) (h5 l))
    · exact (gate6 v0 v2 v4 v6 v8 v10 v12 v14 v17 r l).trans (congrArg (· * _) (h6 l))
    · exact (gate7 v0 v2 v4 v6 v8 v10 v12 v14 v17 r l).trans (congrArg (· * _) (h7 l))
  exact key _ _ i (by show i.val = 128 * (i.val / 128) + i.val % 128; omega)

theorem normed_to {n : ℕ} (q : ℝ) (v v' g : Fin n → EReal) (f : Fin n) (h : ∀ i, v i = v' i) : normed q v g f = normed q v' g f :=
  congrArg (fun u => normed q u g f) (funext h)

/-- Row `r` of a block's gated heads. -/
def gateB (x0 : Vec Ideal S256x8x128 .f32) (x1 : Vec Ideal S256x1024 .f32) (r : Fin 256) (i : Fin 1024) : EReal :=
  x0 (ix3 r ⟨i.val / 128, by omega⟩ ⟨i.val % 128, by omega⟩) * x1 (ix2 r i)

/-- Row `r` of a block's gated heads, normalised. -/
def mixB (x0 : Vec Ideal S256x8x128 .f32) (x1 : Vec Ideal S256x1024 .f32) (x3 : Vec Ideal S1x1024 .f32) (r : Fin 256) : Fin 1024 → EReal :=
  normed (1 / 1024) (gateB x0 x1 r) (fun i => x3 (ix2 0 i))

/-- Row `r` of a block's sum of the residual and the projection. -/
def sumB (x0 : Vec Ideal S256x8x128 .f32) (x1 : Vec Ideal S256x1024 .f32) (x2 : Vec Ideal S256x4096 .bf16) (x3 : Vec Ideal S1x1024 .f32) (x4 : Vec Ideal S1024x4096 .fp8e4m3)
    (x5 : Vec Ideal S1x4096 .f32) (r : Fin 256) (f : Fin 4096) : EReal :=
  x2 (ix2 r f) + (∑ k : Fin 1024, qCode (mixB x0 x1 x3 r) k * x4 (ix2 k f)) * qScale (mixB x0 x1 x3 r) * x5 (ix2 0 f)

/-- The sum's row `r`, normalised. -/
def moeB (x0 : Vec Ideal S256x8x128 .f32) (x1 : Vec Ideal S256x1024 .f32) (x2 : Vec Ideal S256x4096 .bf16) (x3 : Vec Ideal S1x1024 .f32) (x4 : Vec Ideal S1024x4096 .fp8e4m3)
    (x5 x6 : Vec Ideal S1x4096 .f32) (r : Fin 256) : Fin 4096 → EReal :=
  normed (1 / 4096) (sumB x0 x1 x2 x3 x4 x5 r) (fun i => x6 (ix2 0 i))

section
variable (c : Dev nD) (arg1 : Memref sig .tc .vmem S256x8x128 .f32) (harg1 : arg1.IsWhole) (arg2 : Memref sig .tc .vmem S256x1024 .f32) (harg2 : arg2.IsWhole) (arg3 : Memref sig .tc .vmem S256x4096 .bf16) (harg3 : arg3.IsWhole) (arg4 : Memref sig .tc .vmem S1x1024 .f32) (harg4 : arg4.IsWhole) (arg5 : Memref sig .tc .vmem S1024x4096 .fp8e4m3) (harg5 : arg5.IsWhole) (arg6 : Memref sig .tc .vmem S1x4096 .f32) (harg6 : arg6.IsWhole) (arg7 : Memref sig .tc .vmem S1x4096 .f32) (harg7 : arg7.IsWhole)
  (x0 : Vec Ideal S256x8x128 .f32) (x1 : Vec Ideal S256x1024 .f32) (x2 : Vec Ideal S256x4096 .bf16) (x3 : Vec Ideal S1x1024 .f32) (x4 : Vec Ideal S1024x4096 .fp8e4m3) (x5 : Vec Ideal S1x4096 .f32) (x6 : Vec Ideal S1x4096 .f32)

theorem head0 (r : Fin 256) (l : Fin 128) : (View.readAt (Elt Ideal) arg1.view (Rect.unit (s := S256x8x128) ![0, 0, 0] S256x1x128.size inb_S256x8x128_S256x1x128_0_0_0).toLoadRect (harg1.unread x0)) (ix3 r 0 l) = x0 (ix3 r 0 l) := by
  simp only [View.readAt_eq_ld, Memref.IsWhole.read_unread]
  rw [View.ld_unit]
  pointwise
theorem head1 (r : Fin 256) (l : Fin 128) : (View.readAt (Elt Ideal) arg1.view (Rect.unit (s := S256x8x128) ![0, 1, 0] S256x1x128.size inb_S256x8x128_S256x1x128_0_1_0).toLoadRect (harg1.unread x0)) (ix3 r 0 l) = x0 (ix3 r 1 l) := by
  simp only [View.readAt_eq_ld, Memref.IsWhole.read_unread]
  rw [View.ld_unit]
  pointwise
theorem head2 (r : Fin 256) (l : Fin 128) : (View.readAt (Elt Ideal) arg1.view (Rect.unit (s := S256x8x128) ![0, 2, 0] S256x1x128.size inb_S256x8x128_S256x1x128_0_2_0).toLoadRect (harg1.unread x0)) (ix3 r 0 l) = x0 (ix3 r 2 l) := by
  simp only [View.readAt_eq_ld, Memref.IsWhole.read_unread]
  rw [View.ld_unit]
  pointwise
theorem head3 (r : Fin 256) (l : Fin 128) : (View.readAt (Elt Ideal) arg1.view (Rect.unit (s := S256x8x128) ![0, 3, 0] S256x1x128.size inb_S256x8x128_S256x1x128_0_3_0).toLoadRect (harg1.unread x0)) (ix3 r 0 l) = x0 (ix3 r 3 l) := by
  simp only [View.readAt_eq_ld, Memref.IsWhole.read_unread]
  rw [View.ld_unit]
  pointwise
theorem head4 (r : Fin 256) (l : Fin 128) : (View.readAt (Elt Ideal) arg1.view (Rect.unit (s := S256x8x128) ![0, 4, 0] S256x1x128.size inb_S256x8x128_S256x1x128_0_4_0).toLoadRect (harg1.unread x0)) (ix3 r 0 l) = x0 (ix3 r 4 l) := by
  simp only [View.readAt_eq_ld, Memref.IsWhole.read_unread]
  rw [View.ld_unit]
  pointwise
theorem head5 (r : Fin 256) (l : Fin 128) : (View.readAt (Elt Ideal) arg1.view (Rect.unit (s := S256x8x128) ![0, 5, 0] S256x1x128.size inb_S256x8x128_S256x1x128_0_5_0).toLoadRect (harg1.unread x0)) (ix3 r 0 l) = x0 (ix3 r 5 l) := by
  simp only [View.readAt_eq_ld, Memref.IsWhole.read_unread]
  rw [View.ld_unit]
  pointwise
theorem head6 (r : Fin 256) (l : Fin 128) : (View.readAt (Elt Ideal) arg1.view (Rect.unit (s := S256x8x128) ![0, 6, 0] S256x1x128.size inb_S256x8x128_S256x1x128_0_6_0).toLoadRect (harg1.unread x0)) (ix3 r 0 l) = x0 (ix3 r 6 l) := by
  simp only [View.readAt_eq_ld, Memref.IsWhole.read_unread]
  rw [View.ld_unit]
  pointwise
theorem head7 (r : Fin 256) (l : Fin 128) : (View.readAt (Elt Ideal) arg1.view (Rect.unit (s := S256x8x128) ![0, 7, 0] S256x1x128.size inb_S256x8x128_S256x1x128_0_7_0).toLoadRect (harg1.unread x0)) (ix3 r 0 l) = x0 (ix3 r 7 l) := by
  simp only [View.readAt_eq_ld, Memref.IsWhole.read_unread]
  rw [View.ld_unit]
  pointwise
theorem whole2 : (View.readAt (Elt Ideal) arg2.view (Rect.unit (s := S256x1024) ![0, 0] S256x1024.size inb_S256x1024_S256x1024_0_0).toLoadRect (harg2.unread x1)) = x1 := by
  simp only [View.readAt_eq_ld, Memref.IsWhole.read_unread]
  exact View.ld_unit_zero off2 _ _
theorem whole3 : (View.readAt (Elt Ideal) arg3.view (Rect.unit (s := S256x4096) ![0, 0] S256x4096.size inb_S256x4096_S256x4096_0_0).toLoadRect (harg3.unread x2)) = x2 := by
  simp only [View.readAt_eq_ld, Memref.IsWhole.read_unread]
  exact View.ld_unit_zero off2 _ _
theorem whole4 : (View.readAt (Elt Ideal) arg4.view (Rect.unit (s := S1x1024) ![0, 0] S1x1024.size inb_S1x1024_S1x1024_0_0).toLoadRect (harg4.unread x3)) = x3 := by
  simp only [View.readAt_eq_ld, Memref.IsWhole.read_unread]
  exact View.ld_unit_zero off2 _ _
theorem whole5 : (View.readAt (Elt Ideal) arg5.view (Rect.unit (s := S1024x4096) ![0, 0] S1024x4096.size inb_S1024x4096_S1024x4096_0_0).toLoadRect (harg5.unread x4)) = x4 := by
  simp only [View.readAt_eq_ld, Memref.IsWhole.read_unread]
  exact View.ld_unit_zero off2 _ _
theorem whole6 : (View.readAt (Elt Ideal) arg6.view (Rect.unit (s := S1x4096) ![0, 0] S1x4096.size inb_S1x4096_S1x4096_0_0).toLoadRect (harg6.unread x5)) = x5 := by
  simp only [View.readAt_eq_ld, Memref.IsWhole.read_unread]
  exact View.ld_unit_zero off2 _ _
theorem whole7 : (View.readAt (Elt Ideal) arg7.view (Rect.unit (s := S1x4096) ![0, 0] S1x4096.size inb_S1x4096_S1x4096_0_0).toLoadRect (harg7.unread x6)) = x6 := by
  simp only [View.readAt_eq_ld, Memref.IsWhole.read_unread]
  exact View.ld_unit_zero off2 _ _
theorem w_v18 : (kernelRun0_A.sl.v18 c arg1 harg1 arg2 harg2 x0 x1) = (k0_pay5 (View.readAt (Elt Ideal) arg1.view (Rect.unit (s := S256x8x128) ![0, 0, 0] S256x1x128.size inb_S256x8x128_S256x1x128_0_0_0).toLoadRect (harg1.unread x0)) (View.readAt (Elt Ideal) arg1.view (Rect.unit (s := S256x8x128) ![0, 1, 0] S256x1x128.size inb_S256x8x128_S256x1x128_0_1_0).toLoadRect (harg1.unread x0)) (View.readAt (Elt Ideal) arg1.view (Rect.unit (s := S256x8x128) ![0, 2, 0] S256x1x128.size inb_S256x8x128_S256x1x128_0_2_0).toLoadRect (harg1.unread x0)) (View.readAt (Elt Ideal) arg1.view (Rect.unit (s := S256x8x128) ![0, 3, 0] S256x1x128.size inb_S256x8x128_S256x1x128_0_3_0).toLoadRect (harg1.unread x0)) (View.readAt (Elt Ideal) arg1.view (Rect.unit (s := S256x8x128) ![0, 4, 0] S256x1x128.size inb_S256x8x128_S256x1x128_0_4_0).toLoadRect (harg1.unread x0)) (View.readAt (Elt Ideal) arg1.view (Rect.unit (s := S256x8x128) ![0, 5, 0] S256x1x128.size inb_S256x8x128_S256x1x128_0_5_0).toLoadRect (harg1.unread x0)) (View.readAt (Elt Ideal) arg1.view (Rect.unit (s := S256x8x128) ![0, 6, 0] S256x1x128.size inb_S256x8x128_S256x1x128_0_6_0).toLoadRect (harg1.unread x0)) (View.readAt (Elt Ideal) arg1.view (Rect.unit (s := S256x8x128) ![0, 7, 0] S256x1x128.size inb_S256x8x128_S256x1x128_0_7_0).toLoadRect (harg1.unread x0)) (View.readAt (Elt Ideal) arg2.view (Rect.unit (s := S256x1024) ![0, 0] S256x1024.size inb_S256x1024_S256x1024_0_0).toLoadRect (harg2.unread x1))) := rfl
theorem w_v20 : (kernelRun0_A.sl.v20 c arg1 harg1 arg2 harg2 x0 x1) = (k0_pay6 (View.readAt (Elt Ideal) arg1.view (Rect.unit (s := S256x8x128) ![0, 0, 0] S256x1x128.size inb_S256x8x128_S256x1x128_0_0_0).toLoadRect (harg1.unread x0)) (View.readAt (Elt Ideal) arg1.view (Rect.unit (s := S256x8x128) ![0, 1, 0] S256x1x128.size inb_S256x8x128_S256x1x128_0_1_0).toLoadRect (harg1.unread x0)) (View.readAt (Elt Ideal) arg1.view (Rect.unit (s := S256x8x128) ![0, 2, 0] S256x1x128.size inb_S256x8x128_S256x1x128_0_2_0).toLoadRect (harg1.unread x0)) (View.readAt (Elt Ideal) arg1.view (Rect.unit (s := S256x8x128) ![0, 3, 0] S256x1x128.size inb_S256x8x128_S256x1x128_0_3_0).toLoadRect (harg1.unread x0)) (View.readAt (Elt Ideal) arg1.view (Rect.unit (s := S256x8x128) ![0, 4, 0] S256x1x128.size inb_S256x8x128_S256x1x128_0_4_0).toLoadRect (harg1.unread x0)) (View.readAt (Elt Ideal) arg1.view (Rect.unit (s := S256x8x128) ![0, 5, 0] S256x1x128.size inb_S256x8x128_S256x1x128_0_5_0).toLoadRect (harg1.unread x0)) (View.readAt (Elt Ideal) arg1.view (Rect.unit (s := S256x8x128) ![0, 6, 0] S256x1x128.size inb_S256x8x128_S256x1x128_0_6_0).toLoadRect (harg1.unread x0)) (View.readAt (Elt Ideal) arg1.view (Rect.unit (s := S256x8x128) ![0, 7, 0] S256x1x128.size inb_S256x8x128_S256x1x128_0_7_0).toLoadRect (harg1.unread x0)) (View.readAt (Elt Ideal) arg2.view (Rect.unit (s := S256x1024) ![0, 0] S256x1024.size inb_S256x1024_S256x1024_0_0).toLoadRect (harg2.unread x1))) := rfl
theorem w_v31 : (kernelRun0_A.sl.v31 c arg1 harg1 arg2 harg2 x0 x1) = (k0_pay7 (View.readAt (Elt Ideal) arg1.view (Rect.unit (s := S256x8x128) ![0, 0, 0] S256x1x128.size inb_S256x8x128_S256x1x128_0_0_0).toLoadRect (harg1.unread x0)) (View.readAt (Elt Ideal) arg1.view (Rect.unit (s := S256x8x128) ![0, 1, 0] S256x1x128.size inb_S256x8x128_S256x1x128_0_1_0).toLoadRect (harg1.unread x0)) (View.readAt (Elt Ideal) arg1.view (Rect.unit (s := S256x8x128) ![0, 2, 0] S256x1x128.size inb_S256x8x128_S256x1x128_0_2_0).toLoadRect (harg1.unread x0)) (View.readAt (Elt Ideal) arg1.view (Rect.unit (s := S256x8x128) ![0, 3, 0] S256x1x128.size inb_S256x8x128_S256x1x128_0_3_0).toLoadRect (harg1.unread x0)) (View.readAt (Elt Ideal) arg1.view (Rect.unit (s := S256x8x128) ![0, 4, 0] S256x1x128.size inb_S256x8x128_S256x1x128_0_4_0).toLoadRect (harg1.unread x0)) (View.readAt (Elt Ideal) arg1.view (Rect.unit (s := S256x8x128) ![0, 5, 0] S256x1x128.size inb_S256x8x128_S256x1x128_0_5_0).toLoadRect (harg1.unread x0)) (View.readAt (Elt Ideal) arg1.view (Rect.unit (s := S256x8x128) ![0, 6, 0] S256x1x128.size inb_S256x8x128_S256x1x128_0_6_0).toLoadRect (harg1.unread x0)) (View.readAt (Elt Ideal) arg1.view (Rect.unit (s := S256x8x128) ![0, 7, 0] S256x1x128.size inb_S256x8x128_S256x1x128_0_7_0).toLoadRect (harg1.unread x0)) (View.readAt (Elt Ideal) arg2.view (Rect.unit (s := S256x1024) ![0, 0] S256x1024.size inb_S256x1024_S256x1024_0_0).toLoadRect (harg2.unread x1))) := rfl
theorem w_v32 : (kernelRun0_A.sl.v32 c arg1 harg1 arg2 harg2 x0 x1) = (k0_pay8 (View.readAt (Elt Ideal) arg1.view (Rect.unit (s := S256x8x128) ![0, 0, 0] S256x1x128.size inb_S256x8x128_S256x1x128_0_0_0).toLoadRect (harg1.unread x0)) (View.readAt (Elt Ideal) arg1.view (Rect.unit (s := S256x8x128) ![0, 1, 0] S256x1x128.size inb_S256x8x128_S256x1x128_0_1_0).toLoadRect (harg1.unread x0)) (View.readAt (Elt Ideal) arg1.view (Rect.unit (s := S256x8x128) ![0, 2, 0] S256x1x128.size inb_S256x8x128_S256x1x128_0_2_0).toLoadRect (harg1.unread x0)) (View.readAt (Elt Ideal) arg1.view (Rect.unit (s := S256x8x128) ![0, 3, 0] S256x1x128.size inb_S256x8x128_S256x1x128_0_3_0).toLoadRect (harg1.unread x0)) (View.readAt (Elt Ideal) arg1.view (Rect.unit (s := S256x8x128) ![0, 4, 0] S256x1x128.size inb_S256x8x128_S256x1x128_0_4_0).toLoadRect (harg1.unread x0)) (View.readAt (Elt Ideal) arg1.view (Rect.unit (s := S256x8x128) ![0, 5, 0] S256x1x128.size inb_S256x8x128_S256x1x128_0_5_0).toLoadRect (harg1.unread x0)) (View.readAt (Elt Ideal) arg1.view (Rect.unit (s := S256x8x128) ![0, 6, 0] S256x1x128.size inb_S256x8x128_S256x1x128_0_6_0).toLoadRect (harg1.unread x0)) (View.readAt (Elt Ideal) arg1.view (Rect.unit (s := S256x8x128) ![0, 7, 0] S256x1x128.size inb_S256x8x128_S256x1x128_0_7_0).toLoadRect (harg1.unread x0)) (View.readAt (Elt Ideal) arg2.view (Rect.unit (s := S256x1024) ![0, 0] S256x1024.size inb_S256x1024_S256x1024_0_0).toLoadRect (harg2.unread x1))) := rfl
theorem w_v69 : (kernelRun0_A.sl.v69 c arg1 harg1 arg2 harg2 x0 x1) = (k0_pay9 (kernelRun0_A.sl.v18 c arg1 harg1 arg2 harg2 x0 x1)) := rfl
theorem w_v90 : (kernelRun0_A.sl.v90 c arg1 harg1 arg2 harg2 x0 x1) = (k0_pay10 (kernelRun0_A.sl.v18 c arg1 harg1 arg2 harg2 x0 x1) (kernelRun0_A.sl.v20 c arg1 harg1 arg2 harg2 x0 x1) (kernelRun0_A.sl.v31 c arg1 harg1 arg2 harg2 x0 x1) (kernelRun0_A.sl.v32 c arg1 harg1 arg2 harg2 x0 x1)) := rfl
theorem w_v92 : (kernelRun0_A.sl.v92 c arg1 harg1 arg2 harg2 x0 x1) = (k0_pay11 (kernelRun0_A.sl.v18 c arg1 harg1 arg2 harg2 x0 x1)) := rfl
theorem w_v119 : (kernelRun0_A.sl.v119 c arg1 harg1 arg2 harg2 x0 x1) = (k0_pay12 (kernelRun0_A.sl.v18 c arg1 harg1 arg2 harg2 x0 x1)) := rfl
theorem w_v152 : (kernelRun0_A.sl.v152 c arg1 harg1 arg2 harg2 x0 x1) = (k0_pay13 (kernelRun0_A.sl.v18 c arg1 harg1 arg2 harg2 x0 x1) (kernelRun0_A.sl.v69 c arg1 harg1 arg2 harg2 x0 x1) (kernelRun0_A.sl.v90 c arg1 harg1 arg2 harg2 x0 x1) (kernelRun0_A.sl.v92 c arg1 harg1 arg2 harg2 x0 x1)) := rfl
theorem w_v169 : (kernelRun0_A.sl.v169 c arg1 harg1 arg2 harg2 x0 x1) = (k0_pay14 (kernelRun0_A.sl.v18 c arg1 harg1 arg2 harg2 x0 x1)) := rfl
theorem w_v211 : (kernelRun0_A.sl.v211 c arg1 harg1 arg2 harg2 x0 x1) = (k0_pay15 (kernelRun0_A.sl.v18 c arg1 harg1 arg2 harg2 x0 x1) (kernelRun0_A.sl.v119 c arg1 harg1 arg2 harg2 x0 x1) (kernelRun0_A.sl.v152 c arg1 harg1 arg2 harg2 x0 x1)) := rfl
theorem w_v212 : (kernelRun0_A.sl.v212 c arg1 harg1 arg2 harg2 x0 x1) = (k0_pay16 (kernelRun0_A.sl.v18 c arg1 harg1 arg2 harg2 x0 x1)) := rfl
theorem w_v269 : (kernelRun0_A.sl.v269 c arg1 harg1 arg2 harg2 x0 x1) = (k0_pay17 (kernelRun0_A.sl.v18 c arg1 harg1 arg2 harg2 x0 x1)) := rfl
theorem w_v272 : (kernelRun0_A.sl.v272 c arg1 harg1 arg2 harg2 x0 x1) = (k0_pay18 (kernelRun0_A.sl.v18 c arg1 harg1 arg2 harg2 x0 x1) (kernelRun0_A.sl.v169 c arg1 harg1 arg2 harg2 x0 x1) (kernelRun0_A.sl.v211 c arg1 harg1 arg2 harg2 x0 x1) (kernelRun0_A.sl.v212 c arg1 harg1 arg2 harg2 x0 x1)) := rfl
theorem w_v319 : (kernelRun0_A.sl.v319 c arg1 harg1 arg2 harg2 x0 x1) = (k0_pay19 (kernelRun0_A.sl.v18 c arg1 harg1 arg2 harg2 x0 x1)) := rfl
theorem w_v331 : (kernelRun0_A.sl.v331 c arg1 harg1 arg2 harg2 x0 x1) = (k0_pay20 (kernelRun0_A.sl.v18 c arg1 harg1 arg2 harg2 x0 x1) (kernelRun0_A.sl.v269 c arg1 harg1 arg2 harg2 x0 x1) (kernelRun0_A.sl.v272 c arg1 harg1 arg2 harg2 x0 x1)) := rfl
theorem w_v332 : (kernelRun0_A.sl.v332 c arg1 harg1 arg2 harg2 x0 x1) = (k0_pay21 (kernelRun0_A.sl.v18 c arg1 harg1 arg2 harg2 x0 x1)) := rfl
theorem w_v369 : (kernelRun0_A.sl.v369 c arg1 harg1 arg2 harg2 x0 x1) = (k0_pay22 (kernelRun0_A.sl.v18 c arg1 harg1 arg2 harg2 x0 x1)) := rfl
theorem w_v390 : (kernelRun0_A.sl.v390 c arg1 harg1 arg2 harg2 x0 x1) = (k0_pay23 (kernelRun0_A.sl.v18 c arg1 harg1 arg2 harg2 x0 x1) (kernelRun0_A.sl.v319 c arg1 harg1 arg2 harg2 x0 x1) (kernelRun0_A.sl.v331 c arg1 harg1 arg2 harg2 x0 x1) (kernelRun0_A.sl.v332 c arg1 harg1 arg2 harg2 x0 x1)) := rfl
theorem w_v392 : (kernelRun0_A.sl.v392 c arg1 harg1 arg2 harg2 x0 x1) = (k0_pay24 (kernelRun0_A.sl.v18 c arg1 harg1 arg2 harg2 x0 x1)) := rfl
theorem w_v428 : (kernelRun0_A.sl.v428 c arg1 harg1 arg2 harg2 x0 x1) = (k0_pay26 (kernelRun0_A.sl.v18 c arg1 harg1 arg2 harg2 x0 x1)) := rfl
theorem w_v451 : (kernelRun0_A.sl.v451 c arg1 harg1 arg2 harg2 x0 x1) = (k0_pay27 (kernelRun0_A.sl.v18 c arg1 harg1 arg2 harg2 x0 x1)) := rfl
theorem w_v452 : (kernelRun0_A.sl.v452 c arg1 harg1 arg2 harg2 x0 x1) = (k0_pay28 (kernelRun0_A.sl.v18 c arg1 harg1 arg2 harg2 x0 x1)) := rfl
theorem w_v477 : (kernelRun0_A.sl.v477 c arg1 harg1 arg2 harg2 x0 x1) = (k0_pay29 (kernelRun0_A.sl.v18 c arg1 harg1 arg2 harg2 x0 x1)) := rfl
theorem w_v510 : (kernelRun0_A.sl.v510 c arg1 harg1 arg2 harg2 x0 x1) = (k0_pay30 (kernelRun0_A.sl.v18 c arg1 harg1 arg2 harg2 x0 x1) (kernelRun0_A.sl.v428 c arg1 harg1 arg2 harg2 x0 x1) (kernelRun0_A.sl.v451 c arg1 harg1 arg2 harg2 x0 x1) (kernelRun0_A.sl.v452 c arg1 harg1 arg2 harg2 x0 x1)) := rfl
theorem w_v512 : (kernelRun0_A.sl.v512 c arg1 harg1 arg2 harg2 x0 x1) = (k0_pay31 (kernelRun0_A.sl.v18 c arg1 harg1 arg2 harg2 x0 x1)) := rfl
theorem w_v527 : (kernelRun0_A.sl.v527 c arg1 harg1 arg2 harg2 x0 x1) = (k0_pay32 (kernelRun0_A.sl.v18 c arg1 harg1 arg2 harg2 x0 x1)) := rfl
theorem w_v572 : (kernelRun0_A.sl.v572 c arg1 harg1 arg2 harg2 x0 x1) = (k0_pay33 (kernelRun0_A.sl.v18 c arg1 harg1 arg2 harg2 x0 x1) (kernelRun0_A.sl.v477 c arg1 harg1 arg2 harg2 x0 x1) (kernelRun0_A.sl.v510 c arg1 harg1 arg2 harg2 x0 x1) (kernelRun0_A.sl.v512 c arg1 harg1 arg2 harg2 x0 x1)) := rfl
theorem w_v627 : (kernelRun0_A.sl.v627 c arg1 harg1 arg2 harg2 x0 x1) = (k0_pay34 (kernelRun0_A.sl.v18 c arg1 harg1 arg2 harg2 x0 x1)) := rfl
theorem w_v630 : (kernelRun0_A.sl.v630 c arg1 harg1 arg2 harg2 x0 x1) = (k0_pay35 (kernelRun0_A.sl.v18 c arg1 harg1 arg2 harg2 x0 x1) (kernelRun0_A.sl.v527 c arg1 harg1 arg2 harg2 x0 x1) (kernelRun0_A.sl.v572 c arg1 harg1 arg2 harg2 x0 x1)) := rfl
theorem w_v632 : (kernelRun0_A.sl.v632 c arg1 harg1 arg2 harg2 x0 x1) = (k0_pay36 (kernelRun0_A.sl.v18 c arg1 harg1 arg2 harg2 x0 x1)) := rfl
theorem w_v677 : (kernelRun0_A.sl.v677 c arg1 harg1 arg2 harg2 x0 x1) = (k0_pay37 (kernelRun0_A.sl.v18 c arg1 harg1 arg2 harg2 x0 x1)) := rfl
theorem w_v692 : (kernelRun0_A.sl.v692 c arg1 harg1 arg2 harg2 x0 x1) = (k0_pay38 (kernelRun0_A.sl.v18 c arg1 harg1 arg2 harg2 x0 x1) (kernelRun0_A.sl.v627 c arg1 harg1 arg2 harg2 x0 x1) (kernelRun0_A.sl.v630 c arg1 harg1 arg2 harg2 x0 x1) (kernelRun0_A.sl.v632 c arg1 harg1 arg2 harg2 x0 x1)) := rfl
theorem w_v727 : (kernelRun0_A.sl.v727 c arg1 harg1 arg2 harg2 x0 x1) = (k0_pay39 (kernelRun0_A.sl.v18 c arg1 harg1 arg2 harg2 x0 x1)) := rfl
theorem w_v751 : (kernelRun0_A.sl.v751 c arg1 harg1 arg2 harg2 x0 x1) = (k0_pay40 (kernelRun0_A.sl.v18 c arg1 harg1 arg2 harg2 x0 x1) (kernelRun0_A.sl.v677 c arg1 harg1 arg2 harg2 x0 x1) (kernelRun0_A.sl.v692 c arg1 harg1 arg2 harg2 x0 x1)) := rfl
theorem w_v752 : (kernelRun0_A.sl.v752 c arg1 harg1 arg2 harg2 x0 x1) = (k0_pay41 (kernelRun0_A.sl.v18 c arg1 harg1 arg2 harg2 x0 x1)) := rfl
theorem w_v777 : (kernelRun0_A.sl.v777 c arg1 harg1 arg2 harg2 x0 x1) = (k0_pay42 (kernelRun0_A.sl.v18 c arg1 harg1 arg2 harg2 x0 x1)) := rfl
theorem w_v810 : (kernelRun0_A.sl.v810 c arg1 harg1 arg2 harg2 x0 x1) = (k0_pay43 (kernelRun0_A.sl.v18 c arg1 harg1 arg2 harg2 x0 x1) (kernelRun0_A.sl.v727 c arg1 harg1 arg2 harg2 x0 x1) (kernelRun0_A.sl.v751 c arg1 harg1 arg2 harg2 x0 x1) (kernelRun0_A.sl.v752 c arg1 harg1 arg2 harg2 x0 x1)) := rfl
theorem w_v812 : (kernelRun0_A.sl.v812 c arg1 harg1 arg2 harg2 x0 x1) = (k0_pay44 (kernelRun0_A.sl.v18 c arg1 harg1 arg2 harg2 x0 x1)) := rfl
theorem w_v426 : (kernelRun0_A.sl.v426 c arg1 harg1 arg2 harg2 x0 x1) = (k0_pay25 (kernelRun0_A.sl.v369 c arg1 harg1 arg2 harg2 x0 x1) (kernelRun0_A.sl.v390 c arg1 harg1 arg2 harg2 x0 x1) (kernelRun0_A.sl.v392 c arg1 harg1 arg2 harg2 x0 x1)) := rfl
theorem w_r : (kernelRun0_A.sl.r c arg1 harg1 arg2 harg2 arg4 harg4 x0 x1 x3) = (k0_pay45 (kernelRun0_A.sl.v18 c arg1 harg1 arg2 harg2 x0 x1) (kernelRun0_A.sl.v426 c arg1 harg1 arg2 harg2 x0 x1) (kernelRun0_A.sl.v777 c arg1 harg1 arg2 harg2 x0 x1) (kernelRun0_A.sl.v810 c arg1 harg1 arg2 harg2 x0 x1) (kernelRun0_A.sl.v812 c arg1 harg1 arg2 harg2 x0 x1) (View.readAt (Elt Ideal) arg4.view (Rect.unit (s := S1x1024) ![0, 0] S1x1024.size inb_S1x1024_S1x1024_0_0).toLoadRect (harg4.unread x3))) := rfl
theorem w_r_1 : (kernelRun0_A.sl.r_1 c arg1 harg1 arg2 harg2 arg4 harg4 x0 x1 x3) = (k0_pay46 (kernelRun0_A.sl.v18 c arg1 harg1 arg2 harg2 x0 x1) (kernelRun0_A.sl.v426 c arg1 harg1 arg2 harg2 x0 x1) (kernelRun0_A.sl.v777 c arg1 harg1 arg2 harg2 x0 x1) (kernelRun0_A.sl.v810 c arg1 harg1 arg2 harg2 x0 x1) (kernelRun0_A.sl.v812 c arg1 harg1 arg2 harg2 x0 x1) (View.readAt (Elt Ideal) arg4.view (Rect.unit (s := S1x1024) ![0, 0] S1x1024.size inb_S1x1024_S1x1024_0_0).toLoadRect (harg4.unread x3))) := rfl
theorem w_r_2 : (kernelRun0_A.sl.r_2 c arg1 harg1 arg2 harg2 arg4 harg4 x0 x1 x3) = (k0_pay47 (kernelRun0_A.sl.v18 c arg1 harg1 arg2 harg2 x0 x1) (kernelRun0_A.sl.v426 c arg1 harg1 arg2 harg2 x0 x1) (kernelRun0_A.sl.v777 c arg1 harg1 arg2 harg2 x0 x1) (kernelRun0_A.sl.v810 c arg1 harg1 arg2 harg2 x0 x1) (kernelRun0_A.sl.v812 c arg1 harg1 arg2 harg2 x0 x1) (View.readAt (Elt Ideal) arg4.view (Rect.unit (s := S1x1024) ![0, 0] S1x1024.size inb_S1x1024_S1x1024_0_0).toLoadRect (harg4.unread x3))) := rfl
theorem w_v874 : (kernelRun0_A.sl.v874 c arg1 harg1 arg2 harg2 arg4 harg4 x0 x1 x3) = (k0_pay49 (kernelRun0_A.sl.r c arg1 harg1 arg2 harg2 arg4 harg4 x0 x1 x3) (kernelRun0_A.sl.r_1 c arg1 harg1 arg2 harg2 arg4 harg4 x0 x1 x3) (kernelRun0_A.sl.r_2 c arg1 harg1 arg2 harg2 arg4 harg4 x0 x1 x3) (Named.named κ "inv_448" 0x3B124925#32)) := rfl
theorem w_v882 : (kernelRun0_A.sl.v882 c arg1 harg1 arg2 harg2 arg4 harg4 x0 x1 x3) = (k0_pay50 (kernelRun0_A.sl.r_1 c arg1 harg1 arg2 harg2 arg4 harg4 x0 x1 x3) (kernelRun0_A.sl.r_2 c arg1 harg1 arg2 harg2 arg4 harg4 x0 x1 x3) (Named.named κ "inv_448" 0x3B124925#32)) := rfl
theorem w_v892 : (kernelRun0_A.sl.v892 c arg1 harg1 arg2 harg2 arg3 harg3 arg4 harg4 arg5 harg5 arg6 harg6 x0 x1 x2 x3 x4 x5) = (k0_pay51 (kernelRun0_A.sl.r c arg1 harg1 arg2 harg2 arg4 harg4 x0 x1 x3) (kernelRun0_A.sl.r_1 c arg1 harg1 arg2 harg2 arg4 harg4 x0 x1 x3) (kernelRun0_A.sl.r_2 c arg1 harg1 arg2 harg2 arg4 harg4 x0 x1 x3) (Named.named κ "inv_448" 0x3B124925#32) (View.readAt (Elt Ideal) arg3.view (Rect.unit (s := S256x4096) ![0, 0] S256x4096.size inb_S256x4096_S256x4096_0_0).toLoadRect (harg3.unread x2)) (View.readAt (Elt Ideal) arg5.view (Rect.unit (s := S1024x4096) ![0, 0] S1024x4096.size inb_S1024x4096_S1024x4096_0_0).toLoadRect (harg5.unread x4)) (View.readAt (Elt Ideal) arg6.view (Rect.unit (s := S1x4096) ![0, 0] S1x4096.size inb_S1x4096_S1x4096_0_0).toLoadRect (harg6.unread x5))) := rfl
theorem w_v901 : (kernelRun0_A.sl.v901 c arg1 harg1 arg2 harg2 arg3 harg3 arg4 harg4 arg5 harg5 arg6 harg6 x0 x1 x2 x3 x4 x5) = (k0_pay52 (kernelRun0_A.sl.r c arg1 harg1 arg2 harg2 arg4 harg4 x0 x1 x3) (kernelRun0_A.sl.r_1 c arg1 harg1 arg2 harg2 arg4 harg4 x0 x1 x3) (kernelRun0_A.sl.r_2 c arg1 harg1 arg2 harg2 arg4 harg4 x0 x1 x3) (Named.named κ "inv_448" 0x3B124925#32) (View.readAt (Elt Ideal) arg3.view (Rect.unit (s := S256x4096) ![0, 0] S256x4096.size inb_S256x4096_S256x4096_0_0).toLoadRect (harg3.unread x2)) (View.readAt (Elt Ideal) arg5.view (Rect.unit (s := S1024x4096) ![0, 0] S1024x4096.size inb_S1024x4096_S1024x4096_0_0).toLoadRect (harg5.unread x4)) (View.readAt (Elt Ideal) arg6.view (Rect.unit (s := S1x4096) ![0, 0] S1x4096.size inb_S1x4096_S1x4096_0_0).toLoadRect (harg6.unread x5))) := rfl
theorem w_v903 : (kernelRun0_A.sl.v903 c arg1 harg1 arg2 harg2 arg3 harg3 arg4 harg4 arg5 harg5 arg6 harg6 x0 x1 x2 x3 x4 x5) = (k0_pay53 (kernelRun0_A.sl.r c arg1 harg1 arg2 harg2 arg4 harg4 x0 x1 x3) (kernelRun0_A.sl.r_1 c arg1 harg1 arg2 harg2 arg4 harg4 x0 x1 x3) (kernelRun0_A.sl.r_2 c arg1 harg1 arg2 harg2 arg4 harg4 x0 x1 x3) (Named.named κ "inv_448" 0x3B124925#32) (View.readAt (Elt Ideal) arg3.view (Rect.unit (s := S256x4096) ![0, 0] S256x4096.size inb_S256x4096_S256x4096_0_0).toLoadRect (harg3.unread x2)) (View.readAt (Elt Ideal) arg5.view (Rect.unit (s := S1024x4096) ![0, 0] S1024x4096.size inb_S1024x4096_S1024x4096_0_0).toLoadRect (harg5.unread x4)) (View.readAt (Elt Ideal) arg6.view (Rect.unit (s := S1x4096) ![0, 0] S1x4096.size inb_S1x4096_S1x4096_0_0).toLoadRect (harg6.unread x5))) := rfl
theorem w_v958 : (kernelRun0_A.sl.v958 c arg1 harg1 arg2 harg2 arg3 harg3 arg4 harg4 arg5 harg5 arg6 harg6 x0 x1 x2 x3 x4 x5) = (k0_pay55 (kernelRun0_A.sl.v892 c arg1 harg1 arg2 harg2 arg3 harg3 arg4 harg4 arg5 harg5 arg6 harg6 x0 x1 x2 x3 x4 x5) (kernelRun0_A.sl.v901 c arg1 harg1 arg2 harg2 arg3 harg3 arg4 harg4 arg5 harg5 arg6 harg6 x0 x1 x2 x3 x4 x5) (kernelRun0_A.sl.v903 c arg1 harg1 arg2 harg2 arg3 harg3 arg4 harg4 arg5 harg5 arg6 harg6 x0 x1 x2 x3 x4 x5)) := rfl
theorem w_v960 : (kernelRun0_A.sl.v960 c arg1 harg1 arg2 harg2 arg3 harg3 arg4 harg4 arg5 harg5 arg6 harg6 x0 x1 x2 x3 x4 x5) = (k0_pay56 (kernelRun0_A.sl.v892 c arg1 harg1 arg2 harg2 arg3 harg3 arg4 harg4 arg5 harg5 arg6 harg6 x0 x1 x2 x3 x4 x5) (kernelRun0_A.sl.v901 c arg1 harg1 arg2 harg2 arg3 harg3 arg4 harg4 arg5 harg5 arg6 harg6 x0 x1 x2 x3 x4 x5) (kernelRun0_A.sl.v903 c arg1 harg1 arg2 harg2 arg3 harg3 arg4 harg4 arg5 harg5 arg6 harg6 x0 x1 x2 x3 x4 x5)) := rfl
theorem w_v963 : (kernelRun0_A.sl.v963 c arg1 harg1 arg2 harg2 arg3 harg3 arg4 harg4 arg5 harg5 arg6 harg6 x0 x1 x2 x3 x4 x5) = (k0_pay57 (kernelRun0_A.sl.v892 c arg1 harg1 arg2 harg2 arg3 harg3 arg4 harg4 arg5 harg5 arg6 harg6 x0 x1 x2 x3 x4 x5) (kernelRun0_A.sl.v901 c arg1 harg1 arg2 harg2 arg3 harg3 arg4 harg4 arg5 harg5 arg6 harg6 x0 x1 x2 x3 x4 x5) (kernelRun0_A.sl.v903 c arg1 harg1 arg2 harg2 arg3 harg3 arg4 harg4 arg5 harg5 arg6 harg6 x0 x1 x2 x3 x4 x5)) := rfl
theorem w_v1000 : (kernelRun0_A.sl.v1000 c arg1 harg1 arg2 harg2 arg3 harg3 arg4 harg4 arg5 harg5 arg6 harg6 x0 x1 x2 x3 x4 x5) = (k0_pay58 (kernelRun0_A.sl.v960 c arg1 harg1 arg2 harg2 arg3 harg3 arg4 harg4 arg5 harg5 arg6 harg6 x0 x1 x2 x3 x4 x5) (kernelRun0_A.sl.v963 c arg1 harg1 arg2 harg2 arg3 harg3 arg4 harg4 arg5 harg5 arg6 harg6 x0 x1 x2 x3 x4 x5)) := rfl
theorem w_v1023 : (kernelRun0_A.sl.v1023 c arg1 harg1 arg2 harg2 arg3 harg3 arg4 harg4 arg5 harg5 arg6 harg6 x0 x1 x2 x3 x4 x5) = (k0_pay59 (kernelRun0_A.sl.v892 c arg1 harg1 arg2 harg2 arg3 harg3 arg4 harg4 arg5 harg5 arg6 harg6 x0 x1 x2 x3 x4 x5)) := rfl
theorem w_v1065 : (kernelRun0_A.sl.v1065 c arg1 harg1 arg2 harg2 arg3 harg3 arg4 harg4 arg5 harg5 arg6 harg6 x0 x1 x2 x3 x4 x5) = (k0_pay60 (kernelRun0_A.sl.v1023 c arg1 harg1 arg2 harg2 arg3 harg3 arg4 harg4 arg5 harg5 arg6 harg6 x0 x1 x2 x3 x4 x5)) := rfl
theorem w_v1067 : (kernelRun0_A.sl.v1067 c arg1 harg1 arg2 harg2 arg3 harg3 arg4 harg4 arg5 harg5 arg6 harg6 x0 x1 x2 x3 x4 x5) = (k0_pay61 (kernelRun0_A.sl.v1023 c arg1 harg1 arg2 harg2 arg3 harg3 arg4 harg4 arg5 harg5 arg6 harg6 x0 x1 x2 x3 x4 x5)) := rfl
theorem w_v1082 : (kernelRun0_A.sl.v1082 c arg1 harg1 arg2 harg2 arg3 harg3 arg4 harg4 arg5 harg5 arg6 harg6 x0 x1 x2 x3 x4 x5) = (k0_pay62 (kernelRun0_A.sl.v1023 c arg1 harg1 arg2 harg2 arg3 harg3 arg4 harg4 arg5 harg5 arg6 harg6 x0 x1 x2 x3 x4 x5)) := rfl
theorem w_v1083 : (kernelRun0_A.sl.v1083 c arg1 harg1 arg2 harg2 arg3 harg3 arg4 harg4 arg5 harg5 arg6 harg6 x0 x1 x2 x3 x4 x5) = (k0_pay63 (kernelRun0_A.sl.v1023 c arg1 harg1 arg2 harg2 arg3 harg3 arg4 harg4 arg5 harg5 arg6 harg6 x0 x1 x2 x3 x4 x5)) := rfl
theorem w_v1108 : (kernelRun0_A.sl.v1108 c arg1 harg1 arg2 harg2 arg3 harg3 arg4 harg4 arg5 harg5 arg6 harg6 x0 x1 x2 x3 x4 x5) = (k0_pay64 (kernelRun0_A.sl.v958 c arg1 harg1 arg2 harg2 arg3 harg3 arg4 harg4 arg5 harg5 arg6 harg6 x0 x1 x2 x3 x4 x5) (kernelRun0_A.sl.v1065 c arg1 harg1 arg2 harg2 arg3 harg3 arg4 harg4 arg5 harg5 arg6 harg6 x0 x1 x2 x3 x4 x5)) := rfl
theorem w_v1109 : (kernelRun0_A.sl.v1109 c arg1 harg1 arg2 harg2 arg3 harg3 arg4 harg4 arg5 harg5 arg6 harg6 x0 x1 x2 x3 x4 x5) = (k0_pay65 (kernelRun0_A.sl.v1000 c arg1 harg1 arg2 harg2 arg3 harg3 arg4 harg4 arg5 harg5 arg6 harg6 x0 x1 x2 x3 x4 x5) (kernelRun0_A.sl.v1067 c arg1 harg1 arg2 harg2 arg3 harg3 arg4 harg4 arg5 harg5 arg6 harg6 x0 x1 x2 x3 x4 x5) (kernelRun0_A.sl.v1082 c arg1 harg1 arg2 harg2 arg3 harg3 arg4 harg4 arg5 harg5 arg6 harg6 x0 x1 x2 x3 x4 x5) (kernelRun0_A.sl.v1083 c arg1 harg1 arg2 harg2 arg3 harg3 arg4 harg4 arg5 harg5 arg6 harg6 x0 x1 x2 x3 x4 x5)) := rfl
theorem w_v1132 : (kernelRun0_A.sl.v1132 c arg1 harg1 arg2 harg2 arg3 harg3 arg4 harg4 arg5 harg5 arg6 harg6 x0 x1 x2 x3 x4 x5) = (k0_pay66 (kernelRun0_A.sl.v892 c arg1 harg1 arg2 harg2 arg3 harg3 arg4 harg4 arg5 harg5 arg6 harg6 x0 x1 x2 x3 x4 x5)) := rfl
theorem w_v1134 : (kernelRun0_A.sl.v1134 c arg1 harg1 arg2 harg2 arg3 harg3 arg4 harg4 arg5 harg5 arg6 harg6 x0 x1 x2 x3 x4 x5) = (k0_pay67 (kernelRun0_A.sl.v892 c arg1 harg1 arg2 harg2 arg3 harg3 arg4 harg4 arg5 harg5 arg6 harg6 x0 x1 x2 x3 x4 x5)) := rfl
theorem w_v1143 : (kernelRun0_A.sl.v1143 c arg1 harg1 arg2 harg2 arg3 harg3 arg4 harg4 arg5 harg5 arg6 harg6 x0 x1 x2 x3 x4 x5) = (k0_pay68 (kernelRun0_A.sl.v892 c arg1 harg1 arg2 harg2 arg3 harg3 arg4 harg4 arg5 harg5 arg6 harg6 x0 x1 x2 x3 x4 x5)) := rfl
theorem w_v1174 : (kernelRun0_A.sl.v1174 c arg1 harg1 arg2 harg2 arg3 harg3 arg4 harg4 arg5 harg5 arg6 harg6 x0 x1 x2 x3 x4 x5) = (k0_pay69 (kernelRun0_A.sl.v1134 c arg1 harg1 arg2 harg2 arg3 harg3 arg4 harg4 arg5 harg5 arg6 harg6 x0 x1 x2 x3 x4 x5) (kernelRun0_A.sl.v1143 c arg1 harg1 arg2 harg2 arg3 harg3 arg4 harg4 arg5 harg5 arg6 harg6 x0 x1 x2 x3 x4 x5)) := rfl
theorem w_v1176 : (kernelRun0_A.sl.v1176 c arg1 harg1 arg2 harg2 arg3 harg3 arg4 harg4 arg5 harg5 arg6 harg6 x0 x1 x2 x3 x4 x5) = (k0_pay70 (kernelRun0_A.sl.v1132 c arg1 harg1 arg2 harg2 arg3 harg3 arg4 harg4 arg5 harg5 arg6 harg6 x0 x1 x2 x3 x4 x5)) := rfl
theorem w_v1203 : (kernelRun0_A.sl.v1203 c arg1 harg1 arg2 harg2 arg3 harg3 arg4 harg4 arg5 harg5 arg6 harg6 x0 x1 x2 x3 x4 x5) = (k0_pay71 (kernelRun0_A.sl.v1132 c arg1 harg1 arg2 harg2 arg3 harg3 arg4 harg4 arg5 harg5 arg6 harg6 x0 x1 x2 x3 x4 x5)) := rfl
theorem w_v1217 : (kernelRun0_A.sl.v1217 c arg1 harg1 arg2 harg2 arg3 harg3 arg4 harg4 arg5 harg5 arg6 harg6 x0 x1 x2 x3 x4 x5) = (k0_pay72 (kernelRun0_A.sl.v1108 c arg1 harg1 arg2 harg2 arg3 harg3 arg4 harg4 arg5 harg5 arg6 harg6 x0 x1 x2 x3 x4 x5) (kernelRun0_A.sl.v1174 c arg1 harg1 arg2 harg2 arg3 harg3 arg4 harg4 arg5 harg5 arg6 harg6 x0 x1 x2 x3 x4 x5)) := rfl
theorem w_v1218 : (kernelRun0_A.sl.v1218 c arg1 harg1 arg2 harg2 arg3 harg3 arg4 harg4 arg5 harg5 arg6 harg6 x0 x1 x2 x3 x4 x5) = (k0_pay73 (kernelRun0_A.sl.v1109 c arg1 harg1 arg2 harg2 arg3 harg3 arg4 harg4 arg5 harg5 arg6 harg6 x0 x1 x2 x3 x4 x5) (kernelRun0_A.sl.v1176 c arg1 harg1 arg2 harg2 arg3 harg3 arg4 harg4 arg5 harg5 arg6 harg6 x0 x1 x2 x3 x4 x5) (kernelRun0_A.sl.v1203 c arg1 harg1 arg2 harg2 arg3 harg3 arg4 harg4 arg5 harg5 arg6 harg6 x0 x1 x2 x3 x4 x5)) := rfl
theorem w_v1241 : (kernelRun0_A.sl.v1241 c arg1 harg1 arg2 harg2 arg3 harg3 arg4 harg4 arg5 harg5 arg6 harg6 x0 x1 x2 x3 x4 x5) = (k0_pay74 (kernelRun0_A.sl.v892 c arg1 harg1 arg2 harg2 arg3 harg3 arg4 harg4 arg5 harg5 arg6 harg6 x0 x1 x2 x3 x4 x5)) := rfl
theorem w_v1243 : (kernelRun0_A.sl.v1243 c arg1 harg1 arg2 harg2 arg3 harg3 arg4 harg4 arg5 harg5 arg6 harg6 x0 x1 x2 x3 x4 x5) = (k0_pay75 (kernelRun0_A.sl.v892 c arg1 harg1 arg2 harg2 arg3 harg3 arg4 harg4 arg5 harg5 arg6 harg6 x0 x1 x2 x3 x4 x5)) := rfl
theorem w_v1262 : (kernelRun0_A.sl.v1262 c arg1 harg1 arg2 harg2 arg3 harg3 arg4 harg4 arg5 harg5 arg6 harg6 x0 x1 x2 x3 x4 x5) = (k0_pay76 (kernelRun0_A.sl.v892 c arg1 harg1 arg2 harg2 arg3 harg3 arg4 harg4 arg5 harg5 arg6 harg6 x0 x1 x2 x3 x4 x5)) := rfl
theorem w_v1263 : (kernelRun0_A.sl.v1263 c arg1 harg1 arg2 harg2 arg3 harg3 arg4 harg4 arg5 harg5 arg6 harg6 x0 x1 x2 x3 x4 x5) = (k0_pay77 (kernelRun0_A.sl.v892 c arg1 harg1 arg2 harg2 arg3 harg3 arg4 harg4 arg5 harg5 arg6 harg6 x0 x1 x2 x3 x4 x5)) := rfl
theorem w_v1283 : (kernelRun0_A.sl.v1283 c arg1 harg1 arg2 harg2 arg3 harg3 arg4 harg4 arg5 harg5 arg6 harg6 x0 x1 x2 x3 x4 x5) = (k0_pay78 (kernelRun0_A.sl.v1243 c arg1 harg1 arg2 harg2 arg3 harg3 arg4 harg4 arg5 harg5 arg6 harg6 x0 x1 x2 x3 x4 x5) (kernelRun0_A.sl.v1262 c arg1 harg1 arg2 harg2 arg3 harg3 arg4 harg4 arg5 harg5 arg6 harg6 x0 x1 x2 x3 x4 x5) (kernelRun0_A.sl.v1263 c arg1 harg1 arg2 harg2 arg3 harg3 arg4 harg4 arg5 harg5 arg6 harg6 x0 x1 x2 x3 x4 x5)) := rfl
theorem w_v1322 : (kernelRun0_A.sl.v1322 c arg1 harg1 arg2 harg2 arg3 harg3 arg4 harg4 arg5 harg5 arg6 harg6 x0 x1 x2 x3 x4 x5) = (k0_pay79 (kernelRun0_A.sl.v1241 c arg1 harg1 arg2 harg2 arg3 harg3 arg4 harg4 arg5 harg5 arg6 harg6 x0 x1 x2 x3 x4 x5)) := rfl
theorem w_v1323 : (kernelRun0_A.sl.v1323 c arg1 harg1 arg2 harg2 arg3 harg3 arg4 harg4 arg5 harg5 arg6 harg6 x0 x1 x2 x3 x4 x5) = (k0_pay80 (kernelRun0_A.sl.v1241 c arg1 harg1 arg2 harg2 arg3 harg3 arg4 harg4 arg5 harg5 arg6 harg6 x0 x1 x2 x3 x4 x5)) := rfl
theorem w_r_3 : (kernelRun0_A.sl.r_3 c arg1 harg1 arg2 harg2 arg3 harg3 arg4 harg4 arg5 harg5 arg6 harg6 arg7 harg7 x0 x1 x2 x3 x4 x5 x6) = (k0_pay82 (kernelRun0_A.sl.v892 c arg1 harg1 arg2 harg2 arg3 harg3 arg4 harg4 arg5 harg5 arg6 harg6 x0 x1 x2 x3 x4 x5) (kernelRun0_A.sl.v1217 c arg1 harg1 arg2 harg2 arg3 harg3 arg4 harg4 arg5 harg5 arg6 harg6 x0 x1 x2 x3 x4 x5) (kernelRun0_A.sl.v1218 c arg1 harg1 arg2 harg2 arg3 harg3 arg4 harg4 arg5 harg5 arg6 harg6 x0 x1 x2 x3 x4 x5) (kernelRun0_A.sl.v1283 c arg1 harg1 arg2 harg2 arg3 harg3 arg4 harg4 arg5 harg5 arg6 harg6 x0 x1 x2 x3 x4 x5) (kernelRun0_A.sl.v1322 c arg1 harg1 arg2 harg2 arg3 harg3 arg4 harg4 arg5 harg5 arg6 harg6 x0 x1 x2 x3 x4 x5) (kernelRun0_A.sl.v1323 c arg1 harg1 arg2 harg2 arg3 harg3 arg4 harg4 arg5 harg5 arg6 harg6 x0 x1 x2 x3 x4 x5) (View.readAt (Elt Ideal) arg7.view (Rect.unit (s := S1x4096) ![0, 0] S1x4096.size inb_S1x4096_S1x4096_0_0).toLoadRect (harg7.unread x6))) := rfl
theorem w_r_4 : (kernelRun0_A.sl.r_4 c arg1 harg1 arg2 harg2 arg3 harg3 arg4 harg4 arg5 harg5 arg6 harg6 arg7 harg7 x0 x1 x2 x3 x4 x5 x6) = (k0_pay83 (kernelRun0_A.sl.v892 c arg1 harg1 arg2 harg2 arg3 harg3 arg4 harg4 arg5 harg5 arg6 harg6 x0 x1 x2 x3 x4 x5) (kernelRun0_A.sl.v1217 c arg1 harg1 arg2 harg2 arg3 harg3 arg4 harg4 arg5 harg5 arg6 harg6 x0 x1 x2 x3 x4 x5) (kernelRun0_A.sl.v1218 c arg1 harg1 arg2 harg2 arg3 harg3 arg4 harg4 arg5 harg5 arg6 harg6 x0 x1 x2 x3 x4 x5) (kernelRun0_A.sl.v1283 c arg1 harg1 arg2 harg2 arg3 harg3 arg4 harg4 arg5 harg5 arg6 harg6 x0 x1 x2 x3 x4 x5) (kernelRun0_A.sl.v1322 c arg1 harg1 arg2 harg2 arg3 harg3 arg4 harg4 arg5 harg5 arg6 harg6 x0 x1 x2 x3 x4 x5) (kernelRun0_A.sl.v1323 c arg1 harg1 arg2 harg2 arg3 harg3 arg4 harg4 arg5 harg5 arg6 harg6 x0 x1 x2 x3 x4 x5) (View.readAt (Elt Ideal) arg7.view (Rect.unit (s := S1x4096) ![0, 0] S1x4096.size inb_S1x4096_S1x4096_0_0).toLoadRect (harg7.unread x6))) := rfl
theorem w_v1375 : (kernelRun0_A.sl.v1375 c arg1 harg1 arg2 harg2 arg3 harg3 arg4 harg4 arg5 harg5 arg6 harg6 arg7 harg7 x0 x1 x2 x3 x4 x5 x6) = (k0_pay84 (kernelRun0_A.sl.r_3 c arg1 harg1 arg2 harg2 arg3 harg3 arg4 harg4 arg5 harg5 arg6 harg6 arg7 harg7 x0 x1 x2 x3 x4 x5 x6)) := rfl
theorem w_v1370 : (kernelRun0_A.sl.v1370 c arg1 harg1 arg2 harg2 arg3 harg3 arg4 harg4 arg5 harg5 arg6 harg6 arg7 harg7 x0 x1 x2 x3 x4 x5 x6) = (k0_pay85 (kernelRun0_A.sl.r_3 c arg1 harg1 arg2 harg2 arg3 harg3 arg4 harg4 arg5 harg5 arg6 harg6 arg7 harg7 x0 x1 x2 x3 x4 x5 x6)) := rfl

/-- The normalised gated row. -/
theorem mixR (r : Fin 256) (f : Fin 1024) : (k0_pay45 (kernelRun0_A.sl.v18 c arg1 harg1 arg2 harg2 x0 x1) (kernelRun0_A.sl.v426 c arg1 harg1 arg2 harg2 x0 x1) (kernelRun0_A.sl.v777 c arg1 harg1 arg2 harg2 x0 x1) (kernelRun0_A.sl.v810 c arg1 harg1 arg2 harg2 x0 x1) (kernelRun0_A.sl.v812 c arg1 harg1 arg2 harg2 x0 x1) (View.readAt (Elt Ideal) arg4.view (Rect.unit (s := S1x1024) ![0, 0] S1x1024.size inb_S1x1024_S1x1024_0_0).toLoadRect (harg4.unread x3))) (ix2 r f) = mixB x0 x1 x3 r f := by
  simp only [w_v18, w_v20, w_v31, w_v32, w_v69, w_v90, w_v92, w_v119, w_v152, w_v169, w_v211, w_v212, w_v269, w_v272, w_v319, w_v331, w_v332, w_v369, w_v390, w_v392, w_v428, w_v451, w_v452, w_v477, w_v510, w_v512, w_v527, w_v572, w_v627, w_v630, w_v632, w_v677, w_v692, w_v727, w_v751, w_v752, w_v777, w_v810, w_v812, w_v426]
  refine (mix_apply (View.readAt (Elt Ideal) arg1.view (Rect.unit (s := S256x8x128) ![0, 0, 0] S256x1x128.size inb_S256x8x128_S256x1x128_0_0_0).toLoadRect (harg1.unread x0)) (View.readAt (Elt Ideal) arg1.view (Rect.unit (s := S256x8x128) ![0, 1, 0] S256x1x128.size inb_S256x8x128_S256x1x128_0_1_0).toLoadRect (harg1.unread x0)) (View.readAt (Elt Ideal) arg1.view (Rect.unit (s := S256x8x128) ![0, 2, 0] S256x1x128.size inb_S256x8x128_S256x1x128_0_2_0).toLoadRect (harg1.unread x0)) (View.readAt (Elt Ideal) arg1.view (Rect.unit (s := S256x8x128) ![0, 3, 0] S256x1x128.size inb_S256x8x128_S256x1x128_0_3_0).toLoadRect (harg1.unread x0)) (View.readAt (Elt Ideal) arg1.view (Rect.unit (s := S256x8x128) ![0, 4, 0] S256x1x128.size inb_S256x8x128_S256x1x128_0_4_0).toLoadRect (harg1.unread x0)) (View.readAt (Elt Ideal) arg1.view (Rect.unit (s := S256x8x128) ![0, 5, 0] S256x1x128.size inb_S256x8x128_S256x1x128_0_5_0).toLoadRect (harg1.unread x0)) (View.readAt (Elt Ideal) arg1.view (Rect.unit (s := S256x8x128) ![0, 6, 0] S256x1x128.size inb_S256x8x128_S256x1x128_0_6_0).toLoadRect (harg1.unread x0)) (View.readAt (Elt Ideal) arg1.view (Rect.unit (s := S256x8x128) ![0, 7, 0] S256x1x128.size inb_S256x8x128_S256x1x128_0_7_0).toLoadRect (harg1.unread x0)) (View.readAt (Elt Ideal) arg2.view (Rect.unit (s := S256x1024) ![0, 0] S256x1024.size inb_S256x1024_S256x1024_0_0).toLoadRect (harg2.unread x1)) (View.readAt (Elt Ideal) arg4.view (Rect.unit (s := S1x1024) ![0, 0] S1x1024.size inb_S1x1024_S1x1024_0_0).toLoadRect (harg4.unread x3)) r f).trans ?_
  unfold mixB
  rw [whole4]
  refine congrArg (fun v => normed _ v _ f) (funext fun i => ?_)
  rw [gate_all (View.readAt (Elt Ideal) arg1.view (Rect.unit (s := S256x8x128) ![0, 0, 0] S256x1x128.size inb_S256x8x128_S256x1x128_0_0_0).toLoadRect (harg1.unread x0)) (View.readAt (Elt Ideal) arg1.view (Rect.unit (s := S256x8x128) ![0, 1, 0] S256x1x128.size inb_S256x8x128_S256x1x128_0_1_0).toLoadRect (harg1.unread x0)) (View.readAt (Elt Ideal) arg1.view (Rect.unit (s := S256x8x128) ![0, 2, 0] S256x1x128.size inb_S256x8x128_S256x1x128_0_2_0).toLoadRect (harg1.unread x0)) (View.readAt (Elt Ideal) arg1.view (Rect.unit (s := S256x8x128) ![0, 3, 0] S256x1x128.size inb_S256x8x128_S256x1x128_0_3_0).toLoadRect (harg1.unread x0)) (View.readAt (Elt Ideal) arg1.view (Rect.unit (s := S256x8x128) ![0, 4, 0] S256x1x128.size inb_S256x8x128_S256x1x128_0_4_0).toLoadRect (harg1.unread x0)) (View.readAt (Elt Ideal) arg1.view (Rect.unit (s := S256x8x128) ![0, 5, 0] S256x1x128.size inb_S256x8x128_S256x1x128_0_5_0).toLoadRect (harg1.unread x0)) (View.readAt (Elt Ideal) arg1.view (Rect.unit (s := S256x8x128) ![0, 6, 0] S256x1x128.size inb_S256x8x128_S256x1x128_0_6_0).toLoadRect (harg1.unread x0)) (View.readAt (Elt Ideal) arg1.view (Rect.unit (s := S256x8x128) ![0, 7, 0] S256x1x128.size inb_S256x8x128_S256x1x128_0_7_0).toLoadRect (harg1.unread x0)) (View.readAt (Elt Ideal) arg2.view (Rect.unit (s := S256x1024) ![0, 0] S256x1024.size inb_S256x1024_S256x1024_0_0).toLoadRect (harg2.unread x1)) r (fun h l => x0 (ix3 r h l)) (head0 arg1 harg1 x0 r) (head1 arg1 harg1 x0 r) (head2 arg1 harg1 x0 r) (head3 arg1 harg1 x0 r) (head4 arg1 harg1 x0 r) (head5 arg1 harg1 x0 r) (head6 arg1 harg1 x0 r) (head7 arg1 harg1 x0 r) i, whole2]
  rfl

theorem mixS (r : Fin 256) : (k0_pay48 (kernelRun0_A.sl.r_1 c arg1 harg1 arg2 harg2 arg4 harg4 x0 x1 x3) (kernelRun0_A.sl.r_2 c arg1 harg1 arg2 harg2 arg4 harg4 x0 x1 x3) (Named.named κ "inv_448" 0x3B124925#32)) (ix2 r 0) = qScale (mixB x0 x1 x3 r) := by
  rw [w_r_1, w_r_2]
  exact (mixScale_apply _ _ _ _ _ _ r).trans (congrArg qScale (funext fun f => mixR c arg1 harg1 arg2 harg2 arg4 harg4 x0 x1 x3 r f))

theorem mixC (r : Fin 256) (f : Fin 1024) : (k0_pay49 (kernelRun0_A.sl.r c arg1 harg1 arg2 harg2 arg4 harg4 x0 x1 x3) (kernelRun0_A.sl.r_1 c arg1 harg1 arg2 harg2 arg4 harg4 x0 x1 x3) (kernelRun0_A.sl.r_2 c arg1 harg1 arg2 harg2 arg4 harg4 x0 x1 x3) (Named.named κ "inv_448" 0x3B124925#32)) (ix2 r f) = qCode (mixB x0 x1 x3 r) f := by
  rw [w_r, w_r_1, w_r_2]
  exact (mixCode_apply _ _ _ _ _ _ r f).trans (congrArg (fun v => qCode v f) (funext fun f => mixR c arg1 harg1 arg2 harg2 arg4 harg4 x0 x1 x3 r f))

theorem mixRowR (r : Fin 256) : (kernelRun0_A.sl.v882 c arg1 harg1 arg2 harg2 arg4 harg4 x0 x1 x3) (ix3 0 0 r) = qScale (mixB x0 x1 x3 r) := by
  rw [w_v882, mixRow_apply]
  exact mixS c arg1 harg1 arg2 harg2 arg4 harg4 x0 x1 x3 r

theorem mixCodeR (r : Fin 256) (f : Fin 1024) : (kernelRun0_A.sl.v874 c arg1 harg1 arg2 harg2 arg4 harg4 x0 x1 x3) (ix2 r f) = qCode (mixB x0 x1 x3 r) f := by
  rw [w_v874]
  exact mixC c arg1 harg1 arg2 harg2 arg4 harg4 x0 x1 x3 r f

theorem sumR' (r : Fin 256) (f : Fin 4096) : (k0_pay51 (kernelRun0_A.sl.r c arg1 harg1 arg2 harg2 arg4 harg4 x0 x1 x3) (kernelRun0_A.sl.r_1 c arg1 harg1 arg2 harg2 arg4 harg4 x0 x1 x3) (kernelRun0_A.sl.r_2 c arg1 harg1 arg2 harg2 arg4 harg4 x0 x1 x3) (Named.named κ "inv_448" 0x3B124925#32) (View.readAt (Elt Ideal) arg3.view (Rect.unit (s := S256x4096) ![0, 0] S256x4096.size inb_S256x4096_S256x4096_0_0).toLoadRect (harg3.unread x2)) (View.readAt (Elt Ideal) arg5.view (Rect.unit (s := S1024x4096) ![0, 0] S1024x4096.size inb_S1024x4096_S1024x4096_0_0).toLoadRect (harg5.unread x4)) (View.readAt (Elt Ideal) arg6.view (Rect.unit (s := S1x4096) ![0, 0] S1x4096.size inb_S1x4096_S1x4096_0_0).toLoadRect (harg6.unread x5))) (ix2 r f) = sumB x0 x1 x2 x3 x4 x5 r f := by
  rw [x1_apply, whole3, whole5, whole6]
  unfold sumB
  rw [mixS c arg1 harg1 arg2 harg2 arg4 harg4 x0 x1 x3 r, Finset.sum_congr rfl fun k _ => congrArg (· * x4 (ix2 k f)) (mixC c arg1 harg1 arg2 harg2 arg4 harg4 x0 x1 x3 r k)]

theorem sumR (r : Fin 256) (f : Fin 4096) : (kernelRun0_A.sl.v892 c arg1 harg1 arg2 harg2 arg3 harg3 arg4 harg4 arg5 harg5 arg6 harg6 x0 x1 x2 x3 x4 x5) (ix2 r f) = sumB x0 x1 x2 x3 x4 x5 r f := by
  rw [w_v892]
  exact sumR' c arg1 harg1 arg2 harg2 arg3 harg3 arg4 harg4 arg5 harg5 arg6 harg6 x0 x1 x2 x3 x4 x5 r f

/-- The normalised row of the sum. -/
theorem moeR (r : Fin 256) (f : Fin 4096) : (k0_pay81 (kernelRun0_A.sl.v892 c arg1 harg1 arg2 harg2 arg3 harg3 arg4 harg4 arg5 harg5 arg6 harg6 x0 x1 x2 x3 x4 x5) (kernelRun0_A.sl.v1217 c arg1 harg1 arg2 harg2 arg3 harg3 arg4 harg4 arg5 harg5 arg6 harg6 x0 x1 x2 x3 x4 x5) (kernelRun0_A.sl.v1218 c arg1 harg1 arg2 harg2 arg3 harg3 arg4 harg4 arg5 harg5 arg6 harg6 x0 x1 x2 x3 x4 x5) (kernelRun0_A.sl.v1283 c arg1 harg1 arg2 harg2 arg3 harg3 arg4 harg4 arg5 harg5 arg6 harg6 x0 x1 x2 x3 x4 x5) (kernelRun0_A.sl.v1322 c arg1 harg1 arg2 harg2 arg3 harg3 arg4 harg4 arg5 harg5 arg6 harg6 x0 x1 x2 x3 x4 x5) (kernelRun0_A.sl.v1323 c arg1 harg1 arg2 harg2 arg3 harg3 arg4 harg4 arg5 harg5 arg6 harg6 x0 x1 x2 x3 x4 x5) (View.readAt (Elt Ideal) arg7.view (Rect.unit (s := S1x4096) ![0, 0] S1x4096.size inb_S1x4096_S1x4096_0_0).toLoadRect (harg7.unread x6))) (ix2 r f) = moeB x0 x1 x2 x3 x4 x5 x6 r f := by
  simp only [w_v892, w_v901, w_v903, w_v958, w_v960, w_v963, w_v1000, w_v1023, w_v1065, w_v1067, w_v1082, w_v1083, w_v1108, w_v1109, w_v1132, w_v1134, w_v1143, w_v1174, w_v1176, w_v1203, w_v1217, w_v1218, w_v1241, w_v1243, w_v1262, w_v1263, w_v1283, w_v1322, w_v1323]
  refine (moe_apply (kernelRun0_A.sl.r c arg1 harg1 arg2 harg2 arg4 harg4 x0 x1 x3) (kernelRun0_A.sl.r_1 c arg1 harg1 arg2 harg2 arg4 harg4 x0 x1 x3) (kernelRun0_A.sl.r_2 c arg1 harg1 arg2 harg2 arg4 harg4 x0 x1 x3) (Named.named κ "inv_448" 0x3B124925#32) (View.readAt (Elt Ideal) arg3.view (Rect.unit (s := S256x4096) ![0, 0] S256x4096.size inb_S256x4096_S256x4096_0_0).toLoadRect (harg3.unread x2)) (View.readAt (Elt Ideal) arg5.view (Rect.unit (s := S1024x4096) ![0, 0] S1024x4096.size inb_S1024x4096_S1024x4096_0_0).toLoadRect (harg5.unread x4)) (View.readAt (Elt Ideal) arg6.view (Rect.unit (s := S1x4096) ![0, 0] S1x4096.size inb_S1x4096_S1x4096_0_0).toLoadRect (harg6.unread x5)) (View.readAt (Elt Ideal) arg7.view (Rect.unit (s := S1x4096) ![0, 0] S1x4096.size inb_S1x4096_S1x4096_0_0).toLoadRect (harg7.unread x6)) r f).trans ?_
  unfold moeB
  rw [whole7 arg7 harg7 x6]
  refine normed_to _ _ _ _ _ ?_
  intro i
  exact sumR' c arg1 harg1 arg2 harg2 arg3 harg3 arg4 harg4 arg5 harg5 arg6 harg6 x0 x1 x2 x3 x4 x5 r i

theorem moeS (r : Fin 256) : (k0_pay82 (kernelRun0_A.sl.v892 c arg1 harg1 arg2 harg2 arg3 harg3 arg4 harg4 arg5 harg5 arg6 harg6 x0 x1 x2 x3 x4 x5) (kernelRun0_A.sl.v1217 c arg1 harg1 arg2 harg2 arg3 harg3 arg4 harg4 arg5 harg5 arg6 harg6 x0 x1 x2 x3 x4 x5) (kernelRun0_A.sl.v1218 c arg1 harg1 arg2 harg2 arg3 harg3 arg4 harg4 arg5 harg5 arg6 harg6 x0 x1 x2 x3 x4 x5) (kernelRun0_A.sl.v1283 c arg1 harg1 arg2 harg2 arg3 harg3 arg4 harg4 arg5 harg5 arg6 harg6 x0 x1 x2 x3 x4 x5) (kernelRun0_A.sl.v1322 c arg1 harg1 arg2 harg2 arg3 harg3 arg4 harg4 arg5 harg5 arg6 harg6 x0 x1 x2 x3 x4 x5) (kernelRun0_A.sl.v1323 c arg1 harg1 arg2 harg2 arg3 harg3 arg4 harg4 arg5 harg5 arg6 harg6 x0 x1 x2 x3 x4 x5) (View.readAt (Elt Ideal) arg7.view (Rect.unit (s := S1x4096) ![0, 0] S1x4096.size inb_S1x4096_S1x4096_0_0).toLoadRect (harg7.unread x6))) (ix2 r 0) = qScale (moeB x0 x1 x2 x3 x4 x5 x6 r) :=
  (moeScale_apply _ _ _ _ _ _ _ r).trans (congrArg qScale (funext fun f => moeR c arg1 harg1 arg2 harg2 arg3 harg3 arg4 harg4 arg5 harg5 arg6 harg6 arg7 harg7 x0 x1 x2 x3 x4 x5 x6 r f))

theorem moeC (r : Fin 256) (f : Fin 4096) : (k0_pay83 (kernelRun0_A.sl.v892 c arg1 harg1 arg2 harg2 arg3 harg3 arg4 harg4 arg5 harg5 arg6 harg6 x0 x1 x2 x3 x4 x5) (kernelRun0_A.sl.v1217 c arg1 harg1 arg2 harg2 arg3 harg3 arg4 harg4 arg5 harg5 arg6 harg6 x0 x1 x2 x3 x4 x5) (kernelRun0_A.sl.v1218 c arg1 harg1 arg2 harg2 arg3 harg3 arg4 harg4 arg5 harg5 arg6 harg6 x0 x1 x2 x3 x4 x5) (kernelRun0_A.sl.v1283 c arg1 harg1 arg2 harg2 arg3 harg3 arg4 harg4 arg5 harg5 arg6 harg6 x0 x1 x2 x3 x4 x5) (kernelRun0_A.sl.v1322 c arg1 harg1 arg2 harg2 arg3 harg3 arg4 harg4 arg5 harg5 arg6 harg6 x0 x1 x2 x3 x4 x5) (kernelRun0_A.sl.v1323 c arg1 harg1 arg2 harg2 arg3 harg3 arg4 harg4 arg5 harg5 arg6 harg6 x0 x1 x2 x3 x4 x5) (View.readAt (Elt Ideal) arg7.view (Rect.unit (s := S1x4096) ![0, 0] S1x4096.size inb_S1x4096_S1x4096_0_0).toLoadRect (harg7.unread x6))) (ix2 r f) = qCode (moeB x0 x1 x2 x3 x4 x5 x6 r) f :=
  (moeCode_apply _ _ _ _ _ _ _ r f).trans (congrArg (fun v => qCode v f) (funext fun f => moeR c arg1 harg1 arg2 harg2 arg3 harg3 arg4 harg4 arg5 harg5 arg6 harg6 arg7 harg7 x0 x1 x2 x3 x4 x5 x6 r f))

theorem moeRowR (r : Fin 256) : (kernelRun0_A.sl.v1375 c arg1 harg1 arg2 harg2 arg3 harg3 arg4 harg4 arg5 harg5 arg6 harg6 arg7 harg7 x0 x1 x2 x3 x4 x5 x6) (ix3 0 0 r) = qScale (moeB x0 x1 x2 x3 x4 x5 x6 r) := by
  rw [w_v1375, moeRow_apply, w_r_3]
  exact moeS c arg1 harg1 arg2 harg2 arg3 harg3 arg4 harg4 arg5 harg5 arg6 harg6 arg7 harg7 x0 x1 x2 x3 x4 x5 x6 r

theorem moeColR (r : Fin 256) (j : Fin 128) : (kernelRun0_A.sl.v1370 c arg1 harg1 arg2 harg2 arg3 harg3 arg4 harg4 arg5 harg5 arg6 harg6 arg7 harg7 x0 x1 x2 x3 x4 x5 x6) (ix2 r j) = qScale (moeB x0 x1 x2 x3 x4 x5 x6 r) := by
  rw [w_v1370, moeCol_apply, w_r_3]
  exact moeS c arg1 harg1 arg2 harg2 arg3 harg3 arg4 harg4 arg5 harg5 arg6 harg6 arg7 harg7 x0 x1 x2 x3 x4 x5 x6 r
end

end Cert.OutProjIdeal.Hand

end
-- ==== Proof.OutProjIdeal.Final.lean ====
module

public import proofs.«01_k».proof.Proof.OutProjIdeal.Words

/-! The result arrays of the output projection over the extended reals -/

@[expose] public section

set_option maxRecDepth 16384

noncomputable section

namespace Cert.OutProjIdeal.Hand

open Idealize.ShloMosaic Idealize.SL.Sem Cert.OutProjIdeal Cert.OutProjIdeal.Gen Cert.Spec

variable (m : (ℓ : Loc nD τ sig) → Buf (Elt Ideal) ℓ) (c : Dev nD)

/-! The block of each window at a grid point. -/
theorem e0 : ∀ t : Fin cfg0.N, win0_0.index t = ![t.val, 0, 0] := (by decide +kernel : ∀ t : Fin grid0.N, win0_0.index t = ![t.val, 0, 0])
theorem e1 : ∀ t : Fin cfg0.N, win0_1.index t = ![t.val, 0] := (by decide +kernel : ∀ t : Fin grid0.N, win0_1.index t = ![t.val, 0])
theorem e2 : ∀ t : Fin cfg0.N, win0_2.index t = ![t.val, 0] := (by decide +kernel : ∀ t : Fin grid0.N, win0_2.index t = ![t.val, 0])
theorem e3 : ∀ t : Fin cfg0.N, win0_3.index t = ![0, 0] := (by decide +kernel : ∀ t : Fin grid0.N, win0_3.index t = ![0, 0])
theorem e4 : ∀ t : Fin cfg0.N, win0_4.index t = ![0, 0] := (by decide +kernel : ∀ t : Fin grid0.N, win0_4.index t = ![0, 0])
theorem e5 : ∀ t : Fin cfg0.N, win0_5.index t = ![0, 0] := (by decide +kernel : ∀ t : Fin grid0.N, win0_5.index t = ![0, 0])
theorem e6 : ∀ t : Fin cfg0.N, win0_6.index t = ![0, 0] := (by decide +kernel : ∀ t : Fin grid0.N, win0_6.index t = ![0, 0])
theorem e10 : ∀ t : Fin cfg0.N, win0_10.index t = ![t.val, 0] := (by decide +kernel : ∀ t : Fin grid0.N, win0_10.index t = ![t.val, 0])
theorem e11 : ∀ t : Fin cfg0.N, win0_11.index t = ![t.val, 0, 0] := (by decide +kernel : ∀ t : Fin grid0.N, win0_11.index t = ![t.val, 0, 0])
theorem e12 : ∀ t : Fin cfg0.N, win0_12.index t = ![t.val, 0] := (by decide +kernel : ∀ t : Fin grid0.N, win0_12.index t = ![t.val, 0])
theorem e13 : ∀ t : Fin cfg0.N, win0_13.index t = ![t.val, 0] := (by decide +kernel : ∀ t : Fin grid0.N, win0_13.index t = ![t.val, 0])
theorem e14 : ∀ t : Fin cfg0.N, win0_14.index t = ![t.val, 0, 0] := (by decide +kernel : ∀ t : Fin grid0.N, win0_14.index t = ![t.val, 0, 0])
theorem e15 : ∀ t : Fin cfg0.N, win0_15.index t = ![t.val, 0] := (by decide +kernel : ∀ t : Fin grid0.N, win0_15.index t = ![t.val, 0])

theorem lt9 (t : Fin cfg0.N) : t.val < 9 := lt_of_lt_of_eq t.isLt (show cfg0.N = 9 from N_0)

/-- Row `a` of row block `t`. -/
def rowAt (t : Fin cfg0.N) (a : Fin 256) : Fin 2304 := ⟨256 * t.val + a.val, by have := lt9 t; omega⟩

/-! The input blocks. -/
theorem iblk0 (t : Fin cfg0.N) (a : Fin 256) (h : Fin 8) (l : Fin 128) : iblk m c 0 t (ix3 a h l) = m ((c.tc : Thread nD τ).loc main_arg0) (ix3 (rowAt t a) h l) := by
  blk_simp [iblk]
  refine congrArg (m ((c.tc : Thread nD τ).loc main_arg0)) ?_
  unfold rowAt
  blk_ext [e0]
theorem iblk1 (t : Fin cfg0.N) (a : Fin 256) (k : Fin 1024) : iblk m c 1 t (ix2 a k) = m ((c.tc : Thread nD τ).loc main_arg1) (ix2 (rowAt t a) k) := by
  blk_simp [iblk]
  refine congrArg (m ((c.tc : Thread nD τ).loc main_arg1)) ?_
  unfold rowAt
  blk_ext [e1]
theorem iblk2 (t : Fin cfg0.N) (a : Fin 256) (k : Fin 4096) : iblk m c 2 t (ix2 a k) = m ((c.tc : Thread nD τ).loc main_arg2) (ix2 (rowAt t a) k) := by
  blk_simp [iblk]
  refine congrArg (m ((c.tc : Thread nD τ).loc main_arg2)) ?_
  unfold rowAt
  blk_ext [e2]
theorem iblk3 (t : Fin cfg0.N) : iblk m c 3 t = m ((c.tc : Thread nD τ).loc main_arg3) := by
  funext x
  blk_simp [iblk]
  refine congrArg (m ((c.tc : Thread nD τ).loc main_arg3)) ?_
  blk_ext [e3]
theorem iblk4 (t : Fin cfg0.N) : iblk m c 4 t = m ((c.tc : Thread nD τ).loc main_arg4) := by
  funext x
  blk_simp [iblk]
  refine congrArg (m ((c.tc : Thread nD τ).loc main_arg4)) ?_
  blk_ext [e4]
theorem iblk5 (t : Fin cfg0.N) : iblk m c 5 t = m ((c.tc : Thread nD τ).loc main_arg5) := by
  funext x
  blk_simp [iblk]
  refine congrArg (m ((c.tc : Thread nD τ).loc main_arg5)) ?_
  blk_ext [e5]
theorem iblk6 (t : Fin cfg0.N) : iblk m c 6 t = m ((c.tc : Thread nD τ).loc main_arg6) := by
  funext x
  blk_simp [iblk]
  refine congrArg (m ((c.tc : Thread nD τ).loc main_arg6)) ?_
  blk_ext [e6]

/-! A block's rows are rows of the whole arrays. -/
theorem mix_eq (t : Fin cfg0.N) (a : Fin 256) : mixB (iblk m c 0 t) (iblk m c 1 t) (iblk m c 3 t) a = mixRow (m ((c.tc : Thread nD τ).loc main_arg0)) (m ((c.tc : Thread nD τ).loc main_arg1)) (m ((c.tc : Thread nD τ).loc main_arg3)) (rowAt t a) := by
  unfold mixB mixRow
  rw [iblk3]
  refine congrArg (fun v => normed _ v _) (funext fun i => ?_)
  unfold gateB gated
  rw [iblk0, iblk1]

theorem sum_eq (t : Fin cfg0.N) (a : Fin 256) (f : Fin 4096) : sumB (iblk m c 0 t) (iblk m c 1 t) (iblk m c 2 t) (iblk m c 3 t) (iblk m c 4 t) (iblk m c 5 t) a f = sumRow (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (rowAt t a) f := by
  unfold sumB sumRow
  rw [mix_eq, iblk2, iblk4, iblk5]

theorem moe_eq (t : Fin cfg0.N) (a : Fin 256) : moeB (iblk m c 0 t) (iblk m c 1 t) (iblk m c 2 t) (iblk m c 3 t) (iblk m c 4 t) (iblk m c 5 t) (iblk m c 6 t) a = moeRow (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (rowAt t a) := by
  unfold moeB moeRow
  rw [iblk6]
  exact congrArg (fun v => normed _ v _) (funext fun i => sum_eq m c t a i)

/-! The six result arrays. -/
def G0 : Vec Ideal S2304x1024 .fp8e4m3 := mixCodes (m ((c.tc : Thread nD τ).loc main_arg0)) (m ((c.tc : Thread nD τ).loc main_arg1)) (m ((c.tc : Thread nD τ).loc main_arg3))
def G1 : Vec Ideal S9x1x256 .f32 := mixScales (m ((c.tc : Thread nD τ).loc main_arg0)) (m ((c.tc : Thread nD τ).loc main_arg1)) (m ((c.tc : Thread nD τ).loc main_arg3))
def G2 : Vec Ideal S2304x4096 .f32 := sumX (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
def G3 : Vec Ideal S2304x4096 .fp8e4m3 := moeCodes (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
def G4 : Vec Ideal S9x1x256 .f32 := moeScales (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
def G5 : Vec Ideal S2304x128 .f32 := moeCols (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))

theorem final_10 : (dats m 0 c).arrAt 10 cfg0.N = G0 m c := by
  refine (dats m 0 c).arrAt_eq_of_covers 10 _ (by decide +kernel) fun t hf y => ?_
  blk_simp
  rw [after0_10]
  unfold outsAt0
  dsimp only
  unfold out0_A_10
  rw [View.read_writes_junk_eq_canon]
  unfold kernelRun0_A
  dsimp only
  rw [View.canon_unit_zero off2]
  obtain ⟨a, l, rfl⟩ : ∃ (a : Fin 256) (l : Fin 1024), y = ix2 a l := ⟨y 0, y 1, eq_ix2 y⟩
  refine (mixCodeR _ _ _ _ _ _ _ _ _ _ a l).trans ?_
  rw [mix_eq]
  have e : (win0_10.blk t).view.emb (ix2 a l) = ix2 (rowAt t a) l := by
    unfold rowAt
    blk_ext [e10]
  exact (congrArg (G0 m c) e).symm

theorem final_11 : (dats m 0 c).arrAt 11 cfg0.N = G1 m c := by
  refine (dats m 0 c).arrAt_eq_of_covers 11 _ (by decide +kernel) fun t hf y => ?_
  blk_simp
  rw [after0_11]
  unfold outsAt0
  dsimp only
  unfold out0_A_11
  rw [View.read_writes_junk_eq_canon]
  unfold kernelRun0_A
  dsimp only
  rw [View.canon_unit_zero off3]
  obtain ⟨i, b, a, rfl⟩ : ∃ (i : Fin 1) (b : Fin 1) (a : Fin 256), y = ix3 i b a := ⟨y 0, y 1, y 2, eq_ix3 y⟩
  obtain rfl : i = 0 := Subsingleton.elim _ _
  obtain rfl : b = 0 := Subsingleton.elim _ _
  refine (mixRowR _ _ _ _ _ _ _ _ _ _ a).trans ?_
  rw [mix_eq]
  have e : (win0_11.blk t).view.emb (ix3 0 0 a) = ix3 (⟨t.val, lt9 t⟩ : Fin 9) 0 a := by
    blk_ext [e11]
  exact (congrArg (G1 m c) e).symm

theorem final_12 : (dats m 0 c).arrAt 12 cfg0.N = G2 m c := by
  refine (dats m 0 c).arrAt_eq_of_covers 12 _ (by decide +kernel) fun t hf y => ?_
  blk_simp
  rw [after0_12]
  unfold outsAt0
  dsimp only
  unfold out0_A_12
  rw [View.read_writes_junk_eq_canon]
  unfold kernelRun0_A
  dsimp only
  rw [View.canon_unit_zero off2]
  obtain ⟨a, l, rfl⟩ : ∃ (a : Fin 256) (l : Fin 4096), y = ix2 a l := ⟨y 0, y 1, eq_ix2 y⟩
  refine (sumR _ _ _ _ _ _ _ _ _ _ _ _ _ _ _ _ _ _ _ a l).trans ?_
  rw [sum_eq]
  have e : (win0_12.blk t).view.emb (ix2 a l) = ix2 (rowAt t a) l := by
    unfold rowAt
    blk_ext [e12]
  exact (congrArg (G2 m c) e).symm

theorem final_13 : (dats m 0 c).arrAt 13 cfg0.N = G3 m c := by
  refine (dats m 0 c).arrAt_eq_of_covers 13 _ (by decide +kernel) fun t hf y => ?_
  blk_simp
  rw [after0_13]
  unfold outsAt0
  dsimp only
  unfold out0_A_13
  rw [View.read_writes_junk_eq_canon]
  unfold kernelRun0_A
  dsimp only
  rw [View.canon_unit_zero off2]
  obtain ⟨a, l, rfl⟩ : ∃ (a : Fin 256) (l : Fin 4096), y = ix2 a l := ⟨y 0, y 1, eq_ix2 y⟩
  refine (moeC _ _ _ _ _ _ _ _ _ _ _ _ _ _ _ _ _ _ _ _ _ _ a l).trans ?_
  rw [moe_eq]
  have e : (win0_13.blk t).view.emb (ix2 a l) = ix2 (rowAt t a) l := by
    unfold rowAt
    blk_ext [e13]
  exact (congrArg (G3 m c) e).symm

theorem final_14 : (dats m 0 c).arrAt 14 cfg0.N = G4 m c := by
  refine (dats m 0 c).arrAt_eq_of_covers 14 _ (by decide +kernel) fun t hf y => ?_
  blk_simp
  rw [after0_14]
  unfold outsAt0
  dsimp only
  unfold out0_A_14
  rw [View.read_writes_junk_eq_canon]
  unfold kernelRun0_A
  dsimp only
  rw [View.canon_unit_zero off3]
  obtain ⟨i, b, a, rfl⟩ : ∃ (i : Fin 1) (b : Fin 1) (a : Fin 256), y = ix3 i b a := ⟨y 0, y 1, y 2, eq_ix3 y⟩
  obtain rfl : i = 0 := Subsingleton.elim _ _
  obtain rfl : b = 0 := Subsingleton.elim _ _
  refine (moeRowR _ _ _ _ _ _ _ _ _ _ _ _ _ _ _ _ _ _ _ _ _ _ a).trans ?_
  rw [moe_eq]
  have e : (win0_14.blk t).view.emb (ix3 0 0 a) = ix3 (⟨t.val, lt9 t⟩ : Fin 9) 0 a := by
    blk_ext [e14]
  exact (congrArg (G4 m c) e).symm

theorem final_15 : (dats m 0 c).arrAt 15 cfg0.N = G5 m c := by
  refine (dats m 0 c).arrAt_eq_of_covers 15 _ (by decide +kernel) fun t hf y => ?_
  blk_simp
  rw [after0_15]
  unfold outsAt0
  dsimp only
  unfold out0_A_15
  rw [View.read_writes_junk_eq_canon]
  unfold kernelRun0_A
  dsimp only
  rw [View.canon_unit_zero off2]
  obtain ⟨a, l, rfl⟩ : ∃ (a : Fin 256) (l : Fin 128), y = ix2 a l := ⟨y 0, y 1, eq_ix2 y⟩
  refine (moeColR _ _ _ _ _ _ _ _ _ _ _ _ _ _ _ _ _ _ _ _ _ _ a l).trans ?_
  rw [moe_eq]
  have e : (win0_15.blk t).view.emb (ix2 a l) = ix2 (rowAt t a) l := by
    unfold rowAt
    blk_ext [e15]
  exact (congrArg (G5 m c) e).symm

/-- Every run ends with the result arrays at these values and the arguments unchanged. -/
theorem run_values (ρ : Dev nD → PrngReg) : θ_run defs (onTc (τ := τ) (main (F := Ideal))) ⟨m, fun _ => 0, ρ⟩ (fun r => ∀ c : Dev nD,
      r.2.mem ((c.tc : Thread nD τ).loc main_v0_0) = G0 m c
      ∧ r.2.mem ((c.tc : Thread nD τ).loc main_v0_1) = G1 m c
      ∧ r.2.mem ((c.tc : Thread nD τ).loc main_v0_2) = G2 m c
      ∧ r.2.mem ((c.tc : Thread nD τ).loc main_v0_3) = G3 m c
      ∧ r.2.mem ((c.tc : Thread nD τ).loc main_v0_4) = G4 m c
      ∧ r.2.mem ((c.tc : Thread nD τ).loc main_v0_5) = G5 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨(h.1.out_eq c 10).trans (final_10 m c), (h.1.out_eq c 11).trans (final_11 m c), (h.1.out_eq c 12).trans (final_12 m c), (h.1.out_eq c 13).trans (final_13 m c), (h.1.out_eq c 14).trans (final_14 m c), (h.1.out_eq c 15).trans (final_15 m c), h.2.1 c⟩)
    (θ_run_and (run_main m ρ) (frame m ρ))

end Cert.OutProjIdeal.Hand

end
-- ==== Proof.OutProjRefIdeal.Math.lean ====
module

public import proofs.«01_k».proof.Proof.Gen.OutProjRefIdeal.Frame
public import proofs.«01_k».proof.Proof.OutSpec
public import Idealize.ShloMosaic.Lib.Claim
public import Idealize.ShloMosaic.Lib.Pipeline.ValueKit

/-! The values of the reference of the output projection over the extended reals -/

@[expose] public section

set_option maxRecDepth 16384

noncomputable section

namespace Cert.OutProjRefIdeal.Hand

open Idealize.ShloMosaic Idealize.SL.Sem Cert.OutProjRefIdeal Cert.OutProjRefIdeal.Gen Cert.Spec

/-- The gated heads, as one block of rows. -/
theorem gate_of (y : Vec Ideal S2304x8x128 .f32) (sz : Vec Ideal S2304x1024 .f32) (r : Fin 2304) (i : Fin 1024) :
    (mulf (shapeCast S2304x1024 y shapeCasts_S2304x8x128_S2304x1024) sz : FVec Ideal S2304x1024 .f32) (ix2 r i) = gated y sz r i := by
  unfold gated
  pointwise

theorem rms_of1024 (p : FVec Ideal S2304x1024 .f32) (g : Vec Ideal S1x1024 .f32) (r : Fin 2304) (f : Fin 1024) :
    mulf (divf p (broadcastTo S2304x1024 (sqrt (addf (divf (shapeCast S2304x1 (multiReduction .add [1] S2304 (mulf p p) 0x00000000#32 reduces_S2304x1024_S2304 (.inl rfl) rfl)
      shapeCasts_S2304_S2304x1) (broadcast S2304x1 (Scalar.ofBits .f32 0x44800000#32))) (broadcast S2304x1 (Scalar.ofBits .f32 0x3727C5AC#32)))) broadcasts_S2304x1_S2304x1024))
      (broadcastTo S2304x1024 g broadcasts_S1x1024_S2304x1024) (ix2 r f)
      = normed (1 / 1024) (fun i => p (ix2 r i)) (fun i => g (ix2 0 i)) f := by
  unfold normed rmsOf
  have e : ∀ s : EReal, s * ((1 / 1024 : ℝ) : EReal) = Ideal.div s (Ideal.ofBits FTy.f32 0x44800000#32) := fun s => by
    rw [ofBits_1024, Ideal.div_coe (by norm_num : (1024 : ℝ) ≠ 0)]
  rw [e]
  pointwise

theorem max_of1024 (p : FVec Ideal S2304x1024 .f32) (r : Fin 2304) :
    shapeCast S2304x1 (multiReduction .maximumf [1] S2304 (absf p) 0xFF800000#32 reduces_S2304x1024_S2304 (.inl rfl) rfl) shapeCasts_S2304_S2304x1 (ix2 r 0)
      = absMax (fun f : Fin 1024 => p (ix2 r f)) := by
  unfold absMax
  rw [← ofBits_bot]
  pointwise
  try rfl

theorem clip_of1024 (p : FVec Ideal S2304x1024 .f32) (s : FVec Ideal S2304x1 .f32) (r : Fin 2304) (f : Fin 1024) :
    truncf .fp8e4m3 (minimumf (broadcast S2304x1024 (Scalar.ofBits .f32 0x43E00000#32)) (maximumf (broadcast S2304x1024 (Scalar.ofBits .f32 0xC3E00000#32))
      (divf p (broadcastTo S2304x1024 s broadcasts_S2304x1_S2304x1024)))) bitsLt_fp8e4m3_f32 (ix2 r f) = codeOf (s (ix2 r 0)) (p (ix2 r f)) := by
  unfold codeOf
  pointwise

theorem rms_of4096 (p : FVec Ideal S2304x4096 .f32) (g : Vec Ideal S1x4096 .f32) (r : Fin 2304) (f : Fin 4096) :
    mulf (divf p (broadcastTo S2304x4096 (sqrt (addf (divf (shapeCast S2304x1 (multiReduction .add [1] S2304 (mulf p p) 0x00000000#32 reduces_S2304x4096_S2304 (.inl rfl) rfl)
      shapeCasts_S2304_S2304x1) (broadcast S2304x1 (Scalar.ofBits .f32 0x45800000#32))) (broadcast S2304x1 (Scalar.ofBits .f32 0x3727C5AC#32)))) broadcasts_S2304x1_S2304x4096))
      (broadcastTo S2304x4096 g broadcasts_S1x4096_S2304x4096) (ix2 r f)
      = normed (1 / 4096) (fun i => p (ix2 r i)) (fun i => g (ix2 0 i)) f := by
  unfold normed rmsOf
  have e : ∀ s : EReal, s * ((1 / 4096 : ℝ) : EReal) = Ideal.div s (Ideal.ofBits FTy.f32 0x45800000#32) := fun s => by
    rw [ofBits_4096, Ideal.div_coe (by norm_num : (4096 : ℝ) ≠ 0)]
  rw [e]
  pointwise

theorem max_of4096 (p : FVec Ideal S2304x4096 .f32) (r : Fin 2304) :
    shapeCast S2304x1 (multiReduction .maximumf [1] S2304 (absf p) 0xFF800000#32 reduces_S2304x4096_S2304 (.inl rfl) rfl) shapeCasts_S2304_S2304x1 (ix2 r 0)
      = absMax (fun f : Fin 4096 => p (ix2 r f)) := by
  unfold absMax
  rw [← ofBits_bot]
  pointwise
  try rfl

theorem clip_of4096 (p : FVec Ideal S2304x4096 .f32) (s : FVec Ideal S2304x1 .f32) (r : Fin 2304) (f : Fin 4096) :
    truncf .fp8e4m3 (minimumf (broadcast S2304x4096 (Scalar.ofBits .f32 0x43E00000#32)) (maximumf (broadcast S2304x4096 (Scalar.ofBits .f32 0xC3E00000#32))
      (divf p (broadcastTo S2304x4096 s broadcasts_S2304x1_S2304x4096)))) bitsLt_fp8e4m3_f32 (ix2 r f) = codeOf (s (ix2 r 0)) (p (ix2 r f)) := by
  unfold codeOf
  pointwise

/-- The scale from the column of greatest absolute values. -/
theorem sel_of (v : FVec Ideal S2304x1 .f32) (r : Fin 2304) :
    select (cmpf .oeq v (broadcast S2304x1 (Scalar.ofBits .f32 0x00000000#32))) (broadcast S2304x1 (Scalar.ofBits .f32 0x3F800000#32))
      (divf v (broadcast S2304x1 (Scalar.ofBits .f32 0x43E00000#32))) (ix2 r 0) = scaleOf (v (ix2 r 0)) := by
  have e : ∀ s : EReal, s * ((1 / 448 : ℝ) : EReal) = Ideal.div s (Ideal.ofBits FTy.f32 0x43E00000#32) := fun s => by
    rw [ofBits_448, Ideal.div_coe (by norm_num : (448 : ℝ) ≠ 0)]
  unfold scaleOf
  rw [e]
  pointwise

theorem row_of (s : FVec Ideal S2304x1 .f32) (i : Fin 9) (a : Fin 256) :
    k0_pay1 s (ix3 i 0 a) = s (ix2 ⟨256 * i.val + a.val, by omega⟩ 0) := by
  have e : (⟨256 * i.val + a.val, by omega⟩ : Fin 2304) = ⟨i.val * 256 + a.val, by omega⟩ := Fin.ext (by show 256 * i.val + a.val = i.val * 256 + a.val; omega)
  rw [e]
  pointwise [k0_pay1]

theorem col_of (s : FVec Ideal S2304x1 .f32) (r : Fin 2304) (j : Fin 128) : k0_pay2 s (ix2 r j) = s (ix2 r 0) := by
  pointwise [k0_pay2]

theorem sum_of (s : FVec Ideal S2304x1 .f32) (q : FVec Ideal S2304x1024 .fp8e4m3) (x : Vec Ideal S2304x4096 .bf16) (wo : Vec Ideal S1024x4096 .fp8e4m3) (wos : Vec Ideal S1x4096 .f32)
    (r : Fin 2304) (f : Fin 4096) :
    k0_pay7 s q x wo wos (ix2 r f) = x (ix2 r f) + (∑ k : Fin 1024, q (ix2 r k) * wo (ix2 k f)) * s (ix2 r 0) * wos (ix2 0 f) := by
  pointwise [k0_pay7]

section
variable (y : Vec Ideal S2304x8x128 .f32) (sz : Vec Ideal S2304x1024 .f32) (nm : Vec Ideal S1x1024 .f32) (x : Vec Ideal S2304x4096 .bf16) (wo : Vec Ideal S1024x4096 .fp8e4m3)
  (wos n2 : Vec Ideal S1x4096 .f32) (r : Fin 2304)

theorem mix_apply (f : Fin 1024) : k0_pay3 y sz nm (ix2 r f) = mixRow y sz nm r f :=
  (rms_of1024 _ nm r f).trans (congrArg (fun v => normed _ v _ f) (funext fun i => gate_of y sz r i))

theorem mixScale_apply : k0_pay4 y sz nm (ix2 r 0) = qScale (mixRow y sz nm r) :=
  (sel_of _ r).trans (congrArg scaleOf ((max_of1024 _ r).trans (congrArg absMax (funext fun f => mix_apply y sz nm r f))))

theorem mixCode_apply (f : Fin 1024) : k0_pay5 y sz nm (ix2 r f) = qCode (mixRow y sz nm r) f :=
  (clip_of1024 _ _ r f).trans (congrArg₂ codeOf (mixScale_apply y sz nm r) (mix_apply y sz nm r f))

theorem mixRows_apply (i : Fin 9) (a : Fin 256) : k0_pay6 y sz nm (ix3 i 0 a) = qScale (mixRow y sz nm ⟨256 * i.val + a.val, by omega⟩) :=
  (row_of (k0_pay4 y sz nm) i a).trans (mixScale_apply y sz nm _)

theorem sum_apply (f : Fin 4096) : k0_pay7 (k0_pay4 y sz nm) (k0_pay5 y sz nm) x wo wos (ix2 r f) = sumRow y sz x nm wo wos r f := by
  rw [sum_of, mixScale_apply, Finset.sum_congr rfl fun k _ => congrArg (· * wo (ix2 k f)) (mixCode_apply y sz nm r k)]
  rfl

theorem moe_apply (f : Fin 4096) : k0_pay8 (k0_pay4 y sz nm) (k0_pay5 y sz nm) x wo wos n2 (ix2 r f) = moeRow y sz x nm wo wos n2 r f :=
  (rms_of4096 (k0_pay7 (k0_pay4 y sz nm) (k0_pay5 y sz nm) x wo wos) n2 r f).trans (congrArg (fun v => normed _ v _ f) (funext fun i => sum_apply y sz nm x wo wos r i))

theorem moeScale_apply : k0_pay9 (k0_pay4 y sz nm) (k0_pay5 y sz nm) x wo wos n2 (ix2 r 0) = qScale (moeRow y sz x nm wo wos n2 r) :=
  (sel_of _ r).trans (congrArg scaleOf ((max_of4096 _ r).trans (congrArg absMax (funext fun f => moe_apply y sz nm x wo wos n2 r f))))

theorem moeCode_apply (f : Fin 4096) : k0_pay10 (k0_pay4 y sz nm) (k0_pay5 y sz nm) x wo wos n2 (ix2 r f) = qCode (moeRow y sz x nm wo wos n2 r) f :=
  (clip_of4096 _ _ r f).trans (congrArg₂ codeOf (moeScale_apply y sz nm x wo wos n2 r) (moe_apply y sz nm x wo wos n2 r f))
end

end Cert.OutProjRefIdeal.Hand

end
-- ==== Proof.OutProjRefIdeal.Final.lean ====
module

public import proofs.«01_k».proof.Proof.OutProjRefIdeal.Math

/-! The result arrays of the reference of the output projection over the extended reals, from its run -/

@[expose] public section

set_option maxRecDepth 16384

noncomputable section

namespace Cert.OutProjRefIdeal.Hand

open Idealize.ShloMosaic Idealize.SL.Sem Cert.OutProjRefIdeal Cert.OutProjRefIdeal.Gen Cert.Spec

variable (m : (ℓ : Loc nD τ sig) → Buf (Elt Ideal) ℓ) (c : Dev nD)

theorem off2 : (![0, 0] : Fin 2 → ℕ) = fun _ => 0 := by funext a; fin_cases a <;> rfl
theorem off3 : (![0, 0, 0] : Fin 3 → ℕ) = fun _ => 0 := by funext a; fin_cases a <;> rfl

/-! Every window's one block is its array. -/
theorem iblk0 (t : Fin cfg0.N) : iblk m c 0 t = m ((c.tc : Thread nD τ).loc main_arg0) := by
  rw [fin_N0 t]
  funext x
  have e : ∀ t : Fin cfg0.N, win0_0.index t = ![0, 0, 0] := (by decide +kernel : ∀ t : Fin grid0.N, win0_0.index t = ![0, 0, 0])
  blk_simp [iblk]
  refine congrArg (m ((c.tc : Thread nD τ).loc main_arg0)) ?_
  blk_ext [e]
theorem iblk1 (t : Fin cfg0.N) : iblk m c 1 t = m ((c.tc : Thread nD τ).loc main_arg1) := by
  rw [fin_N0 t]
  funext x
  have e : ∀ t : Fin cfg0.N, win0_1.index t = ![0, 0] := (by decide +kernel : ∀ t : Fin grid0.N, win0_1.index t = ![0, 0])
  blk_simp [iblk]
  refine congrArg (m ((c.tc : Thread nD τ).loc main_arg1)) ?_
  blk_ext [e]
theorem iblk2 (t : Fin cfg0.N) : iblk m c 2 t = m ((c.tc : Thread nD τ).loc main_arg2) := by
  rw [fin_N0 t]
  funext x
  have e : ∀ t : Fin cfg0.N, win0_2.index t = ![0, 0] := (by decide +kernel : ∀ t : Fin grid0.N, win0_2.index t = ![0, 0])
  blk_simp [iblk]
  refine congrArg (m ((c.tc : Thread nD τ).loc main_arg2)) ?_
  blk_ext [e]
theorem iblk3 (t : Fin cfg0.N) : iblk m c 3 t = m ((c.tc : Thread nD τ).loc main_arg3) := by
  rw [fin_N0 t]
  funext x
  have e : ∀ t : Fin cfg0.N, win0_3.index t = ![0, 0] := (by decide +kernel : ∀ t : Fin grid0.N, win0_3.index t = ![0, 0])
  blk_simp [iblk]
  refine congrArg (m ((c.tc : Thread nD τ).loc main_arg3)) ?_
  blk_ext [e]
theorem iblk4 (t : Fin cfg0.N) : iblk m c 4 t = m ((c.tc : Thread nD τ).loc main_arg4) := by
  rw [fin_N0 t]
  funext x
  have e : ∀ t : Fin cfg0.N, win0_4.index t = ![0, 0] := (by decide +kernel : ∀ t : Fin grid0.N, win0_4.index t = ![0, 0])
  blk_simp [iblk]
  refine congrArg (m ((c.tc : Thread nD τ).loc main_arg4)) ?_
  blk_ext [e]
theorem iblk5 (t : Fin cfg0.N) : iblk m c 5 t = m ((c.tc : Thread nD τ).loc main_arg5) := by
  rw [fin_N0 t]
  funext x
  have e : ∀ t : Fin cfg0.N, win0_5.index t = ![0, 0] := (by decide +kernel : ∀ t : Fin grid0.N, win0_5.index t = ![0, 0])
  blk_simp [iblk]
  refine congrArg (m ((c.tc : Thread nD τ).loc main_arg5)) ?_
  blk_ext [e]
theorem iblk6 (t : Fin cfg0.N) : iblk m c 6 t = m ((c.tc : Thread nD τ).loc main_arg6) := by
  rw [fin_N0 t]
  funext x
  have e : ∀ t : Fin cfg0.N, win0_6.index t = ![0, 0] := (by decide +kernel : ∀ t : Fin grid0.N, win0_6.index t = ![0, 0])
  blk_simp [iblk]
  refine congrArg (m ((c.tc : Thread nD τ).loc main_arg6)) ?_
  blk_ext [e]

/-! The six result arrays. -/
def G0 : Vec Ideal S2304x1024 .fp8e4m3 := mixCodes (m ((c.tc : Thread nD τ).loc main_arg0)) (m ((c.tc : Thread nD τ).loc main_arg1)) (m ((c.tc : Thread nD τ).loc main_arg3))
def G1 : Vec Ideal S9x1x256 .f32 := mixScales (m ((c.tc : Thread nD τ).loc main_arg0)) (m ((c.tc : Thread nD τ).loc main_arg1)) (m ((c.tc : Thread nD τ).loc main_arg3))
def G2 : Vec Ideal S2304x4096 .f32 := sumX (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
def G3 : Vec Ideal S2304x4096 .fp8e4m3 := moeCodes (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
def G4 : Vec Ideal S9x1x256 .f32 := moeScales (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
def G5 : Vec Ideal S2304x128 .f32 := moeCols (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))

theorem out10_eq (x0 x1 x2 x3 x4 x5 x6 x7 x8 x9) : out0_10 (F := Ideal) x0 x1 x2 x3 x4 x5 x6 x7 x8 x9 = k0_pay5 x0 x1 x3 := by
  unfold out0_10
  rw [View.canon_unit_zero off2, View.ld_unit_zero off3, View.ld_unit_zero off2, View.ld_unit_zero off2]
theorem out11_eq (x0 x1 x2 x3 x4 x5 x6 x7 x8 x9) : out0_11 (F := Ideal) x0 x1 x2 x3 x4 x5 x6 x7 x8 x9 = k0_pay6 x0 x1 x3 := by
  unfold out0_11
  rw [View.canon_unit_zero off3, View.ld_unit_zero off3, View.ld_unit_zero off2, View.ld_unit_zero off2]
theorem out12_eq (x0 x1 x2 x3 x4 x5 x6 x7 x8 x9) : out0_12 (F := Ideal) x0 x1 x2 x3 x4 x5 x6 x7 x8 x9 = k0_pay7 (k0_pay4 x0 x1 x3) (k0_pay5 x0 x1 x3) x2 x4 x5 := by
  unfold out0_12 k0_pay11 k0_pay12
  rw [View.canon_unit_zero off2, View.ld_unit_zero off3, View.ld_unit_zero off2, View.ld_unit_zero off2, View.ld_unit_zero off2, View.ld_unit_zero off2, View.ld_unit_zero off2]
theorem out13_eq (x0 x1 x2 x3 x4 x5 x6 x7 x8 x9) : out0_13 (F := Ideal) x0 x1 x2 x3 x4 x5 x6 x7 x8 x9 = k0_pay10 (k0_pay4 x0 x1 x3) (k0_pay5 x0 x1 x3) x2 x4 x5 x6 := by
  unfold out0_13 k0_pay11 k0_pay12
  rw [View.canon_unit_zero off2, View.ld_unit_zero off3, View.ld_unit_zero off2, View.ld_unit_zero off2, View.ld_unit_zero off2, View.ld_unit_zero off2, View.ld_unit_zero off2, View.ld_unit_zero off2]
theorem out14_eq (x0 x1 x2 x3 x4 x5 x6 x7 x8 x9) : out0_14 (F := Ideal) x0 x1 x2 x3 x4 x5 x6 x7 x8 x9 = k0_pay1 (k0_pay9 (k0_pay4 x0 x1 x3) (k0_pay5 x0 x1 x3) x2 x4 x5 x6) := by
  unfold out0_14 k0_pay13 k0_pay11 k0_pay12
  rw [View.canon_unit_zero off3, View.ld_unit_zero off3, View.ld_unit_zero off2, View.ld_unit_zero off2, View.ld_unit_zero off2, View.ld_unit_zero off2, View.ld_unit_zero off2, View.ld_unit_zero off2]
theorem out15_eq (x0 x1 x2 x3 x4 x5 x6 x7 x8 x9) : out0_15 (F := Ideal) x0 x1 x2 x3 x4 x5 x6 x7 x8 x9 = k0_pay2 (k0_pay9 (k0_pay4 x0 x1 x3) (k0_pay5 x0 x1 x3) x2 x4 x5 x6) := by
  unfold out0_15 k0_pay13 k0_pay11 k0_pay12
  rw [View.canon_unit_zero off2, View.ld_unit_zero off3, View.ld_unit_zero off2, View.ld_unit_zero off2, View.ld_unit_zero off2, View.ld_unit_zero off2, View.ld_unit_zero off2, View.ld_unit_zero off2]

theorem final_10 : (dats m 0 c).arrAt 10 cfg0.N = G0 m c := by
  refine (dats m 0 c).arrAt_eq_of_after_last 10 t0_0 (by decide +kernel) _ fun j => ?_
  blk_simp
  rw [after0_10, out10_eq]
  simp only [iblk0 m c, iblk1 m c, iblk3 m c]
  obtain ⟨r, f, rfl⟩ : ∃ (r : Fin 2304) (f : Fin 1024), j = ix2 r f := ⟨j 0, j 1, eq_ix2 j⟩
  exact mixCode_apply _ _ _ r f

theorem final_11 : (dats m 0 c).arrAt 11 cfg0.N = G1 m c := by
  refine (dats m 0 c).arrAt_eq_of_after_last 11 t0_0 (by decide +kernel) _ fun j => ?_
  blk_simp
  rw [after0_11, out11_eq]
  simp only [iblk0 m c, iblk1 m c, iblk3 m c]
  obtain ⟨i, b, a, rfl⟩ : ∃ (i : Fin 9) (b : Fin 1) (a : Fin 256), j = ix3 i b a := ⟨j 0, j 1, j 2, eq_ix3 j⟩
  obtain rfl : b = 0 := Subsingleton.elim _ _
  exact mixRows_apply _ _ _ i a

theorem final_12 : (dats m 0 c).arrAt 12 cfg0.N = G2 m c := by
  refine (dats m 0 c).arrAt_eq_of_after_last 12 t0_0 (by decide +kernel) _ fun j => ?_
  blk_simp
  rw [after0_12, out12_eq]
  simp only [iblk0 m c, iblk1 m c, iblk2 m c, iblk3 m c, iblk4 m c, iblk5 m c]
  obtain ⟨r, f, rfl⟩ : ∃ (r : Fin 2304) (f : Fin 4096), j = ix2 r f := ⟨j 0, j 1, eq_ix2 j⟩
  exact sum_apply _ _ _ _ _ _ r f

theorem final_13 : (dats m 0 c).arrAt 13 cfg0.N = G3 m c := by
  refine (dats m 0 c).arrAt_eq_of_after_last 13 t0_0 (by decide +kernel) _ fun j => ?_
  blk_simp
  rw [after0_13, out13_eq]
  simp only [iblk0 m c, iblk1 m c, iblk2 m c, iblk3 m c, iblk4 m c, iblk5 m c, iblk6 m c]
  obtain ⟨r, f, rfl⟩ : ∃ (r : Fin 2304) (f : Fin 4096), j = ix2 r f := ⟨j 0, j 1, eq_ix2 j⟩
  exact moeCode_apply _ _ _ _ _ _ _ r f

theorem final_14 : (dats m 0 c).arrAt 14 cfg0.N = G4 m c := by
  refine (dats m 0 c).arrAt_eq_of_after_last 14 t0_0 (by decide +kernel) _ fun j => ?_
  blk_simp
  rw [after0_14, out14_eq]
  simp only [iblk0 m c, iblk1 m c, iblk2 m c, iblk3 m c, iblk4 m c, iblk5 m c, iblk6 m c]
  obtain ⟨i, b, a, rfl⟩ : ∃ (i : Fin 9) (b : Fin 1) (a : Fin 256), j = ix3 i b a := ⟨j 0, j 1, j 2, eq_ix3 j⟩
  obtain rfl : b = 0 := Subsingleton.elim _ _
  exact (row_of _ i a).trans (moeScale_apply _ _ _ _ _ _ _ _)

theorem final_15 : (dats m 0 c).arrAt 15 cfg0.N = G5 m c := by
  refine (dats m 0 c).arrAt_eq_of_after_last 15 t0_0 (by decide +kernel) _ fun j => ?_
  blk_simp
  rw [after0_15, out15_eq]
  simp only [iblk0 m c, iblk1 m c, iblk2 m c, iblk3 m c, iblk4 m c, iblk5 m c, iblk6 m c]
  obtain ⟨r, f, rfl⟩ : ∃ (r : Fin 2304) (f : Fin 128), j = ix2 r f := ⟨j 0, j 1, eq_ix2 j⟩
  exact (col_of _ r f).trans (moeScale_apply _ _ _ _ _ _ _ r)

/-- Every run ends with the result arrays at these values and the arguments unchanged. -/
theorem run_values (ρ : Dev nD → PrngReg) : θ_run defs (onTc (τ := τ) (main (F := Ideal))) ⟨m, fun _ => 0, ρ⟩ (fun r => ∀ c : Dev nD,
      r.2.mem ((c.tc : Thread nD τ).loc main_v0_0) = G0 m c
      ∧ r.2.mem ((c.tc : Thread nD τ).loc main_v0_1) = G1 m c
      ∧ r.2.mem ((c.tc : Thread nD τ).loc main_v0_2) = G2 m c
      ∧ r.2.mem ((c.tc : Thread nD τ).loc main_v0_3) = G3 m c
      ∧ r.2.mem ((c.tc : Thread nD τ).loc main_v0_4) = G4 m c
      ∧ r.2.mem ((c.tc : Thread nD τ).loc main_v0_5) = G5 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨(h.1.out_eq c 10).trans (final_10 m c), (h.1.out_eq c 11).trans (final_11 m c), (h.1.out_eq c 12).trans (final_12 m c), (h.1.out_eq c 13).trans (final_13 m c), (h.1.out_eq c 14).trans (final_14 m c), (h.1.out_eq c 15).trans (final_15 m c), h.2.1 c⟩)
    (θ_run_and (run_main m ρ) (frame m ρ))

end Cert.OutProjRefIdeal.Hand

end
-- ==== Proof.OutAlgebraic.lean ====
module

public import proofs.«01_k».proof.Defs
public import proofs.«01_k».proof.Proof.OutProjIdeal.Final
public import proofs.«01_k».proof.Proof.OutProjRefIdeal.Final

/-! The kernel and the reference end with the same results -/

@[expose] public section

noncomputable section

namespace Cert.Proof.OutProj

open Idealize.ShloMosaic Idealize.SL.Sem

/-- From memories agreeing on the arguments, the two programs' result values agree. -/
theorem values_eq (m : (ℓ : Loc Cert.OutProjIdeal.nD Cert.OutProjIdeal.τ Cert.OutProjIdeal.sig) → Buf (Elt Ideal) ℓ)
    (m' : (ℓ : Loc Cert.OutProjRefIdeal.nD Cert.OutProjRefIdeal.τ Cert.OutProjRefIdeal.sig) → Buf (Elt Ideal) ℓ) (c : Dev Cert.OutProjIdeal.nD)
    (h : m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)
      ∧ m' ((c.tc : Thread Cert.OutProjRefIdeal.nD Cert.OutProjRefIdeal.τ).loc Cert.OutProjRefIdeal.main_arg4) = m ((c.tc : Thread Cert.OutProjIdeal.nD Cert.OutProjIdeal.τ).loc Cert.OutProjIdeal.main_arg4)
      ∧ m' ((c.tc : Thread Cert.OutProjRefIdeal.nD Cert.OutProjRefIdeal.τ).loc Cert.OutProjRefIdeal.main_arg5) = m ((c.tc : Thread Cert.OutProjIdeal.nD Cert.OutProjIdeal.τ).loc Cert.OutProjIdeal.main_arg5)
      ∧ m' ((c.tc : Thread Cert.OutProjRefIdeal.nD Cert.OutProjRefIdeal.τ).loc Cert.OutProjRefIdeal.main_arg6) = m ((c.tc : Thread Cert.OutProjIdeal.nD Cert.OutProjIdeal.τ).loc Cert.OutProjIdeal.main_arg6)
      ∧ m' ((c.tc : Thread Cert.OutProjRefIdeal.nD Cert.OutProjRefIdeal.τ).loc Cert.OutProjRefIdeal.main_arg7) = m ((c.tc : Thread Cert.OutProjIdeal.nD Cert.OutProjIdeal.τ).loc Cert.OutProjIdeal.main_arg7)
      ∧ m' ((c.tc : Thread Cert.OutProjRefIdeal.nD Cert.OutProjRefIdeal.τ).loc Cert.OutProjRefIdeal.main_arg8) = m ((c.tc : Thread Cert.OutProjIdeal.nD Cert.OutProjIdeal.τ).loc Cert.OutProjIdeal.main_arg8)
      ∧ m' ((c.tc : Thread Cert.OutProjRefIdeal.nD Cert.OutProjRefIdeal.τ).loc Cert.OutProjRefIdeal.main_arg9) = m ((c.tc : Thread Cert.OutProjIdeal.nD Cert.OutProjIdeal.τ).loc Cert.OutProjIdeal.main_arg9)) :
    Cert.OutProjRefIdeal.Hand.G0 m' c = Cert.OutProjIdeal.Hand.G0 m c ∧ Cert.OutProjRefIdeal.Hand.G1 m' c = Cert.OutProjIdeal.Hand.G1 m c ∧ Cert.OutProjRefIdeal.Hand.G2 m' c = Cert.OutProjIdeal.Hand.G2 m c ∧ Cert.OutProjRefIdeal.Hand.G3 m' c = Cert.OutProjIdeal.Hand.G3 m c ∧ Cert.OutProjRefIdeal.Hand.G4 m' c = Cert.OutProjIdeal.Hand.G4 m c ∧ Cert.OutProjRefIdeal.Hand.G5 m' c = Cert.OutProjIdeal.Hand.G5 m c := by
  obtain ⟨h0, h1, h2, h3, h4, h5, h6, h7, h8, h9⟩ := h
  refine ⟨?_, ?_, ?_, ?_, ?_, ?_⟩
  · unfold Cert.OutProjRefIdeal.Hand.G0 Cert.OutProjIdeal.Hand.G0; rw [h0, h1, h3]
  · unfold Cert.OutProjRefIdeal.Hand.G1 Cert.OutProjIdeal.Hand.G1; rw [h0, h1, h3]
  · unfold Cert.OutProjRefIdeal.Hand.G2 Cert.OutProjIdeal.Hand.G2; rw [h0, h1, h2, h3, h4, h5]
  · unfold Cert.OutProjRefIdeal.Hand.G3 Cert.OutProjIdeal.Hand.G3; rw [h0, h1, h2, h3, h4, h5, h6]
  · unfold Cert.OutProjRefIdeal.Hand.G4 Cert.OutProjIdeal.Hand.G4; rw [h0, h1, h2, h3, h4, h5, h6]
  · unfold Cert.OutProjRefIdeal.Hand.G5 Cert.OutProjIdeal.Hand.G5; rw [h0, h1, h2, h3, h4, h5, h6]

theorem algebraic [hOutProjIdeal : Cert.OutProjIdeal.Facts] [hOutProjRefIdeal : Cert.OutProjRefIdeal.Facts] :
    Cert.algebraic_OutProjIdeal_OutProjRefIdeal := by
  intro m g m' g' _ h
  refine ⟨fun c => Cert.OutProjIdeal.Hand.G0 m c, fun c => Cert.OutProjIdeal.Hand.G1 m c, fun c => Cert.OutProjIdeal.Hand.G2 m c, fun c => Cert.OutProjIdeal.Hand.G3 m c, fun c => Cert.OutProjIdeal.Hand.G4 m c, fun c => Cert.OutProjIdeal.Hand.G5 m c,
    Cert.OutProjIdeal.Hand.run_values m g, ?_⟩
  refine (θ_run Cert.OutProjRefIdeal.defs _ _).mono (fun r hr c => ?_) (Cert.OutProjRefIdeal.Hand.run_values m' g')
  obtain ⟨e0, e1, e2, e3, e4, e5⟩ := values_eq m m' c (h c)
  exact ⟨(hr c).1.trans e0, (hr c).2.1.trans e1, (hr c).2.2.1.trans e2, (hr c).2.2.2.1.trans e3, (hr c).2.2.2.2.1.trans e4, (hr c).2.2.2.2.2.1.trans e5, (hr c).2.2.2.2.2.2⟩

end Cert.Proof.OutProj

end
-- ==== Proof.lean ====
module

public import proofs.«01_k».proof.Defs
public import proofs.«01_k».proof.Proof.Gen.Shared
public import proofs.«01_k».proof.Proof.Gen.Shared.Skeleton
public import proofs.«01_k».proof.Proof.Gen.Shared.Launch
public import proofs.«01_k».proof.Proof.Gen.Shared.Points
public import proofs.«01_k».proof.Proof.Gen.Shared.Frame
public import proofs.«01_k».proof.Proof.Gen.SharedIdeal
public import proofs.«01_k».proof.Proof.Gen.SharedIdeal.Skeleton
public import proofs.«01_k».proof.Proof.Gen.SharedIdeal.Launch
public import proofs.«01_k».proof.Proof.Gen.SharedIdeal.Points
public import proofs.«01_k».proof.Proof.Gen.SharedIdeal.Frame
public import proofs.«01_k».proof.Proof.Gen.SharedRefIdeal
public import proofs.«01_k».proof.Proof.Gen.SharedRefIdeal.Skeleton
public import proofs.«01_k».proof.Proof.Gen.SharedRefIdeal.Launch
public import proofs.«01_k».proof.Proof.Gen.SharedRefIdeal.Points
public import proofs.«01_k».proof.Proof.Gen.SharedRefIdeal.Frame
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.InProjRefIdeal
public import proofs.«01_k».proof.Proof.Gen.InProjRefIdeal.Skeleton
public import proofs.«01_k».proof.Proof.Gen.InProjRefIdeal.Launch
public import proofs.«01_k».proof.Proof.Gen.InProjRefIdeal.Points
public import proofs.«01_k».proof.Proof.Gen.InProjRefIdeal.Frame
public import proofs.«01_k».proof.Proof.Gen.OutProj
public import proofs.«01_k».proof.Proof.Gen.OutProj.Skeleton
public import proofs.«01_k».proof.Proof.Gen.OutProj.Launch
public import proofs.«01_k».proof.Proof.Gen.OutProj.Points
public import proofs.«01_k».proof.Proof.Gen.OutProj.Frame
public import proofs.«01_k».proof.Proof.Gen.OutProjIdeal
public import proofs.«01_k».proof.Proof.Gen.OutProjIdeal.Skeleton
public import proofs.«01_k».proof.Proof.Gen.OutProjIdeal.Launch
public import proofs.«01_k».proof.Proof.Gen.OutProjIdeal.Points
public import proofs.«01_k».proof.Proof.Gen.OutProjIdeal.Frame
public import proofs.«01_k».proof.Proof.Gen.OutProjRefIdeal
public import proofs.«01_k».proof.Proof.Gen.OutProjRefIdeal.Skeleton
public import proofs.«01_k».proof.Proof.Gen.OutProjRefIdeal.Launch
public import proofs.«01_k».proof.Proof.Gen.OutProjRefIdeal.Points
public import proofs.«01_k».proof.Proof.Gen.OutProjRefIdeal.Frame
public import proofs.«01_k».proof.Proof.Shared.Frame
public import proofs.«01_k».proof.Proof.SharedIdeal.Frame
public import proofs.«01_k».proof.Proof.Algebraic
public import proofs.«01_k».proof.Proof.InAlgebraic
public import proofs.«01_k».proof.Proof.OutAlgebraic
public import Idealize.ShloMosaic.Adequacy
public import Idealize.ShloMosaic.Init

@[expose] public section

noncomputable section

namespace Cert.Proof

open Idealize.ShloMosaic Idealize.SL.Sem Cert.Shared

theorem claim : Cert.Claim :=
  ⟨Cert.Shared.Gen.facts, Cert.SharedIdeal.Gen.facts, Cert.SharedRefIdeal.Gen.facts,
    Cert.InProj.Gen.facts, Cert.InProjIdeal.Gen.facts, Cert.InProjRefIdeal.Gen.facts,
    Cert.OutProj.Gen.facts, Cert.OutProjIdeal.Gen.facts, Cert.OutProjRefIdeal.Gen.facts,
    fun m g _ => Cert.Shared.Hand.frame m g, fun m g _ => Cert.SharedIdeal.Hand.frame m g, fun m g _ => Cert.SharedRefIdeal.Gen.frame m g,
    fun m g _ => Cert.InProj.Gen.frame m g, fun m g _ => Cert.InProjIdeal.Gen.frame m g, fun m g _ => Cert.InProjRefIdeal.Gen.frame m g,
    fun m g _ => Cert.OutProj.Gen.frame m g, fun m g _ => Cert.OutProjIdeal.Gen.frame m g, fun m g _ => Cert.OutProjRefIdeal.Gen.frame m g,
    IdealRules.named_const.statement Cert.SharedIdeal.κ "inv_448" .f32 0x3B124925#32 ((1 / 448 : ℝ) : EReal) rfl,
    algebraic,
    ⟨IdealRules.named_const.statement Cert.InProjIdeal.κ "inv_448" .f32 0x3B124925#32 ((1 / 448 : ℝ) : EReal) rfl,
      IdealRules.named_const.statement Cert.InProjIdeal.κ "inv_127" .f32 0x3C010204#32 ((1 / 127 : ℝ) : EReal) rfl⟩,
    InProj.algebraic,
    IdealRules.named_const.statement Cert.OutProjIdeal.κ "inv_448" .f32 0x3B124925#32 ((1 / 448 : ℝ) : EReal) rfl,
    OutProj.algebraic⟩

end Cert.Proof

end
